-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ring (m : (ℓ : Loc Cert.Ring.nD Cert.Ring.τ Cert.Ring.sig) → Buf (Elt Bits) ℓ) : Prop :=
  True

def Pre_RingIdeal (m : (ℓ : Loc Cert.RingIdeal.nD Cert.RingIdeal.τ Cert.RingIdeal.sig) → Buf (Elt Ideal) ℓ) : Prop :=
  True

def Pre_RingReferenceIdeal (m : (ℓ : Loc Cert.RingReferenceIdeal.nD Cert.RingReferenceIdeal.τ Cert.RingReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ring [hRing : Cert.Ring.Facts] : Prop :=
  ∀ (m : (ℓ : Loc Cert.Ring.nD Cert.Ring.τ Cert.Ring.sig) → Buf (Elt Bits) ℓ) (g : Dev Cert.Ring.nD → PrngReg), Pre_Ring m →
    θ_run (Cert.Ring.defs (F := Bits)) (onTc (τ := Cert.Ring.τ) (Cert.Ring.main (F := Bits))) ⟨m, fun _ => 0, g⟩ (fun r => (∀ c : Dev Cert.Ring.nD,
      r.2.mem ((c.tc : Thread Cert.Ring.nD Cert.Ring.τ).loc Cert.Ring.main_arg0) = m ((c.tc : Thread Cert.Ring.nD Cert.Ring.τ).loc Cert.Ring.main_arg0)
      ∧ r.2.mem ((c.tc : Thread Cert.Ring.nD Cert.Ring.τ).loc Cert.Ring.main_arg1) = m ((c.tc : Thread Cert.Ring.nD Cert.Ring.τ).loc Cert.Ring.main_arg1))
      ∧ r.2.sem = fun _ => 0)

def quiescent_RingIdeal [hRingIdeal : Cert.RingIdeal.Facts] : Prop :=
  ∀ (m : (ℓ : Loc Cert.RingIdeal.nD Cert.RingIdeal.τ Cert.RingIdeal.sig) → Buf (Elt Ideal) ℓ) (g : Dev Cert.RingIdeal.nD → PrngReg), Pre_RingIdeal m →
    θ_run (Cert.RingIdeal.defs (F := Ideal)) (onTc (τ := Cert.RingIdeal.τ) (Cert.RingIdeal.main (F := Ideal))) ⟨m, fun _ => 0, g⟩ (fun r => (∀ c : Dev Cert.RingIdeal.nD,
      r.2.mem ((c.tc : Thread Cert.RingIdeal.nD Cert.RingIdeal.τ).loc Cert.RingIdeal.main_arg0) = m ((c.tc : Thread Cert.RingIdeal.nD Cert.RingIdeal.τ).loc Cert.RingIdeal.main_arg0)
      ∧ r.2.mem ((c.tc : Thread Cert.RingIdeal.nD Cert.RingIdeal.τ).loc Cert.RingIdeal.main_arg1) = m ((c.tc : Thread Cert.RingIdeal.nD Cert.RingIdeal.τ).loc Cert.RingIdeal.main_arg1))
      ∧ r.2.sem = fun _ => 0)

def quiescent_RingReferenceIdeal [hRingReferenceIdeal : Cert.RingReferenceIdeal.Facts] : Prop :=
  ∀ (m : (ℓ : Loc Cert.RingReferenceIdeal.nD Cert.RingReferenceIdeal.τ Cert.RingReferenceIdeal.sig) → Buf (Elt Ideal) ℓ) (g : Dev Cert.RingReferenceIdeal.nD → PrngReg), Pre_RingReferenceIdeal m →
    θ_run (Cert.RingReferenceIdeal.defs (F := Ideal)) (onTc (τ := Cert.RingReferenceIdeal.τ) (Cert.RingReferenceIdeal.main (F := Ideal))) ⟨m, fun _ => 0, g⟩ (fun r => (∀ c : Dev Cert.RingReferenceIdeal.nD,
      r.2.mem ((c.tc : Thread Cert.RingReferenceIdeal.nD Cert.RingReferenceIdeal.τ).loc Cert.RingReferenceIdeal.main_arg0) = m ((c.tc : Thread Cert.RingReferenceIdeal.nD Cert.RingReferenceIdeal.τ).loc Cert.RingReferenceIdeal.main_arg0)
      ∧ r.2.mem ((c.tc : Thread Cert.RingReferenceIdeal.nD Cert.RingReferenceIdeal.τ).loc Cert.RingReferenceIdeal.main_arg1) = m ((c.tc : Thread Cert.RingReferenceIdeal.nD Cert.RingReferenceIdeal.τ).loc Cert.RingReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![8192, 4096]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 4096]⟩ ⟨2, ![8192, 4096]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v53) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def preserves_Ring_RingIdeal : Prop :=
  True

def algebraic_RingIdeal_RingReferenceIdeal [hRingIdeal : Cert.RingIdeal.Facts] [hRingReferenceIdeal : Cert.RingReferenceIdeal.Facts] : Prop :=
  ∀ (m : (ℓ : Loc Cert.RingIdeal.nD Cert.RingIdeal.τ Cert.RingIdeal.sig) → Buf (Elt Ideal) ℓ) (g : Dev Cert.RingIdeal.nD → PrngReg)
    (m' : (ℓ : Loc Cert.RingReferenceIdeal.nD Cert.RingReferenceIdeal.τ Cert.RingReferenceIdeal.sig) → Buf (Elt Ideal) ℓ) (g' : Dev Cert.RingReferenceIdeal.nD → PrngReg), Pre_RingIdeal m →
    (∀ c : Dev Cert.RingIdeal.nD,
      m ((c.tc : Thread Cert.RingIdeal.nD Cert.RingIdeal.τ).loc Cert.RingIdeal.main_arg0) = Layout.block ⟨2, ![8192, 1024]⟩ ⟨2, ![8192, 8192]⟩ 1 8 c (m' (((0 : Dev Cert.RingReferenceIdeal.nD).tc : Thread Cert.RingReferenceIdeal.nD Cert.RingReferenceIdeal.τ).loc Cert.RingReferenceIdeal.main_arg0))
      ∧ m ((c.tc : Thread Cert.RingIdeal.nD Cert.RingIdeal.τ).loc Cert.RingIdeal.main_arg1) = Layout.block ⟨2, ![1024, 4096]⟩ ⟨2, ![8192, 4096]⟩ 0 8 c (m' (((0 : Dev Cert.RingReferenceIdeal.nD).tc : Thread Cert.RingReferenceIdeal.nD Cert.RingReferenceIdeal.τ).loc Cert.RingReferenceIdeal.main_arg1))) →
    ∃ (v0 : Buf (Elt Ideal) (((0 : Dev Cert.RingReferenceIdeal.nD).tc : Thread Cert.RingReferenceIdeal.nD Cert.RingReferenceIdeal.τ).loc Cert.RingReferenceIdeal.main_v15)),
      θ_run (Cert.RingIdeal.defs (F := Ideal)) (onTc (τ := Cert.RingIdeal.τ) (Cert.RingIdeal.main (F := Ideal))) ⟨m, fun _ => 0, g⟩ (fun r => ∀ c : Dev Cert.RingIdeal.nD,
          r.2.mem ((c.tc : Thread Cert.RingIdeal.nD Cert.RingIdeal.τ).loc Cert.RingIdeal.main_v1) = Layout.block ⟨2, ![1024, 4096]⟩ ⟨2, ![8192, 4096]⟩ 0 8 c v0
          ∧ r.2.mem ((c.tc : Thread Cert.RingIdeal.nD Cert.RingIdeal.τ).loc Cert.RingIdeal.main_arg0) = m ((c.tc : Thread Cert.RingIdeal.nD Cert.RingIdeal.τ).loc Cert.RingIdeal.main_arg0)
          ∧ r.2.mem ((c.tc : Thread Cert.RingIdeal.nD Cert.RingIdeal.τ).loc Cert.RingIdeal.main_arg1) = m ((c.tc : Thread Cert.RingIdeal.nD Cert.RingIdeal.τ).loc Cert.RingIdeal.main_arg1))
      ∧ θ_run (Cert.RingReferenceIdeal.defs (F := Ideal)) (onTc (τ := Cert.RingReferenceIdeal.τ) (Cert.RingReferenceIdeal.main (F := Ideal))) ⟨m', fun _ => 0, g'⟩ (fun r =>
          r.2.mem (((0 : Dev Cert.RingReferenceIdeal.nD).tc : Thread Cert.RingReferenceIdeal.nD Cert.RingReferenceIdeal.τ).loc Cert.RingReferenceIdeal.main_v15) = v0
          ∧ r.2.mem (((0 : Dev Cert.RingReferenceIdeal.nD).tc : Thread Cert.RingReferenceIdeal.nD Cert.RingReferenceIdeal.τ).loc Cert.RingReferenceIdeal.main_arg0) = m' (((0 : Dev Cert.RingReferenceIdeal.nD).tc : Thread Cert.RingReferenceIdeal.nD Cert.RingReferenceIdeal.τ).loc Cert.RingReferenceIdeal.main_arg0)
          ∧ r.2.mem (((0 : Dev Cert.RingReferenceIdeal.nD).tc : Thread Cert.RingReferenceIdeal.nD Cert.RingReferenceIdeal.τ).loc Cert.RingReferenceIdeal.main_arg1) = m' (((0 : Dev Cert.RingReferenceIdeal.nD).tc : Thread Cert.RingReferenceIdeal.nD Cert.RingReferenceIdeal.τ).loc Cert.RingReferenceIdeal.main_arg1))

def Claim : Prop :=
  ∃ (hKernel : Cert.Kernel.Facts) (hKernelIdeal : Cert.KernelIdeal.Facts) (hReferenceIdeal : Cert.ReferenceIdeal.Facts) (hRing : Cert.Ring.Facts) (hRingIdeal : Cert.RingIdeal.Facts) (hRingReferenceIdeal : Cert.RingReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ring (hRing := hRing)
    ∧ quiescent_RingIdeal (hRingIdeal := hRingIdeal)
    ∧ quiescent_RingReferenceIdeal (hRingReferenceIdeal := hRingReferenceIdeal)
    ∧ preserves_Kernel_KernelIdeal
    ∧ algebraic_KernelIdeal_ReferenceIdeal (hKernelIdeal := hKernelIdeal) (hReferenceIdeal := hReferenceIdeal)
    ∧ preserves_Ring_RingIdeal
    ∧ algebraic_RingIdeal_RingReferenceIdeal (hRingIdeal := hRingIdeal) (hRingReferenceIdeal := hRingReferenceIdeal)
-- ==== Kernel.lean ====
abbrev S8192x1024 : Shape := ⟨2, ![8192, 1024]⟩
abbrev S1024x4096 : Shape := ⟨2, ![1024, 4096]⟩
abbrev S2x1024x1024 : Shape := ⟨3, ![2, 1024, 1024]⟩
abbrev S2x1024x2048 : Shape := ⟨3, ![2, 1024, 2048]⟩
abbrev S1024x2048 : Shape := ⟨2, ![1024, 2048]⟩
abbrev S2 : Shape := ⟨1, ![2]⟩
abbrev S4 : Shape := ⟨1, ![4]⟩
abbrev S2x2 : Shape := ⟨2, ![2, 2]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S1024x4096, .f32⟩
  | .local _ .vmem, ⟨0, _⟩ => ⟨S1024x4096, .bf16⟩
  | .local _ .vmem, ⟨1, _⟩ => ⟨S2x1024x1024, .bf16⟩
  | .local _ .vmem, ⟨2, _⟩ => ⟨S2x1024x2048, .bf16⟩
  | .local _ .vmem, ⟨3, _⟩ => ⟨S2x1024x2048, .bf16⟩
  | .local _ .vmem, ⟨4, _⟩ => ⟨S1024x2048, .f32⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_10 : BitVec 32 := 8#32
  let v13 : BitVec 32 := Scalar.addi v2 c8_i32_10
  let c1_i32_11 : BitVec 32 := 1#32
  let v14 : BitVec 32 := Scalar.subi v13 c1_i32_11
  let c8_i32_12 : BitVec 32 := 8#32
  let v15 : BitVec 32 := Scalar.remsi v14 c8_i32_12
  let c1024_i32 : BitVec 32 := 1024#32
  let v16 : BitVec 32 := Scalar.muli v15 c1024_i32
  let c0_i32_17 : BitVec 32 := 0#32
  ![v16.toNat, 0]
def k0_off2 (c0_i32_38 : BitVec 32) : Fin 2 → Nat :=
  let c2_i32_39 : BitVec 32 := 2#32
  let v42 : BitVec 32 := Scalar.remsi c0_i32_38 c2_i32_39
  let c0_i32_43 : BitVec 32 := 0#32
  ![v42.toNat, 0]
def k0_off3 (c1_i32_36 : BitVec 32) : Fin 3 → Nat :=
  let c2_i32_37 : BitVec 32 := 2#32
  let v41 : BitVec 32 := Scalar.remsi c1_i32_36 c2_i32_37
  let c0_i32_46 : BitVec 32 := 0#32
  let c0_i32_47 : BitVec 32 := 0#32
  ![v41.toNat, 0, 0]
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_44 : BitVec 32 := 1#32
  let v44 : BitVec 32 := Scalar.muli v7 c1_i32_44
  let v45 : BitVec 32 := Scalar.addi c0_i32_45 v44
  v45.toNat
def k0_off4 (c0_i32_66 : BitVec 32) : Fin 2 → Nat :=
  let c2_i32_67 : BitVec 32 := 2#32
  let v69 : BitVec 32 := Scalar.remsi c0_i32_66 c2_i32_67
  let c1_i32_71 : BitVec 32 := 1#32
  ![v69.toNat, 1]
def k0_off5 (c1_i32_64 : BitVec 32) : Fin 3 → Nat :=
  let c2_i32_65 : BitVec 32 := 2#32
  let v68 : BitVec 32 := Scalar.remsi c1_i32_64 c2_i32_65
  let c0_i32_74 : BitVec 32 := 0#32
  let c1024_i32_75 : BitVec 32 := 1024#32
  ![v68.toNat, 0, 1024]
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_72 : BitVec 32 := 1#32
  let v71 : BitVec 32 := Scalar.muli v7 c1_i32_72
  let v72 : BitVec 32 := Scalar.addi c0_i32_73 v71
  v72.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_78 : BitVec 32 := 1#32
  let v81 : BitVec 32 := Scalar.addi v2 c1_i32_78
  let c8_i32_79 : BitVec 32 := 8#32
  let v82 : BitVec 32 := Scalar.remsi v81 c8_i32_79
  let c1024_i32_80 : BitVec 32 := 1024#32
  let v83 : BitVec 32 := Scalar.muli v82 c1024_i32_80
  let c0_i32_85 : BitVec 32 := 0#32
  ![v83.toNat, 0]
def k0_dev5 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_112 : BitVec 32 := 1#32
  let v111 : BitVec 32 := Scalar.muli v5 c1_i32_112
  let v112 : BitVec 32 := Scalar.addi c0_i32_113 v111
  v112.toNat
def k0_dev6 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_140 : BitVec 32 := 1#32
  let v138 : BitVec 32 := Scalar.muli v5 c1_i32_140
  let v139 : BitVec 32 := Scalar.addi c0_i32_141 v138
  v139.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v148 : BitVec 32 := Scalar.addi v2 c16_i32
  let c1_i32_146 : BitVec 32 := 1#32
  let v149 : BitVec 32 := Scalar.subi v148 c1_i32_146
  let c1_i32_147 : BitVec 32 := 1#32
  let v150 : BitVec 32 := Scalar.subi v149 c1_i32_147
  let c8_i32_148 : BitVec 32 := 8#32
  let v151 : BitVec 32 := Scalar.remsi v150 c8_i32_148
  let c1024_i32_149 : BitVec 32 := 1024#32
  let v152 : BitVec 32 := Scalar.muli v151 c1024_i32_149
  let c0_i32_154 : BitVec 32 := 0#32
  ![v152.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_207 : BitVec 32 := 1#32
  let v214 : BitVec 32 := Scalar.addi v2 c1_i32_207
  let c1_i32_208 : BitVec 32 := 1#32
  let v215 : BitVec 32 := Scalar.addi v214 c1_i32_208
  let c8_i32_209 : BitVec 32 := 8#32
  let v216 : BitVec 32 := Scalar.remsi v215 c8_i32_209
  let c1024_i32_210 : BitVec 32 := 1024#32
  let v217 : BitVec 32 := Scalar.muli v216 c1024_i32_210
  let c0_i32_215 : BitVec 32 := 0#32
  ![v217.toNat, 0]
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩
abbrev S8192x2048 : Shape := ⟨2, ![8192, 2048]⟩
abbrev S2048x2048 : Shape := ⟨2, ![2048, 2048]⟩
abbrev S6144x2048 : Shape := ⟨2, ![6144, 2048]⟩

abbrev nBuf : Space → Nat
  | .hbm => 76
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x8192, .f32⟩
  | .hbm, ⟨3, _⟩ => ⟨S8192x4096, .f32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i32⟩
  | .hbm, ⟨9, _⟩ => ⟨S_, .i32⟩
  | .hbm, ⟨10, _⟩ => ⟨S8192x8192, .i32⟩
  | .hbm, ⟨11, _⟩ => ⟨S8192x8192, .i32⟩
  | .hbm, ⟨12, _⟩ => ⟨S8192x8192, .i32⟩
  | .hbm, ⟨13, _⟩ => ⟨S_, .i32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S_, .i32⟩
  | .hbm, ⟨27, _⟩ => ⟨S8192x8192, .i32⟩
  | .hbm, ⟨28, _⟩ => ⟨S8192x8192, .i1⟩
  | .hbm, ⟨29, _⟩ => ⟨S_, .i32⟩
  | .hbm, ⟨30, _⟩ => ⟨S8192x8192, .i32⟩
  | .hbm, ⟨31, _⟩ => ⟨S8192x8192, .i1⟩
  | .hbm, ⟨32, _⟩ => ⟨S8192x8192, .i1⟩
  | .hbm, ⟨33, _⟩ => ⟨S_, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x2048, .f32⟩
  | .hbm, ⟨38, _⟩ => ⟨S8192x2048, .f32⟩
  | .hbm, ⟨39, _⟩ => ⟨S_, .i32⟩
  | .hbm, ⟨40, _⟩ => ⟨S8192x8192, .i32⟩
  | .hbm, ⟨41, _⟩ => ⟨S8192x8192, .i1⟩
  | .hbm, ⟨42, _⟩ => ⟨S_, .i32⟩
  | .hbm, ⟨43, _⟩ => ⟨S8192x8192, .i32⟩
  | .hbm, ⟨44, _⟩ => ⟨S8192x8192, .i1⟩
  | .hbm, ⟨45, _⟩ => ⟨S8192x8192, .i1⟩
  | .hbm, ⟨46, _⟩ => ⟨S_, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S8192x2048, .f32⟩
  | .hbm, ⟨51, _⟩ => ⟨S8192x2048, .f32⟩
  | .hbm, ⟨52, _⟩ => ⟨S2048x2048, .f32⟩
  | .hbm, ⟨53, _⟩ => ⟨S6144x2048, .f32⟩
  | .hbm, ⟨54, _⟩ => ⟨S8192x2048, .f32⟩
  | .hbm, ⟨55, _⟩ => ⟨S6144x2048, .f32⟩
  | .hbm, ⟨56, _⟩ => ⟨S2048x2048, .f32⟩
  | .hbm, ⟨57, _⟩ => ⟨S8192x2048, .f32⟩
  | .hbm, ⟨58, _⟩ => ⟨S8192x4096, .f32⟩
  | .hbm, ⟨59, _⟩ => ⟨S_, .f32⟩
  | .hbm, ⟨60, _⟩ => ⟨S8192x4096, .f32⟩
  | .hbm, ⟨61, _⟩ => ⟨S8192x4096, .f32⟩
  | .hbm, ⟨62, _⟩ => ⟨S8192x4096, .f32⟩
  | .hbm, ⟨63, _⟩ => ⟨S8192x4096, .f32⟩
  | .hbm, ⟨64, _⟩ => ⟨S_, .f32⟩
  | .hbm, ⟨65, _⟩ => ⟨S8192x4096, .f32⟩
  | .hbm, ⟨66, _⟩ => ⟨S8192x4096, .f32⟩
  | .hbm, ⟨67, _⟩ => ⟨S8192x4096, .f32⟩
  | .hbm, ⟨68, _⟩ => ⟨S_, .f32⟩
  | .hbm, ⟨69, _⟩ => ⟨S8192x4096, .f32⟩
  | .hbm, ⟨70, _⟩ => ⟨S8192x4096, .f32⟩
  | .hbm, ⟨71, _⟩ => ⟨S8192x4096, .f32⟩
  | .hbm, ⟨72, _⟩ => ⟨S_, .f32⟩
  | .hbm, ⟨73, _⟩ => ⟨S8192x4096, .f32⟩
  | .hbm, ⟨74, _⟩ => ⟨S8192x4096, .f32⟩
  | .hbm, ⟨75, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_c_5 : Ref sig .tc := ⟨.hbm, 26, rfl⟩
abbrev main_v18 : Ref sig .tc := ⟨.hbm, 27, rfl⟩
abbrev main_v19 : Ref sig .tc := ⟨.hbm, 28, rfl⟩
abbrev main_c_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_call1_v0 : Ref sig .tc := ⟨.hbm, 47, rfl⟩
abbrev main_call1_v1 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Ring.lean ====
abbrev S8192x1024 : Shape := ⟨2, ![8192, 1024]⟩
abbrev S1024x4096 : Shape := ⟨2, ![1024, 4096]⟩
abbrev S2x1024x1024 : Shape := ⟨3, ![2, 1024, 1024]⟩
abbrev S2x1024x2048 : Shape := ⟨3, ![2, 1024, 2048]⟩
abbrev S1024x2048 : Shape := ⟨2, ![1024, 2048]⟩
abbrev S2 : Shape := ⟨1, ![2]⟩
abbrev S4 : Shape := ⟨1, ![4]⟩
abbrev S2x2 : Shape := ⟨2, ![2, 2]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S1024x4096, .f32⟩
  | .local _ .vmem, ⟨0, _⟩ => ⟨S1024x4096, .bf16⟩
  | .local _ .vmem, ⟨1, _⟩ => ⟨S2x1024x1024, .bf16⟩
  | .local _ .vmem, ⟨2, _⟩ => ⟨S2x1024x2048, .bf16⟩
  | .local _ .vmem, ⟨3, _⟩ => ⟨S2x1024x2048, .bf16⟩
  | .local _ .vmem, ⟨4, _⟩ => ⟨S1024x2048, .f32⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 5 23 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_10 : BitVec 32 := 8#32
  let v13 : BitVec 32 := Scalar.addi v2 c8_i32_10
  let c1_i32_11 : BitVec 32 := 1#32
  let v14 : BitVec 32 := Scalar.subi v13 c1_i32_11
  let c8_i32_12 : BitVec 32 := 8#32
  let v15 : BitVec 32 := Scalar.remsi v14 c8_i32_12
  let c1024_i32 : BitVec 32 := 1024#32
  let v16 : BitVec 32 := Scalar.muli v15 c1024_i32
  let c0_i32_17 : BitVec 32 := 0#32
  ![v16.toNat, 0]
def k0_off2 (c0_i32_38 : BitVec 32) : Fin 2 → Nat :=
  let c2_i32_39 : BitVec 32 := 2#32
  let v42 : BitVec 32 := Scalar.remsi c0_i32_38 c2_i32_39
  let c0_i32_43 : BitVec 32 := 0#32
  ![v42.toNat, 0]
def k0_off2_at (r : Fin 4) : BitVec 32 :=
  if r.val < 2 then
    if r.val < 1 then
      0#32
    else
      1#32
  else
    if r.val < 3 then
      6#32
    else
      7#32
def k0_off3 (c1_i32_36 : BitVec 32) : Fin 3 → Nat :=
  let c2_i32_37 : BitVec 32 := 2#32
  let v41 : BitVec 32 := Scalar.remsi c1_i32_36 c2_i32_37
  let c0_i32_46 : BitVec 32 := 0#32
  let c0_i32_47 : BitVec 32 := 0#32
  ![v41.toNat, 0, 0]
def k0_off3_at (r : Fin 4) : BitVec 32 :=
  if r.val < 2 then
    if r.val < 1 then
      1#32
    else
      0#32
  else
    if r.val < 3 then
      6#32
    else
      7#32
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_44 : BitVec 32 := 1#32
  let v44 : BitVec 32 := Scalar.muli v7 c1_i32_44
  let v45 : BitVec 32 := Scalar.addi c0_i32_45 v44
  v45.toNat
def k0_off4 (c0_i32_66 : BitVec 32) : Fin 2 → Nat :=
  let c2_i32_67 : BitVec 32 := 2#32
  let v69 : BitVec 32 := Scalar.remsi c0_i32_66 c2_i32_67
  let c1_i32_71 : BitVec 32 := 1#32
  ![v69.toNat, 1]
def k0_off4_at (r : Fin 4) : BitVec 32 :=
  if r.val < 2 then
    if r.val < 1 then
      0#32
    else
      1#32
  else
    if r.val < 3 then
      6#32
    else
      7#32
def k0_off5 (c1_i32_64 : BitVec 32) : Fin 3 → Nat :=
  let c2_i32_65 : BitVec 32 := 2#32
  let v68 : BitVec 32 := Scalar.remsi c1_i32_64 c2_i32_65
  let c0_i32_74 : BitVec 32 := 0#32
  let c1024_i32_75 : BitVec 32 := 1024#32
  ![v68.toNat, 0, 1024]
def k0_off5_at (r : Fin 4) : BitVec 32 :=
  if r.val < 2 then
    if r.val < 1 then
      1#32
    else
      0#32
  else
    if r.val < 3 then
      6#32
    else
      7#32
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_72 : BitVec 32 := 1#32
  let v71 : BitVec 32 := Scalar.muli v7 c1_i32_72
  let v72 : BitVec 32 := Scalar.addi c0_i32_73 v71
  v72.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_78 : BitVec 32 := 1#32
  let v81 : BitVec 32 := Scalar.addi v2 c1_i32_78
  let c8_i32_79 : BitVec 32 := 8#32
  let v82 : BitVec 32 := Scalar.remsi v81 c8_i32_79
  let c1024_i32_80 : BitVec 32 := 1024#32
  let v83 : BitVec 32 := Scalar.muli v82 c1024_i32_80
  let c0_i32_85 : BitVec 32 := 0#32
  ![v83.toNat, 0]
def k0_dev5 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_112 : BitVec 32 := 1#32
  let v111 : BitVec 32 := Scalar.muli v5 c1_i32_112
  let v112 : BitVec 32 := Scalar.addi c0_i32_113 v111
  v112.toNat
def k0_dev6 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_140 : BitVec 32 := 1#32
  let v138 : BitVec 32 := Scalar.muli v5 c1_i32_140
  let v139 : BitVec 32 := Scalar.addi c0_i32_141 v138
  v139.toNat
@[reducible] def k0_t1_loop : Scf.Loop 32 :=
  let c0_i32_146 : BitVec 32 := 0#32
  let c6_i32 : BitVec 32 := 6#32
  let v148 : BitVec 32 := Scalar.addi c0_i32_146 c6_i32
  let c1_i32_147 : BitVec 32 := 1#32
  ⟨c0_i32_146, v148, c1_i32_147⟩
def k0_off7 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_368 : BitVec 32 := 16#32
  let v385 : BitVec 32 := Scalar.addi v2 c16_i32_368
  let c1_i32_369 : BitVec 32 := 1#32
  let v386 : BitVec 32 := Scalar.subi v385 c1_i32_369
  let c0_i32_146 : BitVec 32 := 0#32
  let c1_i32_147 : BitVec 32 := 1#32
  let arg16 : BitVec 32 := Scf.iv c0_i32_146 c1_i32_147 k0_t1
  let c1_i32_367 : BitVec 32 := 1#32
  let v384 : BitVec 32 := Scalar.addi arg16 c1_i32_367
  let v387 : BitVec 32 := Scalar.subi v386 v384
  let c8_i32_370 : BitVec 32 := 8#32
  let v388 : BitVec 32 := Scalar.remsi v387 c8_i32_370
  let c1024_i32_371 : BitVec 32 := 1024#32
  let v389 : BitVec 32 := Scalar.muli v388 c1024_i32_371
  let c0_i32_376 : BitVec 32 := 0#32
  ![v389.toNat, 0]
def k0_off8 (k0_t1 : Fin k0_t1_loop.trips) : Fin 2 → Nat :=
  let c0_i32_146 : BitVec 32 := 0#32
  let c1_i32_147 : BitVec 32 := 1#32
  let arg16 : BitVec 32 := Scf.iv c0_i32_146 c1_i32_147 k0_t1
  let c2_i32_393 : BitVec 32 := 2#32
  let v411 : BitVec 32 := Scalar.remsi arg16 c2_i32_393
  let c0_i32_396 : BitVec 32 := 0#32
  ![v411.toNat, 0]
def k0_off9 (k0_t1 : Fin k0_t1_loop.trips) : Fin 3 → Nat :=
  let c0_i32_146 : BitVec 32 := 0#32
  let c1_i32_147 : BitVec 32 := 1#32
  let arg16 : BitVec 32 := Scf.iv c0_i32_146 c1_i32_147 k0_t1
  let c2_i32_390 : BitVec 32 := 2#32
  let v408 : BitVec 32 := Scalar.remsi arg16 c2_i32_390
  let c0_i32_399 : BitVec 32 := 0#32
  let c0_i32_400 : BitVec 32 := 0#32
  ![v408.toNat, 0, 0]
def k0_off10 (k0_t1 : Fin k0_t1_loop.trips) : Fin 3 → Nat :=
  let c0_i32_146 : BitVec 32 := 0#32
  let c1_i32_147 : BitVec 32 := 1#32
  let arg16 : BitVec 32 := Scf.iv c0_i32_146 c1_i32_147 k0_t1
  let c1_i32_391 : BitVec 32 := 1#32
  let v409 : BitVec 32 := Scalar.addi arg16 c1_i32_391
  let c2_i32_392 : BitVec 32 := 2#32
  let v410 : BitVec 32 := Scalar.remsi v409 c2_i32_392
  let c0_i32_401 : BitVec 32 := 0#32
  let c0_i32_402 : BitVec 32 := 0#32
  ![v410.toNat, 0, 0]
def k0_off11 (k0_t1 : Fin k0_t1_loop.trips) : Fin 2 → Nat :=
  let c0_i32_146 : BitVec 32 := 0#32
  let c1_i32_147 : BitVec 32 := 1#32
  let arg16 : BitVec 32 := Scf.iv c0_i32_146 c1_i32_147 k0_t1
  let c1_i32_394 : BitVec 32 := 1#32
  let v412 : BitVec 32 := Scalar.addi arg16 c1_i32_394
  let c2_i32_395 : BitVec 32 := 2#32
  let v413 : BitVec 32 := Scalar.remsi v412 c2_i32_395
  let c0_i32_403 : BitVec 32 := 0#32
  ![v413.toNat, 0]
def k0_dev7 (d0 : Dev nD) : Nat :=
  let c0_i32_414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_413 : BitVec 32 := 1#32
  let v430 : BitVec 32 := Scalar.muli v5 c1_i32_413
  let v431 : BitVec 32 := Scalar.addi c0_i32_414 v430
  v431.toNat
def k0_off12 (k0_t1 : Fin k0_t1_loop.trips) : Fin 3 → Nat :=
  let c0_i32_146 : BitVec 32 := 0#32
  let c1_i32_147 : BitVec 32 := 1#32
  let arg16 : BitVec 32 := Scf.iv c0_i32_146 c1_i32_147 k0_t1
  let c1_i32_365 : BitVec 32 := 1#32
  let v382 : BitVec 32 := Scalar.addi arg16 c1_i32_365
  let c2_i32_366 : BitVec 32 := 2#32
  let v383 : BitVec 32 := Scalar.remsi v382 c2_i32_366
  let v432 : Index := Scalar.indexCast v383
  let c0_415 : Index := 0#32
  let c0_416 : Index := 0#32
  ![v432.toNat, 0, 0]
def k0_off13 (k0_t1 : Fin k0_t1_loop.trips) : Fin 2 → Nat :=
  let c0_i32_146 : BitVec 32 := 0#32
  let c1_i32_147 : BitVec 32 := 1#32
  let arg16 : BitVec 32 := Scf.iv c0_i32_146 c1_i32_147 k0_t1
  let c1_i32_424 : BitVec 32 := 1#32
  let v445 : BitVec 32 := Scalar.addi arg16 c1_i32_424
  let c1_i32_429 : BitVec 32 := 1#32
  let v450 : BitVec 32 := Scalar.addi v445 c1_i32_429
  let c2_i32_430 : BitVec 32 := 2#32
  let v451 : BitVec 32 := Scalar.remsi v450 c2_i32_430
  let c0_i32_431 : BitVec 32 := 0#32
  ![v451.toNat, 0]
def k0_off14 (k0_t1 : Fin k0_t1_loop.trips) : Fin 3 → Nat :=
  let c0_i32_146 : BitVec 32 := 0#32
  let c1_i32_147 : BitVec 32 := 1#32
  let arg16 : BitVec 32 := Scf.iv c0_i32_146 c1_i32_147 k0_t1
  let c1_i32_424 : BitVec 32 := 1#32
  let v445 : BitVec 32 := Scalar.addi arg16 c1_i32_424
  let c1_i32_426 : BitVec 32 := 1#32
  let v447 : BitVec 32 := Scalar.addi v445 c1_i32_426
  let c2_i32_427 : BitVec 32 := 2#32
  let v448 : BitVec 32 := Scalar.remsi v447 c2_i32_427
  let c0_i32_435 : BitVec 32 := 0#32
  let c0_i32_436 : BitVec 32 := 0#32
  ![v448.toNat, 0, 0]
def k0_dev8 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_433 : BitVec 32 := 1#32
  let v452 : BitVec 32 := Scalar.muli v7 c1_i32_433
  let v453 : BitVec 32 := Scalar.addi c0_i32_434 v452
  v453.toNat
def k0_off15 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_440 : BitVec 32 := 1#32
  let v463 : BitVec 32 := Scalar.addi v2 c1_i32_440
  let c0_i32_146 : BitVec 32 := 0#32
  let c1_i32_147 : BitVec 32 := 1#32
  let arg16 : BitVec 32 := Scf.iv c0_i32_146 c1_i32_147 k0_t1
  let c1_i32_439 : BitVec 32 := 1#32
  let v462 : BitVec 32 := Scalar.addi arg16 c1_i32_439
  let v464 : BitVec 32 := Scalar.addi v463 v462
  let c8_i32_441 : BitVec 32 := 8#32
  let v465 : BitVec 32 := Scalar.remsi v464 c8_i32_441
  let c1024_i32_442 : BitVec 32 := 1024#32
  let v466 : BitVec 32 := Scalar.muli v465 c1024_i32_442
  let c0_i32_447 : BitVec 32 := 0#32
  ![v466.toNat, 0]
def k0_dev9 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_484 : BitVec 32 := 1#32
  let v507 : BitVec 32 := Scalar.muli v7 c1_i32_484
  let v508 : BitVec 32 := Scalar.addi c0_i32_485 v507
  v508.toNat
def k0_dev10 (d0 : Dev nD) : Nat :=
  let c0_i32_505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_504 : BitVec 32 := 1#32
  let v529 : BitVec 32 := Scalar.muli v5 c1_i32_504
  let v530 : BitVec 32 := Scalar.addi c0_i32_505 v529
  v530.toNat
def k0_off16 (k0_t1 : Fin k0_t1_loop.trips) : Fin 2 → Nat :=
  let c0_i32_146 : BitVec 32 := 0#32
  let c1_i32_147 : BitVec 32 := 1#32
  let arg16 : BitVec 32 := Scf.iv c0_i32_146 c1_i32_147 k0_t1
  let c2_i32_513 : BitVec 32 := 2#32
  let v542 : BitVec 32 := Scalar.remsi arg16 c2_i32_513
  let c1_i32_516 : BitVec 32 := 1#32
  ![v542.toNat, 1]
def k0_off17 (k0_t1 : Fin k0_t1_loop.trips) : Fin 3 → Nat :=
  let c0_i32_146 : BitVec 32 := 0#32
  let c1_i32_147 : BitVec 32 := 1#32
  let arg16 : BitVec 32 := Scf.iv c0_i32_146 c1_i32_147 k0_t1
  let c2_i32_510 : BitVec 32 := 2#32
  let v539 : BitVec 32 := Scalar.remsi arg16 c2_i32_510
  let c0_i32_519 : BitVec 32 := 0#32
  let c1024_i32_520 : BitVec 32 := 1024#32
  ![v539.toNat, 0, 1024]
def k0_off18 (k0_t1 : Fin k0_t1_loop.trips) : Fin 3 → Nat :=
  let c0_i32_146 : BitVec 32 := 0#32
  let c1_i32_147 : BitVec 32 := 1#32
  let arg16 : BitVec 32 := Scf.iv c0_i32_146 c1_i32_147 k0_t1
  let c1_i32_511 : BitVec 32 := 1#32
  let v540 : BitVec 32 := Scalar.addi arg16 c1_i32_511
  let c2_i32_512 : BitVec 32 := 2#32
  let v541 : BitVec 32 := Scalar.remsi v540 c2_i32_512
  let c0_i32_521 : BitVec 32 := 0#32
  let c1024_i32_522 : BitVec 32 := 1024#32
  ![v541.toNat, 0, 1024]
def k0_off19 (k0_t1 : Fin k0_t1_loop.trips) : Fin 2 → Nat :=
  let c0_i32_146 : BitVec 32 := 0#32
  let c1_i32_147 : BitVec 32 := 1#32
  let arg16 : BitVec 32 := Scf.iv c0_i32_146 c1_i32_147 k0_t1
  let c1_i32_514 : BitVec 32 := 1#32
  let v543 : BitVec 32 := Scalar.addi arg16 c1_i32_514
  let c2_i32_515 : BitVec 32 := 2#32
  let v544 : BitVec 32 := Scalar.remsi v543 c2_i32_515
  let c1_i32_523 : BitVec 32 := 1#32
  ![v544.toNat, 1]
def k0_dev11 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_533 : BitVec 32 := 1#32
  let v561 : BitVec 32 := Scalar.muli v5 c1_i32_533
  let v562 : BitVec 32 := Scalar.addi c0_i32_534 v561
  v562.toNat
def k0_off20 (k0_t1 : Fin k0_t1_loop.trips) : Fin 3 → Nat :=
  let c0_i32_146 : BitVec 32 := 0#32
  let c1_i32_147 : BitVec 32 := 1#32
  let arg16 : BitVec 32 := Scf.iv c0_i32_146 c1_i32_147 k0_t1
  let c1_i32_365 : BitVec 32 := 1#32
  let v382 : BitVec 32 := Scalar.addi arg16 c1_i32_365
  let c2_i32_366 : BitVec 32 := 2#32
  let v383 : BitVec 32 := Scalar.remsi v382 c2_i32_366
  let v563 : Index := Scalar.indexCast v383
  let c0_535 : Index := 0#32
  let c1024_536 : Index := 1024#32
  ![v563.toNat, 0, 1024]
def k0_off21 (k0_t1 : Fin k0_t1_loop.trips) : Fin 2 → Nat :=
  let c0_i32_146 : BitVec 32 := 0#32
  let c1_i32_147 : BitVec 32 := 1#32
  let arg16 : BitVec 32 := Scf.iv c0_i32_146 c1_i32_147 k0_t1
  let c1_i32_544 : BitVec 32 := 1#32
  let v576 : BitVec 32 := Scalar.addi arg16 c1_i32_544
  let c1_i32_549 : BitVec 32 := 1#32
  let v581 : BitVec 32 := Scalar.addi v576 c1_i32_549
  let c2_i32_550 : BitVec 32 := 2#32
  let v582 : BitVec 32 := Scalar.remsi v581 c2_i32_550
  let c1_i32_551 : BitVec 32 := 1#32
  ![v582.toNat, 1]
def k0_off22 (k0_t1 : Fin k0_t1_loop.trips) : Fin 3 → Nat :=
  let c0_i32_146 : BitVec 32 := 0#32
  let c1_i32_147 : BitVec 32 := 1#32
  let arg16 : BitVec 32 := Scf.iv c0_i32_146 c1_i32_147 k0_t1
  let c1_i32_544 : BitVec 32 := 1#32
  let v576 : BitVec 32 := Scalar.addi arg16 c1_i32_544
  let c1_i32_546 : BitVec 32 := 1#32
  let v578 : BitVec 32 := Scalar.addi v576 c1_i32_546
  let c2_i32_547 : BitVec 32 := 2#32
  let v579 : BitVec 32 := Scalar.remsi v578 c2_i32_547
  let c0_i32_555 : BitVec 32 := 0#32
  let c1024_i32_556 : BitVec 32 := 1024#32
  ![v579.toNat, 0, 1024]
def k0_dev12 (d0 : Dev nD) : Nat :=
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_553 : BitVec 32 := 1#32
  let v583 : BitVec 32 := Scalar.muli v7 c1_i32_553
  let v584 : BitVec 32 := Scalar.addi c0_i32_554 v583
  v584.toNat
def k0_dev13 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_582 : BitVec 32 := 1#32
  let v615 : BitVec 32 := Scalar.muli v7 c1_i32_582
  let v616 : BitVec 32 := Scalar.addi c0_i32_583 v615
  v616.toNat
def k0_dev14 (d0 : Dev nD) : Nat :=
  let c0_i32_603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_602 : BitVec 32 := 1#32
  let v637 : BitVec 32 := Scalar.muli v5 c1_i32_602
  let v638 : BitVec 32 := Scalar.addi c0_i32_603 v637
  v638.toNat
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v149 : BitVec 32 := Scalar.addi v2 c16_i32
  let c1_i32_149 : BitVec 32 := 1#32
  let v150 : BitVec 32 := Scalar.subi v149 c1_i32_149
  let c7_i32 : BitVec 32 := 7#32
  let v151 : BitVec 32 := Scalar.subi v150 c7_i32
  let c8_i32_150 : BitVec 32 := 8#32
  let v152 : BitVec 32 := Scalar.remsi v151 c8_i32_150
  let c1024_i32_151 : BitVec 32 := 1024#32
  let v153 : BitVec 32 := Scalar.muli v152 c1024_i32_151
  let c0_i32_156 : BitVec 32 := 0#32
  ![v153.toNat, 0]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_209 : BitVec 32 := 1#32
  let v215 : BitVec 32 := Scalar.addi v2 c1_i32_209
  let c7_i32_210 : BitVec 32 := 7#32
  let v216 : BitVec 32 := Scalar.addi v215 c7_i32_210
  let c8_i32_211 : BitVec 32 := 8#32
  let v217 : BitVec 32 := Scalar.remsi v216 c8_i32_211
  let c1024_i32_212 : BitVec 32 := 1024#32
  let v218 : BitVec 32 := Scalar.muli v217 c1024_i32_212
  let c0_i32_217 : BitVec 32 := 0#32
  ![v218.toNat, 0]
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== RingReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x8192, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Pieces.lean ====
/-
# Pieces of buffers

A device of this kernel holds its scratch buffers piece by piece: a piece is the elements under one view, owned
outright, together with what the view reads of them. This file gives the memory steps of a body in those terms,
for any program: a load and a store of one piece (straight or through the reshape a squeeze makes), a load of a whole
buffer, a local copy into a piece and its wait, and how a buffer is cut into pieces and put together again.
-/
module

public import Idealize.ShloMosaic.Lib.Transfers
public import Idealize.ShloMosaic.Lib.Rounds
public import Idealize.ShloMosaic.Lib.Ring
public import Idealize.ShloMosaic.Lib.Tactic

@[expose] public section

noncomputable section

namespace Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable {sp sp' : Space} {s s' : Shape} {e : EltTy}

/-- Device `c` owns the elements under the view `v`, and `v` reads `X` of them. -/
def pc (c : Dev nD) (v : View sig .tc sp s e) (X : s.Idx → Val e) : sProp 𝕄 :=
  iprop(∃ f : Buf Val (v.loc (c : Thread nD τ)), ⌜v.read Val f = X⌝ ∗ (v.loc (c : Thread nD τ) ↦[v.set]{fullShare} f))

instance pc_storable (c : Dev nD) (v : View sig .tc sp s e) (X : s.Idx → Val e) :
    BI.Storable (upEmb : UEmb _ 𝕄) (pc (τ := τ) (Ix := Ix) (Name := Name) (U := U) (Lvl := Lvl) c v X) := by
  unfold pc; infer_instance

/-- The elements under `v` at some contents. -/
def pcAny (c : Dev nD) (v : View sig .tc sp s e) : sProp 𝕄 :=
  iprop(∃ f : Buf Val (v.loc (c : Thread nD τ)), (v.loc (c : Thread nD τ) ↦[v.set]{fullShare} f))

instance pcAny_storable (c : Dev nD) (v : View sig .tc sp s e) :
    BI.Storable (upEmb : UEmb _ 𝕄) (pcAny (τ := τ) (Ix := Ix) (Val := Val) (Name := Name) (U := U) (Lvl := Lvl) c v) := by
  unfold pcAny; infer_instance

theorem pc_any (c : Dev nD) (v : View sig .tc sp s e) (X : s.Idx → Val e) : (pc (τ := τ) c v X : sProp 𝕄) ⊢ pcAny c v := by
  unfold pc pcAny
  iintro ⟨%f, -, H⟩
  iexists f; iexact H

theorem pcAny_pc (c : Dev nD) (v : View sig .tc sp s e) : (pcAny (τ := τ) c v : sProp 𝕄) ⊢ iprop(∃ X, pc c v X) := by
  unfold pc pcAny
  iintro ⟨%f, H⟩
  iexists (v.read Val f), f
  isplitr; · (ipureintro; rfl)
  iexact H

/-- A vector re-indexed by the reshape a squeeze makes, and back. -/
def sq (h : s'.numel = s.numel) (X : s.Idx → Val e) : s'.Idx → Val e := fun i => X (Shape.reshapeEquiv h i)
def unsq (h : s'.numel = s.numel) (X : s'.Idx → Val e) : s.Idx → Val e := fun i => X ((Shape.reshapeEquiv h).symm i)

theorem sq_unsq (h : s'.numel = s.numel) (X : s'.Idx → Val e) : sq h (unsq h X) = X :=
  funext fun i => by unfold sq unsq; rw [Equiv.symm_apply_apply]

section Rules

variable [Preorder Lvl] {Λ : Labels} {defs : Defs nD τ sig Val Λ} (𝒱 : Variants) (c : Dev nD)
variable {α : Type} {Q : α → sProp (MT nD τ sig Ix Val Name U Lvl)} {cs : CoreSpace}

/-- A load of the rectangle a piece is, -/
theorem wp_load_pc {m : Memref sig .tc cs s e} {r : Rect s} {hl : m.view.LoadsAt r.toLoadRect}
    {k : (r.shape.Idx → Val e) → Prog (TpuEff nD τ sig Val Λ .tc) α} {X : r.shape.Idx → Val e} :
    (pc c (m.access r) X : sProp 𝕄)
      ⊢ iprop((pc c (m.access r) X -∗ wp frame (wpE defs 𝒱 (c : Thread nD τ) none) Set.univ (k X) Q)
        -∗ wp frame (wpE defs 𝒱 (c : Thread nD τ) none) Set.univ (.op (.load m r.toLoadRect hl) k) Q) := by
  unfold pc
  iintro ⟨%f, %hf, H⟩ Hk
  subst hf
  iapply (wp_load_rect 𝒱 (c : Thread nD τ) none Set.univ (m := m) (r := r) (S := (m.access r).set) (Finset.Subset.refl _)) $$ H
  iintro H
  iapply Hk
  iexists f
  isplitr; · (ipureintro; rfl)
  iexact H

/-- and of one held through a reshape. -/
theorem wp_load_sq {m : Memref sig .tc cs s e} {r : Rect s} (h : s'.numel = r.shape.numel) {hl : m.view.LoadsAt r.toLoadRect}
    {k : (r.shape.Idx → Val e) → Prog (TpuEff nD τ sig Val Λ .tc) α} {X : s'.Idx → Val e} :
    (pc c ((m.access r).reshape s' h) X : sProp 𝕄)
      ⊢ iprop((pc c ((m.access r).reshape s' h) X -∗ wp frame (wpE defs 𝒱 (c : Thread nD τ) none) Set.univ (k (unsq h X)) Q)
        -∗ wp frame (wpE defs 𝒱 (c : Thread nD τ) none) Set.univ (.op (.load m r.toLoadRect hl) k) Q) := by
  unfold pc
  iintro ⟨%f, %hf, H⟩ Hk
  subst hf
  have hX : unsq h (((m.access r).reshape s' h).read Val f) = (m.access r).read Val f :=
    funext fun i => by
      show (m.access r).read Val f (Shape.reshapeEquiv h ((Shape.reshapeEquiv h).symm i)) = _
      rw [Equiv.apply_symm_apply]
  rw [hX]
  iapply (wp_load_rect 𝒱 (c : Thread nD τ) none Set.univ (m := m) (r := r) (S := ((m.access r).reshape s' h).set)
    (by rw [View.set_reshape])) $$ H
  iintro H
  iapply Hk
  iexists f
  isplitr; · (ipureintro; rfl)
  iexact H

/-- A store over a piece, whatever it held, -/
theorem wp_store_pc {m : Memref sig .tc cs s e} {r : Rect s} {w : r.shape.Idx → Val e}
    {hx : (m.access r).Stores Finset.univ} {hm : Finset.univ = (Finset.univ : Finset r.shape.Idx) ∨ ∀ a, r.stride a = 1}
    {k : PUnit → Prog (TpuEff nD τ sig Val Λ .tc) α} {X : r.shape.Idx → Val e} :
    (pc c (m.access r) X : sProp 𝕄)
      ⊢ iprop((pc c (m.access r) w -∗ wp frame (wpE defs 𝒱 (c : Thread nD τ) none) Set.univ (k ⟨⟩) Q)
        -∗ wp frame (wpE defs 𝒱 (c : Thread nD τ) none) Set.univ (.op (.store m r w Finset.univ hx hm) k) Q) := by
  unfold pc
  iintro ⟨%f, -, H⟩ Hk
  iapply (wp_store 𝒱 (c : Thread nD τ) none Set.univ (m := m) (r := r) (Mk := Finset.univ) (S := (m.access r).set) (Finset.Subset.refl _)) $$ H
  iintro H
  iapply Hk
  iexists _
  isplitr
  · ipureintro; exact View.read_write_univ (v := m.access r) f w
  iexact H

/-- and over one held through a reshape. -/
theorem wp_store_sq {m : Memref sig .tc cs s e} {r : Rect s} (h : s'.numel = r.shape.numel) {w : r.shape.Idx → Val e}
    {hx : (m.access r).Stores Finset.univ} {hm : Finset.univ = (Finset.univ : Finset r.shape.Idx) ∨ ∀ a, r.stride a = 1}
    {k : PUnit → Prog (TpuEff nD τ sig Val Λ .tc) α} {X : s'.Idx → Val e} :
    (pc c ((m.access r).reshape s' h) X : sProp 𝕄)
      ⊢ iprop((pc c ((m.access r).reshape s' h) (sq h w) -∗ wp frame (wpE defs 𝒱 (c : Thread nD τ) none) Set.univ (k ⟨⟩) Q)
        -∗ wp frame (wpE defs 𝒱 (c : Thread nD τ) none) Set.univ (.op (.store m r w Finset.univ hx hm) k) Q) := by
  unfold pc
  iintro ⟨%f, -, H⟩ Hk
  iapply (wp_store 𝒱 (c : Thread nD τ) none Set.univ (m := m) (r := r) (Mk := Finset.univ) (S := ((m.access r).reshape s' h).set)
    (by rw [View.set_reshape]; exact Finset.Subset.refl _)) $$ H
  iintro H
  iapply Hk
  iexists _
  isplitr
  · ipureintro
    funext i
    show (m.access r).read Val ((m.access r).write Val f w Finset.univ) (Shape.reshapeEquiv h i) = _
    rw [View.read_write_univ]; rfl
  iexact H

/-- Loads of pieces of which only that they are owned is known. -/
theorem wp_load_any {m : Memref sig .tc cs s e} {r : Rect s} {hl : m.view.LoadsAt r.toLoadRect}
    {k : (r.shape.Idx → Val e) → Prog (TpuEff nD τ sig Val Λ .tc) α} :
    (pcAny c (m.access r) : sProp 𝕄)
      ⊢ iprop((∀ X, pc c (m.access r) X -∗ wp frame (wpE defs 𝒱 (c : Thread nD τ) none) Set.univ (k X) Q)
        -∗ wp frame (wpE defs 𝒱 (c : Thread nD τ) none) Set.univ (.op (.load m r.toLoadRect hl) k) Q) := by
  refine (pcAny_pc c _).trans ?_
  iintro ⟨%X, H⟩ Hk
  iapply (wp_load_pc 𝒱 c) $$ H
  iintro H
  iapply Hk
  iexact H

theorem wp_load_sq_any {m : Memref sig .tc cs s e} {r : Rect s} (h : s'.numel = r.shape.numel) {hl : m.view.LoadsAt r.toLoadRect}
    {k : (r.shape.Idx → Val e) → Prog (TpuEff nD τ sig Val Λ .tc) α} :
    (pcAny c ((m.access r).reshape s' h) : sProp 𝕄)
      ⊢ iprop((∀ X, pc c ((m.access r).reshape s' h) X -∗ wp frame (wpE defs 𝒱 (c : Thread nD τ) none) Set.univ (k (unsq h X)) Q)
        -∗ wp frame (wpE defs 𝒱 (c : Thread nD τ) none) Set.univ (.op (.load m r.toLoadRect hl) k) Q) := by
  refine (pcAny_pc c _).trans ?_
  iintro ⟨%X, H⟩ Hk
  iapply (wp_load_sq 𝒱 c h) $$ H
  iintro H
  iapply Hk
  iexact H

/-- A load out of a buffer held whole at any share. -/
theorem wp_load_at {m : Memref sig .tc cs s e} {r : Rect s} {hl : m.view.LoadsAt r.toLoadRect}
    {k : (r.shape.Idx → Val e) → Prog (TpuEff nD τ sig Val Λ .tc) α} {q : PosShare TreeShare} {f : Buf Val (m.view.loc (c : Thread nD τ))} :
    (m.view.loc (c : Thread nD τ) ↦{q} f : sProp 𝕄)
      ⊢ iprop(((m.view.loc (c : Thread nD τ) ↦{q} f) -∗ wp frame (wpE defs 𝒱 (c : Thread nD τ) none) Set.univ (k ((m.access r).read Val f)) Q)
        -∗ wp frame (wpE defs 𝒱 (c : Thread nD τ) none) Set.univ (.op (.load m r.toLoadRect hl) k) Q) :=
  wp_load_rect 𝒱 (c : Thread nD τ) none Set.univ (m := m) (r := r) (Finset.subset_univ _)

variable [Infinite Name] (EC : UEmb Counters (MT nD τ sig Ix Val Name U Lvl)) [EC.LandsIn (upEmb : UEmb _ (MT nD τ sig Ix Val Name U Lvl))] (ι : Ix)

/-- What a device owes, its record of waits left open. -/
def ow (c : Dev nD) (O : CellTallies nD τ sig Ix) : sProp (MT nD τ sig Ix Val Name U Lvl) := iprop(∃ W, owes (c : Thread nD τ) O W)

/-- A local copy of a piece into a piece: what is in flight until the wait. -/
theorem wp_put {src : Memref sig .tc sp s e} {dst : Memref sig .tc sp' s e} {sm sm₀ : DmaSem sig} (hm : sm = sm₀)
    {hsrc : src.view.WordExact} {hdst : dst.view.WordExact} {hsem : DmaTarget.Typed (nD := nD) (τ := τ) (p := (c : Thread nD τ).2) sp (.dma sm) (.here dst)}
    {k : PUnit → Prog (TpuEff nD τ sig Val Λ .tc) α} {X : s.Idx → Val e} (hs : 0 < s.numel) :
    iprop(pc c src.view X ∗ pcAny c dst.view ∗ semVal ((c : Thread nD τ), .dma sm₀) 0)
      ⊢ iprop((Transfers.Flight EC (c : Thread nD τ) (.dma sm₀) ι dst.view.dmaCredit iprop(pc c dst.view X ∗ pcAny c src.view)
          -∗ wp frame (wpE defs 𝒱 (c : Thread nD τ) none) Set.univ (k ⟨⟩) Q)
        -∗ wp frame (wpE defs 𝒱 (c : Thread nD τ) none) Set.univ (.op (.enqueueDma src (.here dst) (.dma sm) hsrc hdst hsem) k) Q) := by
  subst hm
  unfold pc pcAny
  iintro ⟨⟨%fs, %hX, Hs⟩, ⟨%fd, Hd⟩, Hv⟩ Hk
  subst hX
  iapply (Transfers.wp_dmaLocal EC 𝒱 (c : Thread nD τ) none ι dst.view.dmaCredit (View.amount_dma _ _) (View.dmaCredit_pos _ hs)
    (Finset.Subset.refl _) (fd := fd) (fs := fs)) $$ [Hs Hd Hv]
  · isplitl [Hs]; · iexact Hs
    isplitl [Hd] <;> iassumption
  iintro Hf
  iapply Hk
  iapply (Transfers.Flight_mono EC (c : Thread nD τ) (D := iprop((dst.view.loc (c : Thread nD τ) ↦[dst.view.set]{fullShare}
      View.write Val dst.view fd (ReadAs.same.apply (src.view.read Val fs)) Finset.univ) ∗ (src.view.loc (c : Thread nD τ) ↦[src.view.set]{fullShare} fs))) (by
    iintro ⟨Hd, Hs⟩
    isplitl [Hd]
    · iexists (View.write Val dst.view fd (ReadAs.same.apply (src.view.read Val fs)) Finset.univ)
      isplitr
      · ipureintro; exact View.read_write_univ (v := dst.view) _ _
      iexact Hd
    iexists fs; iexact Hs)) $$ Hf

/-- A copy of a part of a whole buffer into a piece, in flight: the piece and the part come back at the wait, the rest of
    the buffer is still here. -/
def fetching (sm : DmaSem sig) (src : Memref sig .tc sp s e) (dst : Memref sig .tc sp' s e) (q : PosShare TreeShare)
    (fs : Buf Val (src.view.loc (c : Thread nD τ))) : sProp (MT nD τ sig Ix Val Name U Lvl) :=
  iprop(Transfers.Flight EC (c : Thread nD τ) (.dma sm) ι dst.view.dmaCredit
      iprop(pc c dst.view (src.view.read Val fs) ∗ (src.view.loc (c : Thread nD τ) ↦[src.view.set]{q} fs))
    ∗ (src.view.loc (c : Thread nD τ) ↦[Finset.univ \ src.view.set]{q} fs))

theorem wp_fetch {src src₀ : Memref sig .tc sp s e} {dst : Memref sig .tc sp' s e} {sm sm₀ : DmaSem sig} (he : src = src₀) (hm : sm = sm₀)
    {hsrc : src.view.WordExact} {hdst : dst.view.WordExact} {hsem : DmaTarget.Typed (nD := nD) (τ := τ) (p := (c : Thread nD τ).2) sp (.dma sm) (.here dst)}
    {k : PUnit → Prog (TpuEff nD τ sig Val Λ .tc) α} {q : PosShare TreeShare} {fs : Buf Val (src₀.view.loc (c : Thread nD τ))} (hs : 0 < s.numel) :
    iprop((src₀.view.loc (c : Thread nD τ) ↦{q} fs) ∗ pcAny c dst.view ∗ semVal ((c : Thread nD τ), .dma sm₀) 0)
      ⊢ iprop((fetching c EC ι sm₀ src₀ dst q fs -∗ wp frame (wpE defs 𝒱 (c : Thread nD τ) none) Set.univ (k ⟨⟩) Q)
        -∗ wp frame (wpE defs 𝒱 (c : Thread nD τ) none) Set.univ (.op (.enqueueDma src (.here dst) (.dma sm) hsrc hdst hsem) k) Q) := by
  subst he hm
  unfold pcAny fetching
  iintro ⟨Hs, ⟨%fd, Hd⟩, Hv⟩ Hk
  ihave Hs' := (pointsTo_split_subset (Finset.subset_univ src.view.set)).1 $$ Hs
  icases Hs' with ⟨Hs, Hr⟩
  iapply (Transfers.wp_dmaLocal EC 𝒱 (c : Thread nD τ) none ι dst.view.dmaCredit (View.amount_dma _ _) (View.dmaCredit_pos _ hs)
    (Finset.Subset.refl _) (fd := fd) (fs := fs)) $$ [Hs Hd Hv]
  · isplitl [Hs]; · iexact Hs
    isplitl [Hd] <;> iassumption
  iintro Hf
  iapply Hk
  isplitl [Hf]
  · iapply (Transfers.Flight_mono EC (c : Thread nD τ) (D := iprop((dst.view.loc (c : Thread nD τ) ↦[dst.view.set]{fullShare}
        View.write Val dst.view fd (ReadAs.same.apply (src.view.read Val fs)) Finset.univ) ∗ (src.view.loc (c : Thread nD τ) ↦[src.view.set]{q} fs))) (by
      unfold pc
      iintro ⟨Hd, Hs⟩
      isplitl [Hd]
      · iexists (View.write Val dst.view fd (ReadAs.same.apply (src.view.read Val fs)) Finset.univ)
        isplitr
        · ipureintro; exact View.read_write_univ (v := dst.view) _ _
        iexact Hd
      iexact Hs)) $$ Hf
  iexact Hr

/-- The wait for what is in flight on a local cell. -/
theorem wp_landed {sem sm₀ : DmaSem sig} (hm : sem = sm₀) {s' : Shape} {e' : EltTy} {srcw : Memref sig .tc sp s' e'} {dstw : Memref sig .tc sp' s e}
    {hsrc : srcw.view.WordExact} {hdst : dstw.view.WordExact}
    {k : PUnit → Prog (TpuEff nD τ sig Val Λ .tc) α} {D : sProp (MT nD τ sig Ix Val Name U Lvl)} {O : CellTallies nD τ sig Ix} :
    iprop(Transfers.Flight EC (c : Thread nD τ) (.dma sm₀) ι dstw.view.dmaCredit D ∗ ow c O ∗ MayWait (c : Thread nD τ) (.dma sm₀) ι O)
      ⊢ iprop((iprop(D ∗ semVal ((c : Thread nD τ), .dma sm₀) 0 ∗ ow c O) -∗ wp frame (wpE defs 𝒱 (c : Thread nD τ) none) Set.univ (k ⟨⟩) Q)
        -∗ wp frame (wpE defs 𝒱 (c : Thread nD τ) none) Set.univ (.op (.waitDma2 sem srcw dstw hsrc hdst) k) Q) := by
  subst hm
  unfold ow
  iintro ⟨Hf, ⟨%W, HO⟩, Hm⟩ Hk
  iapply (Transfers.wp_waitLocalO EC 𝒱 (c : Thread nD τ) none ι rfl (D := D) (O := O) (W := W)) $$ [Hf HO Hm]
  · isplitl [Hf]; · iexact Hf
    isplitl [HO] <;> iassumption
  iintro ⟨HD, Hv, HO⟩
  iapply Hk
  isplitl [HD]; · iexact HD
  isplitl [Hv]; · iexact Hv
  iexists _; iexact HO

theorem wp_fetched {src src₀ : Memref sig .tc sp s e} {dst : Memref sig .tc sp' s e} {sem sm₀ : DmaSem sig} (he : src = src₀) (hm : sem = sm₀)
    {hsrc : src.view.WordExact} {hdst : dst.view.WordExact} {k : PUnit → Prog (TpuEff nD τ sig Val Λ .tc) α} {O : CellTallies nD τ sig Ix}
    {q : PosShare TreeShare} {fs : Buf Val (src₀.view.loc (c : Thread nD τ))} :
    iprop(fetching c EC ι sm₀ src₀ dst q fs ∗ ow c O ∗ MayWait (c : Thread nD τ) (.dma sm₀) ι O)
      ⊢ iprop((iprop(pc c dst.view (src₀.view.read Val fs) ∗ (src₀.view.loc (c : Thread nD τ) ↦{q} fs) ∗ semVal ((c : Thread nD τ), .dma sm₀) 0 ∗ ow c O)
            -∗ wp frame (wpE defs 𝒱 (c : Thread nD τ) none) Set.univ (k ⟨⟩) Q)
        -∗ wp frame (wpE defs 𝒱 (c : Thread nD τ) none) Set.univ (.op (.waitDma2 sem src dst hsrc hdst) k) Q) := by
  subst he hm
  unfold fetching
  iintro ⟨⟨Hf, Hr⟩, HO, Hm⟩ Hk
  iapply (wp_landed 𝒱 c EC ι rfl) $$ [Hf HO Hm]
  · isplitl [Hf]; · iexact Hf
    isplitl [HO] <;> iassumption
  iintro ⟨⟨Hd, Hs⟩, Hv, HO⟩
  iapply Hk
  isplitl [Hd]; · iexact Hd
  isplitl [Hs Hr]
  · iapply (pointsTo_split_subset (Finset.subset_univ src.view.set)).2
    isplitl [Hs] <;> iassumption
  isplitl [Hv] <;> iassumption

/-! ### The steps that touch a shared cell -/

variable {D : Type} [DecidableEq D] (E : Emb (Rounds.URounds (GSem nD τ sig) D) (MT nD τ sig Ix Val Name U Lvl))
variable (Rd : Rounds.Schedule (GSem nD τ sig) D (MT nD τ sig Ix Val Name U Lvl))
variable [E.LandsIn (upEmb : UEmb _ (MT nD τ sig Ix Val Name U Lvl))]
variable [∀ g r d, BI.Storable (upEmb : UEmb _ (MT nD τ sig Ix Val Name U Lvl)) (Rd.payload g r d)]

/-- A transfer of a piece onto a piece of device `n`: the source piece goes into the send cell's round, the piece it makes there
    into the receive cell's. -/
theorem wp_send_pc {n : Dev nD} {src : Memref sig .tc sp s e} {dst : Memref sig .tc sp' s e}
    {hsc : (dst : Memref sig (Dev.tc n : Thread nD τ).2.kind sp' s e).view.ref.isScScratch = false} {sS sR : DmaSem sig}
    {hsrc : src.view.WordExact} {hdst : dst.view.WordExact}
    {hsem : DmaTarget.Typed sp (.dma sR) (.remote (Dev.tc n : Thread nD τ) dst (.dma sS) hsc)}
    {k : PUnit → Prog (TpuEff nD τ sig Val Λ .tc) α} {X : s.Idx → Val e} {r₁ r₂ : ℕ} {d₁ d₂ : D} {κ₁ κ₂ : Name} (N : ℕ) (ι ι' : Ix)
    (hd₁ : d₁ ∈ Rd.duties ((c : Thread nD τ), .dma sS) r₁) (hd₂ : d₂ ∈ Rd.duties ((n : Thread nD τ), .dma sR) r₂)
    (hN : dst.view.dmaCredit = N)
    (hk₁ : Rd.amount ((c : Thread nD τ), .dma sS) r₁ d₁ = N) (hk₂ : Rd.amount ((n : Thread nD τ), .dma sR) r₂ d₂ = N)
    {O₀ : CellTallies nD τ sig Ix} (O : CellTallies nD τ sig Ix) (hO : O₀ = O + tallyAt ((n : Thread nD τ), .dma sR) ι N)
    (hp₁ : pc c src.view X ⊢ Rd.payload ((c : Thread nD τ), SemLoc.dma sS) r₁ d₁)
    (hp₂ : pc n dst.view X ⊢ Rd.payload ((n : Thread nD τ), .dma sR) r₂ d₂)
    (hr : τ.routes (c : Thread nD τ) (n : Thread nD τ) = true := by routes) :
    iprop(Rounds.cellInv E Rd κ₁ ((c : Thread nD τ), .dma sS) ∗ Rounds.cellInv E Rd κ₂ ((n : Thread nD τ), .dma sR)
        ∗ pc c src.view X ∗ pcAny n dst.view ∗ ow c O₀
        ∗ Rounds.dutyTok E ((c : Thread nD τ), .dma sS) r₁ d₁ ∗ Rounds.reached E ((c : Thread nD τ), .dma sS) r₁
        ∗ Rounds.dutyTok E ((n : Thread nD τ), .dma sR) r₂ d₂ ∗ Rounds.reached E ((n : Thread nD τ), .dma sR) r₂)
      ⊢ iprop((iprop(cred (tallyAt ((c : Thread nD τ), SemLoc.dma sS) ι' N) ∗ ow c O) -∗ wp frame (wpE defs 𝒱 (c : Thread nD τ) none) Set.univ (k ⟨⟩) Q)
          -∗ wp frame (wpE defs 𝒱 (c : Thread nD τ) none) Set.univ
              (.op (.enqueueDma src (.remote (Dev.tc n : Thread nD τ) dst (.dma sS) hsc) (.dma sR) hsrc hdst hsem) k) Q) := by
  unfold ow
  iintro ⟨HI1, HI2, Hs, Hd, ⟨%W, HO⟩, Ht1, Hr1, Ht2, Hr2⟩ Hk
  unfold pc at hp₁ hp₂ ⊢
  unfold pcAny
  icases Hs with ⟨%fs, %hX, Hs⟩
  icases Hd with ⟨%fd, Hd⟩
  subst hX
  iapply (Rounds.wp_send_pointsTo 𝒱 E Rd (c : Thread nD τ) none (c' := (n : Thread nD τ)) (src := src) (dst := dst) (κ₁ := κ₁) (κ₂ := κ₂) (fs := fs) (fd := fd)
    hd₁ hd₂ ι ι' N hN hk₁ hk₂ O hO (W := W)
    ((by
      iintro H
      iexists fs
      isplitr; · (ipureintro; rfl)
      iexact H : _ ⊢ _).trans hp₁)
    ((by
      iintro H
      iexists _
      isplitr
      · ipureintro; exact View.read_write_univ (v := dst.view) fd (src.view.read Val fs)
      iexact H : _ ⊢ _).trans hp₂) hr) $$ [HI1 HI2 Hs Hd HO Ht1 Hr1 Ht2 Hr2]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2] <;> iassumption
  iintro ⟨Hc, HO⟩
  iapply Hk
  isplitl [Hc]; · iexact Hc
  iexists W; iexact HO

/-- The wait for a whole round of one of the device's transfer cells. -/
theorem wp_wait_round {sS : DmaSem sig} {s' : Shape} {e' : EltTy} {srcw : Memref sig .tc sp s' e'} {dstw : Memref sig .tc sp' s e}
    {hsrc : srcw.view.WordExact} {hdst : dstw.view.WordExact} {k : PUnit → Prog (TpuEff nD τ sig Val Λ .tc) α} {κ : Name} (N : ℕ) (ι : Ix) {R : ℕ}
    {d : D} (hN : dstw.view.dmaCredit = N) (hd : Rd.duties ((c : Thread nD τ), .dma sS) R = {d}) (hk : Rd.amount ((c : Thread nD τ), .dma sS) R d = N)
    {O : CellTallies nD τ sig Ix} :
    iprop(Rounds.cellInv E Rd κ ((c : Thread nD τ), .dma sS) ∗ cred (tallyAt ((c : Thread nD τ), SemLoc.dma sS) ι N) ∗ ow c O
        ∗ MayWait (c : Thread nD τ) (.dma sS) ι O ∗ Rounds.atPos E ((c : Thread nD τ), .dma sS) R ∅ 0)
      ⊢ iprop((iprop(ow c O ∗ Rounds.atPos E ((c : Thread nD τ), .dma sS) (R + 1) ∅ 0 ∗ Rounds.reached E ((c : Thread nD τ), .dma sS) (R + 1)
              ∗ Rd.payload ((c : Thread nD τ), SemLoc.dma sS) R d)
            -∗ wp frame (wpE defs 𝒱 (c : Thread nD τ) none) Set.univ (k ⟨⟩) Q)
          -∗ wp frame (wpE defs 𝒱 (c : Thread nD τ) none) Set.univ (.op (.waitDma2 sS srcw dstw hsrc hdst) k) Q) := by
  subst hN
  unfold ow
  iintro ⟨HI, Hc, ⟨%W, HO⟩, Hm, Ha⟩ Hk
  iapply (Rounds.wp_wait_rest_token 𝒱 E Rd (c : Thread nD τ) none (κ := κ)
      (wpE_waitDma2_eq 𝒱 (c : Thread nD τ) none Set.univ) (Set.mem_univ _) ι (O := O) (W := W) (R := R) (m := 0) (T := ∅)
      (by rw [Nat.zero_add]; unfold Rounds.Schedule.expect Rounds.Schedule.amountOf; rw [hd, Finset.sum_singleton, hk])) $$ [HI Hc HO Hm Ha]
  · isplitl [HI]; · iexact HI
    isplitl [Hc]; · iexact Hc
    isplitl [HO]; · iexact HO
    isplitl [Hm] <;> iassumption
  iintro ⟨HO, Ha, Hr, Hp⟩
  iapply Hk
  isplitl [HO]; · (iexists _; iexact HO)
  isplitl [Ha]; · iexact Ha
  isplitl [Hr]; · iexact Hr
  iapply (Entails.of_eq (show bigSep (Rd.duties ((c : Thread nD τ), .dma sS) R \ ∅) (fun d => Rd.payload ((c : Thread nD τ), SemLoc.dma sS) R d)
    = Rd.payload ((c : Thread nD τ), SemLoc.dma sS) R d by rw [Finset.sdiff_empty, hd, bigSep_singleton])) $$ Hp

end Rules

/-! ## A buffer cut into pieces, and put together again -/

section Cut

variable (c : Dev nD) (b : Ref sig .tc) {B : Type} [Fintype B] [DecidableEq B] (r : B → Rect b.ty.shape)
  (key : b.ty.shape.Idx → B) (hk : ∀ j i, i ∈ (r j).set ↔ key i = j)

omit [Fintype B] [DecidableEq B] in
include hk in
theorem cut_disjoint (j j' : B) (h : j ≠ j') : Disjoint ((View.whole b).slice (r j)).set ((View.whole b).slice (r j')).set := by
  rw [View.set_slice_whole, View.set_slice_whole, Finset.disjoint_left]
  intro i hi hi'
  exact h (((hk j i).mp hi).symm.trans ((hk j' i).mp hi'))

/-- The elements of piece `j`. -/
abbrev cset (j : B) : Finset b.ty.Idx := ((View.whole b).slice (r j)).set

include hk in
theorem cut_cover : Finset.univ.biUnion (cset b r) = Finset.univ := by
  ext i
  simp only [Finset.mem_biUnion, Finset.mem_univ, true_and, iff_true]
  exact ⟨key i, by unfold cset; rw [View.set_slice_whole]; exact (hk _ i).mpr rfl⟩

include hk in
/-- The whole buffer is the family of its pieces; -/
theorem cut (f : Buf Val ((c : Thread nD τ).loc b)) :
    (((c : Thread nD τ).loc b) ↦{fullShare} f : sProp 𝕄)
      ⊢ bigSep Finset.univ fun j => pc c ((View.whole b).slice (r j)) (((View.whole b).slice (r j)).read Val f) := by
  rw [Ring.pointsTo_blocks (ℓ := (c : Thread nD τ).loc b) (cset b r) (cut_disjoint b r key hk) (cut_cover b r key hk) f]
  refine bigSep_mono fun j _ => ?_
  show (((View.whole b).slice (r j)).loc (c : Thread nD τ) ↦[((View.whole b).slice (r j)).set]{fullShare} f : sProp 𝕄) ⊢ _
  unfold pc
  iintro H
  iexists f
  isplitr; · (ipureintro; rfl)
  iexact H

include hk in
/-- and the family, whatever the pieces hold, is the buffer at contents that read so. -/
theorem paste (f₀ : Buf Val ((c : Thread nD τ).loc b)) (X : (j : B) → (r j).shape.Idx → Val b.ty.elt) :
    bigSep Finset.univ (fun j => (pc c ((View.whole b).slice (r j)) (X j) : sProp 𝕄))
      ⊢ iprop(∃ g : Buf Val ((c : Thread nD τ).loc b), ⌜∀ j, ((View.whole b).slice (r j)).read Val g = X j⌝ ∗ (((c : Thread nD τ).loc b) ↦{fullShare} g)) := by
  have : Nonempty (Buf Val ((c : Thread nD τ).loc b)) := ⟨f₀⟩
  unfold pc
  refine (bigSep_exists_pi Finset.univ (fun j (f : Buf Val ((c : Thread nD τ).loc b)) =>
    (iprop(⌜((View.whole b).slice (r j)).read Val f = X j⌝ ∗ (((c : Thread nD τ).loc b) ↦[((View.whole b).slice (r j)).set]{fullShare} f)) : sProp 𝕄))).trans ?_
  iintro ⟨%fs, H⟩
  ihave H := (bigSep_pure_sep Finset.univ (fun j => ((View.whole b).slice (r j)).read Val (fs j) = X j)
    (fun j => (((c : Thread nD τ).loc b) ↦[((View.whole b).slice (r j)).set]{fullShare} fs j : sProp 𝕄))) $$ H
  icases H with ⟨%hX, H⟩
  ihave H := (pointsTo_biUnion_join Finset.univ (cset b r) fs f₀ (fun j _ j' _ h => cut_disjoint b r key hk j j' h)) $$ H
  icases H with ⟨%g, %hg, H⟩
  iexists g
  isplitr
  · ipureintro
    intro j
    rw [← hX j (Finset.mem_univ j)]
    exact View.read_congr fun i hi => hg j (Finset.mem_univ j) i hi
  rw [cut_cover b r key hk]
  iexact H

/-- Contents forgotten, a piece is the same through a reshape. -/
theorem pcAny_reshape (v : View sig .tc sp s e) (h : s'.numel = s.numel) :
    (pcAny (τ := τ) c (v.reshape s' h) : sProp 𝕄) = pcAny c v := by
  unfold pcAny; rw [View.set_reshape]

end Cut

end Cert.Pieces

end
-- ==== Proof.Proto.lean ====
/-
# The exchange: devices, cells, contents, schedule

Eight devices stand in a ring. Each sends four pieces, one per channel: channels 0 and 1 (the two column halves of the
clockwise buffer) to the next device, channels 2 and 3 (the counter-clockwise buffer) to the previous one. A device's nine
shared cells are the runtime's barrier semaphore and, per channel, the send cell of slot 0 and the receive cell of slot 1.
Through its two barrier signals a device hands its neighbours the landing pieces they will write.
-/
module

public import proofs.«01_k».proof.Proof.Pieces
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Hop

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Counters)).trans embR
abbrev EC : UEmb Counters (MT nD τ sig ℕ (Elt F) ℕ UU ℕ) := countersEmb (U := UU)

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = nxt c := by revert c; decide
theorem dev5_eq (c : Dev nD) : (⟨k0_dev5 c, k0_dev5_lt c⟩ : Dev nD) = prv c := by revert c; decide
theorem dev6_eq (c : Dev nD) : (⟨k0_dev6 c, k0_dev6_lt c⟩ : Dev nD) = prv c := by revert c; decide

def ring : Dev nD ≃ Dev nD := ⟨nxt, prv, prv_nxt, nxt_prv⟩

/-- Where channel `j` sends, and where it comes from. -/
abbrev tgt : Fin 4 → Dev nD → Dev nD | 0 => nxt | 1 => nxt | 2 => prv | 3 => prv
abbrev org : Fin 4 → Dev nD → Dev nD | 0 => prv | 1 => prv | 2 => nxt | 3 => nxt

theorem org_tgt (j : Fin 4) (c : Dev nD) : org j (tgt j c) = c := by revert j c; decide
theorem tgt_org (j : Fin 4) (c : Dev nD) : tgt j (org j c) = c := by revert j c; decide

def ringOf (j : Fin 4) : Dev nD ≃ Dev nD := ⟨tgt j, org j, org_tgt j, tgt_org j⟩

/-! ## The memrefs and their pieces -/

abbrev xM : Memref sig .tc .hbm S8192x1024 .bf16 := Memref.whole main_arg0
abbrev wM : Memref sig .tc .vmem S1024x4096 .bf16 := Memref.whole cc0_stg0_0
abbrev oM : Memref sig .tc .hbm S1024x4096 .f32 := Memref.whole main_v1
abbrev bM : Memref sig .tc .vmem S2x1024x1024 .bf16 := Memref.whole cc0_scratch0
abbrev cwM : Memref sig .tc .vmem S2x1024x2048 .bf16 := Memref.whole cc0_scratch1
abbrev ccM : Memref sig .tc .vmem S2x1024x2048 .bf16 := Memref.whole cc0_scratch2
abbrev alM : Memref sig .tc .vmem S1024x2048 .f32 := Memref.whole cc0_scratch3
abbrev arM : Memref sig .tc .vmem S1024x2048 .f32 := Memref.whole cc0_scratch4

abbrev chM : Fin 4 → Memref sig .tc .vmem S2x1024x2048 .bf16 | 0 => cwM | 1 => cwM | 2 => ccM | 3 => ccM
abbrev acM : Fin 4 → Memref sig .tc .vmem S1024x2048 .f32 | 0 => alM | 1 => alM | 2 => arM | 3 => arM

/-- The rectangles: a slot of the fetched rows, a channel's half of slot 0 and of slot 1, of an accumulator, of the result. -/
abbrev bR : Fin 2 → Rect S2x1024x1024
  | 0 => Rect.unit (s := S2x1024x1024) ![0, 0, 0] S1x1024x1024.size inb_S2x1024x1024_S1x1024x1024_0_0_0
  | 1 => Rect.unit (s := S2x1024x1024) ![1, 0, 0] S1x1024x1024.size inb_S2x1024x1024_S1x1024x1024_1_0_0
abbrev c0R0 : Rect S2x1024x2048 := Rect.unit (s := S2x1024x2048) ![0, 0, 0] S1x1024x1024.size inb_S2x1024x2048_S1x1024x1024_0_0_0
abbrev c0R1 : Rect S2x1024x2048 := Rect.unit (s := S2x1024x2048) ![0, 0, 1024] S1x1024x1024.size inb_S2x1024x2048_S1x1024x1024_0_0_1024
abbrev c1R0 : Rect S2x1024x2048 := Rect.unit (s := S2x1024x2048) ![1, 0, 0] S1x1024x1024.size inb_S2x1024x2048_S1x1024x1024_1_0_0
abbrev c1R1 : Rect S2x1024x2048 := Rect.unit (s := S2x1024x2048) ![1, 0, 1024] S1x1024x1024.size inb_S2x1024x2048_S1x1024x1024_1_0_1024
abbrev aR0 : Rect S1024x2048 := Rect.unit (s := S1024x2048) ![0, 0] S1024x1024.size inb_S1024x2048_S1024x1024_0_0
abbrev aR1 : Rect S1024x2048 := Rect.unit (s := S1024x2048) ![0, 1024] S1024x1024.size inb_S1024x2048_S1024x1024_0_1024
abbrev aRW : Rect S1024x2048 := Rect.unit (s := S1024x2048) ![0, 0] S1024x2048.size inb_S1024x2048_S1024x2048_0_0

/-- The two slots of the fetched rows, -/
abbrev bP0 : Memref sig .tc .vmem S1024x1024 .bf16 :=
  (bM.slice (Rect.unit (s := S2x1024x1024) ![0, 0, 0] S1x1024x1024.size inb_S2x1024x1024_S1x1024x1024_0_0_0) (fun _ => rfl)).squeeze S1024x1024 squeezes_S1x1024x1024_S1024x1024
abbrev bP1 : Memref sig .tc .vmem S1024x1024 .bf16 :=
  (bM.slice (Rect.unit (s := S2x1024x1024) ![1, 0, 0] S1x1024x1024.size inb_S2x1024x1024_S1x1024x1024_1_0_0) (fun _ => rfl)).squeeze S1024x1024 squeezes_S1x1024x1024_S1024x1024
/-- channel `j`'s source (slot 0) and landing piece (slot 1), -/
abbrev srcP : Fin 4 → Memref sig .tc .vmem S1024x1024 .bf16
  | 0 => (cwM.slice c0R0 (fun _ => rfl)).squeeze S1024x1024 squeezes_S1x1024x1024_S1024x1024
  | 1 => (cwM.slice c0R1 (fun _ => rfl)).squeeze S1024x1024 squeezes_S1x1024x1024_S1024x1024
  | 2 => (ccM.slice c0R0 (fun _ => rfl)).squeeze S1024x1024 squeezes_S1x1024x1024_S1024x1024
  | 3 => (ccM.slice c0R1 (fun _ => rfl)).squeeze S1024x1024 squeezes_S1x1024x1024_S1024x1024
abbrev lanP : Fin 4 → Memref sig .tc .vmem S1024x1024 .bf16
  | 0 => (cwM.slice c1R0 (fun _ => rfl)).squeeze S1024x1024 squeezes_S1x1024x1024_S1024x1024
  | 1 => (cwM.slice c1R1 (fun _ => rfl)).squeeze S1024x1024 squeezes_S1x1024x1024_S1024x1024
  | 2 => (ccM.slice c1R0 (fun _ => rfl)).squeeze S1024x1024 squeezes_S1x1024x1024_S1024x1024
  | 3 => (ccM.slice c1R1 (fun _ => rfl)).squeeze S1024x1024 squeezes_S1x1024x1024_S1024x1024
/-- its half of an accumulator, and its quarter of the result's columns. -/
abbrev accP : Fin 4 → Memref sig .tc .vmem S1024x1024 .f32
  | 0 => alM.slice aR0 (fun _ => rfl)
  | 1 => alM.slice aR1 (fun _ => rfl)
  | 2 => arM.slice aR0 (fun _ => rfl)
  | 3 => arM.slice aR1 (fun _ => rfl)
abbrev outP : Fin 4 → Memref sig .tc .hbm S1024x1024 .f32
  | 0 => oM.slice (Rect.unit (s := S1024x4096) ![0, 0] S1024x1024.size inb_S1024x4096_S1024x1024_0_0) (fun _ => rfl)
  | 1 => oM.slice (Rect.unit (s := S1024x4096) ![0, 1024] S1024x1024.size inb_S1024x4096_S1024x1024_0_1024) (fun _ => rfl)
  | 2 => oM.slice (Rect.unit (s := S1024x4096) ![0, 2048] S1024x1024.size inb_S1024x4096_S1024x1024_0_2048) (fun _ => rfl)
  | 3 => oM.slice (Rect.unit (s := S1024x4096) ![0, 3072] S1024x1024.size inb_S1024x4096_S1024x1024_0_3072) (fun _ => rfl)
/-- Channel `j`'s columns of the weights, and a direction's. -/
abbrev wV : Fin 4 → Rect S1024x4096
  | 0 => Rect.unit (s := S1024x4096) ![0, 0] S1024x1024.size inb_S1024x4096_S1024x1024_0_0
  | 1 => Rect.unit (s := S1024x4096) ![0, 1024] S1024x1024.size inb_S1024x4096_S1024x1024_0_1024
  | 2 => Rect.unit (s := S1024x4096) ![0, 2048] S1024x1024.size inb_S1024x4096_S1024x1024_0_2048
  | 3 => Rect.unit (s := S1024x4096) ![0, 3072] S1024x1024.size inb_S1024x4096_S1024x1024_0_3072
abbrev wL : Rect S1024x4096 := Rect.unit (s := S1024x4096) ![0, 0] S1024x2048.size inb_S1024x4096_S1024x2048_0_0
abbrev wR : Rect S1024x4096 := Rect.unit (s := S1024x4096) ![0, 2048] S1024x2048.size inb_S1024x4096_S1024x2048_0_2048

theorem xinb (k : Dev nD) : ∀ a, (![1024 * k.val, 0] : Fin 2 → Nat) a + S1024x1024.size a ≤ S8192x1024.size a := by revert k; decide
/-- Row chunk `k` of the device's block of the left operand. -/
abbrev xP (k : Dev nD) : Memref sig .tc .hbm S1024x1024 .bf16 := xM.slice (Rect.unit (s := S8192x1024) ![1024 * k.val, 0] S1024x1024.size (xinb k)) (fun _ => rfl)

/-! The printed offsets at the literal ones. -/

theorem off1_eq (c : Dev nD) : k0_off1 c = ![1024 * (prv c).val, 0] := by revert c; decide
theorem off6_eq (c : Dev nD) : k0_off6 c = ![1024 * (nxt c).val, 0] := by revert c; decide
theorem off7_eq (c : Dev nD) : k0_off7 c = ![1024 * (prv (prv c)).val, 0] := by revert c; decide
theorem off8_eq (c : Dev nD) : k0_off8 c = ![1024 * (nxt (nxt c)).val, 0] := by revert c; decide

theorem x1_eq (c : Dev nD) : xM.slice (Rect.unit (s := S8192x1024) (k0_off1 c) S1024x1024.size (k0_off1_inb c)) (fun _ => rfl) = xP (prv c) :=
  Memref.slice_unit_congr _ (off1_eq c) _ _ _ _
theorem x6_eq (c : Dev nD) : xM.slice (Rect.unit (s := S8192x1024) (k0_off6 c) S1024x1024.size (k0_off6_inb c)) (fun _ => rfl) = xP (nxt c) :=
  Memref.slice_unit_congr _ (off6_eq c) _ _ _ _
theorem x7_eq (c : Dev nD) : xM.slice (Rect.unit (s := S8192x1024) (k0_off7 c) S1024x1024.size (k0_off7_inb c)) (fun _ => rfl) = xP (prv (prv c)) :=
  Memref.slice_unit_congr _ (off7_eq c) _ _ _ _
theorem x8_eq (c : Dev nD) : xM.slice (Rect.unit (s := S8192x1024) (k0_off8 c) S1024x1024.size (k0_off8_inb c)) (fun _ => rfl) = xP (nxt (nxt c)) :=
  Memref.slice_unit_congr _ (off8_eq c) _ _ _ _

theorem off30 : k0_off3 0#32 = ![0, 0, 0] := by decide
theorem off31 : k0_off3 1#32 = ![1, 0, 0] := by decide
theorem off50 : k0_off5 0#32 = ![0, 0, 1024] := by decide
theorem off51 : k0_off5 1#32 = ![1, 0, 1024] := by decide

abbrev sqM (M : Memref sig .tc .vmem S1x1024x1024 .bf16) : Memref sig .tc .vmem S1024x1024 .bf16 := M.squeeze S1024x1024 squeezes_S1x1024x1024_S1024x1024

theorem src0_eq : (cwM.slice (Rect.unit (s := S2x1024x2048) (k0_off3 0#32) S1x1024x1024.size (k0_off3_inb 0)) (fun _ => rfl)).squeeze S1024x1024 squeezes_S1x1024x1024_S1024x1024
    = srcP 0 := congrArg sqM (Memref.slice_unit_congr cwM off30 _ _ _ _)
theorem src1_eq : (cwM.slice (Rect.unit (s := S2x1024x2048) (k0_off5 0#32) S1x1024x1024.size (k0_off5_inb 0)) (fun _ => rfl)).squeeze S1024x1024 squeezes_S1x1024x1024_S1024x1024
    = srcP 1 := congrArg sqM (Memref.slice_unit_congr cwM off50 _ _ _ _)
theorem src2_eq : (ccM.slice (Rect.unit (s := S2x1024x2048) (k0_off3 0#32) S1x1024x1024.size (k0_off3_inb 0)) (fun _ => rfl)).squeeze S1024x1024 squeezes_S1x1024x1024_S1024x1024
    = srcP 2 := congrArg sqM (Memref.slice_unit_congr ccM off30 _ _ _ _)
theorem src3_eq : (ccM.slice (Rect.unit (s := S2x1024x2048) (k0_off5 0#32) S1x1024x1024.size (k0_off5_inb 0)) (fun _ => rfl)).squeeze S1024x1024 squeezes_S1x1024x1024_S1024x1024
    = srcP 3 := congrArg sqM (Memref.slice_unit_congr ccM off50 _ _ _ _)
theorem lan0_eq : (cwM.slice (Rect.unit (s := S2x1024x2048) (k0_off3 1#32) S1x1024x1024.size (k0_off3_inb 1)) (fun _ => rfl)).squeeze S1024x1024 squeezes_S1x1024x1024_S1024x1024
    = lanP 0 := congrArg sqM (Memref.slice_unit_congr cwM off31 _ _ _ _)
theorem lan1_eq : (cwM.slice (Rect.unit (s := S2x1024x2048) (k0_off5 1#32) S1x1024x1024.size (k0_off5_inb 1)) (fun _ => rfl)).squeeze S1024x1024 squeezes_S1x1024x1024_S1024x1024
    = lanP 1 := congrArg sqM (Memref.slice_unit_congr cwM off51 _ _ _ _)
theorem lan2_eq : (ccM.slice (Rect.unit (s := S2x1024x2048) (k0_off3 1#32) S1x1024x1024.size (k0_off3_inb 1)) (fun _ => rfl)).squeeze S1024x1024 squeezes_S1x1024x1024_S1024x1024
    = lanP 2 := congrArg sqM (Memref.slice_unit_congr ccM off31 _ _ _ _)
theorem lan3_eq : (ccM.slice (Rect.unit (s := S2x1024x2048) (k0_off5 1#32) S1x1024x1024.size (k0_off5_inb 1)) (fun _ => rfl)).squeeze S1024x1024 squeezes_S1x1024x1024_S1024x1024
    = lanP 3 := congrArg sqM (Memref.slice_unit_congr ccM off51 _ _ _ _)

/-! ## The semaphores -/

abbrev barS : Sem sig := (SemArray.scalar (sig.barrier 0 rfl) : Sems sig S_).sem
abbrev sendS : Fin 4 → DmaSem sig | 0 => 7 | 1 => 8 | 2 => 15 | 3 => 16
abbrev recvS : Fin 4 → DmaSem sig | 0 => 13 | 1 => 14 | 2 => 21 | 3 => 22
abbrev xS : Fin 2 → DmaSem sig | 0 => 1 | 1 => 2
abbrev oS : Fin 4 → DmaSem sig | 0 => 3 | 1 => 4 | 2 => 5 | 3 => 6

theorem sx0 : ((cc0_scratch5.slice (Rect.unit (s := S2) ![0] S1.size inb_S2_S1_0)).squeeze S_ squeezes_S1_S_).sem = (1 : DmaSem sig) := by decide
theorem sx1 : ((cc0_scratch5.slice (Rect.unit (s := S2) ![1] S1.size inb_S2_S1_1)).squeeze S_ squeezes_S1_S_).sem = (2 : DmaSem sig) := by decide
theorem so0 : ((cc0_scratch6.slice (Rect.unit (s := S4) ![0] S1.size inb_S4_S1_0)).squeeze S_ squeezes_S1_S_).sem = (3 : DmaSem sig) := by decide
theorem so1 : ((cc0_scratch6.slice (Rect.unit (s := S4) ![1] S1.size inb_S4_S1_1)).squeeze S_ squeezes_S1_S_).sem = (4 : DmaSem sig) := by decide
theorem so2 : ((cc0_scratch6.slice (Rect.unit (s := S4) ![2] S1.size inb_S4_S1_2)).squeeze S_ squeezes_S1_S_).sem = (5 : DmaSem sig) := by decide
theorem so3 : ((cc0_scratch6.slice (Rect.unit (s := S4) ![3] S1.size inb_S4_S1_3)).squeeze S_ squeezes_S1_S_).sem = (6 : DmaSem sig) := by decide
theorem ss0 : ((cc0_scratch7.slice (Rect.unit (s := S2x2) (k0_off2 0#32) S1x1.size (k0_off2_inb 0))).squeeze S_ squeezes_S1x1_S_).sem = (7 : DmaSem sig) := by decide
theorem ss1 : ((cc0_scratch7.slice (Rect.unit (s := S2x2) (k0_off4 0#32) S1x1.size (k0_off4_inb 0))).squeeze S_ squeezes_S1x1_S_).sem = (8 : DmaSem sig) := by decide
theorem ss2 : ((cc0_scratch9.slice (Rect.unit (s := S2x2) (k0_off2 0#32) S1x1.size (k0_off2_inb 0))).squeeze S_ squeezes_S1x1_S_).sem = (15 : DmaSem sig) := by decide
theorem ss3 : ((cc0_scratch9.slice (Rect.unit (s := S2x2) (k0_off4 0#32) S1x1.size (k0_off4_inb 0))).squeeze S_ squeezes_S1x1_S_).sem = (16 : DmaSem sig) := by decide
theorem sr0 : ((cc0_scratch8.slice (Rect.unit (s := S2x2) (k0_off2 1#32) S1x1.size (k0_off2_inb 1))).squeeze S_ squeezes_S1x1_S_).sem = (13 : DmaSem sig) := by decide
theorem sr1 : ((cc0_scratch8.slice (Rect.unit (s := S2x2) (k0_off4 1#32) S1x1.size (k0_off4_inb 1))).squeeze S_ squeezes_S1x1_S_).sem = (14 : DmaSem sig) := by decide
theorem sr2 : ((cc0_scratch10.slice (Rect.unit (s := S2x2) (k0_off2 1#32) S1x1.size (k0_off2_inb 1))).squeeze S_ squeezes_S1x1_S_).sem = (21 : DmaSem sig) := by decide
theorem sr3 : ((cc0_scratch10.slice (Rect.unit (s := S2x2) (k0_off4 1#32) S1x1.size (k0_off4_inb 1))).squeeze S_ squeezes_S1x1_S_).sem = (22 : DmaSem sig) := by decide

abbrev barCell (c : Dev nD) : GSem nD τ sig := ((c : Thread nD τ), .reg barS)
abbrev sendCell (c : Dev nD) (j : Fin 4) : GSem nD τ sig := ((c : Thread nD τ), .dma (sendS j))
abbrev recvCell (c : Dev nD) (j : Fin 4) : GSem nD τ sig := ((c : Thread nD τ), .dma (recvS j))

/-- The nine shared cells of a device. -/
abbrev csem : Fin 9 → SemLoc sig
  | 0 => .reg barS
  | 1 => .dma (sendS 0) | 2 => .dma (sendS 1) | 3 => .dma (sendS 2) | 4 => .dma (sendS 3)
  | 5 => .dma (recvS 0) | 6 => .dma (recvS 1) | 7 => .dma (recvS 2) | 8 => .dma (recvS 3)
abbrev kcell (ck : Dev nD × Fin 9) : GSem nD τ sig := ((ck.1 : Thread nD τ), csem ck.2)
abbrev kS : Fin 4 → Fin 9 | 0 => 1 | 1 => 2 | 2 => 3 | 3 => 4
abbrev kR : Fin 4 → Fin 9 | 0 => 5 | 1 => 6 | 2 => 7 | 3 => 8

theorem kcell_send (c : Dev nD) (j : Fin 4) : kcell (c, kS j) = sendCell c j := by fin_cases j <;> rfl
theorem kcell_recv (c : Dev nD) (j : Fin 4) : kcell (c, kR j) = recvCell c j := by fin_cases j <;> rfl

/-- The credit of one piece. -/
abbrev N : ℕ := (srcP 0).view.dmaCredit
theorem N_pos : 0 < N := View.dmaCredit_pos _ (by decide)
theorem N_lan (j : Fin 4) : (lanP j).view.dmaCredit = N := by fin_cases j <;> rfl
theorem N_src (j : Fin 4) : (srcP j).view.dmaCredit = N := by fin_cases j <;> rfl

/-! ## Contents -/

/-- The weights' staging buffer, row chunk `k` of a device's left operand, channel `j`'s columns of the weights. -/
def wstg (c : Dev nD) : (cc0_stg0_0 : Ref sig .tc).ty.Contents (Elt F) :=
  (win0_0.blk (0 : Fin 1)).view.read (Elt F) ((s₀ m ρ).mem ((c : Thread nD τ).loc main_arg1))
def xrd (c k : Dev nD) : S1024x1024.Idx → Elt F .bf16 := (xP k).view.read (Elt F) (m ((c : Thread nD τ).loc main_arg0))

abbrev hq : S1024x1024.numel = S1x1024x1024.numel := squeezes_S1x1024x1024_S1024x1024.numel_eq
/-- What a load of one slot sees of a piece, and what a piece holds after a store of one slot. -/
def up (X : S1024x1024.Idx → Elt F .bf16) : Vec F S1x1024x1024 .bf16 := unsq hq X
def dn (X : Vec F S1x1024x1024 .bf16) : S1024x1024.Idx → Elt F .bf16 := sq hq X

/-- The chunk whose partial product channel `j` sends, and the one it adds to what lands. -/
abbrev ck0 : Fin 4 → Dev nD → Dev nD | 0 => prv | 1 => prv | 2 => nxt | 3 => nxt
abbrev ck1 : Fin 4 → Dev nD → Dev nD | 0 => fun c => prv (prv c) | 1 => fun c => prv (prv c) | 2 => fun c => nxt (nxt c) | 3 => fun c => nxt (nxt c)

/-- Channel `j`'s columns of the device's weights. -/
def wrd (c : Dev nD) : Fin 4 → Vec F S1024x1024 .bf16
  | 0 => (wM.access (wV 0)).read (Elt F) (wstg m ρ c)
  | 1 => (wM.access (wV 1)).read (Elt F) (wstg m ρ c)
  | 2 => (wM.access (wV 2)).read (Elt F) (wstg m ρ c)
  | 3 => (wM.access (wV 3)).read (Elt F) (wstg m ρ c)

/-- The first partial products, in the accumulator's half and as sent; -/
def part0 (c : Dev nD) (j : Fin 4) : Vec F S1024x1024 .f32 := k0_pay1 (up (xrd m c (ck0 j c))) (wrd m ρ c j)
def sent (c : Dev nD) (j : Fin 4) : S1024x1024.Idx → Elt F .bf16 := dn (k0_pay2 (part0 m ρ c j))
/-- the second ones, a direction's at once, and a channel's half; -/
def partW (c : Dev nD) (j : Fin 4) : Vec F S1024x2048 .f32 :=
  match j with
  | 0 => k0_pay9 (up (xrd m c (ck1 0 c))) ((wM.access wL).read (Elt F) (wstg m ρ c))
  | 1 => k0_pay9 (up (xrd m c (ck1 1 c))) ((wM.access wL).read (Elt F) (wstg m ρ c))
  | 2 => k0_pay9 (up (xrd m c (ck1 2 c))) ((wM.access wR).read (Elt F) (wstg m ρ c))
  | 3 => k0_pay9 (up (xrd m c (ck1 3 c))) ((wM.access wR).read (Elt F) (wstg m ρ c))
abbrev aR : Fin 4 → Rect S1024x2048 | 0 => aR0 | 1 => aR1 | 2 => aR0 | 3 => aR1
def part1 (c : Dev nD) : Fin 4 → Vec F S1024x1024 .f32
  | 0 => fun i => partW m ρ c 0 (aR0.emb i)
  | 1 => fun i => partW m ρ c 1 (aR1.emb i)
  | 2 => fun i => partW m ρ c 2 (aR0.emb i)
  | 3 => fun i => partW m ρ c 3 (aR1.emb i)
/-- and the result's quarter. -/
def outAt (c : Dev nD) (j : Fin 4) : Vec F S1024x1024 .f32 := k0_pay10 (up (sent m ρ (org j c) j)) (part1 m ρ c j)

/-! ## The schedule -/

/-- What a barrier duty hands device `c`: the landing pieces of the neighbour it sends to. -/
def barPay (c : Dev nD) (d : Bool) : sProp 𝕄 :=
  if d then iprop(pcAny (nxt c) (lanP 0).view ∗ pcAny (nxt c) (lanP 1).view)
  else iprop(pcAny (prv c) (lanP 2).view ∗ pcAny (prv c) (lanP 3).view)
def sendPay (c : Dev nD) (j : Fin 4) : sProp 𝕄 := pcAny c (srcP j).view
def recvPay (c : Dev nD) (j : Fin 4) : sProp 𝕄 := pc c (lanP j).view (sent m ρ (org j c) j)

omit [FloatOps F] in
instance barPay_storable (c : Dev nD) (d : Bool) : BI.Storable (upEmb : UEmb _ 𝕄) (barPay (F := F) c d) := by
  unfold barPay; split <;> infer_instance
omit [FloatOps F] in
instance sendPay_storable (c : Dev nD) (j : Fin 4) : BI.Storable (upEmb : UEmb _ 𝕄) (sendPay (F := F) c j) := by unfold sendPay; infer_instance
instance recvPay_storable (c : Dev nD) (j : Fin 4) : BI.Storable (upEmb : UEmb _ 𝕄) (recvPay (F := F) m ρ c j) := by unfold recvPay; infer_instance

abbrev IsBar (g : GSem nD τ sig) : Prop := g.1.2 = .tc ∧ g.2 = .reg barS
abbrev IsSend (s : SemLoc sig) : Prop := s = .dma (sendS 0) ∨ s = .dma (sendS 1) ∨ s = .dma (sendS 2) ∨ s = .dma (sendS 3)
abbrev IsRecv (s : SemLoc sig) : Prop := s = .dma (recvS 0) ∨ s = .dma (recvS 1) ∨ s = .dma (recvS 2) ∨ s = .dma (recvS 3)
abbrev IsXfer (g : GSem nD τ sig) : Prop := g.1.2 = .tc ∧ (IsSend g.2 ∨ IsRecv g.2)

/-- What a transfer cell's duty hands over. -/
def xpay (c : Dev nD) (s : SemLoc sig) : sProp 𝕄 :=
  if s = .dma (sendS 0) then sendPay c 0 else if s = .dma (sendS 1) then sendPay c 1
  else if s = .dma (sendS 2) then sendPay c 2 else if s = .dma (sendS 3) then sendPay c 3
  else if s = .dma (recvS 0) then recvPay m ρ c 0 else if s = .dma (recvS 1) then recvPay m ρ c 1
  else if s = .dma (recvS 2) then recvPay m ρ c 2 else if s = .dma (recvS 3) then recvPay m ρ c 3
  else iprop(emp)

/-- One round: a barrier cell's duties `false` (from `prv`) and `true` (from `nxt`) of one unit each, a transfer cell's
    duty `false` of a piece's credit. -/
def sched : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := if g.2 = .reg barS then barPay g.1.1 d else xpay m ρ g.1.1 g.2
  amount_pos g _ _ _ := by
    by_cases h : g.2 = .reg barS
    · rw [if_pos h]; exact Nat.one_pos
    · rw [if_neg h]; exact N_pos

instance sched_payload_storable (g : GSem nD τ sig) (r : ℕ) (d : Bool) : BI.Storable (upEmb : UEmb _ 𝕄) ((sched (F := F) m ρ).payload g r d) := by
  show BI.Storable upEmb (if g.2 = .reg barS then barPay g.1.1 d else xpay m ρ g.1.1 g.2)
  unfold xpay
  (repeat' split) <;> infer_instance

section Sched
variable (c : Dev nD) (j : Fin 4)

theorem send_ne_bar : (SemLoc.dma (sendS j) : SemLoc sig) ≠ .reg barS := fun h => by cases h
theorem recv_ne_bar : (SemLoc.dma (recvS j) : SemLoc sig) ≠ .reg barS := fun h => by cases h
theorem isSend (j : Fin 4) : IsSend (.dma (sendS j)) := by revert j; decide
theorem isRecv (j : Fin 4) : IsRecv (.dma (recvS j)) := by revert j; decide
theorem send_inj : ∀ i j : Fin 4, (SemLoc.dma (sendS i) : SemLoc sig) = .dma (sendS j) → i = j := by decide
theorem recv_inj : ∀ i j : Fin 4, (SemLoc.dma (recvS i) : SemLoc sig) = .dma (recvS j) → i = j := by decide
theorem send_ne_recv : ∀ i j : Fin 4, (SemLoc.dma (sendS i) : SemLoc sig) ≠ .dma (recvS j) := by decide

omit [FloatOps F] in
theorem duties_bar [FloatOps F] : (sched (F := F) m ρ).duties (barCell c) 0 = Finset.univ := by dsimp only [sched]; exact if_pos ⟨rfl, rfl, rfl⟩
theorem duties_send : (sched (F := F) m ρ).duties (sendCell c j) 0 = {false} := by
  dsimp only [sched]; rw [if_neg (fun h => send_ne_bar j h.2.2)]; exact if_pos ⟨rfl, rfl, .inl (isSend j)⟩
theorem duties_recv : (sched (F := F) m ρ).duties (recvCell c j) 0 = {false} := by
  dsimp only [sched]; rw [if_neg (fun h => recv_ne_bar j h.2.2)]; exact if_pos ⟨rfl, rfl, .inr (isRecv j)⟩
theorem duties_later (g : GSem nD τ sig) : ∀ r, 1 ≤ r → (sched (F := F) m ρ).duties g r = ∅ :=
  fun r hr => by dsimp only [sched]; rw [if_neg fun h => by omega, if_neg fun h => by omega]
theorem amount_bar (d : Bool) : (sched (F := F) m ρ).amount (barCell c) 0 d = 1 := by dsimp only [sched]; exact if_pos rfl
theorem amount_send (d : Bool) : (sched (F := F) m ρ).amount (sendCell c j) 0 d = N := by dsimp only [sched]; exact if_neg (send_ne_bar j)
theorem amount_recv (d : Bool) : (sched (F := F) m ρ).amount (recvCell c j) 0 d = N := by dsimp only [sched]; exact if_neg (recv_ne_bar j)
theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem payload_bar (d : Bool) : (sched (F := F) m ρ).payload (barCell c) 0 d = barPay c d := by dsimp only [sched]; rw [if_pos rfl]
theorem payload_send (d : Bool) : (sched (F := F) m ρ).payload (sendCell c j) 0 d = sendPay c j := by
  dsimp only [sched]; rw [if_neg (send_ne_bar j)]; unfold xpay
  fin_cases j <;> rfl
theorem payload_recv (d : Bool) : (sched (F := F) m ρ).payload (recvCell c j) 0 d = recvPay m ρ c j := by
  dsimp only [sched]; rw [if_neg (recv_ne_bar j)]; unfold xpay
  fin_cases j <;> rfl
/-- The rest of the barrier cell's round, no duty taken: both neighbours' landing pieces. -/
theorem rest_bar : bigSep ((sched (F := F) m ρ).duties (barCell c) 0 \ ∅) (fun d => (sched (F := F) m ρ).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl

end Sched

/-! ## What a device owes; the levels -/

/-- The channel of the `n`-th piece from the last. -/
abbrev chn : ℕ → Fin 4 | 0 => 3 | 1 => 2 | 2 => 1 | _ => 0
/-- Device `c` still owes the last `n` of its four pieces, -/
def Or (c : Dev nD) : ℕ → CellTallies nD τ sig ℕ
  | 0 => 0
  | n + 1 => Or c n + tallyAt (recvCell (tgt (chn n) c) (chn n)) 0 N
/-- and both neighbours' barrier cells a unit each, the first signal's outermost. -/
def O₁ (c : Dev nD) : CellTallies nD τ sig ℕ := Or c 4 + tallyAt (barCell (nxt c)) 0 1
def O₀ (c : Dev nD) : CellTallies nD τ sig ℕ := O₁ c + tallyAt (barCell (prv c)) 0 1

def L (g : GSem nD τ sig) : Finset ℕ := if g.1.2 = .tc then {0} else ∅
/-- Barrier cells at 1, receive cells at 2, everything else (staging, local copies, send) at 0. -/
def lv (g : GSem nD τ sig) (_ : ℕ) : ℕ := if g.2 = .reg barS then 1 else if IsRecv g.2 then 2 else 0

theorem L_of_ne (g : GSem nD τ sig) (h : g.1.2 ≠ .tc) : L g = ∅ := if_neg h
theorem L_tc (c : Dev nD) (sm : SemLoc sig) : L ((c : Thread nD τ), sm) = {0} := if_pos rfl
theorem lv_recv (c : Dev nD) (j : Fin 4) (u : ℕ) : lv (recvCell c j) u = 2 := by
  unfold lv; rw [if_neg (recv_ne_bar j), if_pos (isRecv j)]
theorem lv_bar (c : Dev nD) (u : ℕ) : lv (barCell c) u = 1 := by unfold lv; rw [if_pos rfl]

theorem add_tally_pos {O : CellTallies nD τ sig ℕ} {g' g : GSem nD τ sig} {n u : ℕ} (h : 0 < ((O + tallyAt g' 0 n : CellTallies nD τ sig ℕ) g) u) :
    0 < O g u ∨ (g = g' ∧ u = 0) := by
  rw [Pi.add_apply, Finsupp.add_apply, tallyAt_apply] at h
  by_cases h' : g = g' ∧ u = 0
  · exact .inr h'
  · rw [if_neg h', Nat.add_zero] at h; exact .inl h

theorem Or_pos {c : Dev nD} {g : GSem nD τ sig} {u : ℕ} : ∀ {n : ℕ}, 0 < Or c n g u → (∃ j, g = recvCell (tgt j c) j) ∧ u = 0
  | 0, h => absurd h (Nat.lt_irrefl 0)
  | n + 1, h => by
    unfold Or at h
    rcases add_tally_pos h with h | ⟨h, h'⟩
    · exact Or_pos h
    · exact ⟨⟨chn n, h⟩, h'⟩

theorem O₀_pos {c : Dev nD} {g : GSem nD τ sig} {u : ℕ} (h : 0 < O₀ c g u) :
    ((∃ j, g = recvCell (tgt j c) j) ∨ g = barCell (nxt c) ∨ g = barCell (prv c)) ∧ u = 0 := by
  unfold O₀ at h
  rcases add_tally_pos h with h | ⟨h, h'⟩
  · unfold O₁ at h
    rcases add_tally_pos h with h | ⟨h, h'⟩
    · exact ⟨.inl (Or_pos h).1, (Or_pos h).2⟩
    · exact ⟨.inr (.inl h), h'⟩
  · exact ⟨.inr (.inr h), h'⟩

omit [FloatOps F] in
/-- A wait on a cell below the receive cells while pieces are owed, -/
theorem mayWait_low (c : Dev nD) (sm : SemLoc sig) (n : ℕ) (h : lv ((c : Thread nD τ), sm) 0 ≤ 1) :
    (levAts L lv : sProp 𝕄) ⊢ MayWait (c : Thread nD τ) sm 0 (Or c n) :=
  MayOwe.of_cut (L := L) (lev := lv) 1 (fun p hp => by rw [Finset.mem_singleton.mp hp, L_tc]; exact Finset.mem_singleton_self _)
    (fun g u hg => by obtain ⟨⟨j, rfl⟩, rfl⟩ := Or_pos hg; rw [L_tc]; exact Finset.mem_singleton_self _)
    (fun p hp => by rw [Finset.mem_singleton.mp hp]; exact h)
    (fun g u hg => by obtain ⟨⟨j, rfl⟩, rfl⟩ := Or_pos hg; rw [lv_recv]; decide)

omit [FloatOps F] in
/-- and one on a staging cell at the start or the end. -/
theorem mayWait_stage (c : Dev nD) (q : DmaSem sig) (hq : ¬ IsRecv (.dma q)) (O : CellTallies nD τ sig ℕ) (hO : O = O₀ c ∨ O = 0) :
    (levAts L lv : sProp 𝕄) ⊢ MayWait (c : Thread nD τ) (.dma q) 0 O := by
  rcases hO with hO | hO <;> subst hO
  · refine MayOwe.of_cut (L := L) (lev := lv) 0 (fun p hp => by rw [Finset.mem_singleton.mp hp, L_tc]; exact Finset.mem_singleton_self _)
      (fun g u hg => by
        obtain ⟨hw, hu⟩ := O₀_pos (c := c) hg; subst hu
        rcases hw with ⟨j, hw⟩ | hw | hw <;> subst hw <;> (rw [L_tc]; exact Finset.mem_singleton_self _))
      (fun p hp => by rw [Finset.mem_singleton.mp hp]; unfold lv; rw [if_neg (fun h => by cases h), if_neg hq])
      (fun g u hg => by
        obtain ⟨hw, hu⟩ := O₀_pos (c := c) hg; subst hu
        rcases hw with ⟨j, hw⟩ | hw | hw <;> subst hw
        · rw [lv_recv]; exact Nat.zero_lt_succ 1
        · rw [lv_bar]; exact Nat.zero_lt_one
        · rw [lv_bar]; exact Nat.zero_lt_one)
  · rw [MayWait_zero]; iintro -; iempintro

end Cert.Hop

end
-- ==== Proof.Steps.lean ====
/-
# The steps at the shared cells

What a device holds of its shared cells, and the body's steps there: the two barrier signals and the barrier's wait, a channel's
transfer, the waits for its send and its receive cell.
-/
module

public import proofs.«01_k».proof.Proof.Proto

@[expose] public section

noncomputable section

namespace Cert.Hop

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 9 → ℕ) (c : Dev nD)

abbrev 𝒱₀ : Variants := Variants.none

/-- What the two barrier signals take: the neighbours' barrier cells, and the device's duties there. -/
def sigTok : sProp 𝕄 :=
  iprop(cellInv ER (sched m ρ) (K (prv c, 0)) (barCell (prv c)) ∗ cellInv ER (sched m ρ) (K (nxt c, 0)) (barCell (nxt c))
    ∗ dutyTok ER (barCell (prv c)) 0 true ∗ reached ER (barCell (prv c)) 0
    ∗ dutyTok ER (barCell (nxt c)) 0 false ∗ reached ER (barCell (nxt c)) 0)
/-- What the wait on its own barrier cell takes. -/
def barEnd : sProp 𝕄 :=
  iprop(cellInv ER (sched m ρ) (K (c, 0)) (barCell c) ∗ atPos ER (barCell c) 0 ∅ 0 ∗ cred (tallyAt (barCell c) 0 2))
/-- What channel `j`'s transfer takes, and what the waits for its two cells take. -/
def txTok (j : Fin 4) : sProp 𝕄 :=
  iprop(cellInv ER (sched m ρ) (K (c, kS j)) (sendCell c j) ∗ cellInv ER (sched m ρ) (K (tgt j c, kR j)) (recvCell (tgt j c) j)
    ∗ dutyTok ER (sendCell c j) 0 false ∗ reached ER (sendCell c j) 0
    ∗ dutyTok ER (recvCell (tgt j c) j) 0 false ∗ reached ER (recvCell (tgt j c) j) 0)
def sendEnd (j : Fin 4) : sProp 𝕄 :=
  iprop(cellInv ER (sched m ρ) (K (c, kS j)) (sendCell c j) ∗ atPos ER (sendCell c j) 0 ∅ 0)
def recvEnd (j : Fin 4) : sProp 𝕄 :=
  iprop(cellInv ER (sched m ρ) (K (c, kR j)) (recvCell c j) ∗ atPos ER (recvCell c j) 0 ∅ 0 ∗ cred (tallyAt (recvCell c j) 0 N))
/-- A cell of the device after its round. -/
def spent (k : Fin 9) : sProp 𝕄 := iprop(cellInv ER (sched m ρ) (K (c, k)) (kcell (c, k)) ∗ atPos ER (kcell (c, k)) 1 ∅ 0)

variable {α : Type} {Q : α → sProp (MT nD τ sig ℕ (Elt F) ℕ UU ℕ)}

/-- The signal to the previous device's barrier cell, with the landing pieces of channels 0 and 1; then the one to the next
    device's, with those of channels 2 and 3. -/
theorem wp_signals (n₁ n₂ : Dev nD) (h₁ : n₁ = prv c) (h₂ : n₂ = nxt c) {k : PUnit → Prog (TpuEff nD τ sig (Elt F) Λ₀ .tc) α} :
    iprop(sigTok m ρ K c ∗ ow c (O₀ c) ∗ pcAny c (lanP 0).view ∗ pcAny c (lanP 1).view ∗ pcAny c (lanP 2).view ∗ pcAny c (lanP 3).view)
      ⊢ iprop((ow c (Or c 4) -∗ wp frame (wpE (defs₀ (F := F)) 𝒱₀ (c : Thread nD τ) none) Set.univ (k ⟨⟩) Q)
        -∗ wp frame (wpE (defs₀ (F := F)) 𝒱₀ (c : Thread nD τ) none) Set.univ
            (.op (.semSignal (n₁, .tc) barS (1#32 : BitVec 32).toInt) fun _ => .op (.semSignal (n₂, .tc) barS (1#32 : BitVec 32).toInt) k) Q) := by
  subst h₁ h₂
  unfold sigTok ow
  iintro ⟨⟨HIp, HIn, Htp, Hrp, Htn, Hrn⟩, ⟨%W, HO⟩, H0, H1, H2, H3⟩ Hk
  iapply (Rounds.wp_signal 𝒱₀ ER (sched m ρ) (c : Thread nD τ) none (dst := (prv c : Thread nD τ)) (κ := K (prv c, 0))
      (d := true) (by rw [duties_bar]; exact Finset.mem_univ _) ((amount_bar m ρ (prv c) true).trans (by decide)) 0 (O₁ c) rfl)
    $$ [HIp HO Htp Hrp H0 H1]
  · isplitl [HIp]; · iexact HIp
    isplitl [HO]; · iexact HO
    isplitl [Htp]; · iexact Htp
    isplitl [H0 H1]
    · rw [payload_bar]; unfold barPay; rw [if_pos rfl, nxt_prv]
      isplitl [H0] <;> iassumption
    iexact Hrp
  iintro HO
  iapply (Rounds.wp_signal 𝒱₀ ER (sched m ρ) (c : Thread nD τ) none (dst := (nxt c : Thread nD τ)) (κ := K (nxt c, 0))
      (d := false) (by rw [duties_bar]; exact Finset.mem_univ _) ((amount_bar m ρ (nxt c) false).trans (by decide)) 0 (Or c 4) rfl)
    $$ [HIn HO Htn Hrn H2 H3]
  · isplitl [HIn]; · iexact HIn
    isplitl [HO]; · iexact HO
    isplitl [Htn]; · iexact Htn
    isplitl [H2 H3]
    · rw [payload_bar]; unfold barPay; rw [if_neg (by decide), prv_nxt]
      isplitl [H2] <;> iassumption
    iexact Hrn
  iintro HO
  iapply Hk
  iexists W; iexact HO

/-- The wait on the device's own barrier cell, its four pieces owed: the neighbours' landing pieces. -/
theorem wp_barrier {k : PUnit → Prog (TpuEff nD τ sig (Elt F) Λ₀ .tc) α} :
    iprop(barEnd m ρ K c ∗ ow c (Or c 4) ∗ levAts L lv)
      ⊢ iprop((iprop(ow c (Or c 4) ∗ spent m ρ K c 0 ∗ pcAny (nxt c) (lanP 0).view ∗ pcAny (nxt c) (lanP 1).view
            ∗ pcAny (prv c) (lanP 2).view ∗ pcAny (prv c) (lanP 3).view)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (2#32 : BitVec 32).toInt) k) Q) := by
  unfold barEnd ow spent
  iintro ⟨⟨#HI, Hat, Hc⟩, ⟨%W, HO⟩, Hlev⟩ Hk
  iapply (Rounds.wp_wait_rest_token 𝒱₀ ER (sched m ρ) (c : Thread nD τ) none (κ := K (c, 0))
      (wpE_semWait_eq 𝒱₀ (c : Thread nD τ) none Set.univ) (Set.mem_univ _) 0 (O := Or c 4) (W := W) (R := 0) (m := 0) (T := ∅)
      (by rw [expect_bar]; decide)) $$ [Hc HO Hat Hlev]
  · isplitr; · iexact HI
    isplitl [Hc]; · iexact Hc
    isplitl [HO]; · iexact HO
    isplitl [Hlev]; · iapply (mayWait_low c (.reg barS) 4 (by rw [lv_bar])); iexact Hlev
    iexact Hat
  iintro ⟨HO, Hat, -, Hpay⟩
  ihave Hp := (Entails.of_eq (rest_bar m ρ c)) $$ Hpay
  unfold barPay
  rw [if_neg (by decide), if_pos rfl]
  icases Hp with ⟨⟨H2, H3⟩, H0, H1⟩
  iapply Hk
  isplitl [HO]; · iexists _; iexact HO
  isplitl [Hat]
  · isplitr; · iexact HI
    iexact Hat
  isplitl [H0]; · iexact H0
  isplitl [H1]; · iexact H1
  isplitl [H2] <;> iassumption

/-- Channel `j`'s transfer, `n` pieces owed after it. -/
theorem wp_tx (j : Fin 4) (n : ℕ) (hn : chn n = j) (d : Dev nD) (hd : d = tgt j c)
    {src dst : Memref sig .tc .vmem S1024x1024 .bf16} {s₁ s₂ : DmaSem sig} (h₁ : src = srcP j) (h₂ : dst = lanP j) (h₃ : s₁ = sendS j) (h₄ : s₂ = recvS j)
    {hsc : (dst : Memref sig (Dev.tc d : Thread nD τ).2.kind .vmem S1024x1024 .bf16).view.ref.isScScratch = false}
    {hsrc : src.view.WordExact} {hdst : dst.view.WordExact}
    {hsem : DmaTarget.Typed .vmem (.dma s₂) (.remote (Dev.tc d : Thread nD τ) dst (.dma s₁) hsc)}
    {k : PUnit → Prog (TpuEff nD τ sig (Elt F) Λ₀ .tc) α} :
    iprop(txTok m ρ K c j ∗ pc c (srcP j).view (sent m ρ c j) ∗ pcAny (tgt j c) (lanP j).view ∗ ow c (Or c (n + 1)))
      ⊢ iprop((iprop(cred (tallyAt (sendCell c j) 0 N) ∗ ow c (Or c n))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma s₁) hsc) (.dma s₂) hsrc hdst hsem) k) Q) := by
  subst hn; subst hd; subst h₁; subst h₂; subst h₃; subst h₄
  unfold txTok
  iintro ⟨⟨HI1, HI2, Ht1, Hr1, Ht2, Hr2⟩, Hs, Hd, HO⟩ Hk
  iapply (wp_send_pc 𝒱₀ c ER (sched m ρ) (κ₁ := K (c, kS (chn n))) (κ₂ := K (tgt (chn n) c, kR (chn n))) (r₁ := 0) (r₂ := 0) (d₁ := false) (d₂ := false)
      (X := sent m ρ c (chn n)) N 0 0
      (by rw [duties_send]; exact Finset.mem_singleton_self _) (by rw [duties_recv]; exact Finset.mem_singleton_self _)
      (N_lan _) (amount_send m ρ c _ false) (amount_recv m ρ _ _ false) (O₀ := Or c (n + 1)) (Or c n) rfl
      (by rw [payload_send]; unfold sendPay; exact pc_any _ _ _)
      (by rw [payload_recv]; unfold recvPay; rw [org_tgt])) $$ [HI1 HI2 Ht1 Hr1 Ht2 Hr2 Hs Hd HO]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2] <;> iassumption
  iintro ⟨Hc, HO⟩
  iapply Hk
  isplitl [Hc] <;> iassumption

omit [FloatOps F] in
theorem mayWait_none (sm : SemLoc sig) : (emp : sProp 𝕄) ⊢ MayWait (c : Thread nD τ) sm 0 0 := by
  rw [MayWait_zero]; exact .refl

/-- The wait for channel `j`'s send cell: the source piece is back. -/
theorem wp_sent (j : Fin 4) {a b : Memref sig .tc .vmem S1024x1024 .bf16} {s₁ : DmaSem sig} (h₁ : a = lanP j) (h₂ : b = srcP j) (h₃ : s₁ = sendS j)
    {hsrc : a.view.WordExact} {hdst : b.view.WordExact}
    {k : PUnit → Prog (TpuEff nD τ sig (Elt F) Λ₀ .tc) α} :
    iprop(sendEnd m ρ K c j ∗ cred (tallyAt (sendCell c j) 0 N) ∗ ow c 0)
      ⊢ iprop((iprop(ow c 0 ∗ spent m ρ K c (kS j) ∗ pcAny c (srcP j).view)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s₁ a b hsrc hdst) k) Q) := by
  subst h₁; subst h₂; subst h₃
  unfold sendEnd spent
  iintro ⟨⟨#HI, Hat⟩, Hc, HO⟩ Hk
  iapply (wp_wait_round 𝒱₀ c ER (sched m ρ) (κ := K (c, kS j)) N 0 (R := 0) (d := false) (N_src j) (duties_send m ρ c j) (amount_send m ρ c j false) (O := 0)) $$ [Hat Hc HO]
  · isplitr; · iexact HI
    isplitl [Hc]; · iexact Hc
    isplitl [HO]; · iexact HO
    isplitr; · iapply (mayWait_none c); iempintro
    iexact Hat
  iintro ⟨HO, Hat, -, Hp⟩
  ihave Hp := (Entails.of_eq (payload_send m ρ c j false)) $$ Hp
  unfold sendPay
  iapply Hk
  isplitl [HO]; · iexact HO
  isplitl [Hat]
  · rw [kcell_send]
    isplitr; · iexact HI
    iexact Hat
  iexact Hp

/-- The wait for channel `j`'s receive cell: what the neighbour sent. -/
theorem wp_received (j : Fin 4) {a b : Memref sig .tc .vmem S1024x1024 .bf16} {s₁ : DmaSem sig} (h₁ : a = srcP j) (h₂ : b = lanP j) (h₃ : s₁ = recvS j)
    {hsrc : a.view.WordExact} {hdst : b.view.WordExact}
    {k : PUnit → Prog (TpuEff nD τ sig (Elt F) Λ₀ .tc) α} :
    iprop(recvEnd m ρ K c j ∗ ow c 0)
      ⊢ iprop((iprop(ow c 0 ∗ spent m ρ K c (kR j) ∗ pc c (lanP j).view (sent m ρ (org j c) j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s₁ a b hsrc hdst) k) Q) := by
  subst h₁; subst h₂; subst h₃
  unfold recvEnd spent
  iintro ⟨⟨#HI, Hat, Hc⟩, HO⟩ Hk
  iapply (wp_wait_round 𝒱₀ c ER (sched m ρ) (κ := K (c, kR j)) N 0 (R := 0) (d := false) (N_lan j) (duties_recv m ρ c j) (amount_recv m ρ c j false) (O := 0)) $$ [Hat Hc HO]
  · isplitr; · iexact HI
    isplitl [Hc]; · iexact Hc
    isplitl [HO]; · iexact HO
    isplitr; · iapply (mayWait_none c); iempintro
    iexact Hat
  iintro ⟨HO, Hat, -, Hp⟩
  ihave Hp := (Entails.of_eq (payload_recv m ρ c j false)) $$ Hp
  unfold recvPay
  iapply Hk
  isplitl [HO]; · iexact HO
  isplitl [Hat]
  · rw [kcell_recv]
    isplitr; · iexact HI
    iexact Hat
  iexact Hp

end Cert.Hop

end
-- ==== Proof.BodyA.lean ====
/-
# The body, first half: the partial products and the four transfers
-/
module

public import proofs.«01_k».proof.Proof.Steps

@[expose] public section

noncomputable section

namespace Cert.Hop

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 9 → ℕ) (c : Dev nD)
variable {α : Type} {Q : α → sProp (MT nD τ sig ℕ (Elt F) ℕ UU ℕ)}

/-- The device's block of the left operand, whole, and its weights, staged. -/
abbrev xArr : sProp 𝕄 := (xM.view.loc (c : Thread nD τ) ↦{fullShare} m ((c : Thread nD τ).loc main_arg0))
abbrev wArr : sProp 𝕄 := (wM.view.loc (c : Thread nD τ) ↦{fullShare} wstg m ρ c)
abbrev lvls : sProp 𝕄 := levAts L lv
/-- A semaphore of the device's own at zero. -/
abbrev zero (s : DmaSem sig) : sProp 𝕄 := semVal ((c : Thread nD τ), .dma s) 0

abbrev wbM (b : Ref sig .tc) : (Memref.whole b).IsWhole := Memref.isWhole_whole b

theorem numel_pos : 0 < S1024x1024.numel := by decide

omit [FloatOps F] in
/-- A wait on a local cell while pieces are owed. -/
theorem mayWait_dma (q : DmaSem sig) (hq : ¬ IsRecv (.dma q)) (n : ℕ) : (levAts L lv : sProp 𝕄) ⊢ MayWait (c : Thread nD τ) (.dma q) 0 (Or c n) :=
  mayWait_low c (.dma q) n (by unfold lv; rw [if_neg (fun h => by cases h), if_neg hq]; exact Nat.zero_le 1)

/-! The payloads of the four channels are the same two functions. -/
theorem pay3_eq : k0_pay3 (F := F) = k0_pay1 := rfl
theorem pay5_eq : k0_pay5 (F := F) = k0_pay1 := rfl
theorem pay7_eq : k0_pay7 (F := F) = k0_pay1 := rfl
theorem pay4_eq : k0_pay4 (F := F) = k0_pay2 := rfl
theorem pay6_eq : k0_pay6 (F := F) = k0_pay2 := rfl
theorem pay8_eq : k0_pay8 (F := F) = k0_pay2 := rfl

theorem wp_part1 {k : (Σ' (d0 : Dev nD) (v2 : BitVec 32) (v5 : BitVec 32) (v7 : BitVec 32), Sems sig S_) → Prog (TpuEff nD τ sig (Elt F) Λ₀ .tc) α} :
    iprop(sigTok m ρ K c ∗ ow c (O₀ c) ∗ lvls ∗ pcAny c (lanP 0).view ∗ pcAny c (lanP 1).view ∗ pcAny c (lanP 2).view ∗ pcAny c (lanP 3).view
        ∗ xArr m c ∗ pcAny c bP0.view ∗ zero c 1)
      ⊢ iprop((∀ (w2 w5 w7 : BitVec 32), iprop(ow c (Or c 4) ∗ xArr m c ∗ pc c bP0.view (xrd m c (prv c)) ∗ zero c 1)
            -∗ wp frame (wpE (defs₀ (F := F)) 𝒱₀ (c : Thread nD τ) none) Set.univ (k ⟨c, w2, w5, w7, SemArray.scalar (sig.barrier 0 rfl)⟩) Q)
          -∗ wp frame (wpE (defs₀ (F := F)) 𝒱₀ (c : Thread nD τ) none) Set.univ
            ((k0_part1 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10) >>= k) Q) := by
  rw [k0_part1_eq_skeleton]; unfold k0_part1_skel
  simp only [semSignalWord, semWaitWord, Prog.lift, Prog.bind_op, Prog.bind_ret, Prog.pure_eq_ret, wp_deviceId]
  iintro ⟨Hsig, HO, #Hlev, H0, H1, H2, H3, Hx, Hb, Hz⟩ Hk
  iapply (wp_signals m ρ K c _ _ (dev1_eq c) (dev2_eq c)) $$ [Hsig HO H0 H1 H2 H3]
  · isplitl [Hsig]; · iexact Hsig
    isplitl [HO]; · iexact HO
    isplitl [H0]; · iexact H0
    isplitl [H1]; · iexact H1
    isplitl [H2] <;> iassumption
  iintro HO
  iapply (wp_fetch 𝒱₀ c EC 0 (dst := bP0) (q := fullShare) (x1_eq c) sx0 numel_pos) $$ [Hx Hb Hz]
  · isplitl [Hx]; · iexact Hx
    isplitl [Hb] <;> iassumption
  iintro Hf
  iapply (wp_fetched 𝒱₀ c EC 0 (dst := bP0) (O := Or c 4) (x1_eq c) sx0) $$ [Hf HO]
  · isplitl [Hf]; · iexact Hf
    isplitl [HO]; · iexact HO
    iapply (mayWait_dma c 1 (by decide) 4); iexact Hlev
  iintro ⟨Hb, Hx, Hz, HO⟩
  iapply Hk
  isplitl [HO]; · iexact HO
  isplitl [Hx]; · iexact Hx
  isplitl [Hb]; · iexact Hb
  iexact Hz

theorem wp_part2 (w7 : BitVec 32) {k : PUnit → Prog (TpuEff nD τ sig (Elt F) Λ₀ .tc) α} :
    iprop(barEnd m ρ K c ∗ ow c (Or c 4) ∗ lvls ∗ pc c bP0.view (xrd m c (prv c)) ∗ wArr m ρ c ∗ pcAny c (accP 0).view ∗ pcAny c (srcP 0).view)
      ⊢ iprop((iprop(ow c (Or c 4) ∗ spent m ρ K c 0 ∗ pcAny (nxt c) (lanP 0).view ∗ pcAny (nxt c) (lanP 1).view
            ∗ pcAny (prv c) (lanP 2).view ∗ pcAny (prv c) (lanP 3).view ∗ pc c bP0.view (xrd m c (prv c)) ∗ wArr m ρ c
            ∗ pcAny c (accP 0).view ∗ pc c (srcP 0).view (sent m ρ c 0))
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part2 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 w7 (SemArray.scalar (sig.barrier 0 rfl))) >>= k) Q) := by
  rw [k0_part2_eq_skeleton]; unfold k0_part2_skel
  simp only [semSignalWord, semWaitWord, Prog.lift, Prog.bind_op, Prog.bind_ret, Prog.pure_eq_ret]
  iintro ⟨Hbar, HO, Hlev, Hb, Hw, Ha, Hs⟩ Hk
  iapply (wp_load_sq 𝒱₀ c (m := bM) hq) $$ Hb; iintro Hb
  iapply (wp_load_at 𝒱₀ c (m := wM)) $$ Hw; iintro Hw
  iapply (wp_load_any 𝒱₀ c (m := alM)) $$ Ha; iintro %_ Ha
  iapply (wp_store_pc 𝒱₀ c (m := alM)) $$ Ha; iintro Ha
  iapply (wp_load_pc 𝒱₀ c (m := alM)) $$ Ha; iintro Ha
  iapply (wp_load_sq_any 𝒱₀ c (m := cwM) hq) $$ Hs; iintro %_ Hs
  iapply (wp_store_sq 𝒱₀ c (m := cwM) hq) $$ Hs; iintro Hs
  iapply (wp_barrier m ρ K c) $$ [Hbar HO Hlev]
  · isplitl [Hbar]; · iexact Hbar
    isplitl [HO] <;> iassumption
  iintro ⟨HO, Hbar, H0, H1, H2, H3⟩
  iapply Hk
  isplitl [HO]; · iexact HO
  isplitl [Hbar]; · iexact Hbar
  isplitl [H0]; · iexact H0
  isplitl [H1]; · iexact H1
  isplitl [H2]; · iexact H2
  isplitl [H3]; · iexact H3
  isplitl [Hb]; · iexact Hb
  isplitl [Hw]; · iexact Hw
  isplitl [Ha]; · iapply (pc_any _ _ _) $$ Ha
  iexact Hs

theorem wp_part3 (w7 : BitVec 32) {k : PUnit → Prog (TpuEff nD τ sig (Elt F) Λ₀ .tc) α} :
    iprop(txTok m ρ K c 0 ∗ pc c (srcP 0).view (sent m ρ c 0) ∗ pcAny (nxt c) (lanP 0).view ∗ txTok m ρ K c 1 ∗ pcAny (nxt c) (lanP 1).view ∗ ow c (Or c 4) ∗ pc c bP0.view (xrd m c (prv c)) ∗ wArr m ρ c ∗ pcAny c (accP 1).view ∗ pcAny c (srcP 1).view)
      ⊢ iprop((iprop(cred (tallyAt (sendCell c 0) 0 N) ∗ cred (tallyAt (sendCell c 1) 0 N) ∗ ow c (Or c 2) ∗ pc c bP0.view (xrd m c (prv c)) ∗ wArr m ρ c ∗ pcAny c (accP 1).view)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part3 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 c w7) >>= k) Q) := by
  rw [k0_part3_eq_skeleton]; unfold k0_part3_skel
  simp only [semSignalWord, semWaitWord, Prog.lift, Prog.bind_op, Prog.bind_ret, Prog.pure_eq_ret, pay3_eq, pay4_eq]
  iintro ⟨Ht, Hs, Hl, Ht1, Hl1, HO, Hb, Hw, Ha, Hs1⟩ Hk
  iapply (wp_tx m ρ K c 0 3 rfl _ (dev3_eq c) src0_eq lan0_eq ss0 sr0) $$ [Ht Hs Hl HO]
  · isplitl [Ht]; · iexact Ht
    isplitl [Hs]; · iexact Hs
    isplitl [Hl]; · iexact Hl
    iexact HO
  iintro ⟨Hc, HO⟩
  iapply (wp_load_sq 𝒱₀ c (m := bM) hq) $$ Hb; iintro Hb
  iapply (wp_load_at 𝒱₀ c (m := wM)) $$ Hw; iintro Hw
  iapply (wp_load_any 𝒱₀ c (m := alM)) $$ Ha; iintro %_ Ha
  iapply (wp_store_pc 𝒱₀ c (m := alM)) $$ Ha; iintro Ha
  iapply (wp_load_pc 𝒱₀ c (m := alM)) $$ Ha; iintro Ha
  iapply (wp_load_sq_any 𝒱₀ c (m := cwM) hq) $$ Hs1; iintro %_ Hs1
  iapply (wp_store_sq 𝒱₀ c (m := cwM) hq) $$ Hs1; iintro Hs1
  iapply (wp_tx m ρ K c 1 2 rfl _ (dev4_eq c) src1_eq lan1_eq ss1 sr1) $$ [Ht1 Hs1 Hl1 HO]
  · isplitl [Ht1]; · iexact Ht1
    isplitl [Hs1]; · iexact Hs1
    isplitl [Hl1]; · iexact Hl1
    iexact HO
  iintro ⟨Hc1, HO⟩
  iapply Hk
  isplitl [Hc]; · iexact Hc
  isplitl [Hc1]; · iexact Hc1
  isplitl [HO]; · iexact HO
  isplitl [Hb]; · iexact Hb
  isplitl [Hw]; · iexact Hw
  iapply (pc_any _ _ _) $$ Ha

theorem wp_part4 (w2 : BitVec 32) {k : BitVec 32 → Prog (TpuEff nD τ sig (Elt F) Λ₀ .tc) α} :
    iprop(xArr m c ∗ pcAny c bP1.view ∗ zero c 2 ∗ ow c (Or c 2) ∗ lvls ∗ wArr m ρ c ∗ pcAny c (accP 2).view ∗ pcAny c (srcP 2).view)
      ⊢ iprop((iprop(ow c (Or c 2) ∗ xArr m c ∗ pc c bP1.view (xrd m c (nxt c)) ∗ zero c 2 ∗ wArr m ρ c ∗ pcAny c (accP 2).view ∗ pc c (srcP 2).view (sent m ρ c 2))
            -∗ wp frame (wpE (defs₀ (F := F)) 𝒱₀ (c : Thread nD τ) none) Set.univ (k 1#32) Q)
          -∗ wp frame (wpE (defs₀ (F := F)) 𝒱₀ (c : Thread nD τ) none) Set.univ
            ((k0_part4 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 c w2) >>= k) Q) := by
  rw [k0_part4_eq_skeleton]; unfold k0_part4_skel
  simp only [semSignalWord, semWaitWord, Prog.lift, Prog.bind_op, Prog.bind_ret, Prog.pure_eq_ret, pay5_eq, pay6_eq]
  iintro ⟨Hx, Hb, Hz, HO, Hlev, Hw, Ha, Hs⟩ Hk
  iapply (wp_fetch 𝒱₀ c EC 0 (dst := bP1) (q := fullShare) (x6_eq c) sx1 numel_pos) $$ [Hx Hb Hz]
  · isplitl [Hx]; · iexact Hx
    isplitl [Hb]; · iexact Hb
    iexact Hz
  iintro Hf
  iapply (wp_fetched 𝒱₀ c EC 0 (dst := bP1) (O := Or c 2) (x6_eq c) sx1) $$ [Hf HO Hlev]
  · isplitl [Hf]; · iexact Hf
    isplitl [HO]; · iexact HO
    iapply (mayWait_dma c 2 (by decide) 2); iexact Hlev
  iintro ⟨Hb, Hx, Hz, HO⟩
  iapply (wp_load_sq 𝒱₀ c (m := bM) hq) $$ Hb; iintro Hb
  iapply (wp_load_at 𝒱₀ c (m := wM)) $$ Hw; iintro Hw
  iapply (wp_load_any 𝒱₀ c (m := arM)) $$ Ha; iintro %_ Ha
  iapply (wp_store_pc 𝒱₀ c (m := arM)) $$ Ha; iintro Ha
  iapply (wp_load_pc 𝒱₀ c (m := arM)) $$ Ha; iintro Ha
  iapply (wp_load_sq_any 𝒱₀ c (m := ccM) hq) $$ Hs; iintro %_ Hs
  iapply (wp_store_sq 𝒱₀ c (m := ccM) hq) $$ Hs; iintro Hs
  iapply Hk
  isplitl [HO]; · iexact HO
  isplitl [Hx]; · iexact Hx
  isplitl [Hb]; · iexact Hb
  isplitl [Hz]; · iexact Hz
  isplitl [Hw]; · iexact Hw
  isplitl [Ha]; · iapply (pc_any _ _ _) $$ Ha
  iexact Hs

theorem wp_part5 (w5 w : BitVec 32) {k : (Σ' (u : BitVec 32), BitVec 32) → Prog (TpuEff nD τ sig (Elt F) Λ₀ .tc) α} :
    iprop(txTok m ρ K c 2 ∗ pc c (srcP 2).view (sent m ρ c 2) ∗ pcAny (prv c) (lanP 2).view ∗ ow c (Or c 2) ∗ pc c bP1.view (xrd m c (nxt c)) ∗ wArr m ρ c ∗ pcAny c (accP 3).view ∗ pcAny c (srcP 3).view)
      ⊢ iprop((iprop(cred (tallyAt (sendCell c 2) 0 N) ∗ ow c (Or c 1) ∗ pc c bP1.view (xrd m c (nxt c)) ∗ wArr m ρ c ∗ pcAny c (accP 3).view ∗ pc c (srcP 3).view (sent m ρ c 3))
            -∗ wp frame (wpE (defs₀ (F := F)) 𝒱₀ (c : Thread nD τ) none) Set.univ (k ⟨1#32, 2#32⟩) Q)
          -∗ wp frame (wpE (defs₀ (F := F)) 𝒱₀ (c : Thread nD τ) none) Set.univ
            ((k0_part5 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 c w5 w) >>= k) Q) := by
  rw [k0_part5_eq_skeleton]; unfold k0_part5_skel
  simp only [semSignalWord, semWaitWord, Prog.lift, Prog.bind_op, Prog.bind_ret, Prog.pure_eq_ret, pay7_eq, pay8_eq]
  iintro ⟨Ht, Hs, Hl, HO, Hb, Hw, Ha, Hs1⟩ Hk
  iapply (wp_tx m ρ K c 2 1 rfl _ (dev5_eq c) src2_eq lan2_eq ss2 sr2) $$ [Ht Hs Hl HO]
  · isplitl [Ht]; · iexact Ht
    isplitl [Hs]; · iexact Hs
    isplitl [Hl]; · iexact Hl
    iexact HO
  iintro ⟨Hc, HO⟩
  iapply (wp_load_sq 𝒱₀ c (m := bM) hq) $$ Hb; iintro Hb
  iapply (wp_load_at 𝒱₀ c (m := wM)) $$ Hw; iintro Hw
  iapply (wp_load_any 𝒱₀ c (m := arM)) $$ Ha; iintro %_ Ha
  iapply (wp_store_pc 𝒱₀ c (m := arM)) $$ Ha; iintro Ha
  iapply (wp_load_pc 𝒱₀ c (m := arM)) $$ Ha; iintro Ha
  iapply (wp_load_sq_any 𝒱₀ c (m := ccM) hq) $$ Hs1; iintro %_ Hs1
  iapply (wp_store_sq 𝒱₀ c (m := ccM) hq) $$ Hs1; iintro Hs1
  iapply Hk
  isplitl [Hc]; · iexact Hc
  isplitl [HO]; · iexact HO
  isplitl [Hb]; · iexact Hb
  isplitl [Hw]; · iexact Hw
  isplitl [Ha]; · iapply (pc_any _ _ _) $$ Ha
  iexact Hs1

theorem wp_part6 (w2 w5 w w' : BitVec 32) {k : PUnit → Prog (TpuEff nD τ sig (Elt F) Λ₀ .tc) α} :
    iprop(txTok m ρ K c 3 ∗ pc c (srcP 3).view (sent m ρ c 3) ∗ pcAny (prv c) (lanP 3).view ∗ ow c (Or c 1) ∗ xArr m c ∗ pcAny c bP0.view ∗ zero c 1 ∗ lvls)
      ⊢ iprop((iprop(cred (tallyAt (sendCell c 3) 0 N) ∗ ow c 0 ∗ xArr m c ∗ pc c bP0.view (xrd m c (prv (prv c))) ∗ zero c 1)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part6 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 c w2 w5 w w') >>= k) Q) := by
  rw [k0_part6_eq_skeleton]; unfold k0_part6_skel
  simp only [semSignalWord, semWaitWord, Prog.lift, Prog.bind_op, Prog.bind_ret, Prog.pure_eq_ret]
  iintro ⟨Ht, Hs, Hl, HO, Hx, Hb, Hz, Hlev⟩ Hk
  iapply (wp_tx m ρ K c 3 0 rfl _ (dev6_eq c) src3_eq lan3_eq ss3 sr3) $$ [Ht Hs Hl HO]
  · isplitl [Ht]; · iexact Ht
    isplitl [Hs]; · iexact Hs
    isplitl [Hl]; · iexact Hl
    iexact HO
  iintro ⟨Hc, HO⟩
  iapply (wp_fetch 𝒱₀ c EC 0 (dst := bP0) (q := fullShare) (x7_eq c) sx0 numel_pos) $$ [Hx Hb Hz]
  · isplitl [Hx]; · iexact Hx
    isplitl [Hb]; · iexact Hb
    iexact Hz
  iintro Hf
  iapply (wp_fetched 𝒱₀ c EC 0 (dst := bP0) (O := Or c 0) (x7_eq c) sx0) $$ [Hf HO Hlev]
  · isplitl [Hf]; · iexact Hf
    isplitl [HO]; · iexact HO
    iapply (mayWait_dma c 1 (by decide) 0); iexact Hlev
  iintro ⟨Hb, Hx, Hz, HO⟩
  iapply Hk
  isplitl [Hc]; · iexact Hc
  isplitl [HO]; · iexact HO
  isplitl [Hx]; · iexact Hx
  isplitl [Hb]; · iexact Hb
  iexact Hz

end Cert.Hop

end
-- ==== Proof.Cuts.lean ====
/-
# The scratch buffers and the result in pieces

Each scratch buffer is the family of its pieces, contents forgotten: the fetched rows' two slots, a direction's four
quarters, an accumulator's two halves. The result is its four column quarters. An accumulator is stored whole once: there
its halves are joined, and cut again.
-/
module

public import proofs.«01_k».proof.Proof.Proto

@[expose] public section

noncomputable section

namespace Cert.Hop

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (c : Dev nD)

section Any
variable (b : Ref sig .tc) {B : Type} [Fintype B] [DecidableEq B] (r : B → Rect b.ty.shape)
  (key : b.ty.shape.Idx → B) (hk : ∀ j i, i ∈ (r j).set ↔ key i = j)

omit [FloatOps F] in
include hk in
/-- A buffer at some contents is its pieces at some contents. -/
theorem cutAny : (iprop(∃ f : Buf (Elt F) ((c : Thread nD τ).loc b), ((c : Thread nD τ).loc b) ↦{fullShare} f) : sProp 𝕄)
    ⊢ bigSep Finset.univ fun j => pcAny c ((View.whole b).slice (r j)) := by
  have h (f : Buf (Elt F) ((c : Thread nD τ).loc b)) : (((c : Thread nD τ).loc b) ↦{fullShare} f : sProp 𝕄)
      ⊢ bigSep Finset.univ fun j => pcAny c ((View.whole b).slice (r j)) :=
    (cut c b r key hk f).trans (bigSep_mono fun j _ => pc_any c ((View.whole b).slice (r j)) (((View.whole b).slice (r j)).read (Elt F) f))
  iintro ⟨%f, H⟩
  iapply (h f) $$ H

omit [FloatOps F] in
include hk in
theorem pasteAny (f₀ : Buf (Elt F) ((c : Thread nD τ).loc b)) :
    bigSep Finset.univ (fun j => (pcAny c ((View.whole b).slice (r j)) : sProp 𝕄))
      ⊢ iprop(∃ f : Buf (Elt F) ((c : Thread nD τ).loc b), ((c : Thread nD τ).loc b) ↦{fullShare} f) := by
  have : ∀ j, Nonempty ((r j).shape.Idx → Elt F b.ty.elt) := fun j => ⟨((View.whole b).slice (r j)).read (Elt F) f₀⟩
  refine (bigSep_mono fun j _ => pcAny_pc c ((View.whole b).slice (r j))).trans ?_
  refine (bigSep_exists_pi Finset.univ (fun j X => (pc c ((View.whole b).slice (r j)) X : sProp 𝕄))).trans ?_
  iintro ⟨%X, H⟩
  ihave H := (paste c b r key hk f₀ X) $$ H
  icases H with ⟨%g, -, H⟩
  iexists g; iexact H

end Any

omit [FloatOps F] in
theorem fam2 (Φ : Fin 2 → sProp 𝕄) : bigSep Finset.univ Φ = iprop(Φ 0 ∗ Φ 1) := by
  rw [bigSep_univ_eq_bigSepL [0, 1] (by decide) (by decide), bigSepL_cons_cons, bigSepL_singleton]; rfl
omit [FloatOps F] in
theorem fam4 (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl

/-! ## The keys: which piece an index lies in -/

def bKey (i : S2x1024x1024.Idx) : Fin 2 := if (i 0).val = 0 then 0 else 1
theorem bKey_spec (j : Fin 2) (i : S2x1024x1024.Idx) : i ∈ (bR j).set ↔ bKey i = j := by
  have h0 : (i 0).val < 2 := (i 0).isLt
  have h1 : (i 1).val < 1024 := (i 1).isLt
  have h2 : (i 2).val < 1024 := (i 2).isLt
  unfold bKey
  fin_cases j <;> (simp only [bR]; rw [Rect.mem_set_unit, Fin.forall_fin_succ, Fin.forall_fin_succ, Fin.forall_fin_succ]) <;>
    (by_cases h : (i 0).val = 0 <;> simp [h, S1x1024x1024, Matrix.cons_val_zero, Matrix.cons_val_one] <;> omega)

/-- A direction's buffer: its two column halves of slot 0, then of slot 1. -/
abbrev cR : Fin 4 → Rect S2x1024x2048 | 0 => c0R0 | 1 => c0R1 | 2 => c1R0 | 3 => c1R1
def cKey (i : S2x1024x2048.Idx) : Fin 4 :=
  if (i 0).val = 0 then (if (i 2).val < 1024 then 0 else 1) else (if (i 2).val < 1024 then 2 else 3)
theorem cKey_spec (j : Fin 4) (i : S2x1024x2048.Idx) : i ∈ (cR j).set ↔ cKey i = j := by
  have h0 : (i 0).val < 2 := (i 0).isLt
  have h1 : (i 1).val < 1024 := (i 1).isLt
  have h2 : (i 2).val < 2048 := (i 2).isLt
  unfold cKey
  fin_cases j <;> (simp only [cR]; rw [Rect.mem_set_unit, Fin.forall_fin_succ, Fin.forall_fin_succ, Fin.forall_fin_succ]) <;>
    (by_cases h : (i 0).val = 0 <;> by_cases h' : (i 2).val < 1024 <;> simp [h, h', S1x1024x1024, Matrix.cons_val_zero, Matrix.cons_val_one] <;> omega)

abbrev hR : Fin 2 → Rect S1024x2048 | 0 => aR0 | 1 => aR1
def hKey (i : S1024x2048.Idx) : Fin 2 := if (i 1).val < 1024 then 0 else 1
theorem hKey_spec (j : Fin 2) (i : S1024x2048.Idx) : i ∈ (hR j).set ↔ hKey i = j := by
  have h0 : (i 0).val < 1024 := (i 0).isLt
  have h1 : (i 1).val < 2048 := (i 1).isLt
  unfold hKey
  fin_cases j <;> (simp only [hR]; rw [Rect.mem_set_unit, Fin.forall_fin_succ, Fin.forall_fin_succ]) <;>
    (by_cases h : (i 1).val < 1024 <;> simp [h, S1024x1024, Matrix.cons_val_zero, Matrix.cons_val_one] <;> omega)

def oKey (i : S1024x4096.Idx) : Fin 4 :=
  if (i 1).val < 2048 then (if (i 1).val < 1024 then 0 else 1) else (if (i 1).val < 3072 then 2 else 3)
theorem oKey_spec (j : Fin 4) (i : S1024x4096.Idx) : i ∈ (wV j).set ↔ oKey i = j := by
  have h0 : (i 0).val < 1024 := (i 0).isLt
  have h1 : (i 1).val < 4096 := (i 1).isLt
  unfold oKey
  fin_cases j <;> (simp only [wV]; rw [Rect.mem_set_unit, Fin.forall_fin_succ, Fin.forall_fin_succ]) <;>
    (by_cases h : (i 1).val < 2048 <;> by_cases h' : (i 1).val < 1024 <;> by_cases h'' : (i 1).val < 3072 <;>
      simp [h, h', h'', S1024x1024, Matrix.cons_val_zero, Matrix.cons_val_one] <;> omega)

/-! ## The buffers -/

variable (m : (ℓ : Loc nD τ sig) → Buf (Elt F) ℓ)

/-- A buffer of the device at some contents. -/
abbrev someBuf (b : Ref sig .tc) : sProp 𝕄 := iprop(∃ f : Buf (Elt F) ((c : Thread nD τ).loc b), ((c : Thread nD τ).loc b) ↦{fullShare} f)

omit [FloatOps F] in
theorem any_b (j : Fin 2) : (pcAny c ((View.whole cc0_scratch0).slice (bR j)) : sProp 𝕄) = pcAny c ((bM.access (bR j)).reshape S1024x1024 (by fin_cases j <;> exact hq)) :=
  (pcAny_reshape c _ _).symm
omit [FloatOps F] in
theorem any_cw (j : Fin 4) : (pcAny c ((View.whole cc0_scratch1).slice (cR j)) : sProp 𝕄) = pcAny c ((cwM.access (cR j)).reshape S1024x1024 (by fin_cases j <;> exact hq)) :=
  (pcAny_reshape c _ _).symm
omit [FloatOps F] in
theorem any_cc (j : Fin 4) : (pcAny c ((View.whole cc0_scratch2).slice (cR j)) : sProp 𝕄) = pcAny c ((ccM.access (cR j)).reshape S1024x1024 (by fin_cases j <;> exact hq)) :=
  (pcAny_reshape c _ _).symm

omit [FloatOps F] in
/-- The fetched rows' buffer is its two slots; -/
theorem cut_b : (someBuf c cc0_scratch0 : sProp 𝕄) ⊢ iprop(pcAny c bP0.view ∗ pcAny c bP1.view) := by
  refine (cutAny c cc0_scratch0 bR bKey bKey_spec).trans (Entails.of_eq ?_)
  rw [fam2, any_b, any_b]
omit [FloatOps F] in
theorem paste_b (f₀ : Buf (Elt F) ((c : Thread nD τ).loc cc0_scratch0)) : iprop(pcAny c bP0.view ∗ pcAny c bP1.view) ⊢ (someBuf c cc0_scratch0 : sProp 𝕄) := by
  refine Entails.trans (Entails.of_eq ?_) (pasteAny c cc0_scratch0 bR bKey bKey_spec f₀)
  rw [fam2, any_b, any_b]
omit [FloatOps F] in
/-- a direction's, its four quarters; -/
theorem cut_cw : (someBuf c cc0_scratch1 : sProp 𝕄)
    ⊢ iprop(pcAny c (srcP 0).view ∗ pcAny c (srcP 1).view ∗ pcAny c (lanP 0).view ∗ pcAny c (lanP 1).view) := by
  refine (cutAny c cc0_scratch1 cR cKey cKey_spec).trans (Entails.of_eq ?_)
  rw [fam4, any_cw, any_cw, any_cw, any_cw]
omit [FloatOps F] in
theorem paste_cw (f₀ : Buf (Elt F) ((c : Thread nD τ).loc cc0_scratch1)) :
    iprop(pcAny c (srcP 0).view ∗ pcAny c (srcP 1).view ∗ pcAny c (lanP 0).view ∗ pcAny c (lanP 1).view) ⊢ (someBuf c cc0_scratch1 : sProp 𝕄) := by
  refine Entails.trans (Entails.of_eq ?_) (pasteAny c cc0_scratch1 cR cKey cKey_spec f₀)
  rw [fam4, any_cw, any_cw, any_cw, any_cw]
omit [FloatOps F] in
theorem cut_cc : (someBuf c cc0_scratch2 : sProp 𝕄)
    ⊢ iprop(pcAny c (srcP 2).view ∗ pcAny c (srcP 3).view ∗ pcAny c (lanP 2).view ∗ pcAny c (lanP 3).view) := by
  refine (cutAny c cc0_scratch2 cR cKey cKey_spec).trans (Entails.of_eq ?_)
  rw [fam4, any_cc, any_cc, any_cc, any_cc]
omit [FloatOps F] in
theorem paste_cc (f₀ : Buf (Elt F) ((c : Thread nD τ).loc cc0_scratch2)) :
    iprop(pcAny c (srcP 2).view ∗ pcAny c (srcP 3).view ∗ pcAny c (lanP 2).view ∗ pcAny c (lanP 3).view) ⊢ (someBuf c cc0_scratch2 : sProp 𝕄) := by
  refine Entails.trans (Entails.of_eq ?_) (pasteAny c cc0_scratch2 cR cKey cKey_spec f₀)
  rw [fam4, any_cc, any_cc, any_cc, any_cc]
omit [FloatOps F] in
/-- an accumulator, its two halves. -/
theorem cut_al : (someBuf c cc0_scratch3 : sProp 𝕄) ⊢ iprop(pcAny c (accP 0).view ∗ pcAny c (accP 1).view) := by
  refine (cutAny c cc0_scratch3 hR hKey hKey_spec).trans (Entails.of_eq ?_)
  rw [fam2]
omit [FloatOps F] in
theorem paste_al (f₀ : Buf (Elt F) ((c : Thread nD τ).loc cc0_scratch3)) : iprop(pcAny c (accP 0).view ∗ pcAny c (accP 1).view) ⊢ (someBuf c cc0_scratch3 : sProp 𝕄) := by
  refine Entails.trans (Entails.of_eq ?_) (pasteAny c cc0_scratch3 hR hKey hKey_spec f₀)
  rw [fam2]
omit [FloatOps F] in
theorem cut_ar : (someBuf c cc0_scratch4 : sProp 𝕄) ⊢ iprop(pcAny c (accP 2).view ∗ pcAny c (accP 3).view) := by
  refine (cutAny c cc0_scratch4 hR hKey hKey_spec).trans (Entails.of_eq ?_)
  rw [fam2]
omit [FloatOps F] in
theorem paste_ar (f₀ : Buf (Elt F) ((c : Thread nD τ).loc cc0_scratch4)) : iprop(pcAny c (accP 2).view ∗ pcAny c (accP 3).view) ⊢ (someBuf c cc0_scratch4 : sProp 𝕄) := by
  refine Entails.trans (Entails.of_eq ?_) (pasteAny c cc0_scratch4 hR hKey hKey_spec f₀)
  rw [fam2]

omit [FloatOps F] in
/-- The result's buffer is its four column quarters; put together it reads on each what that quarter held. -/
theorem cut_o : (someBuf c main_v1 : sProp 𝕄)
    ⊢ iprop(pcAny c (outP 0).view ∗ pcAny c (outP 1).view ∗ pcAny c (outP 2).view ∗ pcAny c (outP 3).view) := by
  refine (cutAny c main_v1 wV oKey oKey_spec).trans (Entails.of_eq ?_)
  rw [fam4]

/-- The contents of a result whose quarters read `X`. -/
def IsOut (X : Fin 4 → S1024x1024.Idx → Elt F .f32) (g : S1024x4096.Idx → Elt F .f32) : Prop :=
  ∀ i : S1024x1024.Idx, g ((wV 0).emb i) = X 0 i ∧ g ((wV 1).emb i) = X 1 i ∧ g ((wV 2).emb i) = X 2 i ∧ g ((wV 3).emb i) = X 3 i

omit [FloatOps F] in
theorem paste_o (f₀ : Buf (Elt F) ((c : Thread nD τ).loc main_v1)) (X : Fin 4 → S1024x1024.Idx → Elt F .f32) :
    iprop(pc c (outP 0).view (X 0) ∗ pc c (outP 1).view (X 1) ∗ pc c (outP 2).view (X 2) ∗ pc c (outP 3).view (X 3))
      ⊢ (iprop(∃ g : Buf (Elt F) ((c : Thread nD τ).loc main_v1), ⌜IsOut X g⌝ ∗ (((c : Thread nD τ).loc main_v1) ↦{fullShare} g)) : sProp 𝕄) := by
  let X' : (j : Fin 4) → (wV j).shape.Idx → Elt F .f32 := fun j => match j with | 0 => X 0 | 1 => X 1 | 2 => X 2 | 3 => X 3
  have h := paste (Val := Elt F) (Ix := ℕ) (Name := ℕ) (U := UU) (Lvl := ℕ) (τ := τ) c main_v1 wV oKey oKey_spec f₀ X'
  rw [fam4] at h
  refine h.trans ?_
  iintro ⟨%g, %hg, H⟩
  iexists g
  isplitr
  · ipureintro
    intro i
    exact ⟨congrFun (hg 0) i, congrFun (hg 1) i, congrFun (hg 2) i, congrFun (hg 3) i⟩
  iexact H

/-! ## An accumulator stored whole -/

omit [FloatOps F] in
theorem aRW_emb (i : S1024x2048.Idx) : aRW.emb i = i := by
  funext a; apply Fin.ext
  show (![0, 0] : Fin 2 → ℕ) a + 1 * (i a).val = (i a).val
  have : (![0, 0] : Fin 2 → ℕ) a = 0 := by revert a; decide
  omega

section Whole
variable {α : Type} {Q : α → sProp (MT nD τ sig ℕ (Elt F) ℕ UU ℕ)}

/-- What an accumulator's halves hold after a store of all of it. -/
abbrev lo (w : Vec F S1024x2048 .f32) : Vec F S1024x1024 .f32 := fun i => w (aR0.emb i)
abbrev hi (w : Vec F S1024x2048 .f32) : Vec F S1024x1024 .f32 := fun i => w (aR1.emb i)

/-- A load of the whole accumulator that is not used, then a store of the whole of it. -/
theorem wp_whole_al (f₀ : Buf (Elt F) ((c : Thread nD τ).loc cc0_scratch3)) {w : Vec F S1024x2048 .f32} {hl : alM.view.LoadsAt aRW.toLoadRect}
    {hx : (alM.access aRW).Stores Finset.univ} {hm : Finset.univ = (Finset.univ : Finset aRW.shape.Idx) ∨ ∀ a, aRW.stride a = 1}
    {k : PUnit → Prog (TpuEff nD τ sig (Elt F) Λ₀ .tc) α} :
    iprop(pcAny c (accP 0).view ∗ pcAny c (accP 1).view)
      ⊢ iprop((iprop(pc c (accP 0).view (lo w) ∗ pc c (accP 1).view (hi w)) -∗ wp frame (wpE (defs₀ (F := F)) Variants.none (c : Thread nD τ) none) Set.univ (k ⟨⟩) Q)
        -∗ wp frame (wpE (defs₀ (F := F)) Variants.none (c : Thread nD τ) none) Set.univ
          (.op (.load alM aRW.toLoadRect hl) fun _ => .op (.store alM aRW w Finset.univ hx hm) k) Q) := by
  refine (paste_al c f₀).trans ?_
  iintro ⟨%f, H⟩ Hk
  iapply (wp_load_at Variants.none c (m := alM)) $$ H; iintro H
  iapply (wp_store Variants.none (c : Thread nD τ) none Set.univ (m := alM) (r := aRW) (Mk := Finset.univ) (S := Finset.univ) (Finset.subset_univ _)) $$ H
  iintro H
  iapply Hk
  have h := cut (Val := Elt F) (Ix := ℕ) (Name := ℕ) (U := UU) (Lvl := ℕ) (τ := τ) c cc0_scratch3 hR hKey hKey_spec ((alM.access aRW).write (Elt F) f w Finset.univ)
  rw [fam2] at h
  have hw : ∀ i, ((alM.access aRW).write (Elt F) f w Finset.univ : S1024x2048.Idx → Elt F .f32) i = w i := fun i => by
    have := congrFun (View.read_write_univ (v := alM.access aRW) f w) i
    rw [← this]
    exact congrArg ((alM.access aRW).write (Elt F) f w Finset.univ : S1024x2048.Idx → Elt F .f32) (aRW_emb i).symm
  have e0 : ((View.whole cc0_scratch3).slice (hR 0)).read (Elt F) ((alM.access aRW).write (Elt F) f w Finset.univ) = lo w := funext fun i => hw _
  have e1 : ((View.whole cc0_scratch3).slice (hR 1)).read (Elt F) ((alM.access aRW).write (Elt F) f w Finset.univ) = hi w := funext fun i => hw _
  rw [e0, e1] at h
  iapply h $$ H

theorem wp_whole_ar (f₀ : Buf (Elt F) ((c : Thread nD τ).loc cc0_scratch4)) {w : Vec F S1024x2048 .f32} {hl : arM.view.LoadsAt aRW.toLoadRect}
    {hx : (arM.access aRW).Stores Finset.univ} {hm : Finset.univ = (Finset.univ : Finset aRW.shape.Idx) ∨ ∀ a, aRW.stride a = 1}
    {k : PUnit → Prog (TpuEff nD τ sig (Elt F) Λ₀ .tc) α} :
    iprop(pcAny c (accP 2).view ∗ pcAny c (accP 3).view)
      ⊢ iprop((iprop(pc c (accP 2).view (lo w) ∗ pc c (accP 3).view (hi w)) -∗ wp frame (wpE (defs₀ (F := F)) Variants.none (c : Thread nD τ) none) Set.univ (k ⟨⟩) Q)
        -∗ wp frame (wpE (defs₀ (F := F)) Variants.none (c : Thread nD τ) none) Set.univ
          (.op (.load arM aRW.toLoadRect hl) fun _ => .op (.store arM aRW w Finset.univ hx hm) k) Q) := by
  refine (paste_ar c f₀).trans ?_
  iintro ⟨%f, H⟩ Hk
  iapply (wp_load_at Variants.none c (m := arM)) $$ H; iintro H
  iapply (wp_store Variants.none (c : Thread nD τ) none Set.univ (m := arM) (r := aRW) (Mk := Finset.univ) (S := Finset.univ) (Finset.subset_univ _)) $$ H
  iintro H
  iapply Hk
  have h := cut (Val := Elt F) (Ix := ℕ) (Name := ℕ) (U := UU) (Lvl := ℕ) (τ := τ) c cc0_scratch4 hR hKey hKey_spec ((arM.access aRW).write (Elt F) f w Finset.univ)
  rw [fam2] at h
  have hw : ∀ i, ((arM.access aRW).write (Elt F) f w Finset.univ : S1024x2048.Idx → Elt F .f32) i = w i := fun i => by
    have := congrFun (View.read_write_univ (v := arM.access aRW) f w) i
    rw [← this]
    exact congrArg ((arM.access aRW).write (Elt F) f w Finset.univ : S1024x2048.Idx → Elt F .f32) (aRW_emb i).symm
  have e0 : ((View.whole cc0_scratch4).slice (hR 0)).read (Elt F) ((arM.access aRW).write (Elt F) f w Finset.univ) = lo w := funext fun i => hw _
  have e1 : ((View.whole cc0_scratch4).slice (hR 1)).read (Elt F) ((arM.access aRW).write (Elt F) f w Finset.univ) = hi w := funext fun i => hw _
  rw [e0, e1] at h
  iapply h $$ H

end Whole

end Cert.Hop

end
-- ==== Proof.BodyB.lean ====
/-
# The body, second half: the second partial products, what lands, the result; and the body whole
-/
module

public import proofs.«01_k».proof.Proof.BodyA
public import proofs.«01_k».proof.Proof.Cuts

@[expose] public section

noncomputable section

namespace Cert.Hop

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 9 → ℕ) (c : Dev nD)
variable {α : Type} {Q : α → sProp (MT nD τ sig ℕ (Elt F) ℕ UU ℕ)}

/-! The payloads of the four channels are the same two functions. -/
theorem pay11_eq : k0_pay11 (F := F) = k0_pay9 := rfl
theorem pay12_eq : k0_pay12 (F := F) = k0_pay10 := rfl
theorem pay15_eq (a : Vec F S1x1024x1024 .bf16) (b : Vec F S1024x1024 .f32) : k0_pay15 (k0_pay13 a b) (k0_pay14 a b) = k0_pay10 a b := rfl
theorem pay16_eq : k0_pay16 (F := F) = k0_pay10 := rfl

/-- The local cell of the copy of channel `j`'s quarter of the result, and the copy in flight. -/
abbrev oZ : Fin 4 → DmaSem sig | 0 => 3 | 1 => 5 | 2 => 4 | 3 => 6
def putting (j : Fin 4) : sProp 𝕄 :=
  Transfers.Flight EC (c : Thread nD τ) (.dma (oZ j)) 0 (outP j).view.dmaCredit iprop(pc c (outP j).view (outAt m ρ c j) ∗ pcAny c (accP j).view)
/-- Row chunk `k` on its way into slot 1 of the fetched rows. -/
def coming (k : Dev nD) : sProp 𝕄 := fetching c EC 0 2 (xP k) bP1 fullShare (m ((c : Thread nD τ).loc main_arg0))

theorem out_numel_pos : 0 < S1024x1024.numel := by decide

theorem wp_part7 (w7 : BitVec 32) {k : PUnit → Prog (TpuEff nD τ sig (Elt F) Λ₀ .tc) α} :
    iprop(pc c bP0.view (xrd m c (prv (prv c))) ∗ wArr m ρ c ∗ pcAny c (accP 0).view ∗ pcAny c (accP 1).view ∗ sendEnd m ρ K c 0 ∗ cred (tallyAt (sendCell c 0) 0 N) ∗ recvEnd m ρ K c 0 ∗ ow c 0)
      ⊢ iprop((iprop(ow c 0 ∗ pc c bP0.view (xrd m c (prv (prv c))) ∗ wArr m ρ c ∗ pc c (accP 0).view (part1 m ρ c 0) ∗ pc c (accP 1).view (part1 m ρ c 1) ∗ spent m ρ K c (kS 0) ∗ pcAny c (srcP 0).view ∗ spent m ρ K c (kR 0) ∗ pc c (lanP 0).view (sent m ρ (org 0 c) 0))
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part7 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 w7) >>= k) Q) := by
  rw [k0_part7_eq_skeleton]; unfold k0_part7_skel
  simp only [semSignalWord, semWaitWord, Prog.lift, Prog.bind_op, Prog.bind_ret, Prog.pure_eq_ret]
  iintro ⟨Hb, Hw, Ha, Ha1, HS, Hc, HR, HO⟩ Hk
  iapply (wp_load_sq 𝒱₀ c (m := bM) hq) $$ Hb; iintro Hb
  iapply (wp_load_at 𝒱₀ c (m := wM)) $$ Hw; iintro Hw
  iapply (wp_whole_al c (m ((c : Thread nD τ).loc cc0_scratch3))) $$ [Ha Ha1]
  · isplitl [Ha]; · iexact Ha
    iexact Ha1
  iintro ⟨Ha, Ha1⟩
  iapply (wp_sent m ρ K c 0 lan0_eq src0_eq ss0) $$ [HS Hc HO]
  · isplitl [HS]; · iexact HS
    isplitl [Hc]; · iexact Hc
    iexact HO
  iintro ⟨HO, HS, Hs⟩
  iapply (wp_received m ρ K c 0 src0_eq lan0_eq sr0) $$ [HR HO]
  · isplitl [HR]; · iexact HR
    iexact HO
  iintro ⟨HO, HR, Hl⟩
  iapply Hk
  isplitl [HO]; · iexact HO
  isplitl [Hb]; · iexact Hb
  isplitl [Hw]; · iexact Hw
  isplitl [Ha]; · iexact Ha
  isplitl [Ha1]; · iexact Ha1
  isplitl [HS]; · iexact HS
  isplitl [Hs]; · iexact Hs
  isplitl [HR]; · iexact HR
  iexact Hl

theorem wp_part8 (w2 : BitVec 32) {k : PUnit → Prog (TpuEff nD τ sig (Elt F) Λ₀ .tc) α} :
    iprop(pc c (lanP 0).view (sent m ρ (org 0 c) 0) ∗ pc c (accP 0).view (part1 m ρ c 0) ∗ pcAny c (outP 0).view ∗ zero c (oZ 0) ∗ xArr m c ∗ pcAny c bP1.view ∗ zero c 2)
      ⊢ iprop((iprop(pcAny c (lanP 0).view ∗ putting m ρ c 0 ∗ coming m c (nxt (nxt c)))
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part8 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 c w2) >>= k) Q) := by
  rw [k0_part8_eq_skeleton]; unfold k0_part8_skel
  simp only [semSignalWord, semWaitWord, Prog.lift, Prog.bind_op, Prog.bind_ret, Prog.pure_eq_ret]
  iintro ⟨Hl, Ha, Ho, Hz, Hx, Hb, Hy⟩ Hk
  iapply (wp_load_sq 𝒱₀ c (m := cwM) hq) $$ Hl; iintro Hl
  iapply (wp_load_pc 𝒱₀ c (m := alM)) $$ Ha; iintro Ha
  iapply (wp_load_pc 𝒱₀ c (m := alM)) $$ Ha; iintro Ha
  iapply (wp_store_pc 𝒱₀ c (m := alM)) $$ Ha; iintro Ha
  iapply (wp_put 𝒱₀ c EC 0 (src := accP 0) (dst := outP 0) (sm₀ := oZ 0) so0 numel_pos) $$ [Ha Ho Hz]
  · isplitl [Ha]; · iexact Ha
    isplitl [Ho]; · iexact Ho
    iexact Hz
  iintro Hp
  iapply (wp_fetch 𝒱₀ c EC 0 (dst := bP1) (q := fullShare) (x8_eq c) sx1 numel_pos) $$ [Hx Hb Hy]
  · isplitl [Hx]; · iexact Hx
    isplitl [Hb]; · iexact Hb
    iexact Hy
  iintro Hf
  unfold putting coming
  iapply Hk
  isplitl [Hl]; · iapply (pc_any _ _ _) $$ Hl
  isplitl [Hp]; · iexact Hp
  iexact Hf

theorem wp_part9 (w5 : BitVec 32) {k : PUnit → Prog (TpuEff nD τ sig (Elt F) Λ₀ .tc) α} :
    iprop(coming m c (nxt (nxt c)) ∗ wArr m ρ c ∗ pcAny c (accP 2).view ∗ pcAny c (accP 3).view ∗ sendEnd m ρ K c 2 ∗ cred (tallyAt (sendCell c 2) 0 N) ∗ ow c 0)
      ⊢ iprop((iprop(ow c 0 ∗ xArr m c ∗ pc c bP1.view (xrd m c (nxt (nxt c))) ∗ zero c 2 ∗ wArr m ρ c ∗ pc c (accP 2).view (part1 m ρ c 2) ∗ pc c (accP 3).view (part1 m ρ c 3) ∗ spent m ρ K c (kS 2) ∗ pcAny c (srcP 2).view)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part9 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 c w5) >>= k) Q) := by
  rw [k0_part9_eq_skeleton]; unfold k0_part9_skel
  simp only [semSignalWord, semWaitWord, Prog.lift, Prog.bind_op, Prog.bind_ret, Prog.pure_eq_ret, pay11_eq]
  iintro ⟨Hf, Hw, Ha, Ha1, HS, Hc, HO⟩ Hk
  unfold coming
  iapply (wp_fetched 𝒱₀ c EC 0 (dst := bP1) (O := 0) (x8_eq c) sx1) $$ [Hf HO]
  · isplitl [Hf]; · iexact Hf
    isplitl [HO]; · iexact HO
    iapply (mayWait_none c); iempintro
  iintro ⟨Hb, Hx, Hy, HO⟩
  iapply (wp_load_sq 𝒱₀ c (m := bM) hq) $$ Hb; iintro Hb
  iapply (wp_load_at 𝒱₀ c (m := wM)) $$ Hw; iintro Hw
  iapply (wp_whole_ar c (m ((c : Thread nD τ).loc cc0_scratch4))) $$ [Ha Ha1]
  · isplitl [Ha]; · iexact Ha
    iexact Ha1
  iintro ⟨Ha, Ha1⟩
  iapply (wp_sent m ρ K c 2 lan2_eq src2_eq ss2) $$ [HS Hc HO]
  · isplitl [HS]; · iexact HS
    isplitl [Hc]; · iexact Hc
    iexact HO
  iintro ⟨HO, HS, Hs⟩
  iapply Hk
  isplitl [HO]; · iexact HO
  isplitl [Hx]; · iexact Hx
  isplitl [Hb]; · iexact Hb
  isplitl [Hy]; · iexact Hy
  isplitl [Hw]; · iexact Hw
  isplitl [Ha]; · iexact Ha
  isplitl [Ha1]; · iexact Ha1
  isplitl [HS]; · iexact HS
  iexact Hs

theorem wp_part10 {k : PUnit → Prog (TpuEff nD τ sig (Elt F) Λ₀ .tc) α} :
    iprop(recvEnd m ρ K c 2 ∗ pc c (accP 2).view (part1 m ρ c 2) ∗ pcAny c (outP 2).view ∗ zero c (oZ 2) ∗ ow c 0)
      ⊢ iprop((iprop(ow c 0 ∗ spent m ρ K c (kR 2) ∗ pcAny c (lanP 2).view ∗ putting m ρ c 2)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part10 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 ) >>= k) Q) := by
  rw [k0_part10_eq_skeleton]; unfold k0_part10_skel
  simp only [semSignalWord, semWaitWord, Prog.lift, Prog.bind_op, Prog.bind_ret, Prog.pure_eq_ret, pay12_eq]
  iintro ⟨HR, Ha, Ho, Hz, HO⟩ Hk
  iapply (wp_received m ρ K c 2 src2_eq lan2_eq sr2) $$ [HR HO]
  · isplitl [HR]; · iexact HR
    iexact HO
  iintro ⟨HO, HR, Hl⟩
  iapply (wp_load_sq 𝒱₀ c (m := ccM) hq) $$ Hl; iintro Hl
  iapply (wp_load_pc 𝒱₀ c (m := arM)) $$ Ha; iintro Ha
  iapply (wp_load_pc 𝒱₀ c (m := arM)) $$ Ha; iintro Ha
  iapply (wp_store_pc 𝒱₀ c (m := arM)) $$ Ha; iintro Ha
  iapply (wp_put 𝒱₀ c EC 0 (src := accP 2) (dst := outP 2) (sm₀ := oZ 2) so1 numel_pos) $$ [Ha Ho Hz]
  · isplitl [Ha]; · iexact Ha
    isplitl [Ho]; · iexact Ho
    iexact Hz
  iintro Hp
  unfold putting
  iapply Hk
  isplitl [HO]; · iexact HO
  isplitl [HR]; · iexact HR
  isplitl [Hl]; · iapply (pc_any _ _ _) $$ Hl
  iexact Hp

theorem wp_part11 (w7 : BitVec 32) {k : (Σ' (v301 : FVec F S1024x1024 .f32), FVec F S1024x1024 .f32) → Prog (TpuEff nD τ sig (Elt F) Λ₀ .tc) α} :
    iprop(sendEnd m ρ K c 1 ∗ cred (tallyAt (sendCell c 1) 0 N) ∗ recvEnd m ρ K c 1 ∗ pc c (accP 1).view (part1 m ρ c 1) ∗ ow c 0)
      ⊢ iprop((iprop(ow c 0 ∗ spent m ρ K c (kS 1) ∗ pcAny c (srcP 1).view ∗ spent m ρ K c (kR 1) ∗ pcAny c (lanP 1).view ∗ pc c (accP 1).view (part1 m ρ c 1))
            -∗ wp frame (wpE (defs₀ (F := F)) 𝒱₀ (c : Thread nD τ) none) Set.univ (k ⟨k0_pay13 (up (sent m ρ (org 1 c) 1)) (part1 m ρ c 1), k0_pay14 (up (sent m ρ (org 1 c) 1)) (part1 m ρ c 1)⟩) Q)
          -∗ wp frame (wpE (defs₀ (F := F)) 𝒱₀ (c : Thread nD τ) none) Set.univ
            ((k0_part11 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 w7) >>= k) Q) := by
  rw [k0_part11_eq_skeleton]; unfold k0_part11_skel
  simp only [semSignalWord, semWaitWord, Prog.lift, Prog.bind_op, Prog.bind_ret, Prog.pure_eq_ret]
  iintro ⟨HS, Hc, HR, Ha, HO⟩ Hk
  iapply (wp_sent m ρ K c 1 lan1_eq src1_eq ss1) $$ [HS Hc HO]
  · isplitl [HS]; · iexact HS
    isplitl [Hc]; · iexact Hc
    iexact HO
  iintro ⟨HO, HS, Hs⟩
  iapply (wp_received m ρ K c 1 src1_eq lan1_eq sr1) $$ [HR HO]
  · isplitl [HR]; · iexact HR
    iexact HO
  iintro ⟨HO, HR, Hl⟩
  iapply (wp_load_sq 𝒱₀ c (m := cwM) hq) $$ Hl; iintro Hl
  iapply (wp_load_pc 𝒱₀ c (m := alM)) $$ Ha; iintro Ha
  iapply Hk
  isplitl [HO]; · iexact HO
  isplitl [HS]; · iexact HS
  isplitl [Hs]; · iexact Hs
  isplitl [HR]; · iexact HR
  isplitl [Hl]; · iapply (pc_any _ _ _) $$ Hl
  iexact Ha

theorem wp_part12 (w5 : BitVec 32) {k : PUnit → Prog (TpuEff nD τ sig (Elt F) Λ₀ .tc) α} :
    iprop(pc c (accP 1).view (part1 m ρ c 1) ∗ pcAny c (outP 1).view ∗ zero c (oZ 1) ∗ sendEnd m ρ K c 3 ∗ cred (tallyAt (sendCell c 3) 0 N) ∗ ow c 0)
      ⊢ iprop((iprop(ow c 0 ∗ putting m ρ c 1 ∗ spent m ρ K c (kS 3) ∗ pcAny c (srcP 3).view)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part12 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 w5 (k0_pay13 (up (sent m ρ (org 1 c) 1)) (part1 m ρ c 1)) (k0_pay14 (up (sent m ρ (org 1 c) 1)) (part1 m ρ c 1))) >>= k) Q) := by
  rw [k0_part12_eq_skeleton]; unfold k0_part12_skel
  simp only [semSignalWord, semWaitWord, Prog.lift, Prog.bind_op, Prog.bind_ret, Prog.pure_eq_ret, pay15_eq]
  iintro ⟨Ha, Ho, Hz, HS, Hc, HO⟩ Hk
  iapply (wp_load_pc 𝒱₀ c (m := alM)) $$ Ha; iintro Ha
  iapply (wp_store_pc 𝒱₀ c (m := alM)) $$ Ha; iintro Ha
  iapply (wp_put 𝒱₀ c EC 0 (src := accP 1) (dst := outP 1) (sm₀ := oZ 1) so2 numel_pos) $$ [Ha Ho Hz]
  · isplitl [Ha]; · iexact Ha
    isplitl [Ho]; · iexact Ho
    iexact Hz
  iintro Hp
  iapply (wp_sent m ρ K c 3 lan3_eq src3_eq ss3) $$ [HS Hc HO]
  · isplitl [HS]; · iexact HS
    isplitl [Hc]; · iexact Hc
    iexact HO
  iintro ⟨HO, HS, Hs⟩
  unfold putting
  iapply Hk
  isplitl [HO]; · iexact HO
  isplitl [Hp]; · iexact Hp
  isplitl [HS]; · iexact HS
  iexact Hs

theorem wp_part13 {k : PUnit → Prog (TpuEff nD τ sig (Elt F) Λ₀ .tc) α} :
    iprop(recvEnd m ρ K c 3 ∗ pc c (accP 3).view (part1 m ρ c 3) ∗ pcAny c (outP 3).view ∗ zero c (oZ 3) ∗ putting m ρ c 0 ∗ ow c 0)
      ⊢ iprop((iprop(ow c 0 ∗ spent m ρ K c (kR 3) ∗ pcAny c (lanP 3).view ∗ putting m ρ c 3 ∗ pc c (outP 0).view (outAt m ρ c 0) ∗ pcAny c (accP 0).view ∗ zero c (oZ 0))
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part13 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 ) >>= k) Q) := by
  rw [k0_part13_eq_skeleton]; unfold k0_part13_skel
  simp only [semSignalWord, semWaitWord, Prog.lift, Prog.bind_op, Prog.bind_ret, Prog.pure_eq_ret, pay16_eq]
  iintro ⟨HR, Ha, Ho, Hz, Hp0, HO⟩ Hk
  iapply (wp_received m ρ K c 3 src3_eq lan3_eq sr3) $$ [HR HO]
  · isplitl [HR]; · iexact HR
    iexact HO
  iintro ⟨HO, HR, Hl⟩
  iapply (wp_load_sq 𝒱₀ c (m := ccM) hq) $$ Hl; iintro Hl
  iapply (wp_load_pc 𝒱₀ c (m := arM)) $$ Ha; iintro Ha
  iapply (wp_load_pc 𝒱₀ c (m := arM)) $$ Ha; iintro Ha
  iapply (wp_store_pc 𝒱₀ c (m := arM)) $$ Ha; iintro Ha
  iapply (wp_put 𝒱₀ c EC 0 (src := accP 3) (dst := outP 3) (sm₀ := oZ 3) so3 numel_pos) $$ [Ha Ho Hz]
  · isplitl [Ha]; · iexact Ha
    isplitl [Ho]; · iexact Ho
    iexact Hz
  iintro Hp
  unfold putting
  iapply (wp_landed 𝒱₀ c EC 0 (sm₀ := oZ 0) so0) $$ [Hp0 HO]
  · isplitl [Hp0]; · iexact Hp0
    isplitl [HO]; · iexact HO
    iapply (mayWait_none c); iempintro
  iintro ⟨⟨Ho0, Ha0⟩, Hz0, HO⟩
  iapply Hk
  isplitl [HO]; · iexact HO
  isplitl [HR]; · iexact HR
  isplitl [Hl]; · iapply (pc_any _ _ _) $$ Hl
  isplitl [Hp]; · iexact Hp
  isplitl [Ho0]; · iexact Ho0
  isplitl [Ha0]; · iexact Ha0
  iexact Hz0

end Cert.Hop

end
-- ==== Proof.Root.lean ====
/-
# The body whole: its thirteen windows and the last three waits
-/
module

public import proofs.«01_k».proof.Proof.BodyB

@[expose] public section

noncomputable section

namespace Cert.Hop

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 9 → ℕ) (c : Dev nD)
variable {Q : PUnit → sProp (MT nD τ sig ℕ (Elt F) ℕ UU ℕ)}

/-- What the body takes: its shared cells, the units it owes, its pieces, its operands, its own semaphores at zero. -/
def bodyIn : sProp 𝕄 :=
  iprop(sigTok m ρ K c ∗ barEnd m ρ K c ∗ txTok m ρ K c 0 ∗ txTok m ρ K c 1 ∗ txTok m ρ K c 2
    ∗ txTok m ρ K c 3 ∗ sendEnd m ρ K c 0 ∗ sendEnd m ρ K c 1 ∗ sendEnd m ρ K c 2 ∗ sendEnd m ρ K c 3
    ∗ recvEnd m ρ K c 0 ∗ recvEnd m ρ K c 1 ∗ recvEnd m ρ K c 2 ∗ recvEnd m ρ K c 3 ∗ ow c (O₀ c)
    ∗ lvls ∗ pcAny c bP0.view ∗ pcAny c bP1.view ∗ pcAny c (srcP 0).view ∗ pcAny c (srcP 1).view
    ∗ pcAny c (srcP 2).view ∗ pcAny c (srcP 3).view ∗ pcAny c (lanP 0).view ∗ pcAny c (lanP 1).view ∗ pcAny c (lanP 2).view
    ∗ pcAny c (lanP 3).view ∗ pcAny c (accP 0).view ∗ pcAny c (accP 1).view ∗ pcAny c (accP 2).view ∗ pcAny c (accP 3).view
    ∗ pcAny c (outP 0).view ∗ pcAny c (outP 1).view ∗ pcAny c (outP 2).view ∗ pcAny c (outP 3).view ∗ xArr m c
    ∗ wArr m ρ c ∗ zero c 1 ∗ zero c 2 ∗ zero c 3 ∗ zero c 4
    ∗ zero c 5 ∗ zero c 6)

/-- What it leaves: nothing owed, the shared cells after their round, the pieces, the result's four quarters. -/
def bodyOut : sProp 𝕄 :=
  iprop(ow c 0 ∗ spent m ρ K c 0 ∗ spent m ρ K c (kS 0) ∗ spent m ρ K c (kS 1) ∗ spent m ρ K c (kS 2)
    ∗ spent m ρ K c (kS 3) ∗ spent m ρ K c (kR 0) ∗ spent m ρ K c (kR 1) ∗ spent m ρ K c (kR 2) ∗ spent m ρ K c (kR 3)
    ∗ pcAny c bP0.view ∗ pcAny c bP1.view ∗ pcAny c (srcP 0).view ∗ pcAny c (srcP 1).view ∗ pcAny c (srcP 2).view
    ∗ pcAny c (srcP 3).view ∗ pcAny c (lanP 0).view ∗ pcAny c (lanP 1).view ∗ pcAny c (lanP 2).view ∗ pcAny c (lanP 3).view
    ∗ pcAny c (accP 0).view ∗ pcAny c (accP 1).view ∗ pcAny c (accP 2).view ∗ pcAny c (accP 3).view ∗ pc c (outP 0).view (outAt m ρ c 0)
    ∗ pc c (outP 1).view (outAt m ρ c 1) ∗ pc c (outP 2).view (outAt m ρ c 2) ∗ pc c (outP 3).view (outAt m ρ c 3) ∗ xArr m c ∗ wArr m ρ c
    ∗ zero c 1 ∗ zero c 2 ∗ zero c 3 ∗ zero c 4 ∗ zero c 5
    ∗ zero c 6)

set_option maxHeartbeats 1600000 in
theorem wp_body :
    bodyIn m ρ K c ⊢ iprop((bodyOut m ρ K c -∗ Q ⟨⟩)
      -∗ wp frame (wpE (defs₀ (F := F)) 𝒱₀ (c : Thread nD τ) none) Set.univ
            (cc0_body xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10) Q) := by
  rw [cc0_body_eq_skeleton]; unfold cc0_body_skel bodyIn bodyOut
  simp only [Prog.lift, Prog.bind_op, Prog.bind_ret, Prog.pure_eq_ret]
  iintro ⟨Hsig, Hbar, Ht0, Ht1, Ht2, Ht3, HS0, HS1, HS2, HS3, HR0, HR1, HR2, HR3, HO, #Hlev, Hb0, Hb1, Hs0, Hs1, Hs2, Hs3, Hl0, Hl1, Hl2, Hl3, Ha0, Ha1, Ha2, Ha3, Ho0, Ho1, Ho2, Ho3, Hx, Hw, Hz1, Hz2, Hz3, Hz4, Hz5, Hz6⟩ Hk
  iapply (wp_part1 m ρ K c) $$ [Hsig HO Hl0 Hl1 Hl2 Hl3 Hx Hb0 Hz1]
  · isplitl [Hsig]; · iexact Hsig
    isplitl [HO]; · iexact HO
    isplitr; · iexact Hlev
    isplitl [Hl0]; · iexact Hl0
    isplitl [Hl1]; · iexact Hl1
    isplitl [Hl2]; · iexact Hl2
    isplitl [Hl3]; · iexact Hl3
    isplitl [Hx]; · iexact Hx
    isplitl [Hb0]; · iexact Hb0
    iexact Hz1
  iintro %w2 %w5 %w7 ⟨HO, Hx, Hb0, Hz1⟩
  iapply (wp_part2 m ρ K c w7) $$ [Hbar HO Hb0 Hw Ha0 Hs0]
  · isplitl [Hbar]; · iexact Hbar
    isplitl [HO]; · iexact HO
    isplitr; · iexact Hlev
    isplitl [Hb0]; · iexact Hb0
    isplitl [Hw]; · iexact Hw
    isplitl [Ha0]; · iexact Ha0
    iexact Hs0
  iintro ⟨HO, HP0, Hn0, Hn1, Hn2, Hn3, Hb0, Hw, Ha0, Hs0⟩
  iapply (wp_part3 m ρ K c w7) $$ [Ht0 Hs0 Hn0 Ht1 Hn1 HO Hb0 Hw Ha1 Hs1]
  · isplitl [Ht0]; · iexact Ht0
    isplitl [Hs0]; · iexact Hs0
    isplitl [Hn0]; · iexact Hn0
    isplitl [Ht1]; · iexact Ht1
    isplitl [Hn1]; · iexact Hn1
    isplitl [HO]; · iexact HO
    isplitl [Hb0]; · iexact Hb0
    isplitl [Hw]; · iexact Hw
    isplitl [Ha1]; · iexact Ha1
    iexact Hs1
  iintro ⟨Hc0, Hc1, HO, Hb0, Hw, Ha1⟩
  ihave Hb0 := (pc_any _ _ _) $$ Hb0
  iapply (wp_part4 m ρ c w2) $$ [Hx Hb1 Hz2 HO Hw Ha2 Hs2]
  · isplitl [Hx]; · iexact Hx
    isplitl [Hb1]; · iexact Hb1
    isplitl [Hz2]; · iexact Hz2
    isplitl [HO]; · iexact HO
    isplitr; · iexact Hlev
    isplitl [Hw]; · iexact Hw
    isplitl [Ha2]; · iexact Ha2
    iexact Hs2
  iintro ⟨HO, Hx, Hb1, Hz2, Hw, Ha2, Hs2⟩
  iapply (wp_part5 m ρ K c w5 1#32) $$ [Ht2 Hs2 Hn2 HO Hb1 Hw Ha3 Hs3]
  · isplitl [Ht2]; · iexact Ht2
    isplitl [Hs2]; · iexact Hs2
    isplitl [Hn2]; · iexact Hn2
    isplitl [HO]; · iexact HO
    isplitl [Hb1]; · iexact Hb1
    isplitl [Hw]; · iexact Hw
    isplitl [Ha3]; · iexact Ha3
    iexact Hs3
  iintro ⟨Hc2, HO, Hb1, Hw, Ha3, Hs3⟩
  ihave Hb1 := (pc_any _ _ _) $$ Hb1
  iapply (wp_part6 m ρ K c w2 w5 1#32 2#32) $$ [Ht3 Hs3 Hn3 HO Hx Hb0 Hz1]
  · isplitl [Ht3]; · iexact Ht3
    isplitl [Hs3]; · iexact Hs3
    isplitl [Hn3]; · iexact Hn3
    isplitl [HO]; · iexact HO
    isplitl [Hx]; · iexact Hx
    isplitl [Hb0]; · iexact Hb0
    isplitl [Hz1]; · iexact Hz1
    iexact Hlev
  iintro ⟨Hc3, HO, Hx, Hb0, Hz1⟩
  iapply (wp_part7 m ρ K c w7) $$ [Hb0 Hw Ha0 Ha1 HS0 Hc0 HR0 HO]
  · isplitl [Hb0]; · iexact Hb0
    isplitl [Hw]; · iexact Hw
    isplitl [Ha0]; · iexact Ha0
    isplitl [Ha1]; · iexact Ha1
    isplitl [HS0]; · iexact HS0
    isplitl [Hc0]; · iexact Hc0
    isplitl [HR0]; · iexact HR0
    iexact HO
  iintro ⟨HO, Hb0, Hw, Ha0, Ha1, HPs0, Hs0, HPr0, Hl0⟩
  ihave Hb0 := (pc_any _ _ _) $$ Hb0
  iapply (wp_part8 m ρ c w2) $$ [Hl0 Ha0 Ho0 Hz3 Hx Hb1 Hz2]
  · isplitl [Hl0]; · iexact Hl0
    isplitl [Ha0]; · iexact Ha0
    isplitl [Ho0]; · iexact Ho0
    isplitl [Hz3]; · iexact Hz3
    isplitl [Hx]; · iexact Hx
    isplitl [Hb1]; · iexact Hb1
    iexact Hz2
  iintro ⟨Hl0, Hp0, Hf⟩
  iapply (wp_part9 m ρ K c w5) $$ [Hf Hw Ha2 Ha3 HS2 Hc2 HO]
  · isplitl [Hf]; · iexact Hf
    isplitl [Hw]; · iexact Hw
    isplitl [Ha2]; · iexact Ha2
    isplitl [Ha3]; · iexact Ha3
    isplitl [HS2]; · iexact HS2
    isplitl [Hc2]; · iexact Hc2
    iexact HO
  iintro ⟨HO, Hx, Hb1, Hz2, Hw, Ha2, Ha3, HPs2, Hs2⟩
  ihave Hb1 := (pc_any _ _ _) $$ Hb1
  iapply (wp_part10 m ρ K c) $$ [HR2 Ha2 Ho2 Hz4 HO]
  · isplitl [HR2]; · iexact HR2
    isplitl [Ha2]; · iexact Ha2
    isplitl [Ho2]; · iexact Ho2
    isplitl [Hz4]; · iexact Hz4
    iexact HO
  iintro ⟨HO, HPr2, Hl2, Hp2⟩
  iapply (wp_part11 m ρ K c w7) $$ [HS1 Hc1 HR1 Ha1 HO]
  · isplitl [HS1]; · iexact HS1
    isplitl [Hc1]; · iexact Hc1
    isplitl [HR1]; · iexact HR1
    isplitl [Ha1]; · iexact Ha1
    iexact HO
  iintro ⟨HO, HPs1, Hs1, HPr1, Hl1, Ha1⟩
  iapply (wp_part12 m ρ K c w5) $$ [Ha1 Ho1 Hz5 HS3 Hc3 HO]
  · isplitl [Ha1]; · iexact Ha1
    isplitl [Ho1]; · iexact Ho1
    isplitl [Hz5]; · iexact Hz5
    isplitl [HS3]; · iexact HS3
    isplitl [Hc3]; · iexact Hc3
    iexact HO
  iintro ⟨HO, Hp1, HPs3, Hs3⟩
  iapply (wp_part13 m ρ K c) $$ [HR3 Ha3 Ho3 Hz6 Hp0 HO]
  · isplitl [HR3]; · iexact HR3
    isplitl [Ha3]; · iexact Ha3
    isplitl [Ho3]; · iexact Ho3
    isplitl [Hz6]; · iexact Hz6
    isplitl [Hp0]; · iexact Hp0
    iexact HO
  iintro ⟨HO, HPr3, Hl3, Hp3, Ho0, Ha0, Hz3⟩
  unfold putting
  iapply (wp_landed 𝒱₀ c EC 0 (sm₀ := oZ 2) so1) $$ [Hp2 HO]
  · isplitl [Hp2]; · iexact Hp2
    isplitl [HO]; · iexact HO
    iapply (mayWait_none c); iempintro
  iintro ⟨⟨Ho2, Ha2⟩, Hz4, HO⟩
  iapply (wp_landed 𝒱₀ c EC 0 (sm₀ := oZ 1) so2) $$ [Hp1 HO]
  · isplitl [Hp1]; · iexact Hp1
    isplitl [HO]; · iexact HO
    iapply (mayWait_none c); iempintro
  iintro ⟨⟨Ho1, Ha1⟩, Hz5, HO⟩
  iapply (wp_landed 𝒱₀ c EC 0 (sm₀ := oZ 3) so3) $$ [Hp3 HO]
  · isplitl [Hp3]; · iexact Hp3
    isplitl [HO]; · iexact HO
    iapply (mayWait_none c); iempintro
  iintro ⟨⟨Ho3, Ha3⟩, Hz6, HO⟩
  rw [wp_ret]; imodintro
  iapply Hk
  isplitl [HO]; · iexact HO
  isplitl [HP0]; · iexact HP0
  isplitl [HPs0]; · iexact HPs0
  isplitl [HPs1]; · iexact HPs1
  isplitl [HPs2]; · iexact HPs2
  isplitl [HPs3]; · iexact HPs3
  isplitl [HPr0]; · iexact HPr0
  isplitl [HPr1]; · iexact HPr1
  isplitl [HPr2]; · iexact HPr2
  isplitl [HPr3]; · iexact HPr3
  isplitl [Hb0]; · iexact Hb0
  isplitl [Hb1]; · iexact Hb1
  isplitl [Hs0]; · iexact Hs0
  isplitl [Hs1]; · iexact Hs1
  isplitl [Hs2]; · iexact Hs2
  isplitl [Hs3]; · iexact Hs3
  isplitl [Hl0]; · iexact Hl0
  isplitl [Hl1]; · iexact Hl1
  isplitl [Hl2]; · iexact Hl2
  isplitl [Hl3]; · iexact Hl3
  isplitl [Ha0]; · iexact Ha0
  isplitl [Ha1]; · iexact Ha1
  isplitl [Ha2]; · iexact Ha2
  isplitl [Ha3]; · iexact Ha3
  isplitl [Ho0]; · iexact Ho0
  isplitl [Ho1]; · iexact Ho1
  isplitl [Ho2]; · iexact Ho2
  isplitl [Ho3]; · iexact Ho3
  isplitl [Hx]; · iexact Hx
  isplitl [Hw]; · iexact Hw
  isplitl [Hz1]; · iexact Hz1
  isplitl [Hz2]; · iexact Hz2
  isplitl [Hz3]; · iexact Hz3
  isplitl [Hz4]; · iexact Hz4
  isplitl [Hz5]; · iexact Hz5
  iexact Hz6

end Cert.Hop

end
-- ==== Proof.Launch.lean ====
/-
# The launch

The eight bodies from one memory: each device's shared cells allocated, the duties' tokens dealt around the ring, the credit
for what the neighbours owe, the body's obligation, and the run.
-/
module

public import proofs.«01_k».proof.Proof.Root
public import Idealize.ShloMosaic.Lib.Quiescent
public import Idealize.ShloMosaic.Lib.Pipeline.CollectiveSegs

@[expose] public section

noncomputable section

namespace Cert.Hop

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The cells and the tokens at launch -/

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : ∀ a b : Fin 9, csem a = csem b → a = b := by decide
  rw [this k k' h2]

def ringCells : Finset (GSem nD τ sig) := Finset.univ.map ⟨kcell, kcell_injective⟩

/-- The duty tokens of a device's own cells as minted: its barrier's two, then one per transfer cell. -/
abbrev tk : Fin 10 → Fin 9 × Bool
  | 0 => (0, true) | 1 => (0, false) | 2 => (1, false) | 3 => (2, false) | 4 => (3, false) | 5 => (4, false)
  | 6 => (5, false) | 7 => (6, false) | 8 => (7, false) | 9 => (8, false)
abbrev tokOf (cj : Dev nD × Fin 10) : GSem nD τ sig × ℕ × Bool := (kcell (cj.1, (tk cj.2).1), 0, (tk cj.2).2)
theorem tokOf_injective : Function.Injective (tokOf : Dev nD × Fin 10 → GSem nD τ sig × ℕ × Bool) := by
  rintro ⟨c, j⟩ ⟨c', j'⟩ h
  have h1 := kcell_injective (congrArg (fun x : GSem nD τ sig × ℕ × Bool => x.1) h)
  have h2 : (tk j).2 = (tk j').2 := congrArg (fun x : GSem nD τ sig × ℕ × Bool => x.2.2) h
  have h3 : c = c' := congrArg Prod.fst h1
  have h4 : (tk j).1 = (tk j').1 := congrArg Prod.snd h1
  have : ∀ a b : Fin 10, (tk a).1 = (tk b).1 → (tk a).2 = (tk b).2 → a = b := by decide
  rw [h3, this j j' h4 h2]
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

/-- The duty tokens of device `c`'s own cells; -/
def toks (c : Dev nD) : sProp 𝕄 :=
  iprop(dutyTok ER (barCell c) 0 true ∗ dutyTok ER (barCell c) 0 false
    ∗ dutyTok ER (sendCell c 0) 0 false ∗ dutyTok ER (sendCell c 1) 0 false ∗ dutyTok ER (sendCell c 2) 0 false ∗ dutyTok ER (sendCell c 3) 0 false
    ∗ dutyTok ER (recvCell c 0) 0 false ∗ dutyTok ER (recvCell c 1) 0 false ∗ dutyTok ER (recvCell c 2) 0 false ∗ dutyTok ER (recvCell c 3) 0 false)
/-- those of the duties it pays. -/
def payToks (c : Dev nD) : sProp 𝕄 :=
  iprop(dutyTok ER (barCell (prv c)) 0 true ∗ dutyTok ER (barCell (nxt c)) 0 false
    ∗ dutyTok ER (sendCell c 0) 0 false ∗ dutyTok ER (sendCell c 1) 0 false ∗ dutyTok ER (sendCell c 2) 0 false ∗ dutyTok ER (sendCell c 3) 0 false
    ∗ dutyTok ER (recvCell (nxt c) 0) 0 false ∗ dutyTok ER (recvCell (nxt c) 1) 0 false
    ∗ dutyTok ER (recvCell (prv c) 2) 0 false ∗ dutyTok ER (recvCell (prv c) 3) 0 false)

/-- The local cells the body uses, and the others. -/
def six (c : Dev nD) : sProp 𝕄 := iprop(zero c 1 ∗ zero c 2 ∗ zero c 3 ∗ zero c 4 ∗ zero c 5 ∗ zero c 6)
def idle (c : Dev nD) : sProp 𝕄 :=
  iprop(zero c 9 ∗ zero c 10 ∗ zero c 11 ∗ zero c 12 ∗ zero c 17 ∗ zero c 18 ∗ zero c 19 ∗ zero c 20)

/-- What the launch element deals device `c`. -/
def G (c : Dev nD) : sProp 𝕄 :=
  iprop((bigSep Finset.univ fun k : Fin 9 => roundState ER (sched m ρ) (kcell (c, k)) 0)
    ∗ (bigSep Finset.univ fun k : Fin 9 => iprop(atPos ER (kcell (c, k)) 0 ∅ 0 ∗ reached ER (kcell (c, k)) 0)) ∗ toks c)

/-- Every device's cells' invariants and that all are at round 0. -/
def records (K : Dev nD × Fin 9 → ℕ) : sProp 𝕄 :=
  iprop((bigSep Finset.univ fun ck : Dev nD × Fin 9 => cellInv ER (sched m ρ) (K ck) (kcell ck))
    ∗ bigSep Finset.univ fun ck : Dev nD × Fin 9 => reached ER (kcell ck) 0)
instance records_persistent (K : Dev nD × Fin 9 → ℕ) : BI.Persistent (records m ρ K) := by unfold records; infer_instance

/-- What stays with device `c`. -/
def linear (c : Dev nD) : sProp 𝕄 :=
  iprop((bigSep Finset.univ fun k : Fin 9 => atPos ER (kcell (c, k)) 0 ∅ 0) ∗ payToks c ∗ six c ∗ idle c)

def G' (c : Dev nD) : sProp 𝕄 := iprop(∃ K, records m ρ K ∗ linear c)

theorem fam9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem fam10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [fam10]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

abbrev osem (i : Fin 22) : SemLoc sig := .dma i.succ

theorem ownSemFacts : Pipeline.OwnSemFacts cfg0.spec osem := by decide

theorem ownSems0_eq (c : Dev nD) : (Pipeline.ownSems0 (Ix := ℕ) (Name := ℕ) (U := UU) (Lvl := ℕ) (Val := Elt F) (τ := τ) osem c : sProp 𝕄)
    = iprop(zero c 7 ∗ zero c 8 ∗ zero c 15 ∗ zero c 16 ∗ zero c 13 ∗ zero c 14 ∗ zero c 21 ∗ zero c 22
        ∗ zero c 1 ∗ zero c 2 ∗ zero c 3 ∗ zero c 4 ∗ zero c 5 ∗ zero c 6
        ∗ zero c 9 ∗ zero c 10 ∗ zero c 11 ∗ zero c 12 ∗ zero c 17 ∗ zero c 18 ∗ zero c 19 ∗ zero c 20) := by
  rw [Pipeline.ownSems0_eq_of_list c osem [6, 7, 14, 15, 12, 13, 20, 21, 0, 1, 2, 3, 4, 5, 8, 9, 10, 11, 16, 17, 18, 19] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_split (c : Dev nD) :
    iprop(Pipeline.ownSems0 (Ix := ℕ) (Name := ℕ) (U := UU) (Lvl := ℕ) (Val := Elt F) (τ := τ) osem c ∗ unscopedSems0 c)
      ⊢ (iprop((bigSep Finset.univ fun k : Fin 9 => semVal (kcell (c, k)) 0) ∗ six c ∗ idle c) : sProp 𝕄) := by
  rw [ownSems0_eq, unscopedSems0_eq, fam9]; unfold six idle
  iintro ⟨⟨S0, S1, S2, S3, R0, R1, R2, R3, H1, H2, H3, H4, H5, H6, I⟩, HB⟩
  isplitl [S0 S1 S2 S3 R0 R1 R2 R3 HB]
  · isplitl [HB]; · iexact HB
    isplitl [S0]; · iexact S0
    isplitl [S1]; · iexact S1
    isplitl [S2]; · iexact S2
    isplitl [S3]; · iexact S3
    isplitl [R0]; · iexact R0
    isplitl [R1]; · iexact R1
    isplitl [R2]; · iexact R2
    iexact R3
  isplitr [I]
  · isplitl [H1]; · iexact H1
    isplitl [H2]; · iexact H2
    isplitl [H3]; · iexact H3
    isplitl [H4]; · iexact H4
    isplitl [H5]; · iexact H5
    iexact H6
  iexact I

theorem sems0_join (c : Dev nD) :
    (iprop((bigSep Finset.univ fun k : Fin 9 => semVal (kcell (c, k)) 0) ∗ six c ∗ idle c) : sProp 𝕄)
      ⊢ iprop(Pipeline.ownSems0 (Ix := ℕ) (Name := ℕ) (U := UU) (Lvl := ℕ) (Val := Elt F) (τ := τ) osem c ∗ unscopedSems0 c) := by
  rw [ownSems0_eq, unscopedSems0_eq, fam9]; unfold six idle
  iintro ⟨⟨HB, S0, S1, S2, S3, R0, R1, R2, R3⟩, ⟨H1, H2, H3, H4, H5, H6⟩, I⟩
  isplitr [HB]
  · isplitl [S0]; · iexact S0
    isplitl [S1]; · iexact S1
    isplitl [S2]; · iexact S2
    isplitl [S3]; · iexact S3
    isplitl [R0]; · iexact R0
    isplitl [R1]; · iexact R1
    isplitl [R2]; · iexact R2
    isplitl [R3]; · iexact R3
    isplitl [H1]; · iexact H1
    isplitl [H2]; · iexact H2
    isplitl [H3]; · iexact H3
    isplitl [H4]; · iexact H4
    isplitl [H5]; · iexact H5
    isplitl [H6]; · iexact H6
    iexact I
  iexact HB

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c ∗ six c ∗ idle c) := by
  unfold G
  iintro ⟨Hos, Hus, Hst, Hat, Htok⟩
  ihave Hv := (sems0_split (F := F) c) $$ [Hos Hus]
  · isplitl [Hos] <;> iassumption
  icases Hv with ⟨Hv, H6, HI⟩
  imod (show iprop((bigSep Finset.univ fun k : Fin 9 => semVal (kcell (c, k)) 0) ∗ bigSep Finset.univ fun k : Fin 9 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [H6] <;> iassumption

/-- The tokens dealt around the ring: each duty's token to the device that pays it. -/
theorem toks_around : (bigSep Finset.univ fun c : Dev nD => (toks c : sProp 𝕄)) ⊢ bigSep Finset.univ fun c : Dev nD => payToks c := by
  unfold toks payToks
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring (fun c : Dev nD => (dutyTok ER (recvCell c 0) 0 false : sProp 𝕄)),
    bigSep_univ_equiv ring (fun c : Dev nD => (dutyTok ER (recvCell c 1) 0 false : sProp 𝕄)),
    bigSep_univ_equiv ring.symm (fun c : Dev nD => (dutyTok ER (recvCell c 2) 0 false : sProp 𝕄)),
    bigSep_univ_equiv ring.symm (fun c : Dev nD => (dutyTok ER (recvCell c 3) 0 false : sProp 𝕄))]
  exact .refl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c ∗ six c ∗ idle c) : sProp 𝕄)
      ⊢ bigSep Finset.univ (G' m ρ) := by
  rw [bigSep_sep', bigSep_sep', bigSep_sep', ← bigSep_univ_prod (fun ck : Dev nD × Fin 9 => iprop(∃ κ : ℕ, cellInv ER (sched m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok, Hz⟩
  ihave HK := (BI.bigSep_exists_pi Finset.univ (fun (ck : Dev nD × Fin 9) (κ : ℕ) => (cellInv ER (sched m ρ) κ (kcell ck) : sProp 𝕄))) $$ HI
  icases HK with ⟨%K, #HI⟩
  ihave Htk := (toks_around (F := F)) $$ Htok
  have hG (c : Dev nD) : iprop(records m ρ K ∗ linear c) ⊢ G' m ρ c := by
    unfold G'; iintro H; iexists K; iexact H
  iapply (bigSep_with_persistent (R := records m ρ K) fun c _ => hG c)
  isplitr
  · unfold records; isplitl; · iexact HI
    iexact HR
  · have hL : (bigSep Finset.univ fun c : Dev nD => linear c : sProp 𝕄) = iprop((bigSep Finset.univ fun c : Dev nD => bigSep Finset.univ fun k : Fin 9 => atPos ER (kcell (c, k)) 0 ∅ 0)
        ∗ (bigSep Finset.univ fun c : Dev nD => payToks c) ∗ (bigSep Finset.univ fun c : Dev nD => six c) ∗ bigSep Finset.univ fun c : Dev nD => idle c) := by
      unfold linear; simp only [bigSep_sep']
    iapply (Entails.of_eq hL.symm)
    isplitl [Hat]; · iexact Hat
    isplitl [Htk]; · iexact Htk
    iapply (Entails.of_eq (bigSep_sep' Finset.univ (fun c : Dev nD => (six c : sProp 𝕄)) fun c => idle c))
    iexact Hz

/-- The global step: every device's own and unscoped semaphores at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem kcell_ne {a b : Dev nD} {k k' : Fin 9} (h : csem k ≠ csem k') : kcell (a, k) ≠ kcell (b, k') := fun e => h (congrArg Prod.snd e)
theorem bar_eq_iff {a b : Dev nD} : barCell a = barCell b ↔ a = b := ⟨fun h => congrArg (fun g : GSem nD τ sig => g.1.1) h, fun h => h ▸ rfl⟩
theorem recv_eq_iff {a b : Dev nD} {i j : Fin 4} : recvCell a i = recvCell b j ↔ a = b ∧ i = j :=
  ⟨fun h => ⟨congrArg (fun g : GSem nD τ sig => g.1.1) h, recv_inj i j (congrArg Prod.snd h)⟩, fun h => by rw [h.1, h.2]⟩

theorem Or_bar (d c : Dev nD) : ∀ n, Or d n (barCell c) 0 = 0
  | 0 => rfl
  | n + 1 => by
    unfold Or
    rw [Pi.add_apply, Finsupp.add_apply, Or_bar d c n, tallyAt_ne_cell (fun h => recv_ne_bar _ (congrArg Prod.snd h).symm), Finsupp.zero_apply, Nat.add_zero]

/-- What device `d` owes device `c`'s barrier cell: a unit if `c` is its next, a unit if `c` is its previous one; -/
theorem owed_bar (d c : Dev nD) : O₀ d (barCell c) 0 = (if d = prv c then 1 else 0) + (if d = nxt c then 1 else 0) := by
  unfold O₀ O₁
  rw [Pi.add_apply, Finsupp.add_apply, Pi.add_apply, Finsupp.add_apply, Or_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

/-- a piece's credit to channel `j`'s receive cell of the device it sends to. -/
theorem owed_recv (d c : Dev nD) (j : Fin 4) : O₀ d (recvCell c j) 0 = if d = org j c then N else 0 := by
  have h1 (a : Dev nD) (i : Fin 4) : (tallyAt (recvCell (tgt i a) i) 0 N : CellTallies nD τ sig ℕ) (recvCell c j) 0 = if i = j then (if a = org j c then N else 0) else 0 := by
    rw [tallyAt_apply]
    by_cases hi : i = j
    · subst hi
      rw [if_pos rfl]
      by_cases h : a = org i c
      · subst h; rw [tgt_org, if_pos ⟨rfl, rfl⟩, if_pos rfl]
      · rw [if_neg (fun ⟨e, _⟩ => h (by rw [← org_tgt i a]; exact congrArg (org i) (recv_eq_iff.mp e).1.symm)), if_neg h]
    · rw [if_neg (fun ⟨e, _⟩ => hi (recv_eq_iff.mp e).2.symm), if_neg hi]
  have h2 (e : Dev nD) : (tallyAt (barCell e) 0 1 : CellTallies nD τ sig ℕ) (recvCell c j) 0 = 0 := by
    rw [tallyAt_ne_cell (fun h => recv_ne_bar j (congrArg Prod.snd h)), Finsupp.zero_apply]
  unfold O₀ O₁ Or Or Or Or Or
  simp only [Pi.add_apply, Finsupp.add_apply, h1, h2, Pi.zero_apply, Finsupp.zero_apply]
  fin_cases j <;> simp [chn]

theorem owed_later (d : Dev nD) (g : GSem nD τ sig) {u : ℕ} (hu : u ≠ 0) : O₀ d g u = 0 := by
  have h (g' : GSem nD τ sig) (n : ℕ) : (tallyAt g' 0 n : CellTallies nD τ sig ℕ) g u = 0 := by
    rw [tallyAt_apply, if_neg (fun ⟨_, e⟩ => hu e)]
  unfold O₀ O₁ Or Or Or Or Or
  simp only [Pi.add_apply, Finsupp.add_apply, h, Pi.zero_apply, Finsupp.zero_apply]

theorem launch_bar (c : Dev nD) :
    tallyOn (barCell c) (launchCredit (Pipeline.owing O₀) 0 (barCell c)) = (tallyAt (barCell c) 0 2 : CellTallies nD τ sig ℕ) := by
  unfold tallyAt; refine congrArg _ (Finsupp.ext fun u => ?_)
  by_cases hu : u = 0
  · subst hu
    rw [Pipeline.launchCredit_owing, Finsupp.single_eq_same, Finset.sum_congr rfl fun d _ => owed_bar d c, Finset.sum_add_distrib,
      Finset.sum_ite_eq' Finset.univ (prv c) fun _ => 1, Finset.sum_ite_eq' Finset.univ (nxt c) fun _ => 1, if_pos (Finset.mem_univ _), if_pos (Finset.mem_univ _)]
  · rw [Pipeline.launchCredit_owing, Finsupp.single_eq_of_ne (by simpa using hu), Finset.sum_eq_zero fun d _ => owed_later d _ hu]

theorem launch_recv (c : Dev nD) (j : Fin 4) :
    tallyOn (recvCell c j) (launchCredit (Pipeline.owing O₀) 0 (recvCell c j)) = (tallyAt (recvCell c j) 0 N : CellTallies nD τ sig ℕ) := by
  unfold tallyAt; refine congrArg _ (Finsupp.ext fun u => ?_)
  by_cases hu : u = 0
  · subst hu
    rw [Pipeline.launchCredit_owing, Finsupp.single_eq_same, Finset.sum_congr rfl fun d _ => owed_recv d c j,
      Finset.sum_ite_eq' Finset.univ (org j c) fun _ => N, if_pos (Finset.mem_univ _)]
  · rw [Pipeline.launchCredit_owing, Finsupp.single_eq_of_ne (by simpa using hu), Finset.sum_eq_zero fun d _ => owed_later d _ hu]

/-- The credit a device starts with: two units of its barrier and the four pieces its neighbours send it. -/
def credit (c : Dev nD) : sProp 𝕄 :=
  iprop(cred (tallyAt (barCell c) 0 2) ∗ cred (tallyAt (recvCell c 0) 0 N) ∗ cred (tallyAt (recvCell c 1) 0 N)
    ∗ cred (tallyAt (recvCell c 2) 0 N) ∗ cred (tallyAt (recvCell c 3) 0 N))

theorem creds (c : Dev nD) : (Pipeline.launchCred O₀ c : sProp 𝕄) ⊢ credit c := by
  unfold Pipeline.launchCred credit
  have hinj : Function.Injective fun i : Fin 4 => SemLoc.dma (recvS i) := fun i j e => recv_inj i j e
  rw [bigSep_univ_at _ (SemLoc.reg barS), launch_bar]
  refine sep_mono_right ?_
  have hsub : (Finset.univ.map ⟨_, hinj⟩ : Finset (SemLoc sig)) ⊆ Finset.univ.erase (SemLoc.reg barS) := fun l hl => by
    obtain ⟨i, -, rfl⟩ := Finset.mem_map.mp hl
    exact Finset.mem_erase.mpr ⟨recv_ne_bar i, Finset.mem_univ _⟩
  have h4 (Φ : SemLoc sig → sProp 𝕄) : bigSep (Finset.univ.erase (SemLoc.reg barS)) Φ
      ⊢ iprop(Φ (.dma (recvS 0)) ∗ Φ (.dma (recvS 1)) ∗ Φ (.dma (recvS 2)) ∗ Φ (.dma (recvS 3))) :=
    by
    have h := bigSep_subset hsub (Φ := Φ)
    rw [bigSep_map, fam4] at h
    exact h
  rw [← launch_recv, ← launch_recv, ← launch_recv, ← launch_recv]
  exact h4 _

/-! ## The body's obligation -/

theorem inv_at (K : Dev nD × Fin 9 → ℕ) (ck : Dev nD × Fin 9) :
    (bigSep Finset.univ fun ck : Dev nD × Fin 9 => (cellInv ER (sched m ρ) (K ck) (kcell ck) : sProp 𝕄)) ⊢ cellInv ER (sched m ρ) (K ck) (kcell ck) :=
  bigSep_elim (Finset.mem_univ ck)
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

theorem deal_tx (K : Dev nD × Fin 9 → ℕ) (c : Dev nD) (j : Fin 4) :
    iprop(records m ρ K ∗ dutyTok ER (sendCell c j) 0 false ∗ dutyTok ER (recvCell (tgt j c) j) 0 false) ⊢ txTok m ρ K c j := by
  unfold records txTok
  iintro ⟨⟨#HI, #HR⟩, H1, H2⟩
  isplitr; · rw [← kcell_send]; iapply (inv_at m ρ K (c, kS j)); iexact HI
  isplitr; · rw [← kcell_recv]; iapply (inv_at m ρ K (tgt j c, kR j)); iexact HI
  isplitl [H1]; · iexact H1
  isplitr; · rw [← kcell_send]; iapply (reached_at (F := F) (c, kS j)); iexact HR
  isplitl [H2]; · iexact H2
  rw [← kcell_recv]; iapply (reached_at (F := F) (tgt j c, kR j)); iexact HR
theorem deal_send (K : Dev nD × Fin 9 → ℕ) (c : Dev nD) (j : Fin 4) :
    iprop(records m ρ K ∗ atPos ER (kcell (c, kS j)) 0 ∅ 0) ⊢ sendEnd m ρ K c j := by
  unfold records sendEnd
  iintro ⟨⟨#HI, #HR⟩, H1⟩
  rw [← kcell_send]
  isplitr; · iapply (inv_at m ρ K (c, kS j)); iexact HI
  iexact H1
theorem deal_recv (K : Dev nD × Fin 9 → ℕ) (c : Dev nD) (j : Fin 4) :
    iprop(records m ρ K ∗ atPos ER (kcell (c, kR j)) 0 ∅ 0 ∗ cred (tallyAt (recvCell c j) 0 N)) ⊢ recvEnd m ρ K c j := by
  unfold records recvEnd
  iintro ⟨⟨#HI, #HR⟩, H1, H2⟩
  rw [← kcell_recv]
  isplitr; · iapply (inv_at m ρ K (c, kR j)); iexact HI
  isplitl [H1]; · iexact H1
  iexact H2

/-- A device's records, positions, tokens and credit, dealt to the body's steps. -/
theorem deal (K : Dev nD × Fin 9 → ℕ) (c : Dev nD) :
    iprop(records m ρ K ∗ (bigSep Finset.univ fun k : Fin 9 => atPos ER (kcell (c, k)) 0 ∅ 0) ∗ payToks c ∗ credit c)
      ⊢ iprop(sigTok m ρ K c ∗ barEnd m ρ K c ∗ txTok m ρ K c 0 ∗ txTok m ρ K c 1 ∗ txTok m ρ K c 2 ∗ txTok m ρ K c 3
          ∗ sendEnd m ρ K c 0 ∗ sendEnd m ρ K c 1 ∗ sendEnd m ρ K c 2 ∗ sendEnd m ρ K c 3
          ∗ recvEnd m ρ K c 0 ∗ recvEnd m ρ K c 1 ∗ recvEnd m ρ K c 2 ∗ recvEnd m ρ K c 3) := by
  rw [fam9]; unfold payToks credit
  iintro ⟨#HK, ⟨A0, A1, A2, A3, A4, A5, A6, A7, A8⟩, ⟨Tp, Tn, S0, S1, S2, S3, R0, R1, R2, R3⟩, CB, C0, C1, C2, C3⟩
  isplitl [Tp Tn]
  · unfold sigTok records
    icases HK with ⟨#HI, #HR⟩
    isplitr; · iapply (inv_at m ρ K (prv c, 0)); iexact HI
    isplitr; · iapply (inv_at m ρ K (nxt c, 0)); iexact HI
    isplitl [Tp]; · iexact Tp
    isplitr; · iapply (reached_at (F := F) (prv c, 0)); iexact HR
    isplitl [Tn]; · iexact Tn
    iapply (reached_at (F := F) (nxt c, 0)); iexact HR
  isplitl [A0 CB]
  · unfold barEnd records
    icases HK with ⟨#HI, #HR⟩
    isplitr; · iapply (inv_at m ρ K (c, 0)); iexact HI
    isplitl [A0]; · iexact A0
    iexact CB
  isplitl [S0 R0]
  · iapply (deal_tx m ρ K c 0); isplitr; · iexact HK
    isplitl [S0]; · iexact S0
    iexact R0
  isplitl [S1 R1]
  · iapply (deal_tx m ρ K c 1); isplitr; · iexact HK
    isplitl [S1]; · iexact S1
    iexact R1
  isplitl [S2 R2]
  · iapply (deal_tx m ρ K c 2); isplitr; · iexact HK
    isplitl [S2]; · iexact S2
    iexact R2
  isplitl [S3 R3]
  · iapply (deal_tx m ρ K c 3); isplitr; · iexact HK
    isplitl [S3]; · iexact S3
    iexact R3
  isplitl [A1]
  · iapply (deal_send m ρ K c 0); isplitr; · iexact HK
    iexact A1
  isplitl [A2]
  · iapply (deal_send m ρ K c 1); isplitr; · iexact HK
    iexact A2
  isplitl [A3]
  · iapply (deal_send m ρ K c 2); isplitr; · iexact HK
    iexact A3
  isplitl [A4]
  · iapply (deal_send m ρ K c 3); isplitr; · iexact HK
    iexact A4
  isplitl [A5 C0]
  · iapply (deal_recv m ρ K c 0); isplitr; · iexact HK
    isplitl [A5]; · iexact A5
    iexact C0
  isplitl [A6 C1]
  · iapply (deal_recv m ρ K c 1); isplitr; · iexact HK
    isplitl [A6]; · iexact A6
    iexact C1
  isplitl [A7 C2]
  · iapply (deal_recv m ρ K c 2); isplitr; · iexact HK
    isplitl [A7]; · iexact A7
    iexact C2
  iapply (deal_recv m ρ K c 3); isplitr; · iexact HK
  isplitl [A8]; · iexact A8
  iexact C3

/-- A shared cell after its round is closed: its counter is zero. -/
theorem close_one (K : Dev nD × Fin 9 → ℕ) (c : Dev nD) (k : Fin 9) : spent m ρ K c k ⊢ (|={Set.univ}=> semVal (kcell (c, k)) 0 : sProp 𝕄) := by
  unfold spent
  iintro ⟨#HI, Hat⟩
  imod (Rounds.cell_close ER (sched m ρ) (Set.mem_univ (K (c, k))) (fun h => h) (R := 0 + 1) (duties_later m ρ (kcell (c, k)))) $$ [Hat] with Hz
  · isplitr; · iexact HI
    iexact Hat
  imodintro; iexact Hz

theorem close_all (K : Dev nD × Fin 9 → ℕ) (c : Dev nD) :
    iprop(spent m ρ K c 0 ∗ spent m ρ K c (kS 0) ∗ spent m ρ K c (kS 1) ∗ spent m ρ K c (kS 2) ∗ spent m ρ K c (kS 3) ∗ spent m ρ K c (kR 0) ∗ spent m ρ K c (kR 1) ∗ spent m ρ K c (kR 2) ∗ spent m ρ K c (kR 3))
      ⊢ (|={Set.univ}=> bigSep Finset.univ fun k : Fin 9 => semVal (kcell (c, k)) 0 : sProp 𝕄) := by
  have h := bigSep_fupd (E := Set.univ) (Fr := frame) Finset.univ fun k : Fin 9 => (semVal (kcell (c, k)) 0 : sProp 𝕄)
  rw [fam9] at h
  iintro ⟨E0, E1, E2, E3, E4, E5, E6, E7, E8⟩
  iapply h
  isplitl [E0]; · iapply (close_one m ρ K c 0); iexact E0
  isplitl [E1]; · iapply (close_one m ρ K c 1); iexact E1
  isplitl [E2]; · iapply (close_one m ρ K c 2); iexact E2
  isplitl [E3]; · iapply (close_one m ρ K c 3); iexact E3
  isplitl [E4]; · iapply (close_one m ρ K c 4); iexact E4
  isplitl [E5]; · iapply (close_one m ρ K c 5); iexact E5
  isplitl [E6]; · iapply (close_one m ρ K c 6); iexact E6
  isplitl [E7]; · iapply (close_one m ρ K c 7); iexact E7
  iapply (close_one m ρ K c 8); iexact E8

/-- What device `c`'s body starts from, its scratch apart. -/
def start (c : Dev nD) : sProp 𝕄 :=
  iprop(G' m ρ c ∗ credit c ∗ lvls ∗ xArr m c ∗ (((c : Thread nD τ).loc main_v1) ↦{fullShare} m ((c : Thread nD τ).loc main_v1)))

/-- The kernel's scratch buffers, at some contents. -/
def scratch (c : Dev nD) : sProp 𝕄 :=
  iprop(someBuf c cc0_scratch0 ∗ someBuf c cc0_scratch1 ∗ someBuf c cc0_scratch2 ∗ someBuf c cc0_scratch3 ∗ someBuf c cc0_scratch4)

/-- The operand as it was and the result with its four quarters. -/
def kept (c : Dev nD) : sProp 𝕄 :=
  iprop(xArr m c ∗ (∃ g : Buf (Elt F) ((c : Thread nD τ).loc main_v1), ⌜IsOut (outAt m ρ c) g⌝ ∗ (((c : Thread nD τ).loc main_v1) ↦{fullShare} g)))

def Φ₀ (c : Dev nD) : sProp 𝕄 := iprop(start m ρ c ∗ scratch c)
def Φ₁ (c : Dev nD) : sProp 𝕄 :=
  iprop(((bigSep Finset.univ fun k : Fin 9 => semVal (kcell (c, k)) 0) ∗ six c ∗ idle c) ∗ scratch c ∗ kept m ρ c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => wstg m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem bigSep_W (Φ : Fin cfg0.W → sProp 𝕄) : bigSep Finset.univ Φ = Φ (0 : Fin 1) := bigSep_W0 Φ

theorem fetch_0 (t : Fin cfg0.N) : (cfg0.win (0 : Fin 1)).fetch t = true := by rw [fin_N0 t]; rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t0_0.castSucc ∗ (∃ d, stg c cc0_stg0_0 ((dats m ρ 0 c).before (0 : Fin 1) t0_0 d)))
def bodyPost (c : Dev nD) : sProp 𝕄 :=
  iprop(Φ₁ m ρ c ∗ (dats m ρ 0 c).owesAt 0 t0_0.succ ∗ stg c cc0_stg0_0 (wstg m ρ c))

set_option maxHeartbeats 1600000 in
theorem sound_body (c : Dev nD) :
    bodyPre m ρ c ⊢ wp frame (wpE (defs₀ (F := F)) 𝒱₀ (c : Thread nD τ) none) Set.univ
      (cc0_body xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10)
      (fun _ => bodyPost m ρ c) := by
  unfold bodyPre Φ₀ start G' scratch linear six
  iintro ⟨⟨⟨⟨%K, HK, Hat, Htok, ⟨Z1, Z2, Z3, Z4, Z5, Z6⟩, HI⟩, Hcr, Hlev, Hx, Hv⟩, HB, HCW, HCC, HAL, HAR⟩, Ho, %d, %g, %hg, Hw⟩
  have hw : g = wstg m ρ c := by rw [hg]; unfold Dat.before; rw [if_pos (fetch_0 t0_0)]; rfl
  subst hw
  unfold Dat.owesAt Pipeline.owesWithin
  icases Ho with ⟨%W, %hW, HO⟩
  rw [show (dats m ρ 0 c).owed t0_0.castSucc = O₀ c from rfl]
  ihave Hd := (deal m ρ K c) $$ [HK Hat Htok Hcr]
  · isplitl [HK]; · iexact HK
    isplitl [Hat]; · iexact Hat
    isplitl [Htok]; · iexact Htok
    iexact Hcr
  icases Hd with ⟨D1, D2, D3, D4, D5, D6, D7, D8, D9, D10, D11, D12, D13, D14⟩
  ihave HB := (cut_b c) $$ HB
  icases HB with ⟨B0, B1⟩
  ihave HCW := (cut_cw c) $$ HCW
  icases HCW with ⟨P0, P1, L0, L1⟩
  ihave HCC := (cut_cc c) $$ HCC
  icases HCC with ⟨P2, P3, L2, L3⟩
  ihave HAL := (cut_al c) $$ HAL
  icases HAL with ⟨A0, A1⟩
  ihave HAR := (cut_ar c) $$ HAR
  icases HAR with ⟨A2, A3⟩
  ihave HV := (cut_o c) $$ [Hv]
  · iexists _; iexact Hv
  icases HV with ⟨V0, V1, V2, V3⟩
  iapply (wp_fupd frame (wpE (defs₀ (F := F)) 𝒱₀ (c : Thread nD τ) none) (E := Set.univ) _ (fun _ => bodyPost m ρ c))
  iapply (wp_body m ρ K c) $$ [D1 D2 D3 D4 D5 D6 D7 D8 D9 D10 D11 D12 D13 D14 HO Hlev B0 B1 P0 P1 P2 P3 L0 L1 L2 L3 A0 A1 A2 A3 V0 V1 V2 V3 Hx Hw Z1 Z2 Z3 Z4 Z5 Z6]
  · unfold bodyIn ow
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [D13]; · iexact D13
    isplitl [D14]; · iexact D14
    isplitl [HO]; · iexists W; iexact HO
    isplitl [Hlev]; · iexact Hlev
    isplitl [B0]; · iexact B0
    isplitl [B1]; · iexact B1
    isplitl [P0]; · iexact P0
    isplitl [P1]; · iexact P1
    isplitl [P2]; · iexact P2
    isplitl [P3]; · iexact P3
    isplitl [L0]; · iexact L0
    isplitl [L1]; · iexact L1
    isplitl [L2]; · iexact L2
    isplitl [L3]; · iexact L3
    isplitl [A0]; · iexact A0
    isplitl [A1]; · iexact A1
    isplitl [A2]; · iexact A2
    isplitl [A3]; · iexact A3
    isplitl [V0]; · iexact V0
    isplitl [V1]; · iexact V1
    isplitl [V2]; · iexact V2
    isplitl [V3]; · iexact V3
    isplitl [Hx]; · iexact Hx
    isplitl [Hw]; · iexact Hw
    isplitl [Z1]; · iexact Z1
    isplitl [Z2]; · iexact Z2
    isplitl [Z3]; · iexact Z3
    isplitl [Z4]; · iexact Z4
    isplitl [Z5]; · iexact Z5
    iexact Z6
  unfold bodyOut ow
  iintro ⟨⟨%W', HO⟩, E0, E1, E2, E3, E4, E5, E6, E7, E8, B0, B1, P0, P1, P2, P3, L0, L1, L2, L3, A0, A1, A2, A3, V0, V1, V2, V3, Hx, Hw, Z1, Z2, Z3, Z4, Z5, Z6⟩
  imod (close_all m ρ K c) $$ [E0 E1 E2 E3 E4 E5 E6 E7 E8] with Hz
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    iexact E8
  imodintro
  unfold bodyPost Φ₁ scratch kept six
  isplitl [Hz Z1 Z2 Z3 Z4 Z5 Z6 HI B0 B1 P0 P1 P2 P3 L0 L1 L2 L3 A0 A1 A2 A3 V0 V1 V2 V3 Hx]
  · isplitl [Hz Z1 Z2 Z3 Z4 Z5 Z6 HI]
    · isplitl [Hz]; · iexact Hz
      isplitr [HI]
      · isplitl [Z1]; · iexact Z1
        isplitl [Z2]; · iexact Z2
        isplitl [Z3]; · iexact Z3
        isplitl [Z4]; · iexact Z4
        isplitl [Z5]; · iexact Z5
        iexact Z6
      iexact HI
    isplitl [B0 B1 P0 P1 P2 P3 L0 L1 L2 L3 A0 A1 A2 A3]
    · isplitl [B0 B1]
      · iapply (paste_b c (m ((c : Thread nD τ).loc cc0_scratch0))); isplitl [B0]; · iexact B0
        iexact B1
      isplitl [P0 P1 L0 L1]
      · iapply (paste_cw c (m ((c : Thread nD τ).loc cc0_scratch1))); isplitl [P0]; · iexact P0
        isplitl [P1]; · iexact P1
        isplitl [L0]; · iexact L0
        iexact L1
      isplitl [P2 P3 L2 L3]
      · iapply (paste_cc c (m ((c : Thread nD τ).loc cc0_scratch2))); isplitl [P2]; · iexact P2
        isplitl [P3]; · iexact P3
        isplitl [L2]; · iexact L2
        iexact L3
      isplitl [A0 A1]
      · iapply (paste_al c (m ((c : Thread nD τ).loc cc0_scratch3))); isplitl [A0]; · iexact A0
        iexact A1
      iapply (paste_ar c (m ((c : Thread nD τ).loc cc0_scratch4))); isplitl [A2]; · iexact A2
      iexact A3
    isplitl [Hx]; · iexact Hx
    iapply (paste_o c (m ((c : Thread nD τ).loc main_v1)) (outAt m ρ c))
    isplitl [V0]; · iexact V0
    isplitl [V1]; · iexact V1
    isplitl [V2]; · iexact V2
    iexact V3
  isplitl [HO]
  · unfold Dat.owesAt Pipeline.owesWithin
    iexists W'; isplitr; · ipureintro; exact fun _ _ => Or.inl trivial
    iexact HO
  iexists _; isplitr; · ipureintro; rfl
  iexact Hw

set_option maxRecDepth 4000 in
/-- The body's obligation on device `c`. -/
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  exact sound_body m ρ c

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨⟨Hx, Hv⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hx]; · iexact Hx
    iexact Hv
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : sProp 𝕄) = scratch c from scopedRest0_eq c]
  unfold Φ₀
  iintro ⟨Hs, -, Hr⟩
  isplitl [Hs]; · iexact Hs
  iexact Hr

theorem phi1_exit (c : Dev nD) :
    (dats m ρ 0 c).Φ (Fin.last cfg0.N)
      ⊢ iprop((unscopedSems0 c ∗ kept m ρ c) ∗ Pipeline.ownSems0 osem c ∗ Pipeline.scopedRest cfg0.spec c) := by
  rw [show (dats m ρ 0 c).Φ (Fin.last cfg0.N) = Φ₁ m ρ c from rfl, show (Pipeline.scopedRest cfg0.spec c : sProp 𝕄) = scratch c from scopedRest0_eq c]
  unfold Φ₁
  iintro ⟨Hz, Hs, Hk⟩
  ihave Hz := (sems0_join (F := F) c) $$ Hz
  icases Hz with ⟨Ho, Hu⟩
  isplitl [Hu Hk]
  · isplitl [Hu]; · iexact Hu
    iexact Hk
  isplitl [Ho]; · iexact Ho
  iexact Hs

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-- What the run leaves on device `c`: the operands as they were, the result with its four quarters. -/
def Left (c : Dev nD) (s : MemSt nD τ sig (Elt F)) : Prop :=
  s.mem ((c : Thread nD τ).loc main_arg0) = m ((c : Thread nD τ).loc main_arg0)
    ∧ ∃ g : Buf (Elt F) ((c : Thread nD τ).loc main_v1), IsOut (outAt m ρ c) g ∧ s.mem ((c : Thread nD τ).loc main_v1) = g

theorem kept_read (c : Dev nD) (s' : Phys nD τ sig (Elt F)) :
    iprop(kept m ρ c ∗ SI s') ⊢ (iprop(⌜Left m ρ c s'.mem⌝ ∗ SI s') : sProp 𝕄) := by
  unfold kept Left
  iintro ⟨⟨Hx, %g, %hg, Hv⟩, HSI⟩
  icombine HSI Hx gives %hx
  icombine HSI Hv gives %hv
  isplitr
  · ipureintro
    exact ⟨funext fun i => hx i (Finset.mem_univ i), g, hg, funext fun i => hv i (Finset.mem_univ i)⟩
  iexact HSI

set_option maxRecDepth 8000 in
/-- From any memory with zero counters every weakly fair execution of the eight devices terminates, with every semaphore at
    zero, the operands unchanged, and each device's result in four quarters at the contents named. -/
theorem run_main : θ_run defs (onTc (τ := τ) (main (F := F))) (s₀ m ρ) (fun r =>
    (∀ c : Dev nD, r.2.mem ((c : Thread nD τ).loc main_arg1) = m ((c : Thread nD τ).loc main_arg1) ∧ Left m ρ c r.2) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => body_obligation m ρ c) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb embR (initOf ringCells ringToks) (1 : Counters)) $$ HX
      icases HX with ⟨HX, -⟩
      imod (fund_ring m ρ) $$ HX with HG
      imodintro
      isplitl [HP] <;> iassumption)
    (hglob := glob m ρ)
    (hA := fun _ _ => rfl) (hpf := fun _ k => k.elim0)
    (X := start m ρ) (Y := fun c => iprop(unscopedSems0 c ∗ kept m ρ c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ Left m ρ c s)
    (hY := fun c s' => by
      iintro ⟨⟨Hu, Hk⟩, -, HSI⟩
      ihave Hr := (kept_read m ρ c s') $$ [Hk HSI]
      · isplitl [Hk] <;> iassumption
      icases Hr with ⟨%hl, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hl⟩
      iexact HSI)
    (hQ := fun _ h hs => ⟨fun c => ⟨((h c).1 0).trans ((dats (F := F) m ρ 0 c).arrAt_in (0 : Fin 1) rfl _), (h c).2.2.2⟩, sem_eq_zero hs fun c => (h c).2.2.1⟩)

end Cert.Hop

end
-- ==== Proof.Algebra.lean ====
/-
# Products of blocks, over the extended reals

The mathematics both sides are read as: the product of row chunk `a` and inner block `e` of the left operand with inner
block `e` of the right one, and the activation. The inner axis of 8192 is eight blocks of 1024.
-/
module

public import Idealize.ShloMosaic.Lib.ValueIdx
public import Idealize.ShloMosaic.Lib.MatmulPlain
public import Idealize.ShloMosaic.Lib.StackMember
public import Idealize.ShloMosaic.Lib.Routing.Words

@[expose] public section

noncomputable section

namespace Cert.Algebra

open Idealize.ShloMosaic Idealize.ShloMosaic.ValueIdx
open scoped BigOperators

/-- Position `r` of block `a`. -/
def at8 (a : Fin 8) (r : Fin 1024) : Fin 8192 := ⟨1024 * a.val + r.val, by omega⟩

/-- A position's block and its place there. -/
theorem at8_surj (K : Fin 8192) : ∃ a r, K = at8 a r :=
  ⟨⟨K.val / 1024, by omega⟩, ⟨K.val % 1024, by omega⟩, Fin.ext (show K.val = 1024 * (K.val / 1024) + K.val % 1024 by omega)⟩

/-- A sum over the inner axis, block by block. -/
theorem sum_at8 {M : Type*} [AddCommMonoid M] (f : Fin 8192 → M) : ∑ K, f K = ∑ e, ∑ k, f (at8 e k) := by
  rw [← Fintype.sum_prod_type' (f := fun e k => f (at8 e k))]
  refine (Fintype.sum_equiv (finProdFinEquiv (m := 8) (n := 1024)) _ _ fun p => congrArg f (Fin.ext ?_)).symm
  show 1024 * p.1.val + p.2.val = p.2.val + 1024 * p.1.val
  omega

variable {n : ℕ} (X : (⟨2, ![8192, 8192]⟩ : Shape).Idx → EReal) (W : (⟨2, ![8192, n]⟩ : Shape).Idx → EReal)

/-- The product over inner block `e`, at row `r` of row chunk `a`. -/
def blockDot (a e : Fin 8) (r : Fin 1024) (q : Fin n) : EReal := ∑ k : Fin 1024, X (ix2 (at8 a r) (at8 e k)) * W (ix2 (at8 e k) q)

/-- The activation. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

/-- The activation as the kernel orders its products. -/
theorem gelu_eq (y : EReal) : y * (Ideal.ofBits .f32 0x3F000000#32 * (Ideal.ofBits .f32 0x3F800000#32
    + Ideal.tanh (Ideal.ofBits .f32 0x3F4C422A#32 * (y + Ideal.ofBits .f32 0x3D372713#32 * (y * (y * y)))))) = gelu y := by
  unfold gelu
  rw [mul_left_comm, mul_assoc, mul_assoc y y y]

/-- A product whose left operand is kept only on some inner blocks, `p a e` telling which for row chunk `a`. -/
theorem masked_dot (p : Fin 8 → Fin 8 → Prop) [∀ a e, Decidable (p a e)] (Y : (⟨2, ![8192, 8192]⟩ : Shape).Idx → EReal)
    (hY : ∀ a r e k, Y (ix2 (at8 a r) (at8 e k)) = if p a e then X (ix2 (at8 a r) (at8 e k)) else 0) (a : Fin 8) (r : Fin 1024) (q : Fin n) :
    (∑ K : Fin 8192, Y (ix2 (at8 a r) K) * W (ix2 K q)) = ∑ e : Fin 8, if p a e then blockDot X W a e r q else 0 := by
  rw [sum_at8]
  refine Finset.sum_congr rfl fun e _ => ?_
  unfold blockDot
  split
  · rename_i h; exact Finset.sum_congr rfl fun k _ => by rw [hY, if_pos h]
  · rename_i h; exact Finset.sum_eq_zero fun k _ => by rw [hY, if_neg h, zero_mul]

/-- A position's block, as the 32-bit quotient computes it. -/
theorem block_word (a : Fin 8) (r : Fin 1024) : IntOp.divsi .host (BitVec.ofNat 32 (at8 a r).val) 1024#32 = BitVec.ofNat 32 a.val := by
  have h : (at8 a r).val = 1024 * a.val + r.val := rfl
  rw [show (1024#32 : BitVec 32) = BitVec.ofNat 32 1024 from rfl, Routing.divsi_word .host (by omega) (by omega) (by omega), h]
  congr 1; omega

end Cert.Algebra

end
-- ==== Proof.KernelValue.lean ====
/-
# What the kernel writes, over the extended reals

A device's quarter of the result, read at an index: the activation of the neighbour's product of blocks, as it landed, and
the device's own.
-/
module

public import proofs.«01_k».proof.Proof.Algebra
public import proofs.«01_k».proof.Proof.Proto
public import Idealize.ShloMosaic.Lib.Layout
public import Idealize.ShloMosaic.Lib.Pipeline.Value

@[expose] public section

noncomputable section

namespace Cert.Hop

open Cert.KernelIdeal Cert.KernelIdeal.Gen Cert.Pieces Cert.Algebra

open Idealize.ShloMosaic Idealize.ShloMosaic.ValueIdx
open Idealize.ShloMosaic.TcCoe
open scoped BigOperators

/-- A rectangle of unit strides moves a pair of coordinates by its offsets. -/
theorem unit_emb2 {a b p q : ℕ} (off : Fin 2 → ℕ) (inb : ∀ x, off x + (![p, q] : Fin 2 → ℕ) x ≤ (⟨2, ![a, b]⟩ : Shape).size x)
    (i : Fin p) (k : Fin q) (i' : Fin a) (k' : Fin b) (h0 : i'.val = off 0 + i.val) (h1 : k'.val = off 1 + k.val) :
    (Rect.unit (s := ⟨2, ![a, b]⟩) off ![p, q] inb).emb (ix2 i k) = ix2 i' k' := by
  funext x; apply Fin.ext
  match x with
  | ⟨0, _⟩ => show off 0 + 1 * i.val = i'.val; omega
  | ⟨1, _⟩ => show off 1 + 1 * k.val = k'.val; omega

variable (m : (ℓ : Loc nD τ sig) → Buf (Elt Ideal) ℓ) (ρ : Dev nD → PrngReg)
variable (X : (⟨2, ![8192, 8192]⟩ : Shape).Idx → EReal) (W : (⟨2, ![8192, 4096]⟩ : Shape).Idx → EReal)

/-- The devices hold the operands' blocks: columns of the left one, rows of the right one. -/
def Holds : Prop := ∀ c : Dev nD,
  (m ((c : Thread nD τ).loc main_arg0) : S8192x1024.Idx → EReal) = Layout.block ⟨2, ![8192, 1024]⟩ ⟨2, ![8192, 8192]⟩ 1 8 c X
  ∧ (m ((c : Thread nD τ).loc main_arg1) : S1024x4096.Idx → EReal) = Layout.block ⟨2, ![1024, 4096]⟩ ⟨2, ![8192, 4096]⟩ 0 8 c W

/-- Channel `j`'s columns among all. -/
def colOf (j : Fin 4) (q : Fin 1024) : Fin 4096 := ⟨1024 * j.val + q.val, by omega⟩

variable {m X W}

theorem xrd_apply (h : Holds m X W) (c k : Dev nD) (r s : Fin 1024) : (xrd m c k (ix2 r s) : EReal) = X (ix2 (at8 k r) (at8 c s)) := by
  show (m ((c : Thread nD τ).loc main_arg0) : S8192x1024.Idx → EReal) ((Rect.unit (s := S8192x1024) ![1024 * k.val, 0] S1024x1024.size (xinb k)).emb (ix2 r s)) = _
  rw [(h c).1]
  refine congrArg X ?_
  funext x; apply Fin.ext
  match x with
  | ⟨0, _⟩ => show 1024 * k.val + 1 * r.val = 1024 * k.val + r.val; omega
  | ⟨1, _⟩ => show c.val * 1024 + (0 + 1 * s.val) = 1024 * c.val + s.val; omega

theorem wstg_apply (h : Holds m X W) (c : Dev nD) (s : Fin 1024) (q : Fin 4096) : (wstg m ρ c (ix2 s q) : EReal) = W (ix2 (at8 c s) q) := by
  show (m ((c : Thread nD τ).loc main_arg1) : S1024x4096.Idx → EReal) ((win0_0.blk (0 : Fin 1)).view.emb (ix2 s q)) = _
  rw [(h c).2]
  refine congrArg W ?_
  funext x; apply Fin.ext
  match x with
  | ⟨0, _⟩ => show c.val * 1024 + (0 * 1024 + 1 * s.val) = 1024 * c.val + s.val; omega
  | ⟨1, _⟩ => show 0 * 4096 + 1 * q.val = q.val; omega

theorem wrd_apply (h : Holds m X W) (c : Dev nD) (j : Fin 4) (s q : Fin 1024) : (wrd m ρ c j (ix2 s q) : EReal) = W (ix2 (at8 c s) (colOf j q)) := by
  have e : ∀ off inb, off 0 = 0 → off 1 = 1024 * j.val →
      (wstg m ρ c ((Rect.unit (s := S1024x4096) off S1024x1024.size inb).emb (ix2 s q)) : EReal) = W (ix2 (at8 c s) (colOf j q)) := fun off inb h0 h1 =>
    (congrArg (wstg m ρ c) (unit_emb2 off inb s q s (colOf j q) (by omega) (by rw [h1]; rfl))).trans (wstg_apply ρ h c s (colOf j q))
  match j with
  | 0 => exact e _ _ rfl rfl
  | 1 => exact e _ _ rfl rfl
  | 2 => exact e _ _ rfl rfl
  | 3 => exact e _ _ rfl rfl

/-- A direction's columns. -/
theorem wside_apply (h : Holds m X W) (c : Dev nD) (o : ℕ) (inb) (s : Fin 1024) (q : Fin 2048) (k : Fin 4096) (hk : k.val = o + q.val) :
    ((wM.access (Rect.unit (s := S1024x4096) ![0, o] S1024x2048.size inb)).read (Elt Ideal) (wstg m ρ c) (ix2 s q) : EReal) = W (ix2 (at8 c s) k) :=
  (congrArg (wstg m ρ c) (unit_emb2 ![0, o] inb s q s k (by show s.val = 0 + s.val; omega) hk)).trans (wstg_apply ρ h c s k)

/-- A loaded slot, cast to the piece's shape, is the piece. -/
theorem cast_up (Y : S1024x1024.Idx → Elt Ideal .bf16) : (shapeCast S1024x1024 (up Y) shapeCasts_S1x1024x1024_S1024x1024 : S1024x1024.Idx → Elt Ideal .bf16) = Y := sq_unsq hq Y

theorem part0_apply (h : Holds m X W) (c : Dev nD) (j : Fin 4) (r q : Fin 1024) :
    (part0 m ρ c j (ix2 r q) : EReal) = blockDot X W (ck0 j c) c r (colOf j q) := by
  unfold part0 k0_pay1
  refine (congrFun (shapeCast_self _ _) _).trans ?_
  refine (Ideal.matmul_plain_apply (M := 1024) (K := 1024) (N := 1024) none _ _ _ r q).trans ?_
  rw [constant_apply, Ideal.ofBits_zero_f32, zero_add]
  unfold blockDot
  exact Finset.sum_congr rfl fun k _ => congrArg₂ (· * ·) ((congrFun (cast_up _) _).trans (xrd_apply h c _ r k)) ((congrFun (shapeCast_self _ _) _).trans (wrd_apply ρ h c j k q))

theorem sent_apply (h : Holds m X W) (c : Dev nD) (j : Fin 4) (r q : Fin 1024) :
    (sent m ρ c j (ix2 r q) : EReal) = blockDot X W (ck0 j c) c r (colOf j q) := by
  have e : sent m ρ c j = (part0 m ρ c j : S1024x1024.Idx → EReal) := by
    unfold sent dn k0_pay2
    funext i
    show (part0 m ρ c j) (Shape.reshapeEquiv _ (Shape.reshapeEquiv _ i)) = _
    exact congrArg (part0 m ρ c j) (Equiv.symm_apply_apply (Shape.reshapeEquiv hq) i)
  rw [e]; exact part0_apply ρ h c j r q

theorem side_apply (h : Holds m X W) (c k : Dev nD) (o : ℕ) (inb) (r : Fin 1024) (q : Fin 2048) (q' : Fin 4096) (hq : q'.val = o + q.val) :
    (k0_pay9 (F := Ideal) (up (xrd m c k)) ((wM.access (Rect.unit (s := S1024x4096) ![0, o] S1024x2048.size inb)).read (Elt Ideal) (wstg m ρ c)) (ix2 r q) : EReal)
      = blockDot X W k c r q' := by
  unfold k0_pay9
  refine (congrFun (shapeCast_self _ _) _).trans ?_
  refine (Ideal.matmul_plain_apply (M := 1024) (K := 1024) (N := 2048) none _ _ _ r q).trans ?_
  rw [constant_apply, Ideal.ofBits_zero_f32, zero_add]
  unfold blockDot
  exact Finset.sum_congr rfl fun s _ => congrArg₂ (· * ·) ((congrFun (cast_up _) _).trans (xrd_apply h c _ r s)) ((congrFun (shapeCast_self _ _) _).trans (wside_apply ρ h c o inb s q q' hq))

theorem part1_apply (h : Holds m X W) (c : Dev nD) (j : Fin 4) (r q : Fin 1024) :
    (part1 m ρ c j (ix2 r q) : EReal) = blockDot X W (ck1 j c) c r (colOf j q) := by
  have e : ∀ (k : Dev nD) (o p : ℕ) (inb) (ib : ∀ x, (![0, p] : Fin 2 → ℕ) x + S1024x1024.size x ≤ S1024x2048.size x), p + 1024 ≤ 2048 → 1024 * j.val = o + p →
      (k0_pay9 (F := Ideal) (up (xrd m c k)) ((wM.access (Rect.unit (s := S1024x4096) ![0, o] S1024x2048.size inb)).read (Elt Ideal) (wstg m ρ c))
        ((Rect.unit (s := S1024x2048) ![0, p] S1024x1024.size ib).emb (ix2 r q)) : EReal) = blockDot X W k c r (colOf j q) := fun k o p inb ib hp ho => by
    rw [unit_emb2 ![0, p] ib r q r (⟨p + q.val, by omega⟩ : Fin 2048) (by show r.val = 0 + r.val; omega) rfl]
    exact side_apply ρ h c k o inb r _ _ (by show 1024 * j.val + q.val = o + (p + q.val); omega)
  match j with
  | 0 => exact e _ 0 0 _ _ (by decide) rfl
  | 1 => exact e _ 0 1024 _ _ (by decide) rfl
  | 2 => exact e _ 2048 0 _ _ (by decide) rfl
  | 3 => exact e _ 2048 1024 _ _ (by decide) rfl

/-- The activation as the kernel computes it. -/
theorem pay10_apply (V : Vec Ideal S1x1024x1024 .bf16) (P : Vec Ideal S1024x1024 .f32) (i : S1024x1024.Idx) :
    (k0_pay10 V P i : EReal) = gelu ((shapeCast S1024x1024 V shapeCasts_S1x1024x1024_S1024x1024 i : EReal) + (P i : EReal)) := by
  rw [← gelu_eq]
  unfold k0_pay10
  exact congrFun (shapeCast_self _ _) i

theorem outAt_apply (h : Holds m X W) (c : Dev nD) (j : Fin 4) (r q : Fin 1024) :
    (outAt m ρ c j (ix2 r q) : EReal) = gelu (blockDot X W (ck1 j c) (org j c) r (colOf j q) + blockDot X W (ck1 j c) c r (colOf j q)) := by
  have hk : ck0 j (org j c) = ck1 j c := by match j with | 0 => rfl | 1 => rfl | 2 => rfl | 3 => rfl
  have hs := sent_apply ρ h (org j c) j r q
  rw [hk] at hs
  unfold outAt
  rw [pay10_apply, part1_apply ρ h c j r q, ← hs]
  exact congrArg (fun z : EReal => gelu (z + _)) (congrFun (cast_up _) _)

end Cert.Hop

end
-- ==== Proof.RefValue.lean ====
/-
# The reference, read at an index

At the ideal values the reference's result at device `d`'s row `r` is the activation of two products of blocks: on the
left half of the columns, of row chunk `d - 2` with the inner blocks `d - 1` and `d`; on the right half, of row chunk
`d + 2` with the inner blocks `d + 1` and `d`.
-/
module

public import proofs.«01_k».proof.Proof.Algebra
public import proofs.«01_k».proof.Proof.Gen.ReferenceIdeal.Run

@[expose] public section

noncomputable section

namespace Cert.RefValue

open Cert.ReferenceIdeal Cert.ReferenceIdeal.Gen Cert.ReferenceIdeal.Value Cert.Algebra
open Idealize.ShloMosaic Idealize.ShloMosaic.TcCoe Idealize.ShloMosaic.ValueIdx
open scoped BigOperators

/-- One and two blocks around the ring, either way. -/
def fwd (d : Fin 8) : Fin 8 := ⟨(d.val + 1) % 8, Nat.mod_lt _ (by decide)⟩
def bwd (d : Fin 8) : Fin 8 := ⟨(d.val + 7) % 8, Nat.mod_lt _ (by decide)⟩

/-- How far block `j`'s coordinate is behind block `i`'s around the ring, and whether that is one or two. -/
def dist (i j : Fin 2) : IVec S8192x8192 32 :=
  Host.remsi (addi (subi (Host.divsi (iotaInDim S8192x8192 32 i) (broadcastInDim S8192x8192 ![] bcast_S_S8192x8192 (constantI S_ 32 1024#32)))
    (Host.divsi (iotaInDim S8192x8192 32 j) (broadcastInDim S8192x8192 ![] bcast_S_S8192x8192 (constantI S_ 32 1024#32))))
    (broadcastInDim S8192x8192 ![] bcast_S_S8192x8192 (constantI S_ 32 8#32))) (broadcastInDim S8192x8192 ![] bcast_S_S8192x8192 (constantI S_ 32 8#32))
def near (i j : Fin 2) : IVec S8192x8192 1 :=
  ori (cmpi .eq (dist i j) (broadcastInDim S8192x8192 ![] bcast_S_S8192x8192 (constantI S_ 32 1#32)))
    (cmpi .eq (dist i j) (broadcastInDim S8192x8192 ![] bcast_S_S8192x8192 (constantI S_ 32 2#32)))

/-- The same on two words. -/
def word (u v : BitVec 32) : BitVec 1 :=
  IntOp.ori (IntOp.cmpi .eq (IntOp.remsi .host (IntOp.addi (IntOp.subi u v) 8#32) 8#32) 1#32)
    (IntOp.cmpi .eq (IntOp.remsi .host (IntOp.addi (IntOp.subi u v) 8#32) 8#32) 2#32)

theorem near_left (a e : Fin 8) (r k : Fin 1024) : near 1 0 (ix2 (at8 a r) (at8 e k)) = word (BitVec.ofNat 32 e.val) (BitVec.ofNat 32 a.val) := by
  rw [← block_word a r, ← block_word e k]; rfl
theorem near_right (a e : Fin 8) (r k : Fin 1024) : near 0 1 (ix2 (at8 a r) (at8 e k)) = word (BitVec.ofNat 32 a.val) (BitVec.ofNat 32 e.val) := by
  rw [← block_word a r, ← block_word e k]; rfl

theorem word_left : ∀ a e : Fin 8, word (BitVec.ofNat 32 e.val) (BitVec.ofNat 32 a.val) = 1 ↔ e = fwd a ∨ e = fwd (fwd a) := by decide
theorem word_right : ∀ a e : Fin 8, word (BitVec.ofNat 32 a.val) (BitVec.ofNat 32 e.val) = 1 ↔ e = bwd a ∨ e = bwd (bwd a) := by decide

/-- A sum kept at two places. -/
theorem sum_two (f : Fin 8 → EReal) {u v : Fin 8} (h : u ≠ v) : (∑ e, if e = u ∨ e = v then f e else 0) = f u + f v := by
  have : ∀ e, (if e = u ∨ e = v then f e else 0) = (if e = u then f e else 0) + (if e = v then f e else 0) := fun e => by
    by_cases h1 : e = u
    · subst h1; simp [h]
    · simp [h1]
  simp only [this, Finset.sum_add_distrib, Finset.sum_ite_eq', Finset.mem_univ, if_true]

variable (m : (ℓ : Loc nD τ sig) → Buf (Elt Ideal) ℓ) (c : Dev nD)

/-- The two operands. -/
def xs : S8192x8192.Idx → EReal := m ((c.tc : Thread nD τ).loc main_arg0)
def ws : S8192x4096.Idx → EReal := m ((c.tc : Thread nD τ).loc main_arg1)

/-- A half's product, before the rows are turned. -/
def half (i j : Fin 2) (off : Fin 2 → ℕ) (h : S8192x4096.Slices off S8192x2048) : FVec Ideal S8192x2048 .f32 :=
  Host.dotGeneral dot_S8192x8192_S8192x2048_S8192x2048_1_0_0_1_n_n none
    (select (near i j) (extf (F := Ideal) .f32 (m ((c.tc : Thread nD τ).loc main_arg0)) bitsLt_bf16_f32)
      (broadcastInDim S8192x8192 ![] bcast_S_S8192x8192 (id (constant S_ .f32 0x00000000#32))))
    (extractStridedSlice S8192x2048 off (extf (F := Ideal) .f32 (m ((c.tc : Thread nD τ).loc main_arg1)) bitsLt_bf16_f32) h)

/-- A half's column among all. -/
def col (o : ℕ) (ho : o + 2048 ≤ 4096) (q : Fin 2048) : Fin 4096 := ⟨o + q.val, by omega⟩

theorem half_apply (i j : Fin 2) (o : ℕ) (ho : o + 2048 ≤ 4096) (h : S8192x4096.Slices ![0, o] S8192x2048) (p : Fin 8 → Fin 8 → Prop) [∀ a e, Decidable (p a e)]
    (hp : ∀ a e r k, near i j (ix2 (at8 a r) (at8 e k)) = 1 ↔ p a e) (a : Fin 8) (r : Fin 1024) (q : Fin 2048) :
    half m c i j ![0, o] h (ix2 (at8 a r) q) = ∑ e : Fin 8, if p a e then blockDot (xs m c) (ws m c) a e r (col o ho q) else 0 := by
  refine (StackMember.dotGeneral_plain_apply (m := 8192) (n := 2048) (k := 8192) none _ _ (at8 a r) q).trans ?_
  rw [masked_dot (xs m c) _ p _ (fun a r e k => ?_)]
  · refine Finset.sum_congr rfl fun e _ => ?_
    have : blockDot (xs m c) (extractStridedSlice S8192x2048 ![0, o] (extf (F := Ideal) .f32 (m ((c.tc : Thread nD τ).loc main_arg1)) bitsLt_bf16_f32) h) a e r q
        = blockDot (xs m c) (ws m c) a e r (col o ho q) := by
      unfold blockDot
      refine Finset.sum_congr rfl fun k _ => congrArg _ ?_
      refine extractStridedSlice_apply _ _ _ _ (ix2 (at8 e k) (col o ho q)) fun b => ?_
      match b with
      | ⟨0, _⟩ => exact (Nat.zero_add _).symm
      | ⟨1, _⟩ => rfl
    rw [this]
  · show (if near i j (ix2 (at8 a r) (at8 e k)) = 1 then xs m c (ix2 (at8 a r) (at8 e k)) else Ideal.ofBits .f32 0x00000000#32) = _
    rw [Ideal.ofBits_zero_f32]
    simp only [hp a e r k]

theorem half_left (h : S8192x4096.Slices ![0, 0] S8192x2048) (d : Fin 8) (r : Fin 1024) (q : Fin 2048) :
    half m c 1 0 ![0, 0] h (ix2 (at8 (bwd (bwd d)) r) q)
      = blockDot (xs m c) (ws m c) (bwd (bwd d)) (bwd d) r (col 0 (by decide) q) + blockDot (xs m c) (ws m c) (bwd (bwd d)) d r (col 0 (by decide) q) := by
  rw [half_apply m c 1 0 0 (by decide) h (fun a e => e = fwd a ∨ e = fwd (fwd a)) (fun a e r k => by rw [near_left]; exact word_left a e)]
  rw [sum_two _ (by revert d; decide)]
  have e1 : fwd (bwd (bwd d)) = bwd d := by revert d; decide
  have e2 : fwd (bwd d) = d := by revert d; decide
  rw [e1, e2]

theorem half_right (h : S8192x4096.Slices ![0, 2048] S8192x2048) (d : Fin 8) (r : Fin 1024) (q : Fin 2048) :
    half m c 0 1 ![0, 2048] h (ix2 (at8 (fwd (fwd d)) r) q)
      = blockDot (xs m c) (ws m c) (fwd (fwd d)) (fwd d) r (col 2048 (by decide) q) + blockDot (xs m c) (ws m c) (fwd (fwd d)) d r (col 2048 (by decide) q) := by
  rw [half_apply m c 0 1 2048 (by decide) h (fun a e => e = bwd a ∨ e = bwd (bwd a)) (fun a e r k => by rw [near_right]; exact word_right a e)]
  rw [sum_two _ (by revert d; decide)]
  have e1 : bwd (fwd (fwd d)) = fwd d := by revert d; decide
  have e2 : bwd (fwd d) = d := by revert d; decide
  rw [e1, e2]

/-- Rows turned by two chunks, either way. -/
def turnL (D : FVec Ideal S8192x2048 .f32) : FVec Ideal S8192x2048 .f32 :=
  concatenate S8192x2048 0 [⟨S2048x2048, extractStridedSlice S2048x2048 ![6144, 0] D slices_S8192x2048_S2048x2048_6144_0⟩,
    ⟨S6144x2048, extractStridedSlice S6144x2048 ![0, 0] D slices_S8192x2048_S6144x2048_0_0⟩] concatenates_S2048x2048_S6144x2048_S8192x2048_d0
def turnR (D : FVec Ideal S8192x2048 .f32) : FVec Ideal S8192x2048 .f32 :=
  concatenate S8192x2048 0 [⟨S6144x2048, extractStridedSlice S6144x2048 ![2048, 0] D slices_S8192x2048_S6144x2048_2048_0⟩,
    ⟨S2048x2048, extractStridedSlice S2048x2048 ![0, 0] D slices_S8192x2048_S2048x2048_0_0⟩] concatenates_S6144x2048_S2048x2048_S8192x2048_d0

theorem bwd2_val (d : Fin 8) : (bwd (bwd d)).val = (d.val + 6) % 8 := by revert d; decide
theorem fwd2_val (d : Fin 8) : (fwd (fwd d)).val = (d.val + 2) % 8 := by revert d; decide

theorem turnL_apply (D : FVec Ideal S8192x2048 .f32) (d : Fin 8) (r : Fin 1024) (q : Fin 2048) : turnL D (ix2 (at8 d r) q) = D (ix2 (at8 (bwd (bwd d)) r) q) := by
  have hv := bwd2_val d
  have ha : (at8 d r).val = 1024 * d.val + r.val := rfl
  have hb : (at8 (bwd (bwd d)) r).val = 1024 * (bwd (bwd d)).val + r.val := rfl
  unfold turnL
  by_cases h : d.val < 2
  · refine (concatenate_pair_apply_left (t := S8192x2048) (s₁ := S2048x2048) (s₂ := S6144x2048) (0 : Fin S8192x2048.rank) _ _ _ (ix2 (at8 d r) q) rfl (ix2 (⟨(at8 d r).val, by omega⟩ : Fin 2048) q) fun b => ?_).trans ?_
    · match b with | ⟨0, _⟩ => rfl | ⟨1, _⟩ => rfl
    · refine extractStridedSlice_apply _ _ _ _ _ fun b => ?_
      match b with
      | ⟨0, _⟩ => show (at8 (bwd (bwd d)) r).val = 6144 + (at8 d r).val; omega
      | ⟨1, _⟩ => exact (Nat.zero_add _).symm
  · refine (concatenate_pair_apply_right (t := S8192x2048) (s₁ := S2048x2048) (s₂ := S6144x2048) (0 : Fin S8192x2048.rank) _ _ _ (ix2 (at8 d r) q) rfl rfl (ix2 (⟨(at8 d r).val - 2048, by omega⟩ : Fin 6144) q) (fun b hb => ?_) ?_).trans ?_
    · match b, hb with | ⟨0, _⟩, hb => exact absurd rfl hb | ⟨1, _⟩, _ => rfl
    · show (at8 d r).val - 2048 + 2048 = (at8 d r).val; omega
    · refine extractStridedSlice_apply _ _ _ _ _ fun b => ?_
      match b with
      | ⟨0, _⟩ => show (at8 (bwd (bwd d)) r).val = 0 + ((at8 d r).val - 2048); omega
      | ⟨1, _⟩ => exact (Nat.zero_add _).symm

theorem turnR_apply (D : FVec Ideal S8192x2048 .f32) (d : Fin 8) (r : Fin 1024) (q : Fin 2048) : turnR D (ix2 (at8 d r) q) = D (ix2 (at8 (fwd (fwd d)) r) q) := by
  have hv := fwd2_val d
  have ha : (at8 d r).val = 1024 * d.val + r.val := rfl
  have hb : (at8 (fwd (fwd d)) r).val = 1024 * (fwd (fwd d)).val + r.val := rfl
  unfold turnR
  by_cases h : d.val < 6
  · refine (concatenate_pair_apply_left (t := S8192x2048) (s₁ := S6144x2048) (s₂ := S2048x2048) (0 : Fin S8192x2048.rank) _ _ _ (ix2 (at8 d r) q) rfl (ix2 (⟨(at8 d r).val, by omega⟩ : Fin 6144) q) fun b => ?_).trans ?_
    · match b with | ⟨0, _⟩ => rfl | ⟨1, _⟩ => rfl
    · refine extractStridedSlice_apply _ _ _ _ _ fun b => ?_
      match b with
      | ⟨0, _⟩ => show (at8 (fwd (fwd d)) r).val = 2048 + (at8 d r).val; omega
      | ⟨1, _⟩ => exact (Nat.zero_add _).symm
  · refine (concatenate_pair_apply_right (t := S8192x2048) (s₁ := S6144x2048) (s₂ := S2048x2048) (0 : Fin S8192x2048.rank) _ _ _ (ix2 (at8 d r) q) rfl rfl (ix2 (⟨(at8 d r).val - 6144, by omega⟩ : Fin 2048) q) (fun b hb => ?_) ?_).trans ?_
    · match b, hb with | ⟨0, _⟩, hb => exact absurd rfl hb | ⟨1, _⟩, _ => rfl
    · show (at8 d r).val - 6144 + 6144 = (at8 d r).val; omega
    · refine extractStridedSlice_apply _ _ _ _ _ fun b => ?_
      match b with
      | ⟨0, _⟩ => show (at8 (fwd (fwd d)) r).val = 0 + ((at8 d r).val - 6144); omega
      | ⟨1, _⟩ => exact (Nat.zero_add _).symm

/-- Both halves side by side, and the result. -/
def both : FVec Ideal S8192x4096 .f32 :=
  concatenate S8192x4096 1 [⟨S8192x2048, turnL (half m c 1 0 ![0, 0] slices_S8192x4096_S8192x2048_0_0)⟩,
    ⟨S8192x2048, turnR (half m c 0 1 ![0, 2048] slices_S8192x4096_S8192x2048_0_2048)⟩] concatenates_S8192x2048_S8192x2048_S8192x4096_d1

theorem res_apply (i : S8192x4096.Idx) : res_out0 m c i = gelu (both m c i) := by
  unfold res_out0 res_main_v53; rfl

theorem both_left (d : Fin 8) (r : Fin 1024) (q : Fin 2048) : both m c (ix2 (at8 d r) (col 0 (by decide) q))
    = blockDot (xs m c) (ws m c) (bwd (bwd d)) (bwd d) r (col 0 (by decide) q) + blockDot (xs m c) (ws m c) (bwd (bwd d)) d r (col 0 (by decide) q) := by
  rw [← half_left m c slices_S8192x4096_S8192x2048_0_0, ← turnL_apply (half m c 1 0 ![0, 0] slices_S8192x4096_S8192x2048_0_0)]
  refine concatenate_pair_apply_left (t := S8192x4096) (s₁ := S8192x2048) (s₂ := S8192x2048) 1 _ _ _ _ rfl (ix2 (at8 d r) q) fun b => ?_
  match b with | ⟨0, _⟩ => rfl | ⟨1, _⟩ => exact (Nat.zero_add _).symm

theorem both_right (d : Fin 8) (r : Fin 1024) (q : Fin 2048) : both m c (ix2 (at8 d r) (col 2048 (by decide) q))
    = blockDot (xs m c) (ws m c) (fwd (fwd d)) (fwd d) r (col 2048 (by decide) q) + blockDot (xs m c) (ws m c) (fwd (fwd d)) d r (col 2048 (by decide) q) := by
  rw [← half_right m c slices_S8192x4096_S8192x2048_0_2048, ← turnR_apply (half m c 0 1 ![0, 2048] slices_S8192x4096_S8192x2048_0_2048)]
  refine concatenate_pair_apply_right (t := S8192x4096) (s₁ := S8192x2048) (s₂ := S8192x2048) 1 _ _ _ _ rfl rfl (ix2 (at8 d r) q) (fun b hb => ?_) ?_
  · match b, hb with | ⟨0, _⟩, _ => rfl | ⟨1, _⟩, hb => exact absurd rfl hb
  · exact Nat.add_comm _ _

end Cert.RefValue

end
-- ==== Proof.Value.lean ====
/-
# The kernel's result is the reference's

Quarter by quarter, what a device writes is its block of rows of the reference's result.
-/
module

public import proofs.«01_k».proof.Proof.KernelValue
public import proofs.«01_k».proof.Proof.RefValue
public import proofs.«01_k».proof.Proof.Cuts

@[expose] public section

noncomputable section

namespace Cert.Hop

open Cert.KernelIdeal Cert.KernelIdeal.Gen Cert.Pieces Cert.Algebra

open Idealize.ShloMosaic Idealize.ShloMosaic.ValueIdx
open Idealize.ShloMosaic.TcCoe

variable {m : (ℓ : Loc nD τ sig) → Buf (Elt Ideal) ℓ} (ρ : Dev nD → PrngReg)
variable (m' : (ℓ : Loc Cert.ReferenceIdeal.nD Cert.ReferenceIdeal.τ Cert.ReferenceIdeal.sig) → Buf (Elt Ideal) ℓ)

/-- One entry of one quarter. -/
theorem quarter_eq (h : Holds m (RefValue.xs m' 0) (RefValue.ws m' 0)) (c : Dev nD) (j : Fin 4) (r q : Fin 1024) :
    (outAt m ρ c j (ix2 r q) : EReal) = Cert.ReferenceIdeal.Value.res_out0 m' 0 (ix2 (at8 c r) (colOf j q)) := by
  rw [outAt_apply ρ h]
  refine Eq.trans ?_ (RefValue.res_apply m' 0 _).symm
  refine congrArg gelu ?_
  have l (hj : j.val < 2) : colOf j q = RefValue.col 0 (by decide) ⟨1024 * j.val + q.val, by omega⟩ := Fin.ext (Nat.zero_add _).symm
  have u (hj : 2 ≤ j.val) : colOf j q = RefValue.col 2048 (by decide) ⟨1024 * j.val + q.val - 2048, by omega⟩ :=
    Fin.ext (show 1024 * j.val + q.val = 2048 + (1024 * j.val + q.val - 2048) by omega)
  match j, l, u with
  | 0, l, _ => rw [l (by decide)]; exact (RefValue.both_left m' 0 c r _).symm
  | 1, l, _ => rw [l (by decide)]; exact (RefValue.both_left m' 0 c r _).symm
  | 2, _, u => rw [u (by decide)]; exact (RefValue.both_right m' 0 c r _).symm
  | 3, _, u => rw [u (by decide)]; exact (RefValue.both_right m' 0 c r _).symm

/-- The whole of a device's result. -/
theorem out_eq (h : Holds m (RefValue.xs m' 0) (RefValue.ws m' 0)) (c : Dev nD) (g : S1024x4096.Idx → Elt Ideal .f32) (hg : IsOut (outAt m ρ c) g) :
    g = Layout.block ⟨2, ![1024, 4096]⟩ ⟨2, ![8192, 4096]⟩ 0 8 c (Cert.ReferenceIdeal.Value.res_out0 m' 0 : (⟨2, ![8192, 4096]⟩ : Shape).Idx → Elt Ideal .f32) := by
  funext i
  obtain ⟨r, Q, rfl⟩ : ∃ (r : Fin 1024) (Q : Fin 4096), i = ix2 r Q := ⟨_, _, eq_ix2 i⟩
  obtain ⟨j, q, rfl⟩ : ∃ (j : Fin 4) (q : Fin 1024), Q = colOf j q :=
    ⟨⟨Q.val / 1024, by omega⟩, ⟨Q.val % 1024, by omega⟩, Fin.ext (show Q.val = 1024 * (Q.val / 1024) + Q.val % 1024 by omega)⟩
  have e : g (ix2 r (colOf j q)) = outAt m ρ c j (ix2 r q) := by
    have k : ∀ off inb, off 0 = 0 → off 1 = 1024 * j.val →
        (Rect.unit (s := S1024x4096) off S1024x1024.size inb).emb (ix2 r q) = ix2 r (colOf j q) := fun off inb h0 h1 =>
      unit_emb2 off inb r q r (colOf j q) (by omega) (by rw [h1]; rfl)
    obtain ⟨g0, g1, g2, g3⟩ := hg (ix2 r q)
    match j, k with
    | 0, k => rw [← g0]; exact congrArg g (k _ _ rfl rfl).symm
    | 1, k => rw [← g1]; exact congrArg g (k _ _ rfl rfl).symm
    | 2, k => rw [← g2]; exact congrArg g (k _ _ rfl rfl).symm
    | 3, k => rw [← g3]; exact congrArg g (k _ _ rfl rfl).symm
  rw [e]
  refine (quarter_eq ρ m' h c j r q).trans ?_
  rw [Layout.block_apply]
  refine congrArg (Cert.ReferenceIdeal.Value.res_out0 m' 0) ?_
  funext x; apply Fin.ext
  match x with
  | ⟨0, _⟩ => exact congrArg (· + r.val) (Nat.mul_comm 1024 c.val)
  | ⟨1, _⟩ => rfl

end Cert.Hop

end
-- ==== Proof.RingProto.lean ====
/-
# The ring: devices, pieces, cells, contents, schedule

Eight devices stand in a ring and make seven hops. Channels 0 and 1 (the two column halves of the clockwise buffer) go to the
next device, channels 2 and 3 (the counter-clockwise buffer) to the previous one. Hop `s` of a channel goes from slot `s % 2`
to the other slot of the device it sends to. A device's shared cells are the runtime's barrier semaphore and, per channel, a
send and a receive cell for each slot, and a credit cell. A credit tells a device that the slot its next hop lands in is free;
with it comes that slot of the neighbour.
-/
module

public import proofs.«01_k».proof.Proof.Pieces
public import proofs.«01_k».proof.Proof.Gen.RingIdeal
public import proofs.«01_k».proof.Proof.Gen.RingIdeal.Skeleton
public import proofs.«01_k».proof.Proof.Gen.RingIdeal.Points
public import proofs.«01_k».proof.Proof.Gen.RingIdeal.Launch
public import Idealize.ShloMosaic.Lib.Pipeline.Launch
public import Idealize.ShloMosaic.Lib.Pipeline.Kit
public import Idealize.ShloMosaic.Lib.Tactic

@[expose] public section

noncomputable section

namespace Cert.Ring

open Cert.RingIdeal Cert.RingIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Counters)).trans embR
abbrev EC : UEmb Counters (MT nD τ sig ℕ (Elt F) ℕ UU ℕ) := countersEmb (U := UU)

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = nxt c := by revert c; decide
theorem dev5_eq (c : Dev nD) : (⟨k0_dev5 c, k0_dev5_lt c⟩ : Dev nD) = prv c := by revert c; decide
theorem dev6_eq (c : Dev nD) : (⟨k0_dev6 c, k0_dev6_lt c⟩ : Dev nD) = prv c := by revert c; decide
theorem dev7_eq (c : Dev nD) : (⟨k0_dev7 c, k0_dev7_lt c⟩ : Dev nD) = prv c := by revert c; decide
theorem dev8_eq (c : Dev nD) : (⟨k0_dev8 c, k0_dev8_lt c⟩ : Dev nD) = nxt c := by revert c; decide
theorem dev9_eq (c : Dev nD) : (⟨k0_dev9 c, k0_dev9_lt c⟩ : Dev nD) = nxt c := by revert c; decide
theorem dev10_eq (c : Dev nD) : (⟨k0_dev10 c, k0_dev10_lt c⟩ : Dev nD) = prv c := by revert c; decide
theorem dev11_eq (c : Dev nD) : (⟨k0_dev11 c, k0_dev11_lt c⟩ : Dev nD) = prv c := by revert c; decide
theorem dev12_eq (c : Dev nD) : (⟨k0_dev12 c, k0_dev12_lt c⟩ : Dev nD) = nxt c := by revert c; decide
theorem dev13_eq (c : Dev nD) : (⟨k0_dev13 c, k0_dev13_lt c⟩ : Dev nD) = nxt c := by revert c; decide
theorem dev14_eq (c : Dev nD) : (⟨k0_dev14 c, k0_dev14_lt c⟩ : Dev nD) = prv c := by revert c; decide

def ring : Dev nD ≃ Dev nD := ⟨nxt, prv, prv_nxt, nxt_prv⟩

/-- Where channel `j` sends, and where it comes from. -/
abbrev tgt : Fin 4 → Dev nD → Dev nD | 0 => nxt | 1 => nxt | 2 => prv | 3 => prv
abbrev org : Fin 4 → Dev nD → Dev nD | 0 => prv | 1 => prv | 2 => nxt | 3 => nxt

theorem org_tgt (j : Fin 4) (c : Dev nD) : org j (tgt j c) = c := by revert j c; decide
theorem tgt_org (j : Fin 4) (c : Dev nD) : tgt j (org j c) = c := by revert j c; decide

def ringOf (j : Fin 4) : Dev nD ≃ Dev nD := ⟨tgt j, org j, org_tgt j, tgt_org j⟩

/-- The row chunk of channel `j`'s `k`-th partial product on a device. -/
def chk (j : Fin 4) (c : Dev nD) (k : ℕ) : Dev nD := (org j)^[k + 1] c
theorem chk_last (j : Fin 4) (c : Dev nD) : chk j c 7 = c := by revert j c; decide

/-! ## The memrefs and their pieces -/

abbrev xM : Memref sig .tc .hbm S8192x1024 .bf16 := Memref.whole main_arg0
abbrev wM : Memref sig .tc .vmem S1024x4096 .bf16 := Memref.whole cc0_stg0_0
abbrev oM : Memref sig .tc .hbm S1024x4096 .f32 := Memref.whole main_v1
abbrev bM : Memref sig .tc .vmem S2x1024x1024 .bf16 := Memref.whole cc0_scratch0
abbrev cwM : Memref sig .tc .vmem S2x1024x2048 .bf16 := Memref.whole cc0_scratch1
abbrev ccM : Memref sig .tc .vmem S2x1024x2048 .bf16 := Memref.whole cc0_scratch2
abbrev alM : Memref sig .tc .vmem S1024x2048 .f32 := Memref.whole cc0_scratch3
abbrev arM : Memref sig .tc .vmem S1024x2048 .f32 := Memref.whole cc0_scratch4

abbrev chM : Fin 4 → Memref sig .tc .vmem S2x1024x2048 .bf16 | 0 => cwM | 1 => cwM | 2 => ccM | 3 => ccM

/-- The slot hop `s` leaves from; it lands in slot `par (s + 1)`. -/
abbrev par (s : ℕ) : Fin 2 := ⟨s % 2, Nat.mod_lt s Nat.two_pos⟩
theorem par_two (s : ℕ) : par (s + 2) = par s := Fin.ext (Nat.add_mod_right s 2)
theorem half_two (s : ℕ) : (s + 2) / 2 = s / 2 + 1 := by omega

/-- Channel `j`'s half of slot `b` of its direction's buffer: offsets, rectangle, piece. -/
abbrev slOff (j : Fin 4) (b : Fin 2) : Fin 3 → Nat := ![b.val, 0, 1024 * (j.val % 2)]
theorem slInb (j : Fin 4) (b : Fin 2) : ∀ a, slOff j b a + S1x1024x1024.size a ≤ S2x1024x2048.size a := by revert j b; decide
abbrev slR (j : Fin 4) (b : Fin 2) : Rect S2x1024x2048 := Rect.unit (s := S2x1024x2048) (slOff j b) S1x1024x1024.size (slInb j b)
abbrev slotP (j : Fin 4) (b : Fin 2) : Memref sig .tc .vmem S1024x1024 .bf16 :=
  ((chM j).slice (slR j b) (fun _ => rfl)).squeeze S1024x1024 squeezes_S1x1024x1024_S1024x1024

abbrev bR : Fin 2 → Rect S2x1024x1024
  | 0 => Rect.unit (s := S2x1024x1024) ![0, 0, 0] S1x1024x1024.size inb_S2x1024x1024_S1x1024x1024_0_0_0
  | 1 => Rect.unit (s := S2x1024x1024) ![1, 0, 0] S1x1024x1024.size inb_S2x1024x1024_S1x1024x1024_1_0_0
abbrev aR0 : Rect S1024x2048 := Rect.unit (s := S1024x2048) ![0, 0] S1024x1024.size inb_S1024x2048_S1024x1024_0_0
abbrev aR1 : Rect S1024x2048 := Rect.unit (s := S1024x2048) ![0, 1024] S1024x1024.size inb_S1024x2048_S1024x1024_0_1024
abbrev aRW : Rect S1024x2048 := Rect.unit (s := S1024x2048) ![0, 0] S1024x2048.size inb_S1024x2048_S1024x2048_0_0

/-- The two slots of the fetched rows; channel `j`'s half of an accumulator, its quarter of the result's columns. -/
abbrev bP0 : Memref sig .tc .vmem S1024x1024 .bf16 :=
  (bM.slice (Rect.unit (s := S2x1024x1024) ![0, 0, 0] S1x1024x1024.size inb_S2x1024x1024_S1x1024x1024_0_0_0) (fun _ => rfl)).squeeze S1024x1024 squeezes_S1x1024x1024_S1024x1024
abbrev bP1 : Memref sig .tc .vmem S1024x1024 .bf16 :=
  (bM.slice (Rect.unit (s := S2x1024x1024) ![1, 0, 0] S1x1024x1024.size inb_S2x1024x1024_S1x1024x1024_1_0_0) (fun _ => rfl)).squeeze S1024x1024 squeezes_S1x1024x1024_S1024x1024
abbrev accP : Fin 4 → Memref sig .tc .vmem S1024x1024 .f32
  | 0 => alM.slice aR0 (fun _ => rfl)
  | 1 => alM.slice aR1 (fun _ => rfl)
  | 2 => arM.slice aR0 (fun _ => rfl)
  | 3 => arM.slice aR1 (fun _ => rfl)
abbrev outP : Fin 4 → Memref sig .tc .hbm S1024x1024 .f32
  | 0 => oM.slice (Rect.unit (s := S1024x4096) ![0, 0] S1024x1024.size inb_S1024x4096_S1024x1024_0_0) (fun _ => rfl)
  | 1 => oM.slice (Rect.unit (s := S1024x4096) ![0, 1024] S1024x1024.size inb_S1024x4096_S1024x1024_0_1024) (fun _ => rfl)
  | 2 => oM.slice (Rect.unit (s := S1024x4096) ![0, 2048] S1024x1024.size inb_S1024x4096_S1024x1024_0_2048) (fun _ => rfl)
  | 3 => oM.slice (Rect.unit (s := S1024x4096) ![0, 3072] S1024x1024.size inb_S1024x4096_S1024x1024_0_3072) (fun _ => rfl)
/-- Channel `j`'s columns of the weights, and a direction's. -/
abbrev wV : Fin 4 → Rect S1024x4096
  | 0 => Rect.unit (s := S1024x4096) ![0, 0] S1024x1024.size inb_S1024x4096_S1024x1024_0_0
  | 1 => Rect.unit (s := S1024x4096) ![0, 1024] S1024x1024.size inb_S1024x4096_S1024x1024_0_1024
  | 2 => Rect.unit (s := S1024x4096) ![0, 2048] S1024x1024.size inb_S1024x4096_S1024x1024_0_2048
  | 3 => Rect.unit (s := S1024x4096) ![0, 3072] S1024x1024.size inb_S1024x4096_S1024x1024_0_3072
abbrev wL : Rect S1024x4096 := Rect.unit (s := S1024x4096) ![0, 0] S1024x2048.size inb_S1024x4096_S1024x2048_0_0
abbrev wR : Rect S1024x4096 := Rect.unit (s := S1024x4096) ![0, 2048] S1024x2048.size inb_S1024x4096_S1024x2048_0_2048
abbrev wD : Fin 4 → Rect S1024x4096 | 0 => wL | 1 => wL | 2 => wR | 3 => wR

theorem xinb (k : Dev nD) : ∀ a, (![1024 * k.val, 0] : Fin 2 → Nat) a + S1024x1024.size a ≤ S8192x1024.size a := by revert k; decide
/-- Row chunk `k` of the device's block of the left operand. -/
abbrev xP (k : Dev nD) : Memref sig .tc .hbm S1024x1024 .bf16 := xM.slice (Rect.unit (s := S8192x1024) ![1024 * k.val, 0] S1024x1024.size (xinb k)) (fun _ => rfl)

/-! The printed offsets at these. -/

theorem trips_eq : k0_t1_loop.trips = 6 := by decide

theorem off1_eq (c : Dev nD) : k0_off1 c = ![1024 * (chk 0 c 0).val, 0] := by revert c; decide
theorem off6_eq (c : Dev nD) : k0_off6 c = ![1024 * (chk 2 c 0).val, 0] := by revert c; decide
theorem off7_eq (c : Dev nD) (k : Fin k0_t1_loop.trips) : k0_off7 c k = ![1024 * (chk 0 c (k.val + 1)).val, 0] := by revert c k; decide
theorem off15_eq (c : Dev nD) (k : Fin k0_t1_loop.trips) : k0_off15 c k = ![1024 * (chk 2 c (k.val + 1)).val, 0] := by revert c k; decide
theorem off23_eq (c : Dev nD) : k0_off23 c = ![1024 * (chk 0 c 7).val, 0] := by revert c; decide
theorem off24_eq (c : Dev nD) : k0_off24 c = ![1024 * (chk 2 c 7).val, 0] := by revert c; decide

theorem off30 : k0_off3 0#32 = slOff 0 0 := by decide
theorem off31 : k0_off3 1#32 = slOff 0 1 := by decide
theorem off36 : k0_off3 6#32 = slOff 0 0 := by decide
theorem off37 : k0_off3 7#32 = slOff 0 1 := by decide
theorem off50 : k0_off5 0#32 = slOff 1 0 := by decide
theorem off51 : k0_off5 1#32 = slOff 1 1 := by decide
theorem off56 : k0_off5 6#32 = slOff 1 0 := by decide
theorem off57 : k0_off5 7#32 = slOff 1 1 := by decide
section Trip
variable (k : Fin k0_t1_loop.trips)
theorem off9_eq : k0_off9 k = slOff 0 (par k.val) := by revert k; decide
theorem off10_eq : k0_off10 k = slOff 0 (par (k.val + 1)) := by revert k; decide
theorem off12_eq : k0_off12 k = slOff 0 (par (k.val + 1)) := by revert k; decide
theorem off14_eq : k0_off14 k = slOff 0 (par k.val) := by revert k; decide
theorem off17_eq : k0_off17 k = slOff 1 (par k.val) := by revert k; decide
theorem off18_eq : k0_off18 k = slOff 1 (par (k.val + 1)) := by revert k; decide
theorem off20_eq : k0_off20 k = slOff 1 (par (k.val + 1)) := by revert k; decide
theorem off22_eq : k0_off22 k = slOff 1 (par k.val) := by revert k; decide
end Trip

abbrev sqM (M : Memref sig .tc .vmem S1x1024x1024 .bf16) : Memref sig .tc .vmem S1024x1024 .bf16 := M.squeeze S1024x1024 squeezes_S1x1024x1024_S1024x1024

/-- A printed slice of a direction's buffer is a slot piece once its offsets are. -/
theorem slot_of (j : Fin 4) (b : Fin 2) {o : Fin 3 → Nat} (h : o = slOff j b) (hi : ∀ a, o a + S1x1024x1024.size a ≤ S2x1024x2048.size a) :
    ((chM j).slice (Rect.unit (s := S2x1024x2048) o S1x1024x1024.size hi) (fun _ => rfl)).squeeze S1024x1024 squeezes_S1x1024x1024_S1024x1024 = slotP j b := by
  subst h; rfl
theorem rect_of (j : Fin 4) (b : Fin 2) {o : Fin 3 → Nat} (h : o = slOff j b) (hi : ∀ a, o a + S1x1024x1024.size a ≤ S2x1024x2048.size a) :
    Rect.unit (s := S2x1024x2048) o S1x1024x1024.size hi = slR j b := by
  subst h; rfl
theorem chunk_of (k : Dev nD) {o : Fin 2 → Nat} (h : o = ![1024 * k.val, 0]) (hi : ∀ a, o a + S1024x1024.size a ≤ S8192x1024.size a) :
    xM.slice (Rect.unit (s := S8192x1024) o S1024x1024.size hi) (fun _ => rfl) = xP k := by
  subst h; rfl

/-! ## The semaphores -/

abbrev barS : Sem sig := (SemArray.scalar (sig.barrier 0 rfl) : Sems sig S_).sem
abbrev sendS : Fin 4 → Fin 2 → DmaSem sig
  | 0, 0 => 7 | 0, 1 => 9 | 1, 0 => 8 | 1, 1 => 10 | 2, 0 => 15 | 2, 1 => 17 | 3, 0 => 16 | 3, 1 => 18
abbrev recvS : Fin 4 → Fin 2 → DmaSem sig
  | 0, 0 => 11 | 0, 1 => 13 | 1, 0 => 12 | 1, 1 => 14 | 2, 0 => 19 | 2, 1 => 21 | 3, 0 => 20 | 3, 1 => 22
abbrev freeS : Fin 4 → Sem sig | 0 => 0 | 1 => 1 | 2 => 2 | 3 => 3

theorem sx0 : ((cc0_scratch5.slice (Rect.unit (s := S2) ![0] S1.size inb_S2_S1_0)).squeeze S_ squeezes_S1_S_).sem = (1 : DmaSem sig) := by decide
theorem sx1 : ((cc0_scratch5.slice (Rect.unit (s := S2) ![1] S1.size inb_S2_S1_1)).squeeze S_ squeezes_S1_S_).sem = (2 : DmaSem sig) := by decide
theorem so0 : ((cc0_scratch6.slice (Rect.unit (s := S4) ![0] S1.size inb_S4_S1_0)).squeeze S_ squeezes_S1_S_).sem = (3 : DmaSem sig) := by decide
theorem so1 : ((cc0_scratch6.slice (Rect.unit (s := S4) ![1] S1.size inb_S4_S1_1)).squeeze S_ squeezes_S1_S_).sem = (4 : DmaSem sig) := by decide
theorem so2 : ((cc0_scratch6.slice (Rect.unit (s := S4) ![2] S1.size inb_S4_S1_2)).squeeze S_ squeezes_S1_S_).sem = (5 : DmaSem sig) := by decide
theorem so3 : ((cc0_scratch6.slice (Rect.unit (s := S4) ![3] S1.size inb_S4_S1_3)).squeeze S_ squeezes_S1_S_).sem = (6 : DmaSem sig) := by decide
theorem sf0 : ((cc0_scratch11.slice (Rect.unit (s := S2) ![0] S1.size inb_S2_S1_0)).squeeze S_ squeezes_S1_S_).sem = freeS 0 := by decide
theorem sf1 : ((cc0_scratch11.slice (Rect.unit (s := S2) ![1] S1.size inb_S2_S1_1)).squeeze S_ squeezes_S1_S_).sem = freeS 1 := by decide
theorem sf2 : ((cc0_scratch12.slice (Rect.unit (s := S2) ![0] S1.size inb_S2_S1_0)).squeeze S_ squeezes_S1_S_).sem = freeS 2 := by decide
theorem sf3 : ((cc0_scratch12.slice (Rect.unit (s := S2) ![1] S1.size inb_S2_S1_1)).squeeze S_ squeezes_S1_S_).sem = freeS 3 := by decide

/-- A channel's transfer semaphores by their row and column of a two-by-two array. -/
abbrev smOff (j : Fin 4) (b : Fin 2) : Fin 2 → Nat := ![b.val, j.val % 2]
theorem smInb (j : Fin 4) (b : Fin 2) : ∀ a, smOff j b a + S1x1.size a ≤ S2x2.size a := by revert j b; decide
abbrev sendA : Fin 4 → DmaSems sig S2x2 | 0 => cc0_scratch7 | 1 => cc0_scratch7 | 2 => cc0_scratch9 | 3 => cc0_scratch9
abbrev recvA : Fin 4 → DmaSems sig S2x2 | 0 => cc0_scratch8 | 1 => cc0_scratch8 | 2 => cc0_scratch10 | 3 => cc0_scratch10
theorem send_at (j : Fin 4) (b : Fin 2) : (((sendA j).slice (Rect.unit (s := S2x2) (smOff j b) S1x1.size (smInb j b))).squeeze S_ squeezes_S1x1_S_).sem = sendS j b := by
  revert j b; decide
theorem recv_at (j : Fin 4) (b : Fin 2) : (((recvA j).slice (Rect.unit (s := S2x2) (smOff j b) S1x1.size (smInb j b))).squeeze S_ squeezes_S1x1_S_).sem = recvS j b := by
  revert j b; decide
theorem send_of (j : Fin 4) (b : Fin 2) {o : Fin 2 → Nat} (h : o = smOff j b) (hi : ∀ a, o a + S1x1.size a ≤ S2x2.size a) :
    (((sendA j).slice (Rect.unit (s := S2x2) o S1x1.size hi)).squeeze S_ squeezes_S1x1_S_).sem = sendS j b := by
  subst h; exact send_at j b
theorem recv_of (j : Fin 4) (b : Fin 2) {o : Fin 2 → Nat} (h : o = smOff j b) (hi : ∀ a, o a + S1x1.size a ≤ S2x2.size a) :
    (((recvA j).slice (Rect.unit (s := S2x2) o S1x1.size hi)).squeeze S_ squeezes_S1x1_S_).sem = recvS j b := by
  subst h; exact recv_at j b
theorem off20 : k0_off2 0#32 = smOff 0 0 := by decide
theorem off21 : k0_off2 1#32 = smOff 0 1 := by decide
theorem off26 : k0_off2 6#32 = smOff 0 0 := by decide
theorem off27 : k0_off2 7#32 = smOff 0 1 := by decide
theorem off40 : k0_off4 0#32 = smOff 1 0 := by decide
theorem off41 : k0_off4 1#32 = smOff 1 1 := by decide
theorem off46 : k0_off4 6#32 = smOff 1 0 := by decide
theorem off47 : k0_off4 7#32 = smOff 1 1 := by decide
section Trip
variable (k : Fin k0_t1_loop.trips)
theorem off8_eq : k0_off8 k = smOff 0 (par k.val) := by revert k; decide
theorem off11_eq : k0_off11 k = smOff 0 (par (k.val + 1)) := by revert k; decide
theorem off13_eq : k0_off13 k = smOff 0 (par k.val) := by revert k; decide
theorem off16_eq : k0_off16 k = smOff 1 (par k.val) := by revert k; decide
theorem off19_eq : k0_off19 k = smOff 1 (par (k.val + 1)) := by revert k; decide
theorem off21_eq : k0_off21 k = smOff 1 (par k.val) := by revert k; decide
end Trip

/-- The shared cells of a device: the barrier, per channel the credit cell, the send cells, the receive cells. -/
abbrev KI : Type := Unit ⊕ (Fin 4 ⊕ (Fin 4 × Fin 2 ⊕ Fin 4 × Fin 2))
@[match_pattern] abbrev kB : KI := .inl ()
@[match_pattern] abbrev kF (j : Fin 4) : KI := .inr (.inl j)
@[match_pattern] abbrev kS (j : Fin 4) (b : Fin 2) : KI := .inr (.inr (.inl (j, b)))
@[match_pattern] abbrev kR (j : Fin 4) (b : Fin 2) : KI := .inr (.inr (.inr (j, b)))

abbrev csem : KI → SemLoc sig
  | kB => .reg barS
  | kF j => .reg (freeS j)
  | kS j b => .dma (sendS j b)
  | kR j b => .dma (recvS j b)
abbrev kcell (ck : Dev nD × KI) : GSem nD τ sig := ((ck.1 : Thread nD τ), csem ck.2)

abbrev barCell (c : Dev nD) : GSem nD τ sig := kcell (c, kB)
abbrev freeCell (c : Dev nD) (j : Fin 4) : GSem nD τ sig := kcell (c, kF j)
abbrev sendCell (c : Dev nD) (j : Fin 4) (b : Fin 2) : GSem nD τ sig := kcell (c, kS j b)
abbrev recvCell (c : Dev nD) (j : Fin 4) (b : Fin 2) : GSem nD τ sig := kcell (c, kR j b)

theorem free_inj : ∀ i j : Fin 4, csem (kF i) = csem (kF j) → i = j := by decide
theorem free_ne_bar : ∀ i : Fin 4, csem (kF i) ≠ csem kB := by decide
theorem send_inj : ∀ (i : Fin 4) (b : Fin 2) (j : Fin 4) (b' : Fin 2), csem (kS i b) = csem (kS j b') → i = j ∧ b = b' := by decide
theorem recv_inj : ∀ (i : Fin 4) (b : Fin 2) (j : Fin 4) (b' : Fin 2), csem (kR i b) = csem (kR j b') → i = j ∧ b = b' := by decide
theorem send_ne_recv : ∀ (i : Fin 4) (b : Fin 2) (j : Fin 4) (b' : Fin 2), csem (kS i b) ≠ csem (kR j b') := by decide
theorem csem_inj : ∀ a b : KI, csem a = csem b → a = b
  | kB, kB, _ => rfl
  | kB, kF j, h => absurd h.symm (free_ne_bar j)
  | kB, kS _ _, h => by cases h
  | kB, kR _ _, h => by cases h
  | kF j, kB, h => absurd h (free_ne_bar j)
  | kF i, kF j, h => by rw [free_inj i j h]
  | kF _, kS _ _, h => by cases h
  | kF _, kR _ _, h => by cases h
  | kS _ _, kB, h => by cases h
  | kS _ _, kF _, h => by cases h
  | kS i b, kS j b', h => by rw [(send_inj i b j b' h).1, (send_inj i b j b' h).2]
  | kS i b, kR j b', h => absurd h (send_ne_recv i b j b')
  | kR _ _, kB, h => by cases h
  | kR _ _, kF _, h => by cases h
  | kR i b, kS j b', h => absurd h.symm (send_ne_recv j b' i b)
  | kR i b, kR j b', h => by rw [(recv_inj i b j b' h).1, (recv_inj i b j b' h).2]
theorem kcell_injective : Function.Injective (kcell : Dev nD × KI → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_inj k k' h2]

open Classical in
/-- Which shared cell a semaphore is. -/
def key (s : SemLoc sig) : Option KI := if h : ∃ k, csem k = s then some h.choose else none
theorem key_csem (k : KI) : key (csem k) = some k := by
  have h : ∃ k', csem k' = csem k := ⟨k, rfl⟩
  unfold key; rw [dif_pos h, csem_inj _ _ h.choose_spec]
theorem key_none {s : SemLoc sig} (h : ∀ k, csem k ≠ s) : key s = none := by
  unfold key; rw [dif_neg (fun ⟨k, e⟩ => h k e)]

/-- The credit of one piece. -/
abbrev N : ℕ := (slotP 0 0).view.dmaCredit
theorem N_pos : 0 < N := View.dmaCredit_pos _ (by decide)
theorem N_slot (j : Fin 4) (b : Fin 2) : (slotP j b).view.dmaCredit = N := by fin_cases j <;> rfl

/-! ## Contents -/

/-- The weights' staging buffer, row chunk `k` of a device's left operand. -/
def wstg (c : Dev nD) : (cc0_stg0_0 : Ref sig .tc).ty.Contents (Elt F) :=
  (win0_0.blk (0 : Fin 1)).view.read (Elt F) ((s₀ m ρ).mem ((c : Thread nD τ).loc main_arg1))
def xrd (c k : Dev nD) : S1024x1024.Idx → Elt F .bf16 := (xP k).view.read (Elt F) (m ((c : Thread nD τ).loc main_arg0))

abbrev hq : S1024x1024.numel = S1x1024x1024.numel := squeezes_S1x1024x1024_S1024x1024.numel_eq
/-- What a load of one slot sees of a piece, and what a piece holds after a store of one slot. -/
def up (X : S1024x1024.Idx → Elt F .bf16) : Vec F S1x1024x1024 .bf16 := unsq hq X
def dn (X : Vec F S1x1024x1024 .bf16) : S1024x1024.Idx → Elt F .bf16 := sq hq X

/-- Channel `j`'s columns of the device's weights, and its direction's. -/
def wrd (c : Dev nD) : Fin 4 → Vec F S1024x1024 .bf16
  | 0 => (wM.access (wV 0)).read (Elt F) (wstg m ρ c)
  | 1 => (wM.access (wV 1)).read (Elt F) (wstg m ρ c)
  | 2 => (wM.access (wV 2)).read (Elt F) (wstg m ρ c)
  | 3 => (wM.access (wV 3)).read (Elt F) (wstg m ρ c)
def wdr (c : Dev nD) : Fin 4 → Vec F S1024x2048 .bf16
  | 0 => (wM.access wL).read (Elt F) (wstg m ρ c)
  | 1 => (wM.access wL).read (Elt F) (wstg m ρ c)
  | 2 => (wM.access wR).read (Elt F) (wstg m ρ c)
  | 3 => (wM.access wR).read (Elt F) (wstg m ρ c)

/-- The first partial product of a channel; -/
def part0 (c : Dev nD) (j : Fin 4) : Vec F S1024x1024 .f32 := k0_pay8 (up (xrd m c (chk j c 0))) (wrd m ρ c j)
/-- the `k`-th one, its direction's at once, and the channel's half; -/
def partW (c : Dev nD) (j : Fin 4) (k : ℕ) : Vec F S1024x2048 .f32 := k0_pay1 (up (xrd m c (chk j c k))) (wdr m ρ c j)
def partK (c : Dev nD) (j : Fin 4) (k : ℕ) : Vec F S1024x1024 .f32 :=
  match j with
  | 0 => fun i => partW m ρ c 0 k (aR0.emb i)
  | 1 => fun i => partW m ρ c 1 k (aR1.emb i)
  | 2 => fun i => partW m ρ c 2 k (aR0.emb i)
  | 3 => fun i => partW m ρ c 3 k (aR1.emb i)
/-- what hop `s` carries: the first partial product, or what the hop before brought and the device's own next partial product; -/
def sentAt (j : Fin 4) : ℕ → Dev nD → S1024x1024.Idx → Elt F .bf16
  | 0, c => dn (k0_pay9 (part0 m ρ c j))
  | s + 1, c => dn (k0_pay3 (k0_pay2 (up (sentAt j s (org j c))) (partK m ρ c j (s + 1))))
/-- and the result's quarter. -/
def outAt (c : Dev nD) (j : Fin 4) : Vec F S1024x1024 .f32 := k0_pay17 (up (sentAt m ρ j 6 (org j c))) (partK m ρ c j 7)

/-! ## The schedule -/

/-- The hop a round of a receive cell is of. -/
abbrev hop (b : Fin 2) (r : ℕ) : ℕ := 2 * r + (1 - b.val)
theorem hop_par (s : ℕ) : hop (par (s + 1)) (s / 2) = s := by unfold hop par; dsimp only; omega

/-- What a barrier duty hands device `c`: the slots its neighbour's first hops land in. -/
def barPay (c : Dev nD) (d : Bool) : sProp 𝕄 :=
  if d then iprop(pcAny (nxt c) (slotP 0 1).view ∗ pcAny (nxt c) (slotP 1 1).view)
  else iprop(pcAny (prv c) (slotP 2 1).view ∗ pcAny (prv c) (slotP 3 1).view)
/-- A send cell hands the piece that was sent back; -/
def sendPay (c : Dev nD) (j : Fin 4) (b : Fin 2) : sProp 𝕄 := pcAny c (slotP j b).view
/-- a receive cell what hop `s` carried, and that the sender's credit cell has come to round `s`; -/
def recvPay (c : Dev nD) (j : Fin 4) (b : Fin 2) (s : ℕ) : sProp 𝕄 :=
  iprop(pc c (slotP j b).view (sentAt m ρ j s (org j c)) ∗ reached ER (freeCell (org j c) j) s)
/-- a credit cell the slot of the neighbour that hop `s + 1` lands in, and that the neighbour's receive cell of it is free. -/
def creditPay (c : Dev nD) (j : Fin 4) (s : ℕ) : sProp 𝕄 :=
  iprop(pcAny (tgt j c) (slotP j (par (s + 1 + 1))).view ∗ reached ER (recvCell (tgt j c) j (par (s + 1 + 1))) ((s + 1) / 2))

abbrev krounds : KI → ℕ
  | kB => 1
  | kF _ => 6
  | kS _ b => if b = 0 then 4 else 3
  | kR _ b => if b = 1 then 4 else 3
def kduties : KI → Finset Bool
  | kB => Finset.univ
  | _ => {false}
def kamount : KI → ℕ
  | kB => 1
  | kF _ => 1
  | kS _ _ => N
  | kR _ _ => N
def kpay (c : Dev nD) (r : ℕ) (d : Bool) : KI → sProp 𝕄
  | kB => barPay c d
  | kF j => creditPay c j r
  | kS j b => sendPay c j b
  | kR j b => recvPay m ρ c j b (hop b r)

omit [FloatOps F] in
theorem reached_st (g : GSem nD τ sig) (r : ℕ) : BI.Storable (upEmb : UEmb _ 𝕄) (reached ER g r : sProp 𝕄) := inferInstance

instance kpay_storable (c : Dev nD) (r : ℕ) (d : Bool) (k : KI) : BI.Storable (upEmb : UEmb _ 𝕄) (kpay (F := F) m ρ c r d k) := by
  rcases k with ⟨⟩ | j | ⟨j, b⟩ | ⟨j, b⟩
  · show BI.Storable _ (barPay c d); unfold barPay; split <;> infer_instance
  · show BI.Storable _ (creditPay c j r); unfold creditPay; infer_instance
  · show BI.Storable _ (sendPay c j b); unfold sendPay; infer_instance
  · show BI.Storable _ (recvPay m ρ c j b (hop b r)); unfold recvPay; infer_instance

/-- The barrier has one round of two duties, `false` from the previous device and `true` from the next one; every other cell has
    as many rounds as there are hops, or credits, for it, each of one duty. -/
def sched : Rounds.Schedule (GSem nD τ sig) Bool 𝕄 where
  duties g r := match key g.2 with
    | none => ∅
    | some k => if g.1.2 = .tc ∧ r < krounds k then kduties k else ∅
  unitless _ := False
  amount g _ _ := match key g.2 with
    | none => 1
    | some k => kamount k
  payload g r d := match key g.2 with
    | none => iprop(emp)
    | some k => kpay m ρ g.1.1 r d k
  amount_pos g _ _ _ := by
    rcases key g.2 with _ | k
    · exact Nat.one_pos
    · rcases k with ⟨⟩ | j | ⟨j, b⟩ | ⟨j, b⟩
      · exact Nat.one_pos
      · exact Nat.one_pos
      · exact N_pos
      · exact N_pos

instance sched_payload_storable (g : GSem nD τ sig) (r : ℕ) (d : Bool) : BI.Storable (upEmb : UEmb _ 𝕄) ((sched (F := F) m ρ).payload g r d) := by
  dsimp only [sched]; split <;> infer_instance

section Sched
variable (c : Dev nD) (k : KI)

theorem duties_k {r : ℕ} (h : r < krounds k) : (sched (F := F) m ρ).duties (kcell (c, k)) r = kduties k := by
  dsimp only [sched, kcell]; rw [key_csem]; exact if_pos ⟨rfl, h⟩
theorem duties_later {r : ℕ} (h : krounds k ≤ r) : (sched (F := F) m ρ).duties (kcell (c, k)) r = ∅ := by
  dsimp only [sched, kcell]; rw [key_csem]; exact if_neg (fun e => absurd e.2 (Nat.not_lt.mpr h))
theorem amount_k (r : ℕ) (d : Bool) : (sched (F := F) m ρ).amount (kcell (c, k)) r d = kamount k := by
  dsimp only [sched, kcell]; rw [key_csem]
theorem payload_k (r : ℕ) (d : Bool) : (sched (F := F) m ρ).payload (kcell (c, k)) r d = kpay m ρ c r d k := by
  dsimp only [sched, kcell]; rw [key_csem]
theorem expect_bar : (sched (F := F) m ρ).expect (barCell c) 0 = 2 := by
  unfold Schedule.expect Schedule.amountOf
  rw [duties_k m ρ c kB Nat.one_pos, Finset.sum_congr rfl fun d _ => amount_k m ρ c kB 0 d]
  show ∑ _ : Bool, 1 = 2
  rw [Finset.sum_const, Finset.card_univ, Fintype.card_bool, smul_eq_mul]
/-- The rest of the barrier cell's round, no duty taken: both neighbours' landing slots. -/
theorem rest_bar : bigSep ((sched (F := F) m ρ).duties (barCell c) 0 \ ∅) (fun d => (sched (F := F) m ρ).payload (barCell c) 0 d)
    = iprop(barPay c false ∗ barPay c true) := by
  rw [Finset.sdiff_empty, duties_k m ρ c kB Nat.one_pos]
  show bigSep Finset.univ _ = _
  rw [bigSep_univ_eq_bigSepL [false, true] (by decide) (by decide), bigSepL_cons_cons, bigSepL_singleton, payload_k, payload_k]
  rfl

end Sched

/-! ## What a device owes; the levels -/

/-- The place of a channel in the order the steps take them. -/
abbrev ord : Fin 4 → ℕ | 0 => 0 | 1 => 2 | 2 => 1 | 3 => 3

/-- Hop `h` of channel `j`: the units its receive cell gets; and the credit given after hop `s`. -/
def dueR (c : Dev nD) (j : Fin 4) (h : ℕ) : CellTallies nD τ sig ℕ := tallyAt (recvCell (tgt j c) j (par (h + 1))) h N
def dueC (c : Dev nD) (j : Fin 4) (s : ℕ) : CellTallies nD τ sig ℕ := tallyAt (freeCell (org j c) j) s 1
/-- The dues of step `s`, from its last one: per channel a credit, then the next hop. -/
def dueAt (c : Dev nD) (s : ℕ) : ℕ → CellTallies nD τ sig ℕ
  | 0 => dueR c 3 (s + 1)
  | 1 => dueC c 3 s
  | 2 => dueR c 1 (s + 1)
  | 3 => dueC c 1 s
  | 4 => dueR c 2 (s + 1)
  | 5 => dueC c 2 s
  | 6 => dueR c 0 (s + 1)
  | _ => dueC c 0 s
/-- The last `i` dues of step `s`, over what is owed after it; -/
def Omm (c : Dev nD) (s : ℕ) : ℕ → CellTallies nD τ sig ℕ → CellTallies nD τ sig ℕ
  | 0, O => O
  | i + 1, O => Omm c s i O + dueAt c s i
/-- the dues of the last `q` of the six steps; -/
def Os (c : Dev nD) : ℕ → CellTallies nD τ sig ℕ
  | 0 => 0
  | q + 1 => Omm c (5 - q) 8 (Os c q)
/-- the channel of the `n`-th first hop from the last; all steps' dues and the last `n` first hops; -/
abbrev chn : ℕ → Fin 4 | 0 => 3 | 1 => 2 | 2 => 1 | _ => 0
def Or (c : Dev nD) : ℕ → CellTallies nD τ sig ℕ
  | 0 => Os c 6
  | n + 1 => Or c n + dueR c (chn n) 0
/-- and both neighbours' barrier cells a unit each, the first signal's outermost. -/
def O₁ (c : Dev nD) : CellTallies nD τ sig ℕ := Or c 4 + tallyAt (barCell (nxt c)) 0 1
def O₀ (c : Dev nD) : CellTallies nD τ sig ℕ := O₁ c + tallyAt (barCell (prv c)) 0 1

theorem Os_step (c : Dev nD) {s : ℕ} (h : s < 6) : Os c (6 - s) = Omm c s 8 (Os c (5 - s)) := by
  have e : 6 - s = (5 - s) + 1 := by omega
  rw [e]
  show Omm c (5 - (5 - s)) 8 (Os c (5 - s)) = _
  rw [show 5 - (5 - s) = s by omega]

def L (g : GSem nD τ sig) : Finset ℕ := if g.1.2 = .tc then Finset.range 8 else ∅
abbrev klv : KI → ℕ → ℕ
  | kB, _ => 1
  | kF j, u => 3 + 8 * u + 2 * ord j
  | kS _ _, _ => 0
  | kR j _, u => 2 + 8 * u + 2 * ord j
/-- Barrier cells at 1; receive and credit cells by hop, then by the steps' order, a receive cell just below the credit cell of
    its hop; everything else at 0. -/
def lv (g : GSem nD τ sig) (u : ℕ) : ℕ := match key g.2 with
  | none => 0
  | some k => klv k u

theorem L_of_ne (g : GSem nD τ sig) (h : g.1.2 ≠ .tc) : L g = ∅ := if_neg h
theorem L_tc (c : Dev nD) (sm : SemLoc sig) : L ((c : Thread nD τ), sm) = Finset.range 8 := if_pos rfl
theorem lv_k (c : Dev nD) (k : KI) (u : ℕ) : lv (kcell (c, k)) u = klv k u := by
  dsimp only [lv, kcell]; rw [key_csem]

theorem key_local : ∀ q : DmaSem sig, (∀ j b, csem (kS j b) ≠ .dma q) → (∀ j b, csem (kR j b) ≠ .dma q) → key (.dma q) = none :=
  fun q h₁ h₂ => key_none fun
    | kB, e => by cases e
    | kF _, e => by cases e
    | kS j b, e => h₁ j b e
    | kR j b, e => h₂ j b e
theorem lv_local (c : Dev nD) (q : DmaSem sig) (h₁ : ∀ j b, csem (kS j b) ≠ .dma q) (h₂ : ∀ j b, csem (kR j b) ≠ .dma q) (u : ℕ) :
    lv ((c : Thread nD τ), .dma q) u = 0 := by
  dsimp only [lv]; rw [key_local q h₁ h₂]

/-- Everything owed lies at a level above `50 - n`. -/
def Pend (O : CellTallies nD τ sig ℕ) (n : ℕ) : Prop := ∀ g u, 0 < O g u → 51 ≤ lv g u + n ∧ g.1.2 = .tc ∧ u < 8

theorem pend_zero (n : ℕ) : Pend 0 n := fun g u h => absurd h (Nat.lt_irrefl 0)
theorem pend_mono {O : CellTallies nD τ sig ℕ} {n n' : ℕ} (h : Pend O n) (hn : n ≤ n') : Pend O n' :=
  fun g u hg => ⟨by have := (h g u hg).1; omega, (h g u hg).2⟩
theorem pend_add {O : CellTallies nD τ sig ℕ} {n : ℕ} (h : Pend O n) (c : Dev nD) (k : KI) (w a : ℕ) (hl : 51 ≤ klv k w + n) (hw : w < 8) :
    Pend (O + tallyAt (kcell (c, k)) w a) n := by
  intro g u hg
  rw [Pi.add_apply, Finsupp.add_apply, tallyAt_apply] at hg
  by_cases h' : g = kcell (c, k) ∧ u = w
  · obtain ⟨rfl, rfl⟩ := h'
    exact ⟨by rw [lv_k]; exact hl, rfl, hw⟩
  · rw [if_neg h', Nat.add_zero] at hg; exact h g u hg

theorem pend_due {O : CellTallies nD τ sig ℕ} (c : Dev nD) {s n : ℕ} (hs : s < 6) (i : ℕ) (hi : i < 8) (hn : n + 8 * s = 41 + i) (h : Pend O n) :
    Pend (O + dueAt c s i) n := by
  obtain rfl | rfl | rfl | rfl | rfl | rfl | rfl | rfl : i = 0 ∨ i = 1 ∨ i = 2 ∨ i = 3 ∨ i = 4 ∨ i = 5 ∨ i = 6 ∨ i = 7 := by omega
  · exact pend_add h _ (kR 3 _) _ _ (by dsimp only [klv, ord]; omega) (by omega)
  · exact pend_add h _ (kF 3) _ _ (by dsimp only [klv, ord]; omega) (by omega)
  · exact pend_add h _ (kR 1 _) _ _ (by dsimp only [klv, ord]; omega) (by omega)
  · exact pend_add h _ (kF 1) _ _ (by dsimp only [klv, ord]; omega) (by omega)
  · exact pend_add h _ (kR 2 _) _ _ (by dsimp only [klv, ord]; omega) (by omega)
  · exact pend_add h _ (kF 2) _ _ (by dsimp only [klv, ord]; omega) (by omega)
  · exact pend_add h _ (kR 0 _) _ _ (by dsimp only [klv, ord]; omega) (by omega)
  · exact pend_add h _ (kF 0) _ _ (by dsimp only [klv, ord]; omega) (by omega)

theorem pend_omm {O : CellTallies nD τ sig ℕ} (c : Dev nD) {s n : ℕ} (hs : s < 6) (hn : n + 8 * s = 40) (h : Pend O n) :
    ∀ i, i ≤ 8 → Pend (Omm c s i O) (n + i)
  | 0, _ => h
  | i + 1, hi => pend_due c hs i (by omega) (by omega) (pend_mono (pend_omm c hs hn h i (by omega)) (by omega))
theorem pend_os (c : Dev nD) : ∀ q, q ≤ 6 → Pend (Os c q) (8 * q)
  | 0, _ => pend_zero _
  | q + 1, h => pend_omm c (s := 5 - q) (by omega) (by omega) (pend_os c q (by omega)) 8 (le_refl 8)
/-- What is owed in step `s` before its last `i` dues. -/
theorem pend_step (c : Dev nD) {s i : ℕ} (hs : s < 6) (hi : i ≤ 8) : Pend (Omm c s i (Os c (5 - s))) (8 * (5 - s) + i) :=
  pend_omm c hs (by omega) (pend_os c (5 - s) (by omega)) i hi
theorem pend_or (c : Dev nD) : ∀ n, Pend (Or c n) 49
  | 0 => pend_mono (pend_os c 6 (le_refl 6)) (by decide)
  | n + 1 => pend_add (pend_or c n) _ (kR (chn n) _) _ _ (by dsimp only [klv]; omega) (by decide)
theorem pend_start (c : Dev nD) : Pend (O₀ c) 50 :=
  pend_add (pend_add (pend_mono (pend_or c 4) (by decide)) _ kB _ _ (by decide) (by decide)) _ kB _ _ (by decide) (by decide)

omit [FloatOps F] in
/-- A wait on a cell below everything owed. -/
theorem mayWait_pend (c : Dev nD) (sm : SemLoc sig) (u : ℕ) (hu : u < 8) {O : CellTallies nD τ sig ℕ} {n : ℕ} (hO : Pend O n)
    (h : lv ((c : Thread nD τ), sm) u + n ≤ 50) : (levAts L lv : sProp 𝕄) ⊢ MayWait (c : Thread nD τ) sm u O :=
  MayOwe.of_cut (L := L) (lev := lv) (50 - n) (fun p hp => by rw [Finset.mem_singleton.mp hp, L_tc]; exact Finset.mem_range.mpr hu)
    (fun g w hg => by unfold L; rw [if_pos (hO g w hg).2.1]; exact Finset.mem_range.mpr (hO g w hg).2.2)
    (fun p hp => by rw [Finset.mem_singleton.mp hp]; show lv ((c : Thread nD τ), sm) u ≤ 50 - n; omega)
    (fun g w hg => by have := (hO g w hg).1; omega)
omit [FloatOps F] in
theorem mayWait_zero (c : Dev nD) (sm : SemLoc sig) (u : ℕ) : (levAts L lv : sProp 𝕄) ⊢ MayWait (c : Thread nD τ) sm u 0 := by
  rw [MayWait_zero]; iintro -; iempintro
omit [FloatOps F] in
/-- A wait on a cell of the device's own, what is owed at 49 or higher. -/
theorem mayWait_local (c : Dev nD) (q : DmaSem sig) (h₁ : ∀ j b, csem (kS j b) ≠ .dma q) (h₂ : ∀ j b, csem (kR j b) ≠ .dma q)
    {O : CellTallies nD τ sig ℕ} {n : ℕ} (hO : Pend O n) (hn : n ≤ 50) : (levAts L lv : sProp 𝕄) ⊢ MayWait (c : Thread nD τ) (.dma q) 0 O :=
  mayWait_pend c _ 0 (by decide) hO (by rw [lv_local c q h₁ h₂]; omega)

end Cert.Ring

end
-- ==== Proof.RingSteps.lean ====
/-
# The steps at the shared cells

What a device holds of its shared cells, and the body's steps there: the two barrier signals and the barrier's wait; a hop of a
channel, the waits for its send and its receive cell, the credit given and the credit waited for.
-/
module

public import proofs.«01_k».proof.Proof.RingProto

@[expose] public section

noncomputable section

namespace Cert.Ring

open Cert.RingIdeal Cert.RingIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × KI → ℕ) (c : Dev nD)

abbrev 𝒱₀ : Variants := Variants.none

/-- Every device's shared cells' invariants, and that all cells have come to round 0. -/
def records : sProp 𝕄 :=
  iprop((bigSep Finset.univ fun ck : Dev nD × KI => cellInv ER (sched m ρ) (K ck) (kcell ck))
    ∗ bigSep Finset.univ fun ck : Dev nD × KI => reached ER (kcell ck) 0)
instance records_persistent : BI.Persistent (records (F := F) m ρ K) := by unfold records; infer_instance

theorem inv_at (ck : Dev nD × KI) : records m ρ K ⊢ cellInv ER (sched m ρ) (K ck) (kcell ck) := by
  have h : (bigSep Finset.univ fun ck : Dev nD × KI => (cellInv ER (sched m ρ) (K ck) (kcell ck) : sProp 𝕄)) ⊢ cellInv ER (sched m ρ) (K ck) (kcell ck) :=
    bigSep_elim (Finset.mem_univ ck)
  unfold records
  iintro ⟨H, -⟩
  iapply h; iexact H
theorem reached_at (ck : Dev nD × KI) : records m ρ K ⊢ reached ER (kcell ck) 0 := by
  have h : (bigSep Finset.univ fun ck : Dev nD × KI => (reached ER (kcell ck) 0 : sProp 𝕄)) ⊢ reached ER (kcell ck) 0 := bigSep_elim (Finset.mem_univ ck)
  unfold records
  iintro ⟨-, H⟩
  iapply h; iexact H

/-! ## What is held of a channel -/

/-- Where the send cell of hop `h` stands before it, the receive cell, the credit cell; -/
def pS (j : Fin 4) (h : ℕ) : sProp 𝕄 :=
  iprop(atPos ER (sendCell c j (par h)) (h / 2) ∅ 0 ∗ reached ER (sendCell c j (par h)) (h / 2))
def pR (j : Fin 4) (h : ℕ) : sProp 𝕄 :=
  iprop(atPos ER (recvCell c j (par (h + 1))) (h / 2) ∅ 0 ∗ reached ER (recvCell c j (par (h + 1))) (h / 2))
def pF (j : Fin 4) (s : ℕ) : sProp 𝕄 := atPos ER (freeCell c j) s ∅ 0
/-- the credit of hop `h`'s waits, and of the wait for the credit after it; -/
def sCred (j : Fin 4) (h : ℕ) : sProp 𝕄 := cred (tallyAt (sendCell c j (par h)) 0 N)
def rCred (j : Fin 4) (h : ℕ) : sProp 𝕄 := cred (tallyAt (recvCell c j (par (h + 1))) h N)
def fCred (j : Fin 4) (s : ℕ) : sProp 𝕄 := cred (tallyAt (freeCell c j) s 1)
/-- the duties of hop `h` and of the credit given after it; -/
def txTok (j : Fin 4) (h : ℕ) : sProp 𝕄 :=
  iprop(dutyTok ER (sendCell c j (par h)) (h / 2) false ∗ dutyTok ER (recvCell (tgt j c) j (par (h + 1))) (h / 2) false)
def fTok (j : Fin 4) (s : ℕ) : sProp 𝕄 := dutyTok ER (freeCell (org j c) j) s false
/-- where hop `h` lands, free; -/
def landing (j : Fin 4) (h : ℕ) : sProp 𝕄 :=
  iprop(pcAny (tgt j c) (slotP j (par (h + 1))).view ∗ reached ER (recvCell (tgt j c) j (par (h + 1))) (h / 2) ∗ reached ER (freeCell c j) h)
/-- what step `s` uses up. -/
def item (j : Fin 4) (s : ℕ) : sProp 𝕄 :=
  iprop(txTok c j (s + 1) ∗ fTok c j s ∗ rCred c j (s + 1) ∗ fCred c j s)

/-- Hop `h` is under way; -/
def Fly (j : Fin 4) (h : ℕ) : sProp 𝕄 :=
  iprop(sCred c j h ∗ rCred c j h ∗ pS c j h ∗ pS c j (h + 1) ∗ pR c j h ∗ pR c j (h + 1) ∗ pF c j h)
/-- its source is back; it has arrived; -/
def Fly1 (j : Fin 4) (h : ℕ) : sProp 𝕄 :=
  iprop(rCred c j h ∗ pS c j (h + 1) ∗ pS c j (h + 2) ∗ pR c j h ∗ pR c j (h + 1) ∗ pF c j h ∗ pcAny c (slotP j (par h)).view)
def Fly2 (j : Fin 4) (h : ℕ) : sProp 𝕄 :=
  iprop(pS c j (h + 1) ∗ pS c j (h + 2) ∗ pR c j (h + 1) ∗ pR c j (h + 2) ∗ pF c j h ∗ pcAny c (slotP j (par h)).view ∗ reached ER (freeCell (org j c) j) h)
/-- the credit for it is given; the credit for the next hop is there. -/
def Fly3 (j : Fin 4) (s : ℕ) : sProp 𝕄 :=
  iprop(pS c j (s + 1) ∗ pS c j (s + 2) ∗ pR c j (s + 1) ∗ pR c j (s + 2) ∗ pF c j s ∗ txTok c j (s + 1) ∗ rCred c j (s + 1) ∗ fCred c j s)
def Fly4 (j : Fin 4) (s : ℕ) : sProp 𝕄 :=
  iprop(pS c j (s + 1) ∗ pS c j (s + 2) ∗ pR c j (s + 1) ∗ pR c j (s + 2) ∗ pF c j (s + 1) ∗ txTok c j (s + 1) ∗ rCred c j (s + 1) ∗ landing c j (s + 1))

theorem payload_b (d : Bool) : (sched (F := F) m ρ).payload (barCell c) 0 d = barPay c d := payload_k m ρ c kB 0 d
theorem payload_s (j : Fin 4) (b : Fin 2) (r : ℕ) (d : Bool) : (sched (F := F) m ρ).payload (sendCell c j b) r d = sendPay c j b :=
  payload_k m ρ c (kS j b) r d
theorem payload_r (j : Fin 4) (b : Fin 2) (r : ℕ) (d : Bool) : (sched (F := F) m ρ).payload (recvCell c j b) r d = recvPay m ρ c j b (hop b r) :=
  payload_k m ρ c (kR j b) r d
theorem payload_f (j : Fin 4) (r : ℕ) (d : Bool) : (sched (F := F) m ρ).payload (freeCell c j) r d = creditPay c j r :=
  payload_k m ρ c (kF j) r d
theorem roundS (j : Fin 4) {h : ℕ} (hh : h < 7) : h / 2 < krounds (kS j (par h)) := by
  obtain rfl | rfl | rfl | rfl | rfl | rfl | rfl : h = 0 ∨ h = 1 ∨ h = 2 ∨ h = 3 ∨ h = 4 ∨ h = 5 ∨ h = 6 := by omega
  all_goals exact of_decide_eq_true rfl
theorem roundR (j : Fin 4) {h : ℕ} (hh : h < 7) : h / 2 < krounds (kR j (par (h + 1))) := by
  obtain rfl | rfl | rfl | rfl | rfl | rfl | rfl : h = 0 ∨ h = 1 ∨ h = 2 ∨ h = 3 ∨ h = 4 ∨ h = 5 ∨ h = 6 := by omega
  all_goals exact of_decide_eq_true rfl

variable {α : Type} {Q : α → sProp (MT nD τ sig ℕ (Elt F) ℕ UU ℕ)}

/-- What the two barrier signals take. -/
def sigTok : sProp 𝕄 := iprop(dutyTok ER (barCell (prv c)) 0 true ∗ dutyTok ER (barCell (nxt c)) 0 false)

/-- The signal to the previous device's barrier cell, with the slots the first hops of channels 0 and 1 land in; then the one to
    the next device's, with those of channels 2 and 3. -/
theorem wp_signals (n₁ n₂ : Dev nD) (h₁ : n₁ = prv c) (h₂ : n₂ = nxt c) {k : PUnit → Prog (TpuEff nD τ sig (Elt F) Λ₀ .tc) α} :
    iprop(records m ρ K ∗ sigTok c ∗ ow c (O₀ c) ∗ pcAny c (slotP 0 1).view ∗ pcAny c (slotP 1 1).view ∗ pcAny c (slotP 2 1).view ∗ pcAny c (slotP 3 1).view)
      ⊢ iprop((ow c (Or c 4) -∗ wp frame (wpE (defs₀ (F := F)) 𝒱₀ (c : Thread nD τ) none) Set.univ (k ⟨⟩) Q)
        -∗ wp frame (wpE (defs₀ (F := F)) 𝒱₀ (c : Thread nD τ) none) Set.univ
            (.op (.semSignal (n₁, .tc) barS (1#32 : BitVec 32).toInt) fun _ => .op (.semSignal (n₂, .tc) barS (1#32 : BitVec 32).toInt) k) Q) := by
  subst h₁ h₂
  unfold sigTok ow
  iintro ⟨#HK, ⟨Htp, Htn⟩, ⟨%W, HO⟩, H0, H1, H2, H3⟩ Hk
  iapply (Rounds.wp_signal 𝒱₀ ER (sched m ρ) (c : Thread nD τ) none (dst := (prv c : Thread nD τ)) (κ := K (prv c, kB))
      (d := true) (by rw [duties_k m ρ (prv c) kB Nat.one_pos]; exact Finset.mem_univ _) ((amount_k m ρ (prv c) kB 0 true).trans (by decide)) 0 (O₁ c) rfl)
    $$ [HO Htp H0 H1]
  · isplitr; · iapply (inv_at m ρ K (prv c, kB)); iexact HK
    isplitl [HO]; · iexact HO
    isplitl [Htp]; · iexact Htp
    isplitl [H0 H1]
    · iapply (Entails.of_eq (payload_b m ρ (prv c) true).symm)
      unfold barPay; rw [if_pos rfl, nxt_prv]
      isplitl [H0] <;> iassumption
    iapply (reached_at m ρ K (prv c, kB)); iexact HK
  iintro HO
  iapply (Rounds.wp_signal 𝒱₀ ER (sched m ρ) (c : Thread nD τ) none (dst := (nxt c : Thread nD τ)) (κ := K (nxt c, kB))
      (d := false) (by rw [duties_k m ρ (nxt c) kB Nat.one_pos]; exact Finset.mem_univ _) ((amount_k m ρ (nxt c) kB 0 false).trans (by decide)) 0 (Or c 4) rfl)
    $$ [HO Htn H2 H3]
  · isplitr; · iapply (inv_at m ρ K (nxt c, kB)); iexact HK
    isplitl [HO]; · iexact HO
    isplitl [Htn]; · iexact Htn
    isplitl [H2 H3]
    · iapply (Entails.of_eq (payload_b m ρ (nxt c) false).symm)
      unfold barPay; rw [if_neg (by decide), prv_nxt]
      isplitl [H2] <;> iassumption
    iapply (reached_at m ρ K (nxt c, kB)); iexact HK
  iintro HO
  iapply Hk
  iexists W; iexact HO

/-- A neighbour's free slot is where a first hop lands. -/
theorem landing_zero (j : Fin 4) : iprop(records m ρ K ∗ pcAny (tgt j c) (slotP j 1).view) ⊢ landing c j 0 := by
  unfold landing
  iintro ⟨#HK, H⟩
  isplitl [H]; · iexact H
  isplitr
  · iapply (reached_at m ρ K (tgt j c, kR j 1)); iexact HK
  iapply (reached_at m ρ K (c, kF j)); iexact HK

/-- The wait on the device's own barrier cell: where the first hops land. -/
theorem wp_barrier {k : PUnit → Prog (TpuEff nD τ sig (Elt F) Λ₀ .tc) α} :
    iprop(records m ρ K ∗ atPos ER (barCell c) 0 ∅ 0 ∗ cred (tallyAt (barCell c) 0 2) ∗ ow c (Or c 4) ∗ levAts L lv)
      ⊢ iprop((iprop(ow c (Or c 4) ∗ atPos ER (barCell c) 1 ∅ 0 ∗ landing c 0 0 ∗ landing c 1 0 ∗ landing c 2 0 ∗ landing c 3 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (2#32 : BitVec 32).toInt) k) Q) := by
  unfold ow
  iintro ⟨#HK, Hat, Hc, ⟨%W, HO⟩, Hlev⟩ Hk
  iapply (Rounds.wp_wait_rest_token 𝒱₀ ER (sched m ρ) (c : Thread nD τ) none (κ := K (c, kB))
      (wpE_semWait_eq 𝒱₀ (c : Thread nD τ) none Set.univ) (Set.mem_univ _) 0 (O := Or c 4) (W := W) (R := 0) (m := 0) (T := ∅)
      (by rw [expect_bar]; decide)) $$ [Hc HO Hat Hlev]
  · isplitr; · iapply (inv_at m ρ K (c, kB)); iexact HK
    isplitl [Hc]; · iexact Hc
    isplitl [HO]; · iexact HO
    isplitl [Hlev]; · iapply (mayWait_pend c (.reg barS) 0 (by decide) (pend_or c 4) (by rw [lv_k c kB 0])); iexact Hlev
    iexact Hat
  iintro ⟨HO, Hat, -, Hpay⟩
  ihave Hp := (Entails.of_eq (rest_bar m ρ c)) $$ Hpay
  unfold barPay
  rw [if_neg (by decide), if_pos rfl]
  icases Hp with ⟨⟨H2, H3⟩, H0, H1⟩
  iapply Hk
  isplitl [HO]; · iexists _; iexact HO
  isplitl [Hat]; · iexact Hat
  isplitl [H0]; · iapply (landing_zero m ρ K c 0); isplitr; · iexact HK
                  iexact H0
  isplitl [H1]; · iapply (landing_zero m ρ K c 1); isplitr; · iexact HK
                  iexact H1
  isplitl [H2]; · iapply (landing_zero m ρ K c 2); isplitr; · iexact HK
                  iexact H2
  iapply (landing_zero m ρ K c 3); isplitr; · iexact HK
  iexact H3

/-- Hop `h` of channel `j`. -/
theorem wp_tx (j : Fin 4) (h : ℕ) (hh : h < 7) (d : Dev nD) (hd : d = tgt j c)
    {src dst : Memref sig .tc .vmem S1024x1024 .bf16} {s₁ s₂ : DmaSem sig} (h₁ : src = slotP j (par h)) (h₂ : dst = slotP j (par (h + 1)))
    (h₃ : s₁ = sendS j (par h)) (h₄ : s₂ = recvS j (par (h + 1)))
    {hsc : (dst : Memref sig (Dev.tc d : Thread nD τ).2.kind .vmem S1024x1024 .bf16).view.ref.isScScratch = false}
    {hsrc : src.view.WordExact} {hdst : dst.view.WordExact}
    {hsem : DmaTarget.Typed .vmem (.dma s₂) (.remote (Dev.tc d : Thread nD τ) dst (.dma s₁) hsc)}
    {k : PUnit → Prog (TpuEff nD τ sig (Elt F) Λ₀ .tc) α} {O₀ : CellTallies nD τ sig ℕ} (O : CellTallies nD τ sig ℕ) (hO : O₀ = O + dueR c j h) :
    iprop(records m ρ K ∗ pS c j h ∗ txTok c j h ∗ landing c j h ∗ pc c (slotP j (par h)).view (sentAt m ρ j h c) ∗ ow c O₀)
      ⊢ iprop((iprop(pS c j h ∗ sCred c j h ∗ ow c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma s₁) hsc) (.dma s₂) hsrc hdst hsem) k) Q) := by
  subst hd; subst h₁; subst h₂; subst h₃; subst h₄
  unfold pS txTok landing sCred ow
  iintro ⟨#HK, ⟨Hat, #Hr1⟩, ⟨Ht1, Ht2⟩, ⟨Hd, #Hr2, #Hr3⟩, Hs, ⟨%W, HO⟩⟩ Hk
  unfold pc pcAny
  icases Hs with ⟨%fs, %hX, Hs⟩
  icases Hd with ⟨%fd, Hd⟩
  iapply (Rounds.wp_send_pointsTo_with 𝒱₀ ER (sched m ρ) (c : Thread nD τ) none (c' := (tgt j c : Thread nD τ)) (src := slotP j (par h))
    (dst := slotP j (par (h + 1))) (κ₁ := K (c, kS j (par h))) (κ₂ := K (tgt j c, kR j (par (h + 1)))) (fs := fs) (fd := fd)
    (F := reached ER (freeCell c j) h) (r₁ := h / 2) (r₂ := h / 2) (d₁ := false) (d₂ := false)
    (by rw [duties_k m ρ c (kS j (par h)) (roundS j hh)]; exact Finset.mem_singleton_self _)
    (by rw [duties_k m ρ (tgt j c) (kR j (par (h + 1))) (roundR j hh)]; exact Finset.mem_singleton_self _)
    h 0 N (show (slotP j (par (h + 1))).view.amount (.dma (recvS j (par (h + 1)))) = N from N_slot j (par (h + 1))) (amount_k m ρ c (kS j (par h)) _ _) (amount_k m ρ (tgt j c) (kR j (par (h + 1))) _ _) O hO (W := W)
    ((by
      refine BIBase.Entails.trans ?_ (Entails.of_eq (payload_k m ρ c (kS j (par h)) _ _).symm)
      show _ ⊢ sendPay c j (par h)
      unfold sendPay pcAny
      iintro H
      iexists fs
      iexact H))
    ((by
      refine BIBase.Entails.trans ?_ (Entails.of_eq (payload_k m ρ (tgt j c) (kR j (par (h + 1))) _ _).symm)
      show _ ⊢ recvPay m ρ (tgt j c) j (par (h + 1)) (hop (par (h + 1)) (h / 2))
      rw [hop_par]
      unfold recvPay pc
      rw [org_tgt]
      iintro ⟨H, HF⟩
      isplitl [H]
      · iexists _
        isplitr
        · ipureintro; exact (View.read_write_univ (v := (slotP j (par (h + 1))).view) fd ((slotP j (par h)).view.read (Elt F) fs)).trans hX
        iexact H
      iexact HF)) (by routes)) $$ [Hs Hd HO Ht1 Ht2]
  · isplitr; · iapply (inv_at m ρ K (c, kS j (par h))); iexact HK
    isplitr; · iapply (inv_at m ρ K (tgt j c, kR j (par (h + 1)))); iexact HK
    isplitl [Hs]; · iexact Hs
    isplitl [Hd]
    · isplitl [Hd]; · iexact Hd
      iexact Hr3
    isplitl [HO]; · iexact HO
    isplitl [Ht1]; · iexact Ht1
    isplitr; · iexact Hr1
    isplitl [Ht2]; · iexact Ht2
    iexact Hr2
  iintro ⟨Hc, HO⟩
  iapply Hk
  isplitl [Hat]
  · isplitl [Hat]; · iexact Hat
    iexact Hr1
  isplitl [Hc]; · iexact Hc
  iexists W; iexact HO

/-- The wait for hop `h`'s send cell: the source is back. -/
theorem wp_sent (j : Fin 4) (h : ℕ) (hh : h < 7) {a b : Memref sig .tc .vmem S1024x1024 .bf16} {s₁ : DmaSem sig} (h₂ : b = slotP j (par h))
    (h₃ : s₁ = sendS j (par h)) {hsrc : a.view.WordExact} {hdst : b.view.WordExact} {O : CellTallies nD τ sig ℕ}
    (hM : (levAts L lv : sProp 𝕄) ⊢ MayWait (c : Thread nD τ) (.dma (sendS j (par h))) 0 O)
    {k : PUnit → Prog (TpuEff nD τ sig (Elt F) Λ₀ .tc) α} :
    iprop(records m ρ K ∗ levAts L lv ∗ Fly c j h ∗ ow c O)
      ⊢ iprop((iprop(ow c O ∗ Fly1 c j h) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s₁ a b hsrc hdst) k) Q) := by
  subst h₂; subst h₃
  unfold Fly Fly1 pS sCred
  iintro ⟨#HK, #HL, ⟨Hc, C2, ⟨Hat, -⟩, P1, P2, P3, P4⟩, HO⟩ Hk
  iapply (wp_wait_round 𝒱₀ c ER (sched m ρ) (κ := K (c, kS j (par h))) N 0 (R := h / 2) (d := false) (N_slot j (par h))
    (duties_k m ρ c (kS j (par h)) (roundS j hh)) (amount_k m ρ c (kS j (par h)) _ false) (O := O)) $$ [Hat Hc HO]
  · isplitr; · iapply (inv_at m ρ K (c, kS j (par h))); iexact HK
    isplitl [Hc]; · iexact Hc
    isplitl [HO]; · iexact HO
    isplitr; · iapply hM; iexact HL
    iexact Hat
  iintro ⟨HO, Hat, #Hr, Hp⟩
  ihave Hp := (Entails.of_eq (payload_s m ρ c j (par h) (h / 2) false)) $$ Hp
  unfold sendPay
  iapply Hk
  isplitl [HO]; · iexact HO
  isplitl [C2]; · iexact C2
  isplitl [P1]; · iexact P1
  isplitl [Hat]
  · rw [par_two, half_two]
    isplitl [Hat]; · iexact Hat
    iexact Hr
  isplitl [P2]; · iexact P2
  isplitl [P3]; · iexact P3
  isplitl [P4]; · iexact P4
  iexact Hp

/-- The wait for hop `h`'s receive cell: what the neighbour sent. -/
theorem wp_received (j : Fin 4) (h : ℕ) (hh : h < 7) {a b : Memref sig .tc .vmem S1024x1024 .bf16} {s₁ : DmaSem sig} (h₂ : b = slotP j (par (h + 1)))
    (h₃ : s₁ = recvS j (par (h + 1))) {hsrc : a.view.WordExact} {hdst : b.view.WordExact} {O : CellTallies nD τ sig ℕ}
    (hM : (levAts L lv : sProp 𝕄) ⊢ MayWait (c : Thread nD τ) (.dma (recvS j (par (h + 1)))) h O)
    {k : PUnit → Prog (TpuEff nD τ sig (Elt F) Λ₀ .tc) α} :
    iprop(records m ρ K ∗ levAts L lv ∗ Fly1 c j h ∗ ow c O)
      ⊢ iprop((iprop(ow c O ∗ Fly2 c j h ∗ pc c (slotP j (par (h + 1))).view (sentAt m ρ j h (org j c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s₁ a b hsrc hdst) k) Q) := by
  subst h₂; subst h₃
  unfold Fly1 Fly2 pR rCred
  iintro ⟨#HK, #HL, ⟨Hc, P1, P2, ⟨Hat, -⟩, P3, P4, P5⟩, HO⟩ Hk
  iapply (wp_wait_round 𝒱₀ c ER (sched m ρ) (κ := K (c, kR j (par (h + 1)))) N h (R := h / 2) (d := false) (N_slot j (par (h + 1)))
    (duties_k m ρ c (kR j (par (h + 1))) (roundR j hh)) (amount_k m ρ c (kR j (par (h + 1))) _ false) (O := O)) $$ [Hat Hc HO]
  · isplitr; · iapply (inv_at m ρ K (c, kR j (par (h + 1)))); iexact HK
    isplitl [Hc]; · iexact Hc
    isplitl [HO]; · iexact HO
    isplitr; · iapply hM; iexact HL
    iexact Hat
  iintro ⟨HO, Hat, #Hr, Hp⟩
  ihave Hp := (Entails.of_eq (payload_r m ρ c j (par (h + 1)) (h / 2) false)) $$ Hp
  rw [hop_par]
  unfold recvPay
  icases Hp with ⟨Hp, #Hf⟩
  iapply Hk
  isplitl [HO]; · iexact HO
  isplitl [P1 P2 P3 P4 P5 Hat]
  · isplitl [P1]; · iexact P1
    isplitl [P2]; · iexact P2
    isplitl [P3]; · iexact P3
    isplitl [Hat]
    · rw [show h + 2 + 1 = (h + 1) + 2 from rfl, par_two (h + 1), half_two]
      isplitl [Hat]; · iexact Hat
      iexact Hr
    isplitl [P4]; · iexact P4
    isplitl [P5]; · iexact P5
    iexact Hf
  iexact Hp

/-- The credit given after hop `s`: the slot it left from. -/
theorem wp_credit (j : Fin 4) (s : ℕ) (hs : s < 6) (d : Dev nD) (hd : d = org j c) {q : Sem sig} (hq : q = freeS j)
    {O₀ : CellTallies nD τ sig ℕ} (O : CellTallies nD τ sig ℕ) (hO : O₀ = O + dueC c j s)
    {k : PUnit → Prog (TpuEff nD τ sig (Elt F) Λ₀ .tc) α} :
    iprop(records m ρ K ∗ Fly2 c j s ∗ item c j s ∗ ow c O₀)
      ⊢ iprop((iprop(ow c O ∗ Fly3 c j s) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d, .tc) q (1#32 : BitVec 32).toInt) k) Q) := by
  subst hd; subst hq
  unfold Fly2 Fly3 item fTok ow
  iintro ⟨#HK, ⟨P1, P2, P3, P4, P5, P6, #Hf⟩, ⟨T1, T2, C1, C2⟩, ⟨%W, HO⟩⟩ Hk
  unfold pR
  icases P3 with ⟨P3, #Hr⟩
  iapply (Rounds.wp_signal 𝒱₀ ER (sched m ρ) (c : Thread nD τ) none (dst := (org j c : Thread nD τ)) (κ := K (org j c, kF j)) (r := s)
      (d := false) (by rw [duties_k m ρ (org j c) (kF j) hs]; exact Finset.mem_singleton_self _) ((amount_k m ρ (org j c) (kF j) s false).trans (show 1 = _ by decide)) s O hO
      (by routes)) $$ [HO T2 P6]
  · isplitr; · iapply (inv_at m ρ K (org j c, kF j)); iexact HK
    isplitl [HO]; · iexact HO
    isplitl [T2]; · iexact T2
    isplitl [P6]
    · iapply (Entails.of_eq (payload_f m ρ (org j c) j s false).symm)
      unfold creditPay
      rw [tgt_org]
      isplitl [P6]
      · rw [show s + 1 + 1 = s + 2 from rfl, par_two]; iexact P6
      iexact Hr
    iexact Hf
  iintro HO
  iapply Hk
  isplitl [HO]; · iexists W; iexact HO
  isplitl [P1]; · iexact P1
  isplitl [P2]; · iexact P2
  isplitl [P3]
  · isplitl [P3]; · iexact P3
    iexact Hr
  isplitl [P4]; · iexact P4
  isplitl [P5]; · iexact P5
  isplitl [T1]; · iexact T1
  isplitl [C1]; · iexact C1
  iexact C2

/-- The wait for the credit of hop `s + 1`: where it lands. -/
theorem wp_credited (j : Fin 4) (s : ℕ) (hs : s < 6) {q : Sem sig} (hq : q = freeS j) {O : CellTallies nD τ sig ℕ}
    (hM : (levAts L lv : sProp 𝕄) ⊢ MayWait (c : Thread nD τ) (.reg (freeS j)) s O)
    {k : PUnit → Prog (TpuEff nD τ sig (Elt F) Λ₀ .tc) α} :
    iprop(records m ρ K ∗ levAts L lv ∗ Fly3 c j s ∗ ow c O)
      ⊢ iprop((iprop(ow c O ∗ Fly4 c j s) -∗ wp frame (wpE (defs₀ (F := F)) 𝒱₀ (c : Thread nD τ) none) Set.univ (k ⟨⟩) Q)
          -∗ wp frame (wpE (defs₀ (F := F)) 𝒱₀ (c : Thread nD τ) none) Set.univ (.op (.semWait q (1#32 : BitVec 32).toInt) k) Q) := by
  subst hq
  unfold Fly3 Fly4 pF fCred ow
  iintro ⟨#HK, #HL, ⟨P1, P2, P3, P4, Hat, T1, C1, Hc⟩, ⟨%W, HO⟩⟩ Hk
  have hex : 0 + (1#32 : BitVec 32).toInt.toNat = (sched (F := F) m ρ).expect (freeCell c j) s := by
    unfold Schedule.expect Schedule.amountOf
    rw [duties_k m ρ c (kF j) hs]
    show _ = ∑ d ∈ {false}, _
    rw [Finset.sum_singleton, amount_k]; rfl
  iapply (Rounds.wp_wait_rest_token 𝒱₀ ER (sched m ρ) (c : Thread nD τ) none (κ := K (c, kF j))
      (wpE_semWait_eq 𝒱₀ (c : Thread nD τ) none Set.univ) (Set.mem_univ _) s (O := O) (W := W) (R := s) (m := 0) (T := ∅) hex) $$ [Hc HO Hat]
  · isplitr; · iapply (inv_at m ρ K (c, kF j)); iexact HK
    isplitl [Hc]; · iexact Hc
    isplitl [HO]; · iexact HO
    isplitr; · iapply hM; iexact HL
    iexact Hat
  iintro ⟨HO, Hat, #Hr, Hp⟩
  have hpay : bigSep ((sched (F := F) m ρ).duties (freeCell c j) s \ ∅) (fun d => (sched (F := F) m ρ).payload (freeCell c j) s d) = creditPay c j s := by
    rw [Finset.sdiff_empty, duties_k m ρ c (kF j) hs]
    show bigSep {false} _ = _
    rw [bigSep_singleton, payload_f]
  ihave Hp := (Entails.of_eq hpay) $$ Hp
  unfold creditPay
  icases Hp with ⟨Hp, #Hq⟩
  iapply Hk
  isplitl [HO]; · iexists _; iexact HO
  isplitl [P1]; · iexact P1
  isplitl [P2]; · iexact P2
  isplitl [P3]; · iexact P3
  isplitl [P4]; · iexact P4
  isplitl [Hat]; · iexact Hat
  isplitl [T1]; · iexact T1
  isplitl [C1]; · iexact C1
  unfold landing
  isplitl [Hp]; · iexact Hp
  isplitr; · iexact Hq
  iexact Hr

/-- Hop `s + 1`, its credit there. -/
theorem wp_next (j : Fin 4) (s : ℕ) (hs : s < 6) (d : Dev nD) (hd : d = tgt j c)
    {src dst : Memref sig .tc .vmem S1024x1024 .bf16} {s₁ s₂ : DmaSem sig} (h₁ : src = slotP j (par (s + 1))) (h₂ : dst = slotP j (par s))
    (h₃ : s₁ = sendS j (par (s + 1))) (h₄ : s₂ = recvS j (par s))
    {hsc : (dst : Memref sig (Dev.tc d : Thread nD τ).2.kind .vmem S1024x1024 .bf16).view.ref.isScScratch = false}
    {hsrc : src.view.WordExact} {hdst : dst.view.WordExact}
    {hsem : DmaTarget.Typed .vmem (.dma s₂) (.remote (Dev.tc d : Thread nD τ) dst (.dma s₁) hsc)}
    {k : PUnit → Prog (TpuEff nD τ sig (Elt F) Λ₀ .tc) α} {O₀ : CellTallies nD τ sig ℕ} (O : CellTallies nD τ sig ℕ) (hO : O₀ = O + dueR c j (s + 1)) :
    iprop(records m ρ K ∗ Fly4 c j s ∗ pc c (slotP j (par (s + 1))).view (sentAt m ρ j (s + 1) c) ∗ ow c O₀)
      ⊢ iprop((iprop(ow c O ∗ Fly c j (s + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma s₁) hsc) (.dma s₂) hsrc hdst hsem) k) Q) := by
  rw [← par_two s] at h₂ h₄
  unfold Fly4 Fly
  iintro ⟨#HK, ⟨P1, P2, P3, P4, P5, T, C, HL⟩, Hp, HO⟩ Hk
  iapply (wp_tx m ρ K c j (s + 1) (by omega) d hd h₁ h₂ h₃ h₄ O hO) $$ [P1 T HL Hp HO]
  · isplitr; · iexact HK
    isplitl [P1]; · iexact P1
    isplitl [T]; · iexact T
    isplitl [HL]; · iexact HL
    isplitl [Hp] <;> iassumption
  iintro ⟨P1, Hs, HO⟩
  iapply Hk
  isplitl [HO]; · iexact HO
  isplitl [Hs]; · iexact Hs
  isplitl [C]; · iexact C
  isplitl [P1]; · iexact P1
  isplitl [P2]; · iexact P2
  isplitl [P3]; · iexact P3
  isplitl [P4]; · iexact P4
  iexact P5

end Cert.Ring

end
-- ==== Proof.RingCuts.lean ====
/-
# The scratch buffers and the result in pieces

Each scratch buffer is the family of its pieces, contents forgotten: the fetched rows' two slots, a direction's four
quarters, an accumulator's two halves. The result is its four column quarters. An accumulator is stored whole once: there
its halves are joined, and cut again.
-/
module

public import proofs.«01_k».proof.Proof.RingProto

@[expose] public section

noncomputable section

namespace Cert.Ring

open Cert.RingIdeal Cert.RingIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (c : Dev nD)

section Any
variable (b : Ref sig .tc) {B : Type} [Fintype B] [DecidableEq B] (r : B → Rect b.ty.shape)
  (key : b.ty.shape.Idx → B) (hk : ∀ j i, i ∈ (r j).set ↔ key i = j)

omit [FloatOps F] in
include hk in
/-- A buffer at some contents is its pieces at some contents. -/
theorem cutAny : (iprop(∃ f : Buf (Elt F) ((c : Thread nD τ).loc b), ((c : Thread nD τ).loc b) ↦{fullShare} f) : sProp 𝕄)
    ⊢ bigSep Finset.univ fun j => pcAny c ((View.whole b).slice (r j)) := by
  have h (f : Buf (Elt F) ((c : Thread nD τ).loc b)) : (((c : Thread nD τ).loc b) ↦{fullShare} f : sProp 𝕄)
      ⊢ bigSep Finset.univ fun j => pcAny c ((View.whole b).slice (r j)) :=
    (cut c b r key hk f).trans (bigSep_mono fun j _ => pc_any c ((View.whole b).slice (r j)) (((View.whole b).slice (r j)).read (Elt F) f))
  iintro ⟨%f, H⟩
  iapply (h f) $$ H

omit [FloatOps F] in
include hk in
theorem pasteAny (f₀ : Buf (Elt F) ((c : Thread nD τ).loc b)) :
    bigSep Finset.univ (fun j => (pcAny c ((View.whole b).slice (r j)) : sProp 𝕄))
      ⊢ iprop(∃ f : Buf (Elt F) ((c : Thread nD τ).loc b), ((c : Thread nD τ).loc b) ↦{fullShare} f) := by
  have : ∀ j, Nonempty ((r j).shape.Idx → Elt F b.ty.elt) := fun j => ⟨((View.whole b).slice (r j)).read (Elt F) f₀⟩
  refine (bigSep_mono fun j _ => pcAny_pc c ((View.whole b).slice (r j))).trans ?_
  refine (bigSep_exists_pi Finset.univ (fun j X => (pc c ((View.whole b).slice (r j)) X : sProp 𝕄))).trans ?_
  iintro ⟨%X, H⟩
  ihave H := (paste c b r key hk f₀ X) $$ H
  icases H with ⟨%g, -, H⟩
  iexists g; iexact H

end Any

omit [FloatOps F] in
theorem fam2 (Φ : Fin 2 → sProp 𝕄) : bigSep Finset.univ Φ = iprop(Φ 0 ∗ Φ 1) := by
  rw [bigSep_univ_eq_bigSepL [0, 1] (by decide) (by decide), bigSepL_cons_cons, bigSepL_singleton]; rfl
omit [FloatOps F] in
theorem fam4 (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl

/-! ## The keys: which piece an index lies in -/

def bKey (i : S2x1024x1024.Idx) : Fin 2 := if (i 0).val = 0 then 0 else 1
theorem bKey_spec (j : Fin 2) (i : S2x1024x1024.Idx) : i ∈ (bR j).set ↔ bKey i = j := by
  have h0 : (i 0).val < 2 := (i 0).isLt
  have h1 : (i 1).val < 1024 := (i 1).isLt
  have h2 : (i 2).val < 1024 := (i 2).isLt
  unfold bKey
  fin_cases j <;> (simp only [bR]; rw [Rect.mem_set_unit, Fin.forall_fin_succ, Fin.forall_fin_succ, Fin.forall_fin_succ]) <;>
    (by_cases h : (i 0).val = 0 <;> simp [h, S1x1024x1024, Matrix.cons_val_zero, Matrix.cons_val_one] <;> omega)

/-- A direction's buffer: its two column halves of slot 0, then of slot 1. -/
abbrev cR : Fin 4 → Rect S2x1024x2048
  | 0 => Rect.unit (s := S2x1024x2048) ![0, 0, 0] S1x1024x1024.size (by decide)
  | 1 => Rect.unit (s := S2x1024x2048) ![0, 0, 1024] S1x1024x1024.size (by decide)
  | 2 => Rect.unit (s := S2x1024x2048) ![1, 0, 0] S1x1024x1024.size (by decide)
  | 3 => Rect.unit (s := S2x1024x2048) ![1, 0, 1024] S1x1024x1024.size (by decide)
def cKey (i : S2x1024x2048.Idx) : Fin 4 :=
  if (i 0).val = 0 then (if (i 2).val < 1024 then 0 else 1) else (if (i 2).val < 1024 then 2 else 3)
theorem cKey_spec (j : Fin 4) (i : S2x1024x2048.Idx) : i ∈ (cR j).set ↔ cKey i = j := by
  have h0 : (i 0).val < 2 := (i 0).isLt
  have h1 : (i 1).val < 1024 := (i 1).isLt
  have h2 : (i 2).val < 2048 := (i 2).isLt
  unfold cKey
  fin_cases j <;> (simp only [cR]; rw [Rect.mem_set_unit, Fin.forall_fin_succ, Fin.forall_fin_succ, Fin.forall_fin_succ]) <;>
    (by_cases h : (i 0).val = 0 <;> by_cases h' : (i 2).val < 1024 <;> simp [h, h', S1x1024x1024, Matrix.cons_val_zero, Matrix.cons_val_one] <;> omega)

abbrev hR : Fin 2 → Rect S1024x2048 | 0 => aR0 | 1 => aR1
def hKey (i : S1024x2048.Idx) : Fin 2 := if (i 1).val < 1024 then 0 else 1
theorem hKey_spec (j : Fin 2) (i : S1024x2048.Idx) : i ∈ (hR j).set ↔ hKey i = j := by
  have h0 : (i 0).val < 1024 := (i 0).isLt
  have h1 : (i 1).val < 2048 := (i 1).isLt
  unfold hKey
  fin_cases j <;> (simp only [hR]; rw [Rect.mem_set_unit, Fin.forall_fin_succ, Fin.forall_fin_succ]) <;>
    (by_cases h : (i 1).val < 1024 <;> simp [h, S1024x1024, Matrix.cons_val_zero, Matrix.cons_val_one] <;> omega)

def oKey (i : S1024x4096.Idx) : Fin 4 :=
  if (i 1).val < 2048 then (if (i 1).val < 1024 then 0 else 1) else (if (i 1).val < 3072 then 2 else 3)
theorem oKey_spec (j : Fin 4) (i : S1024x4096.Idx) : i ∈ (wV j).set ↔ oKey i = j := by
  have h0 : (i 0).val < 1024 := (i 0).isLt
  have h1 : (i 1).val < 4096 := (i 1).isLt
  unfold oKey
  fin_cases j <;> (simp only [wV]; rw [Rect.mem_set_unit, Fin.forall_fin_succ, Fin.forall_fin_succ]) <;>
    (by_cases h : (i 1).val < 2048 <;> by_cases h' : (i 1).val < 1024 <;> by_cases h'' : (i 1).val < 3072 <;>
      simp [h, h', h'', S1024x1024, Matrix.cons_val_zero, Matrix.cons_val_one] <;> omega)

/-! ## The buffers -/

variable (m : (ℓ : Loc nD τ sig) → Buf (Elt F) ℓ)

/-- A buffer of the device at some contents. -/
abbrev someBuf (b : Ref sig .tc) : sProp 𝕄 := iprop(∃ f : Buf (Elt F) ((c : Thread nD τ).loc b), ((c : Thread nD τ).loc b) ↦{fullShare} f)

omit [FloatOps F] in
theorem any_b (j : Fin 2) : (pcAny c ((View.whole cc0_scratch0).slice (bR j)) : sProp 𝕄) = pcAny c ((bM.access (bR j)).reshape S1024x1024 (by fin_cases j <;> exact hq)) :=
  (pcAny_reshape c _ _).symm
omit [FloatOps F] in
theorem any_cw (j : Fin 4) : (pcAny c ((View.whole cc0_scratch1).slice (cR j)) : sProp 𝕄) = pcAny c ((cwM.access (cR j)).reshape S1024x1024 (by fin_cases j <;> exact hq)) :=
  (pcAny_reshape c _ _).symm
omit [FloatOps F] in
theorem any_cc (j : Fin 4) : (pcAny c ((View.whole cc0_scratch2).slice (cR j)) : sProp 𝕄) = pcAny c ((ccM.access (cR j)).reshape S1024x1024 (by fin_cases j <;> exact hq)) :=
  (pcAny_reshape c _ _).symm

omit [FloatOps F] in
/-- The fetched rows' buffer is its two slots; -/
theorem cut_b : (someBuf c cc0_scratch0 : sProp 𝕄) ⊢ iprop(pcAny c bP0.view ∗ pcAny c bP1.view) := by
  refine (cutAny c cc0_scratch0 bR bKey bKey_spec).trans (Entails.of_eq ?_)
  rw [fam2, any_b, any_b]
omit [FloatOps F] in
theorem paste_b (f₀ : Buf (Elt F) ((c : Thread nD τ).loc cc0_scratch0)) : iprop(pcAny c bP0.view ∗ pcAny c bP1.view) ⊢ (someBuf c cc0_scratch0 : sProp 𝕄) := by
  refine Entails.trans (Entails.of_eq ?_) (pasteAny c cc0_scratch0 bR bKey bKey_spec f₀)
  rw [fam2, any_b, any_b]
omit [FloatOps F] in
/-- a direction's, its four quarters; -/
theorem cut_cw : (someBuf c cc0_scratch1 : sProp 𝕄)
    ⊢ iprop(pcAny c (slotP 0 0).view ∗ pcAny c (slotP 1 0).view ∗ pcAny c (slotP 0 1).view ∗ pcAny c (slotP 1 1).view) := by
  refine (cutAny c cc0_scratch1 cR cKey cKey_spec).trans (Entails.of_eq ?_)
  rw [fam4, any_cw, any_cw, any_cw, any_cw]; rfl
omit [FloatOps F] in
theorem paste_cw (f₀ : Buf (Elt F) ((c : Thread nD τ).loc cc0_scratch1)) :
    iprop(pcAny c (slotP 0 0).view ∗ pcAny c (slotP 1 0).view ∗ pcAny c (slotP 0 1).view ∗ pcAny c (slotP 1 1).view) ⊢ (someBuf c cc0_scratch1 : sProp 𝕄) := by
  refine Entails.trans (Entails.of_eq ?_) (pasteAny c cc0_scratch1 cR cKey cKey_spec f₀)
  rw [fam4, any_cw, any_cw, any_cw, any_cw]; rfl
omit [FloatOps F] in
theorem cut_cc : (someBuf c cc0_scratch2 : sProp 𝕄)
    ⊢ iprop(pcAny c (slotP 2 0).view ∗ pcAny c (slotP 3 0).view ∗ pcAny c (slotP 2 1).view ∗ pcAny c (slotP 3 1).view) := by
  refine (cutAny c cc0_scratch2 cR cKey cKey_spec).trans (Entails.of_eq ?_)
  rw [fam4, any_cc, any_cc, any_cc, any_cc]; rfl
omit [FloatOps F] in
theorem paste_cc (f₀ : Buf (Elt F) ((c : Thread nD τ).loc cc0_scratch2)) :
    iprop(pcAny c (slotP 2 0).view ∗ pcAny c (slotP 3 0).view ∗ pcAny c (slotP 2 1).view ∗ pcAny c (slotP 3 1).view) ⊢ (someBuf c cc0_scratch2 : sProp 𝕄) := by
  refine Entails.trans (Entails.of_eq ?_) (pasteAny c cc0_scratch2 cR cKey cKey_spec f₀)
  rw [fam4, any_cc, any_cc, any_cc, any_cc]; rfl
omit [FloatOps F] in
/-- an accumulator, its two halves. -/
theorem cut_al : (someBuf c cc0_scratch3 : sProp 𝕄) ⊢ iprop(pcAny c (accP 0).view ∗ pcAny c (accP 1).view) := by
  refine (cutAny c cc0_scratch3 hR hKey hKey_spec).trans (Entails.of_eq ?_)
  rw [fam2]
omit [FloatOps F] in
theorem paste_al (f₀ : Buf (Elt F) ((c : Thread nD τ).loc cc0_scratch3)) : iprop(pcAny c (accP 0).view ∗ pcAny c (accP 1).view) ⊢ (someBuf c cc0_scratch3 : sProp 𝕄) := by
  refine Entails.trans (Entails.of_eq ?_) (pasteAny c cc0_scratch3 hR hKey hKey_spec f₀)
  rw [fam2]
omit [FloatOps F] in
theorem cut_ar : (someBuf c cc0_scratch4 : sProp 𝕄) ⊢ iprop(pcAny c (accP 2).view ∗ pcAny c (accP 3).view) := by
  refine (cutAny c cc0_scratch4 hR hKey hKey_spec).trans (Entails.of_eq ?_)
  rw [fam2]
omit [FloatOps F] in
theorem paste_ar (f₀ : Buf (Elt F) ((c : Thread nD τ).loc cc0_scratch4)) : iprop(pcAny c (accP 2).view ∗ pcAny c (accP 3).view) ⊢ (someBuf c cc0_scratch4 : sProp 𝕄) := by
  refine Entails.trans (Entails.of_eq ?_) (pasteAny c cc0_scratch4 hR hKey hKey_spec f₀)
  rw [fam2]

omit [FloatOps F] in
/-- The result's buffer is its four column quarters; put together it reads on each what that quarter held. -/
theorem cut_o : (someBuf c main_v1 : sProp 𝕄)
    ⊢ iprop(pcAny c (outP 0).view ∗ pcAny c (outP 1).view ∗ pcAny c (outP 2).view ∗ pcAny c (outP 3).view) := by
  refine (cutAny c main_v1 wV oKey oKey_spec).trans (Entails.of_eq ?_)
  rw [fam4]

/-- The contents of a result whose quarters read `X`. -/
def IsOut (X : Fin 4 → S1024x1024.Idx → Elt F .f32) (g : S1024x4096.Idx → Elt F .f32) : Prop :=
  ∀ i : S1024x1024.Idx, g ((wV 0).emb i) = X 0 i ∧ g ((wV 1).emb i) = X 1 i ∧ g ((wV 2).emb i) = X 2 i ∧ g ((wV 3).emb i) = X 3 i

omit [FloatOps F] in
theorem paste_o (f₀ : Buf (Elt F) ((c : Thread nD τ).loc main_v1)) (X : Fin 4 → S1024x1024.Idx → Elt F .f32) :
    iprop(pc c (outP 0).view (X 0) ∗ pc c (outP 1).view (X 1) ∗ pc c (outP 2).view (X 2) ∗ pc c (outP 3).view (X 3))
      ⊢ (iprop(∃ g : Buf (Elt F) ((c : Thread nD τ).loc main_v1), ⌜IsOut X g⌝ ∗ (((c : Thread nD τ).loc main_v1) ↦{fullShare} g)) : sProp 𝕄) := by
  let X' : (j : Fin 4) → (wV j).shape.Idx → Elt F .f32 := fun j => match j with | 0 => X 0 | 1 => X 1 | 2 => X 2 | 3 => X 3
  have h := paste (Val := Elt F) (Ix := ℕ) (Name := ℕ) (U := UU) (Lvl := ℕ) (τ := τ) c main_v1 wV oKey oKey_spec f₀ X'
  rw [fam4] at h
  refine h.trans ?_
  iintro ⟨%g, %hg, H⟩
  iexists g
  isplitr
  · ipureintro
    intro i
    exact ⟨congrFun (hg 0) i, congrFun (hg 1) i, congrFun (hg 2) i, congrFun (hg 3) i⟩
  iexact H

/-! ## An accumulator stored whole -/

omit [FloatOps F] in
theorem aRW_emb (i : S1024x2048.Idx) : aRW.emb i = i := by
  funext a; apply Fin.ext
  show (![0, 0] : Fin 2 → ℕ) a + 1 * (i a).val = (i a).val
  have : (![0, 0] : Fin 2 → ℕ) a = 0 := by revert a; decide
  omega

section Whole
variable {α : Type} {Q : α → sProp (MT nD τ sig ℕ (Elt F) ℕ UU ℕ)}

/-- What an accumulator's halves hold after a store of all of it. -/
abbrev lo (w : Vec F S1024x2048 .f32) : Vec F S1024x1024 .f32 := fun i => w (aR0.emb i)
abbrev hi (w : Vec F S1024x2048 .f32) : Vec F S1024x1024 .f32 := fun i => w (aR1.emb i)

/-- A load of the whole accumulator that is not used, then a store of the whole of it. -/
theorem wp_whole_al (f₀ : Buf (Elt F) ((c : Thread nD τ).loc cc0_scratch3)) {w : Vec F S1024x2048 .f32} {hl : alM.view.LoadsAt aRW.toLoadRect}
    {hx : (alM.access aRW).Stores Finset.univ} {hm : Finset.univ = (Finset.univ : Finset aRW.shape.Idx) ∨ ∀ a, aRW.stride a = 1}
    {k : PUnit → Prog (TpuEff nD τ sig (Elt F) Λ₀ .tc) α} :
    iprop(pcAny c (accP 0).view ∗ pcAny c (accP 1).view)
      ⊢ iprop((iprop(pc c (accP 0).view (lo w) ∗ pc c (accP 1).view (hi w)) -∗ wp frame (wpE (defs₀ (F := F)) Variants.none (c : Thread nD τ) none) Set.univ (k ⟨⟩) Q)
        -∗ wp frame (wpE (defs₀ (F := F)) Variants.none (c : Thread nD τ) none) Set.univ
          (.op (.load alM aRW.toLoadRect hl) fun _ => .op (.store alM aRW w Finset.univ hx hm) k) Q) := by
  refine (paste_al c f₀).trans ?_
  iintro ⟨%f, H⟩ Hk
  iapply (wp_load_at Variants.none c (m := alM)) $$ H; iintro H
  iapply (wp_store Variants.none (c : Thread nD τ) none Set.univ (m := alM) (r := aRW) (Mk := Finset.univ) (S := Finset.univ) (Finset.subset_univ _)) $$ H
  iintro H
  iapply Hk
  have h := cut (Val := Elt F) (Ix := ℕ) (Name := ℕ) (U := UU) (Lvl := ℕ) (τ := τ) c cc0_scratch3 hR hKey hKey_spec ((alM.access aRW).write (Elt F) f w Finset.univ)
  rw [fam2] at h
  have hw : ∀ i, ((alM.access aRW).write (Elt F) f w Finset.univ : S1024x2048.Idx → Elt F .f32) i = w i := fun i => by
    have := congrFun (View.read_write_univ (v := alM.access aRW) f w) i
    rw [← this]
    exact congrArg ((alM.access aRW).write (Elt F) f w Finset.univ : S1024x2048.Idx → Elt F .f32) (aRW_emb i).symm
  have e0 : ((View.whole cc0_scratch3).slice (hR 0)).read (Elt F) ((alM.access aRW).write (Elt F) f w Finset.univ) = lo w := funext fun i => hw _
  have e1 : ((View.whole cc0_scratch3).slice (hR 1)).read (Elt F) ((alM.access aRW).write (Elt F) f w Finset.univ) = hi w := funext fun i => hw _
  rw [e0, e1] at h
  iapply h $$ H

theorem wp_whole_ar (f₀ : Buf (Elt F) ((c : Thread nD τ).loc cc0_scratch4)) {w : Vec F S1024x2048 .f32} {hl : arM.view.LoadsAt aRW.toLoadRect}
    {hx : (arM.access aRW).Stores Finset.univ} {hm : Finset.univ = (Finset.univ : Finset aRW.shape.Idx) ∨ ∀ a, aRW.stride a = 1}
    {k : PUnit → Prog (TpuEff nD τ sig (Elt F) Λ₀ .tc) α} :
    iprop(pcAny c (accP 2).view ∗ pcAny c (accP 3).view)
      ⊢ iprop((iprop(pc c (accP 2).view (lo w) ∗ pc c (accP 3).view (hi w)) -∗ wp frame (wpE (defs₀ (F := F)) Variants.none (c : Thread nD τ) none) Set.univ (k ⟨⟩) Q)
        -∗ wp frame (wpE (defs₀ (F := F)) Variants.none (c : Thread nD τ) none) Set.univ
          (.op (.load arM aRW.toLoadRect hl) fun _ => .op (.store arM aRW w Finset.univ hx hm) k) Q) := by
  refine (paste_ar c f₀).trans ?_
  iintro ⟨%f, H⟩ Hk
  iapply (wp_load_at Variants.none c (m := arM)) $$ H; iintro H
  iapply (wp_store Variants.none (c : Thread nD τ) none Set.univ (m := arM) (r := aRW) (Mk := Finset.univ) (S := Finset.univ) (Finset.subset_univ _)) $$ H
  iintro H
  iapply Hk
  have h := cut (Val := Elt F) (Ix := ℕ) (Name := ℕ) (U := UU) (Lvl := ℕ) (τ := τ) c cc0_scratch4 hR hKey hKey_spec ((arM.access aRW).write (Elt F) f w Finset.univ)
  rw [fam2] at h
  have hw : ∀ i, ((arM.access aRW).write (Elt F) f w Finset.univ : S1024x2048.Idx → Elt F .f32) i = w i := fun i => by
    have := congrFun (View.read_write_univ (v := arM.access aRW) f w) i
    rw [← this]
    exact congrArg ((arM.access aRW).write (Elt F) f w Finset.univ : S1024x2048.Idx → Elt F .f32) (aRW_emb i).symm
  have e0 : ((View.whole cc0_scratch4).slice (hR 0)).read (Elt F) ((arM.access aRW).write (Elt F) f w Finset.univ) = lo w := funext fun i => hw _
  have e1 : ((View.whole cc0_scratch4).slice (hR 1)).read (Elt F) ((arM.access aRW).write (Elt F) f w Finset.univ) = hi w := funext fun i => hw _
  rw [e0, e1] at h
  iapply h $$ H

end Whole

end Cert.Ring

end
-- ==== Proof.RingTrip.lean ====
/-
# A trip of the loop

One hop of each of the four channels: the parts of a trip in order, and the trip.
-/
module

public import proofs.«01_k».proof.Proof.RingSteps
public import proofs.«01_k».proof.Proof.RingCuts

@[expose] public section

noncomputable section

namespace Cert.Ring

open Cert.RingIdeal Cert.RingIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × KI → ℕ) (c : Dev nD)

variable {α : Type} {Q : α → sProp (MT nD τ sig ℕ (Elt F) ℕ UU ℕ)}

/-- The device's block of the left operand, whole, and its weights, staged. -/
abbrev xArr : sProp 𝕄 := (xM.view.loc (c : Thread nD τ) ↦{fullShare} m ((c : Thread nD τ).loc main_arg0))
abbrev wArr : sProp 𝕄 := (wM.view.loc (c : Thread nD τ) ↦{fullShare} wstg m ρ c)
abbrev lvls : sProp 𝕄 := levAts L lv
/-- A semaphore of the device's own at zero. -/
abbrev zero (s : DmaSem sig) : sProp 𝕄 := semVal ((c : Thread nD τ), .dma s) 0

abbrev wbM (b : Ref sig .tc) : (Memref.whole b).IsWhole := Memref.isWhole_whole b

theorem numel_pos : 0 < S1024x1024.numel := by decide

/-! ## A slot read and written -/

section Slot
variable (j : Fin 4) (b : Fin 2) {o : Fin 3 → Nat} {hi : ∀ a, o a + S1x1024x1024.size a ≤ S2x1024x2048.size a}

theorem wp_load_slot (h : o = slOff j b) {hl : (chM j).view.LoadsAt (Rect.unit (s := S2x1024x2048) o S1x1024x1024.size hi).toLoadRect} {X : S1024x1024.Idx → Elt F .bf16}
    {k : (S1x1024x1024.Idx → Elt F .bf16) → Prog (TpuEff nD τ sig (Elt F) Λ₀ .tc) α} :
    (pc c (slotP j b).view X : sProp 𝕄)
      ⊢ iprop((pc c (slotP j b).view X -∗ wp frame (wpE (defs₀ (F := F)) 𝒱₀ (c : Thread nD τ) none) Set.univ (k (up X)) Q)
        -∗ wp frame (wpE (defs₀ (F := F)) 𝒱₀ (c : Thread nD τ) none) Set.univ (.op (.load (chM j) (Rect.unit (s := S2x1024x2048) o S1x1024x1024.size hi).toLoadRect hl) k) Q) := by
  subst h; exact wp_load_sq 𝒱₀ c (m := chM j) hq

theorem wp_load_slot_any (h : o = slOff j b) {hl : (chM j).view.LoadsAt (Rect.unit (s := S2x1024x2048) o S1x1024x1024.size hi).toLoadRect}
    {k : (S1x1024x1024.Idx → Elt F .bf16) → Prog (TpuEff nD τ sig (Elt F) Λ₀ .tc) α} :
    (pcAny c (slotP j b).view : sProp 𝕄)
      ⊢ iprop((∀ X, pc c (slotP j b).view X -∗ wp frame (wpE (defs₀ (F := F)) 𝒱₀ (c : Thread nD τ) none) Set.univ (k (up X)) Q)
        -∗ wp frame (wpE (defs₀ (F := F)) 𝒱₀ (c : Thread nD τ) none) Set.univ (.op (.load (chM j) (Rect.unit (s := S2x1024x2048) o S1x1024x1024.size hi).toLoadRect hl) k) Q) := by
  subst h; exact wp_load_sq_any 𝒱₀ c (m := chM j) hq

theorem wp_store_slot (h : o = slOff j b) {w : S1x1024x1024.Idx → Elt F .bf16} {X : S1024x1024.Idx → Elt F .bf16}
    {hx : ((chM j).access (Rect.unit (s := S2x1024x2048) o S1x1024x1024.size hi)).Stores Finset.univ}
    {hm : Finset.univ = (Finset.univ : Finset S1x1024x1024.Idx) ∨ ∀ a, (Rect.unit (s := S2x1024x2048) o S1x1024x1024.size hi).stride a = 1}
    {k : PUnit → Prog (TpuEff nD τ sig (Elt F) Λ₀ .tc) α} :
    (pc c (slotP j b).view X : sProp 𝕄)
      ⊢ iprop((pc c (slotP j b).view (dn w) -∗ wp frame (wpE (defs₀ (F := F)) 𝒱₀ (c : Thread nD τ) none) Set.univ (k ⟨⟩) Q)
        -∗ wp frame (wpE (defs₀ (F := F)) 𝒱₀ (c : Thread nD τ) none) Set.univ (.op (.store (chM j) (Rect.unit (s := S2x1024x2048) o S1x1024x1024.size hi) w Finset.univ hx hm) k) Q) := by
  subst h; exact wp_store_sq 𝒱₀ c (m := chM j) hq
end Slot

/-! ## What is owed in a trip, and the waits under it -/

/-- Step `s`'s last `i` dues and all later ones. -/
abbrev OwT (s i : ℕ) : sProp 𝕄 := ow c (Omm c s i (Os c (5 - s)))

theorem lt6 (t : Fin k0_t1_loop.trips) : t.val < 6 := trips_eq ▸ t.isLt

section May
variable {s i : ℕ}
omit [FloatOps F] in
theorem mw_local (hs : s < 6) (hi : i ≤ 8) (q : DmaSem sig) (h₁ : ∀ j b, csem (kS j b) ≠ .dma q) (h₂ : ∀ j b, csem (kR j b) ≠ .dma q) :
    (levAts L lv : sProp 𝕄) ⊢ MayWait (c : Thread nD τ) (.dma q) 0 (Omm c s i (Os c (5 - s))) :=
  mayWait_local c q h₁ h₂ (pend_step c hs hi) (by omega)
omit [FloatOps F] in
theorem mw_sent (hs : s < 6) (j : Fin 4) (hi : i ≤ 8) : (levAts L lv : sProp 𝕄) ⊢ MayWait (c : Thread nD τ) (.dma (sendS j (par s))) 0 (Omm c s i (Os c (5 - s))) :=
  mayWait_pend c _ 0 (by decide) (pend_step c hs hi) (by
    have h := lv_k c (kS j (par s)) 0
    dsimp only [klv] at h
    show lv (kcell (c, kS j (par s))) 0 + _ ≤ 50
    omega)
omit [FloatOps F] in
theorem mw_recv (hs : s < 6) (j : Fin 4) (hi : i + 2 * ord j ≤ 8) :
    (levAts L lv : sProp 𝕄) ⊢ MayWait (c : Thread nD τ) (.dma (recvS j (par (s + 1)))) s (Omm c s i (Os c (5 - s))) :=
  mayWait_pend c _ s (by omega) (pend_step c hs (by omega)) (by
    have h := lv_k c (kR j (par (s + 1))) s
    dsimp only [klv] at h
    show lv (kcell (c, kR j (par (s + 1)))) s + _ ≤ 50
    omega)
omit [FloatOps F] in
theorem mw_cred (hs : s < 6) (j : Fin 4) (hi : i + 2 * ord j ≤ 7) :
    (levAts L lv : sProp 𝕄) ⊢ MayWait (c : Thread nD τ) (.reg (freeS j)) s (Omm c s i (Os c (5 - s))) :=
  mayWait_pend c _ s (by omega) (pend_step c hs (by omega)) (by
    have h := lv_k c (kF j) s
    dsimp only [klv] at h
    show lv (kcell (c, kF j)) s + _ ≤ 50
    omega)
end May

/-! The payloads of the four channels are the same functions. -/
theorem pay4_eq : k0_pay4 (F := F) = k0_pay1 := rfl
theorem pay5_eq : k0_pay5 (F := F) = fun a b => k0_pay3 (k0_pay2 a b) := rfl
theorem pay6_eq : k0_pay6 (F := F) = fun a b => k0_pay3 (k0_pay2 a b) := rfl
theorem pay7_eq : k0_pay7 (F := F) = fun a b => k0_pay3 (k0_pay2 a b) := rfl

section Parts
variable (t : Fin k0_t1_loop.trips)

theorem wp_part1 (w2 w w' : BitVec 32) {k : (Σ' (a : BitVec 32) (b : BitVec 32) (d : BitVec 32), BitVec 32) → Prog (TpuEff nD τ sig (Elt F) Λ₀ .tc) α} :
    iprop(lvls ∗ xArr m c ∗ pcAny c bP0.view ∗ zero c 1 ∗ OwT c t.val 8 ∗ wArr m ρ c ∗ pcAny c (accP 0).view ∗ pcAny c (accP 1).view)
      ⊢ iprop((∀ (a b d : BitVec 32), iprop(xArr m c ∗ pcAny c bP0.view ∗ zero c 1 ∗ OwT c t.val 8 ∗ wArr m ρ c ∗ pc c (accP 0).view (partK m ρ c 0 (t.val + 1))
            ∗ pc c (accP 1).view (partK m ρ c 1 (t.val + 1)))
            -∗ wp frame (wpE (defs₀ (F := F)) 𝒱₀ (c : Thread nD τ) none) Set.univ (k ⟨a, b, d, 2#32⟩) Q)
          -∗ wp frame (wpE (defs₀ (F := F)) 𝒱₀ (c : Thread nD τ) none) Set.univ
            ((k0_part1 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w2 w w' t) >>= k) Q) := by
  rw [k0_part1_eq_skeleton]; unfold k0_part1_skel
  simp only [semSignalWord, semWaitWord, Prog.lift, Prog.bind_op, Prog.bind_ret, Prog.pure_eq_ret]
  iintro ⟨#Hlev, Hx, Hb0, Hz1, HO, Hw, Ha0, Ha1⟩ Hk
  iapply (wp_fetch 𝒱₀ c EC 0 (dst := bP0) (q := fullShare) (chunk_of _ (off7_eq c t) _) sx0 numel_pos) $$ [Hx Hb0 Hz1]
  · isplitl [Hx]; · iexact Hx
    isplitl [Hb0]; · iexact Hb0
    iexact Hz1
  iintro Hf
  iapply (wp_fetched 𝒱₀ c EC 0 (dst := bP0) (O := Omm c t.val 8 (Os c (5 - t.val))) (chunk_of _ (off7_eq c t) _) sx0) $$ [Hf HO]
  · isplitl [Hf]; · iexact Hf
    isplitl [HO]; · iexact HO
    iapply (mw_local c (lt6 t) (by decide) 1 (by decide) (by decide)); iexact Hlev
  iintro ⟨Hb0, Hx, Hz1, HO⟩
  iapply (wp_load_sq 𝒱₀ c (m := bM) hq) $$ Hb0; iintro Hb0
  iapply (wp_load_at 𝒱₀ c (m := wM)) $$ Hw; iintro Hw
  iapply (wp_whole_al c (m ((c : Thread nD τ).loc cc0_scratch3))) $$ [Ha0 Ha1]
  · isplitl [Ha0]; · iexact Ha0
    iexact Ha1
  iintro ⟨Ha0, Ha1⟩
  iapply Hk
  isplitl [Hx]; · iexact Hx
  isplitl [Hb0]; · iapply (pc_any _ _ _) $$ Hb0
  isplitl [Hz1]; · iexact Hz1
  isplitl [HO]; · iexact HO
  isplitl [Hw]; · iexact Hw
  isplitl [Ha0]; · iexact Ha0
  iexact Ha1

theorem wp_part2 (w5 w7 w1 w2 w3 w4 : BitVec 32) {k : FVec F S1024x1024 .bf16 → Prog (TpuEff nD τ sig (Elt F) Λ₀ .tc) α} :
    iprop(records m ρ K ∗ lvls ∗ Fly c 0 t.val ∗ item c 0 t.val ∗ OwT c t.val 8 ∗ pc c (accP 0).view (partK m ρ c 0 (t.val + 1)))
      ⊢ iprop((iprop(Fly3 c 0 t.val ∗ OwT c t.val 7 ∗ pc c (slotP 0 (par (t.val + 1))).view (sentAt m ρ 0 t.val (org 0 c)) ∗ pcAny c (accP 0).view)
            -∗ wp frame (wpE (defs₀ (F := F)) 𝒱₀ (c : Thread nD τ) none) Set.univ (k (k0_pay2 (up (sentAt m ρ 0 t.val (org 0 c))) (partK m ρ c 0 (t.val + 1)))) Q)
          -∗ wp frame (wpE (defs₀ (F := F)) 𝒱₀ (c : Thread nD τ) none) Set.univ
            ((k0_part2 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w5 w7 t w1 w2 w3 w4) >>= k) Q) := by
  rw [k0_part2_eq_skeleton]; unfold k0_part2_skel
  simp only [semSignalWord, semWaitWord, Prog.lift, Prog.bind_op, Prog.bind_ret, Prog.pure_eq_ret]
  iintro ⟨#Hrec, #Hlev, HF0, Hi0, HO, Ha0⟩ Hk
  iapply (wp_sent m ρ K c 0 t.val ((lt6 t).trans (by decide)) (slot_of 0 _ (off9_eq t) _) (send_of 0 _ (off8_eq t) _) (mw_sent c (lt6 t) 0 (i := 8) (by decide))) $$ [HF0 HO]
  · isplitr; · iexact Hrec
    isplitr; · iexact Hlev
    isplitl [HF0]; · iexact HF0
    iexact HO
  iintro ⟨HO, HF0⟩
  iapply (wp_received m ρ K c 0 t.val ((lt6 t).trans (by decide)) (slot_of 0 _ (off10_eq t) _) (recv_of 0 _ (off11_eq t) _) (mw_recv c (lt6 t) 0 (i := 8) (by decide))) $$ [HF0 HO]
  · isplitr; · iexact Hrec
    isplitr; · iexact Hlev
    isplitl [HF0]; · iexact HF0
    iexact HO
  iintro ⟨HO, HF0, Hs0⟩
  iapply (wp_credit m ρ K c 0 t.val (lt6 t) _ (dev7_eq c) sf0 (Omm c t.val 7 (Os c (5 - t.val))) rfl) $$ [HF0 Hi0 HO]
  · isplitr; · iexact Hrec
    isplitl [HF0]; · iexact HF0
    isplitl [Hi0]; · iexact Hi0
    iexact HO
  iintro ⟨HO, HF0⟩
  iapply (wp_load_slot c 0 (par (t.val + 1)) (off12_eq t)) $$ Hs0; iintro Hs0
  iapply (wp_load_pc 𝒱₀ c (m := alM)) $$ Ha0; iintro Ha0
  iapply Hk
  isplitl [HF0]; · iexact HF0
  isplitl [HO]; · iexact HO
  isplitl [Hs0]; · iexact Hs0
  iapply (pc_any _ _ _) $$ Ha0

theorem wp_part3 (w2 w7 w1 : BitVec 32) {k : PUnit → Prog (TpuEff nD τ sig (Elt F) Λ₀ .tc) α} :
    iprop(records m ρ K ∗ lvls ∗ Fly3 c 0 t.val ∗ OwT c t.val 7 ∗ pc c (slotP 0 (par (t.val + 1))).view (sentAt m ρ 0 t.val (org 0 c)))
      ⊢ iprop((iprop(Fly c 0 (t.val + 1) ∗ OwT c t.val 6)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part3 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w2 w7 t w1 (k0_pay2 (up (sentAt m ρ 0 t.val (org 0 c))) (partK m ρ c 0 (t.val + 1)))) >>= k) Q) := by
  rw [k0_part3_eq_skeleton]; unfold k0_part3_skel
  simp only [semSignalWord, semWaitWord, Prog.lift, Prog.bind_op, Prog.bind_ret, Prog.pure_eq_ret]
  iintro ⟨#Hrec, #Hlev, HF0, HO, Hs0⟩ Hk
  iapply (wp_load_slot c 0 (par (t.val + 1)) (off12_eq t)) $$ Hs0; iintro Hs0
  iapply (wp_store_slot c 0 (par (t.val + 1)) (off12_eq t)) $$ Hs0; iintro Hs0
  iapply (wp_credited m ρ K c 0 t.val (lt6 t) sf0 (mw_cred c (lt6 t) 0 (i := 7) (by decide))) $$ [HF0 HO]
  · isplitr; · iexact Hrec
    isplitr; · iexact Hlev
    isplitl [HF0]; · iexact HF0
    iexact HO
  iintro ⟨HO, HF0⟩
  iapply (wp_next m ρ K c 0 t.val (lt6 t) _ (dev8_eq c) (slot_of 0 _ (off10_eq t) _) (slot_of 0 _ (off14_eq t) _) (send_of 0 _ (off11_eq t) _) (recv_of 0 _ (off13_eq t) _) (Omm c t.val 6 (Os c (5 - t.val))) rfl) $$ [HF0 Hs0 HO]
  · isplitr; · iexact Hrec
    isplitl [HF0]; · iexact HF0
    isplitl [Hs0]; · iexact Hs0
    iexact HO
  iintro ⟨HO, HF0⟩
  iapply Hk
  isplitl [HF0]; · iexact HF0
  iexact HO

theorem wp_part4 (w1 : BitVec 32) {k : PUnit → Prog (TpuEff nD τ sig (Elt F) Λ₀ .tc) α} :
    iprop(records m ρ K ∗ lvls ∗ xArr m c ∗ pcAny c bP1.view ∗ zero c 2 ∗ OwT c t.val 6 ∗ wArr m ρ c ∗ pcAny c (accP 2).view ∗ pcAny c (accP 3).view
        ∗ Fly c 2 t.val)
      ⊢ iprop((iprop(xArr m c ∗ pcAny c bP1.view ∗ zero c 2 ∗ OwT c t.val 6 ∗ wArr m ρ c ∗ pc c (accP 2).view (partK m ρ c 2 (t.val + 1))
            ∗ pc c (accP 3).view (partK m ρ c 3 (t.val + 1)) ∗ Fly1 c 2 t.val)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part4 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c t w1) >>= k) Q) := by
  rw [k0_part4_eq_skeleton]; unfold k0_part4_skel
  simp only [semSignalWord, semWaitWord, Prog.lift, Prog.bind_op, Prog.bind_ret, Prog.pure_eq_ret, pay4_eq]
  iintro ⟨#Hrec, #Hlev, Hx, Hb1, Hz2, HO, Hw, Ha2, Ha3, HF2⟩ Hk
  iapply (wp_fetch 𝒱₀ c EC 0 (dst := bP1) (q := fullShare) (chunk_of _ (off15_eq c t) _) sx1 numel_pos) $$ [Hx Hb1 Hz2]
  · isplitl [Hx]; · iexact Hx
    isplitl [Hb1]; · iexact Hb1
    iexact Hz2
  iintro Hf
  iapply (wp_fetched 𝒱₀ c EC 0 (dst := bP1) (O := Omm c t.val 6 (Os c (5 - t.val))) (chunk_of _ (off15_eq c t) _) sx1) $$ [Hf HO]
  · isplitl [Hf]; · iexact Hf
    isplitl [HO]; · iexact HO
    iapply (mw_local c (lt6 t) (by decide) 2 (by decide) (by decide)); iexact Hlev
  iintro ⟨Hb1, Hx, Hz2, HO⟩
  iapply (wp_load_sq 𝒱₀ c (m := bM) hq) $$ Hb1; iintro Hb1
  iapply (wp_load_at 𝒱₀ c (m := wM)) $$ Hw; iintro Hw
  iapply (wp_whole_ar c (m ((c : Thread nD τ).loc cc0_scratch4))) $$ [Ha2 Ha3]
  · isplitl [Ha2]; · iexact Ha2
    iexact Ha3
  iintro ⟨Ha2, Ha3⟩
  iapply (wp_sent m ρ K c 2 t.val ((lt6 t).trans (by decide)) (slot_of 2 _ (off9_eq t) _) (send_of 2 _ (off8_eq t) _) (mw_sent c (lt6 t) 2 (i := 6) (by decide))) $$ [HF2 HO]
  · isplitr; · iexact Hrec
    isplitr; · iexact Hlev
    isplitl [HF2]; · iexact HF2
    iexact HO
  iintro ⟨HO, HF2⟩
  iapply Hk
  isplitl [Hx]; · iexact Hx
  isplitl [Hb1]; · iapply (pc_any _ _ _) $$ Hb1
  isplitl [Hz2]; · iexact Hz2
  isplitl [HO]; · iexact HO
  isplitl [Hw]; · iexact Hw
  isplitl [Ha2]; · iexact Ha2
  isplitl [Ha3]; · iexact Ha3
  iexact HF2

theorem wp_part5 (w5 w7 w1 w2 : BitVec 32) {k : BitVec 32 → Prog (TpuEff nD τ sig (Elt F) Λ₀ .tc) α} :
    iprop(records m ρ K ∗ lvls ∗ Fly1 c 2 t.val ∗ item c 2 t.val ∗ OwT c t.val 6 ∗ pc c (accP 2).view (partK m ρ c 2 (t.val + 1)))
      ⊢ iprop((∀ w : BitVec 32, iprop(Fly4 c 2 t.val ∗ OwT c t.val 5 ∗ pc c (slotP 2 (par (t.val + 1))).view (sentAt m ρ 2 (t.val + 1) c) ∗ pcAny c (accP 2).view)
            -∗ wp frame (wpE (defs₀ (F := F)) 𝒱₀ (c : Thread nD τ) none) Set.univ (k w) Q)
          -∗ wp frame (wpE (defs₀ (F := F)) 𝒱₀ (c : Thread nD τ) none) Set.univ
            ((k0_part5 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w5 w7 t w1 w2) >>= k) Q) := by
  rw [k0_part5_eq_skeleton]; unfold k0_part5_skel
  simp only [semSignalWord, semWaitWord, Prog.lift, Prog.bind_op, Prog.bind_ret, Prog.pure_eq_ret, pay5_eq]
  iintro ⟨#Hrec, #Hlev, HF2, Hi2, HO, Ha2⟩ Hk
  iapply (wp_received m ρ K c 2 t.val ((lt6 t).trans (by decide)) (slot_of 2 _ (off10_eq t) _) (recv_of 2 _ (off11_eq t) _) (mw_recv c (lt6 t) 2 (i := 6) (by decide))) $$ [HF2 HO]
  · isplitr; · iexact Hrec
    isplitr; · iexact Hlev
    isplitl [HF2]; · iexact HF2
    iexact HO
  iintro ⟨HO, HF2, Hs2⟩
  iapply (wp_credit m ρ K c 2 t.val (lt6 t) _ (dev9_eq c) sf2 (Omm c t.val 5 (Os c (5 - t.val))) rfl) $$ [HF2 Hi2 HO]
  · isplitr; · iexact Hrec
    isplitl [HF2]; · iexact HF2
    isplitl [Hi2]; · iexact Hi2
    iexact HO
  iintro ⟨HO, HF2⟩
  iapply (wp_load_slot c 2 (par (t.val + 1)) (off12_eq t)) $$ Hs2; iintro Hs2
  iapply (wp_load_pc 𝒱₀ c (m := arM)) $$ Ha2; iintro Ha2
  iapply (wp_load_slot c 2 (par (t.val + 1)) (off12_eq t)) $$ Hs2; iintro Hs2
  iapply (wp_store_slot c 2 (par (t.val + 1)) (off12_eq t)) $$ Hs2; iintro Hs2
  iapply (wp_credited m ρ K c 2 t.val (lt6 t) sf2 (mw_cred c (lt6 t) 2 (i := 5) (by decide))) $$ [HF2 HO]
  · isplitr; · iexact Hrec
    isplitr; · iexact Hlev
    isplitl [HF2]; · iexact HF2
    iexact HO
  iintro ⟨HO, HF2⟩
  iapply Hk
  isplitl [HF2]; · iexact HF2
  isplitl [HO]; · iexact HO
  isplitl [Hs2]; · iexact Hs2
  iapply (pc_any _ _ _) $$ Ha2

theorem wp_part6 (w5 w7 w1 w2 : BitVec 32) {k : PUnit → Prog (TpuEff nD τ sig (Elt F) Λ₀ .tc) α} :
    iprop(records m ρ K ∗ lvls ∗ Fly4 c 2 t.val ∗ pc c (slotP 2 (par (t.val + 1))).view (sentAt m ρ 2 (t.val + 1) c) ∗ OwT c t.val 5 ∗ Fly c 1 t.val)
      ⊢ iprop((iprop(Fly c 2 (t.val + 1) ∗ OwT c t.val 4 ∗ Fly1 c 1 t.val)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part6 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w5 w7 t w1 w2) >>= k) Q) := by
  rw [k0_part6_eq_skeleton]; unfold k0_part6_skel
  simp only [semSignalWord, semWaitWord, Prog.lift, Prog.bind_op, Prog.bind_ret, Prog.pure_eq_ret]
  iintro ⟨#Hrec, #Hlev, HF2, Hs2, HO, HF1⟩ Hk
  iapply (wp_next m ρ K c 2 t.val (lt6 t) _ (dev10_eq c) (slot_of 2 _ (off10_eq t) _) (slot_of 2 _ (off14_eq t) _) (send_of 2 _ (off11_eq t) _) (recv_of 2 _ (off13_eq t) _) (Omm c t.val 4 (Os c (5 - t.val))) rfl) $$ [HF2 Hs2 HO]
  · isplitr; · iexact Hrec
    isplitl [HF2]; · iexact HF2
    isplitl [Hs2]; · iexact Hs2
    iexact HO
  iintro ⟨HO, HF2⟩
  iapply (wp_sent m ρ K c 1 t.val ((lt6 t).trans (by decide)) (slot_of 1 _ (off17_eq t) _) (send_of 1 _ (off16_eq t) _) (mw_sent c (lt6 t) 1 (i := 4) (by decide))) $$ [HF1 HO]
  · isplitr; · iexact Hrec
    isplitr; · iexact Hlev
    isplitl [HF1]; · iexact HF1
    iexact HO
  iintro ⟨HO, HF1⟩
  iapply Hk
  isplitl [HF2]; · iexact HF2
  isplitl [HO]; · iexact HO
  iexact HF1

theorem wp_part7 (w5 w7 w1 w2 : BitVec 32) {k : PUnit → Prog (TpuEff nD τ sig (Elt F) Λ₀ .tc) α} :
    iprop(records m ρ K ∗ lvls ∗ Fly1 c 1 t.val ∗ item c 1 t.val ∗ OwT c t.val 4 ∗ pc c (accP 1).view (partK m ρ c 1 (t.val + 1)))
      ⊢ iprop((iprop(Fly4 c 1 t.val ∗ OwT c t.val 3 ∗ pc c (slotP 1 (par (t.val + 1))).view (sentAt m ρ 1 (t.val + 1) c) ∗ pcAny c (accP 1).view)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part7 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w5 w7 t w1 w2) >>= k) Q) := by
  rw [k0_part7_eq_skeleton]; unfold k0_part7_skel
  simp only [semSignalWord, semWaitWord, Prog.lift, Prog.bind_op, Prog.bind_ret, Prog.pure_eq_ret, pay6_eq]
  iintro ⟨#Hrec, #Hlev, HF1, Hi1, HO, Ha1⟩ Hk
  iapply (wp_received m ρ K c 1 t.val ((lt6 t).trans (by decide)) (slot_of 1 _ (off18_eq t) _) (recv_of 1 _ (off19_eq t) _) (mw_recv c (lt6 t) 1 (i := 4) (by decide))) $$ [HF1 HO]
  · isplitr; · iexact Hrec
    isplitr; · iexact Hlev
    isplitl [HF1]; · iexact HF1
    iexact HO
  iintro ⟨HO, HF1, Hs1⟩
  iapply (wp_credit m ρ K c 1 t.val (lt6 t) _ (dev11_eq c) sf1 (Omm c t.val 3 (Os c (5 - t.val))) rfl) $$ [HF1 Hi1 HO]
  · isplitr; · iexact Hrec
    isplitl [HF1]; · iexact HF1
    isplitl [Hi1]; · iexact Hi1
    iexact HO
  iintro ⟨HO, HF1⟩
  iapply (wp_load_slot c 1 (par (t.val + 1)) (off20_eq t)) $$ Hs1; iintro Hs1
  iapply (wp_load_pc 𝒱₀ c (m := alM)) $$ Ha1; iintro Ha1
  iapply (wp_load_slot c 1 (par (t.val + 1)) (off20_eq t)) $$ Hs1; iintro Hs1
  iapply (wp_store_slot c 1 (par (t.val + 1)) (off20_eq t)) $$ Hs1; iintro Hs1
  iapply (wp_credited m ρ K c 1 t.val (lt6 t) sf1 (mw_cred c (lt6 t) 1 (i := 3) (by decide))) $$ [HF1 HO]
  · isplitr; · iexact Hrec
    isplitr; · iexact Hlev
    isplitl [HF1]; · iexact HF1
    iexact HO
  iintro ⟨HO, HF1⟩
  iapply Hk
  isplitl [HF1]; · iexact HF1
  isplitl [HO]; · iexact HO
  isplitl [Hs1]; · iexact Hs1
  iapply (pc_any _ _ _) $$ Ha1

theorem wp_part8 (w5 w7 w1 : BitVec 32) {k : (Σ' (a : BitVec 32), BitVec 32) → Prog (TpuEff nD τ sig (Elt F) Λ₀ .tc) α} :
    iprop(records m ρ K ∗ lvls ∗ Fly4 c 1 t.val ∗ pc c (slotP 1 (par (t.val + 1))).view (sentAt m ρ 1 (t.val + 1) c) ∗ OwT c t.val 3 ∗ Fly c 3 t.val)
      ⊢ iprop((∀ a : BitVec 32, iprop(Fly c 1 (t.val + 1) ∗ OwT c t.val 2 ∗ Fly2 c 3 t.val ∗ pc c (slotP 3 (par (t.val + 1))).view (sentAt m ρ 3 t.val (org 3 c)))
            -∗ wp frame (wpE (defs₀ (F := F)) 𝒱₀ (c : Thread nD τ) none) Set.univ (k ⟨a, 0#32⟩) Q)
          -∗ wp frame (wpE (defs₀ (F := F)) 𝒱₀ (c : Thread nD τ) none) Set.univ
            ((k0_part8 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w5 w7 t w1) >>= k) Q) := by
  rw [k0_part8_eq_skeleton]; unfold k0_part8_skel
  simp only [semSignalWord, semWaitWord, Prog.lift, Prog.bind_op, Prog.bind_ret, Prog.pure_eq_ret]
  iintro ⟨#Hrec, #Hlev, HF1, Hs1, HO, HF3⟩ Hk
  iapply (wp_next m ρ K c 1 t.val (lt6 t) _ (dev12_eq c) (slot_of 1 _ (off18_eq t) _) (slot_of 1 _ (off22_eq t) _) (send_of 1 _ (off19_eq t) _) (recv_of 1 _ (off21_eq t) _) (Omm c t.val 2 (Os c (5 - t.val))) rfl) $$ [HF1 Hs1 HO]
  · isplitr; · iexact Hrec
    isplitl [HF1]; · iexact HF1
    isplitl [Hs1]; · iexact Hs1
    iexact HO
  iintro ⟨HO, HF1⟩
  iapply (wp_sent m ρ K c 3 t.val ((lt6 t).trans (by decide)) (slot_of 3 _ (off17_eq t) _) (send_of 3 _ (off16_eq t) _) (mw_sent c (lt6 t) 3 (i := 2) (by decide))) $$ [HF3 HO]
  · isplitr; · iexact Hrec
    isplitr; · iexact Hlev
    isplitl [HF3]; · iexact HF3
    iexact HO
  iintro ⟨HO, HF3⟩
  iapply (wp_received m ρ K c 3 t.val ((lt6 t).trans (by decide)) (slot_of 3 _ (off18_eq t) _) (recv_of 3 _ (off19_eq t) _) (mw_recv c (lt6 t) 3 (i := 2) (by decide))) $$ [HF3 HO]
  · isplitr; · iexact Hrec
    isplitr; · iexact Hlev
    isplitl [HF3]; · iexact HF3
    iexact HO
  iintro ⟨HO, HF3, Hs3⟩
  iapply Hk
  isplitl [HF1]; · iexact HF1
  isplitl [HO]; · iexact HO
  isplitl [HF3]; · iexact HF3
  iexact Hs3

end Parts

end Cert.Ring

end
-- ==== Proof.RingLoop.lean ====
/-
# The loop

A trip whole, and what holds between two trips.
-/
module

public import Idealize.SL.BI.BigOpNat
public import proofs.«01_k».proof.Proof.RingTrip

@[expose] public section

noncomputable section

namespace Cert.Ring

open Cert.RingIdeal Cert.RingIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × KI → ℕ) (c : Dev nD)

variable {α : Type} {Q : α → sProp (MT nD τ sig ℕ (Elt F) ℕ UU ℕ)}

variable (t : Fin k0_t1_loop.trips)

set_option maxHeartbeats 800000 in
theorem wp_part9 (w2 w5 w7 w w' : BitVec 32) {k : PUnit → Prog (TpuEff nD τ sig (Elt F) Λ₀ .tc) α} :
    iprop(records m ρ K ∗ lvls ∗ xArr m c ∗ pcAny c bP0.view ∗ pcAny c bP1.view ∗ zero c 1 ∗ zero c 2 ∗ OwT c t.val 8 ∗ wArr m ρ c ∗ pcAny c (accP 0).view
        ∗ pcAny c (accP 1).view ∗ pcAny c (accP 2).view ∗ pcAny c (accP 3).view ∗ Fly c 0 t.val ∗ Fly c 1 t.val ∗ Fly c 2 t.val ∗ Fly c 3 t.val
        ∗ item c 0 t.val ∗ item c 1 t.val ∗ item c 2 t.val ∗ item c 3 t.val)
      ⊢ iprop((iprop(xArr m c ∗ pcAny c bP0.view ∗ pcAny c bP1.view ∗ zero c 1 ∗ zero c 2 ∗ OwT c t.val 1 ∗ wArr m ρ c ∗ pcAny c (accP 0).view ∗ pcAny c (accP 1).view
            ∗ pcAny c (accP 2).view ∗ pcAny c (accP 3).view ∗ Fly c 0 (t.val + 1) ∗ Fly c 1 (t.val + 1) ∗ Fly c 2 (t.val + 1) ∗ Fly4 c 3 t.val
            ∗ pc c (slotP 3 (par (t.val + 1))).view (sentAt m ρ 3 (t.val + 1) c))
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part9 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w2 w5 w7 w w' t) >>= k) Q) := by
  rw [k0_part9_eq_skeleton]; unfold k0_part9_skel
  simp only [semSignalWord, semWaitWord, Prog.lift, Prog.bind_op, Prog.bind_ret, Prog.pure_eq_ret, pay7_eq, Prog.bind_assoc]
  iintro ⟨#Hrec, #Hlev, Hx, Hb0, Hb1, Hz1, Hz2, HO, Hw, Ha0, Ha1, Ha2, Ha3, HF0, HF1, HF2, HF3, Hi0, Hi1, Hi2, Hi3⟩ Hk
  iapply (wp_part1 m ρ c t w2 w w') $$ [Hx Hb0 Hz1 HO Hw Ha0 Ha1]
  · isplitr; · iexact Hlev
    isplitl [Hx]; · iexact Hx
    isplitl [Hb0]; · iexact Hb0
    isplitl [Hz1]; · iexact Hz1
    isplitl [HO]; · iexact HO
    isplitl [Hw]; · iexact Hw
    isplitl [Ha0]; · iexact Ha0
    iexact Ha1
  iintro %a %b %d ⟨Hx, Hb0, Hz1, HO, Hw, Ha0, Ha1⟩
  iapply (wp_part2 m ρ K c t w5 w7 a b d 2#32) $$ [HF0 Hi0 HO Ha0]
  · isplitr; · iexact Hrec
    isplitr; · iexact Hlev
    isplitl [HF0]; · iexact HF0
    isplitl [Hi0]; · iexact Hi0
    isplitl [HO]; · iexact HO
    iexact Ha0
  iintro ⟨HF0, HO, Hs0, Ha0⟩
  iapply (wp_part3 m ρ K c t w2 w7 a) $$ [HF0 HO Hs0]
  · isplitr; · iexact Hrec
    isplitr; · iexact Hlev
    isplitl [HF0]; · iexact HF0
    isplitl [HO]; · iexact HO
    iexact Hs0
  iintro ⟨HF0, HO⟩
  iapply (wp_part4 m ρ K c t a) $$ [Hx Hb1 Hz2 HO Hw Ha2 Ha3 HF2]
  · isplitr; · iexact Hrec
    isplitr; · iexact Hlev
    isplitl [Hx]; · iexact Hx
    isplitl [Hb1]; · iexact Hb1
    isplitl [Hz2]; · iexact Hz2
    isplitl [HO]; · iexact HO
    isplitl [Hw]; · iexact Hw
    isplitl [Ha2]; · iexact Ha2
    isplitl [Ha3]; · iexact Ha3
    iexact HF2
  iintro ⟨Hx, Hb1, Hz2, HO, Hw, Ha2, Ha3, HF2⟩
  iapply (wp_part5 m ρ K c t w5 w7 a b) $$ [HF2 Hi2 HO Ha2]
  · isplitr; · iexact Hrec
    isplitr; · iexact Hlev
    isplitl [HF2]; · iexact HF2
    isplitl [Hi2]; · iexact Hi2
    isplitl [HO]; · iexact HO
    iexact Ha2
  iintro %e ⟨HF2, HO, Hs2, Ha2⟩
  iapply (wp_part6 m ρ K c t w5 w7 a e) $$ [HF2 Hs2 HO HF1]
  · isplitr; · iexact Hrec
    isplitr; · iexact Hlev
    isplitl [HF2]; · iexact HF2
    isplitl [Hs2]; · iexact Hs2
    isplitl [HO]; · iexact HO
    iexact HF1
  iintro ⟨HF2, HO, HF1⟩
  iapply (wp_part7 m ρ K c t w5 w7 a b) $$ [HF1 Hi1 HO Ha1]
  · isplitr; · iexact Hrec
    isplitr; · iexact Hlev
    isplitl [HF1]; · iexact HF1
    isplitl [Hi1]; · iexact Hi1
    isplitl [HO]; · iexact HO
    iexact Ha1
  iintro ⟨HF1, HO, Hs1, Ha1⟩
  iapply (wp_part8 m ρ K c t w5 w7 a) $$ [HF1 Hs1 HO HF3]
  · isplitr; · iexact Hrec
    isplitr; · iexact Hlev
    isplitl [HF1]; · iexact HF1
    isplitl [Hs1]; · iexact Hs1
    isplitl [HO]; · iexact HO
    iexact HF3
  iintro %f ⟨HF1, HO, HF3, Hs3⟩
  iapply (wp_credit m ρ K c 3 t.val (lt6 t) _ (dev13_eq c) sf3 (Omm c t.val 1 (Os c (5 - t.val))) rfl) $$ [HF3 Hi3 HO]
  · isplitr; · iexact Hrec
    isplitl [HF3]; · iexact HF3
    isplitl [Hi3]; · iexact Hi3
    iexact HO
  iintro ⟨HO, HF3⟩
  iapply (wp_load_slot c 3 (par (t.val + 1)) (off20_eq t)) $$ Hs3; iintro Hs3
  iapply (wp_load_pc 𝒱₀ c (m := arM)) $$ Ha3; iintro Ha3
  iapply (wp_load_slot c 3 (par (t.val + 1)) (off20_eq t)) $$ Hs3; iintro Hs3
  iapply (wp_store_slot c 3 (par (t.val + 1)) (off20_eq t)) $$ Hs3; iintro Hs3
  iapply (wp_credited m ρ K c 3 t.val (lt6 t) sf3 (mw_cred c (lt6 t) 3 (i := 1) (by decide))) $$ [HF3 HO]
  · isplitr; · iexact Hrec
    isplitr; · iexact Hlev
    isplitl [HF3]; · iexact HF3
    iexact HO
  iintro ⟨HO, HF3⟩
  iapply Hk
  isplitl [Hx]; · iexact Hx
  isplitl [Hb0]; · iexact Hb0
  isplitl [Hb1]; · iexact Hb1
  isplitl [Hz1]; · iexact Hz1
  isplitl [Hz2]; · iexact Hz2
  isplitl [HO]; · iexact HO
  isplitl [Hw]; · iexact Hw
  isplitl [Ha0]; · iexact Ha0
  isplitl [Ha1]; · iexact Ha1
  isplitl [Ha2]; · iexact Ha2
  isplitl [Ha3]; · iapply (pc_any _ _ _) $$ Ha3
  isplitl [HF0]; · iexact HF0
  isplitl [HF1]; · iexact HF1
  isplitl [HF2]; · iexact HF2
  isplitl [HF3]; · iexact HF3
  iexact Hs3

/-! ## The trip -/

/-- The tokens of the steps still to come, `n` of them, every channel's. -/
def bag (n : ℕ) : sProp 𝕄 := bigSep (Finset.range n) fun i => iprop(item c 0 (5 - i) ∗ item c 1 (5 - i) ∗ item c 2 (5 - i) ∗ item c 3 (5 - i))

omit [FloatOps F] in
theorem bag_take (s : ℕ) (hs : s < 6) : (bag c (6 - s) : sProp 𝕄) ⊢ iprop((item c 0 s ∗ item c 1 s ∗ item c 2 s ∗ item c 3 s) ∗ bag c (6 - (s + 1))) := by
  have e : 6 - s = (6 - (s + 1)) + 1 := by omega
  have e' : 5 - (6 - (s + 1)) = s := by omega
  unfold bag
  rw [e]
  refine (Entails.of_eq (bigSep_range_succ _ _)).trans ?_
  rw [e']

/-- Between two trips: a transfer of every channel in flight, the tokens left, all buffers at hand. -/
def inv (s : ℕ) : sProp 𝕄 :=
  iprop(records m ρ K ∗ lvls ∗ xArr m c ∗ pcAny c bP0.view ∗ pcAny c bP1.view ∗ zero c 1 ∗ zero c 2 ∗ ow c (Os c (6 - s)) ∗ wArr m ρ c ∗ pcAny c (accP 0).view
    ∗ pcAny c (accP 1).view ∗ pcAny c (accP 2).view ∗ pcAny c (accP 3).view ∗ Fly c 0 s ∗ Fly c 1 s ∗ Fly c 2 s ∗ Fly c 3 s ∗ bag c (6 - s))

theorem Os_back {s : ℕ} (hs : s < 6) : Omm c s 0 (Os c (5 - s)) = Os c (6 - (s + 1)) := by
  have e : 6 - (s + 1) = 5 - s := by omega
  rw [e]; rfl

set_option maxHeartbeats 800000 in
theorem wp_trip (w2 w5 w7 w w' : BitVec 32) (t : Fin k0_t1_loop.trips) (u : Unit) :
    inv m ρ K c t.val ⊢ wp frame (wpE (defs₀ (F := F)) 𝒱₀ (c : Thread nD τ) none) Set.univ
      (k0_t1_body xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w2 w5 w7 w w' t u) (fun _ => inv m ρ K c (t.val + 1)) := by
  unfold k0_t1_body inv
  simp only [Prog.lift, Prog.bind_op, Prog.bind_ret, Prog.pure_eq_ret]
  iintro ⟨#Hrec, #Hlev, Hx, Hb0, Hb1, Hz1, Hz2, HO, Hw, Ha0, Ha1, Ha2, Ha3, HF0, HF1, HF2, HF3, Hbag⟩
  ihave HI := (bag_take c t.val (lt6 t)) $$ Hbag
  icases HI with ⟨⟨Hi0, Hi1, Hi2, Hi3⟩, Hbag⟩
  ihave HO := (Entails.of_eq (congrArg (ow c) (Os_step c (lt6 t)))) $$ HO
  iapply (wp_part9 m ρ K c t w2 w5 w7 0#32 1#32) $$ [Hx Hb0 Hb1 Hz1 Hz2 HO Hw Ha0 Ha1 Ha2 Ha3 HF0 HF1 HF2 HF3 Hi0 Hi1 Hi2 Hi3]
  · isplitr; · iexact Hrec
    isplitr; · iexact Hlev
    isplitl [Hx]; · iexact Hx
    isplitl [Hb0]; · iexact Hb0
    isplitl [Hb1]; · iexact Hb1
    isplitl [Hz1]; · iexact Hz1
    isplitl [Hz2]; · iexact Hz2
    isplitl [HO]; · iexact HO
    isplitl [Hw]; · iexact Hw
    isplitl [Ha0]; · iexact Ha0
    isplitl [Ha1]; · iexact Ha1
    isplitl [Ha2]; · iexact Ha2
    isplitl [Ha3]; · iexact Ha3
    isplitl [HF0]; · iexact HF0
    isplitl [HF1]; · iexact HF1
    isplitl [HF2]; · iexact HF2
    isplitl [HF3]; · iexact HF3
    isplitl [Hi0]; · iexact Hi0
    isplitl [Hi1]; · iexact Hi1
    isplitl [Hi2]; · iexact Hi2
    iexact Hi3
  iintro ⟨Hx, Hb0, Hb1, Hz1, Hz2, HO, Hw, Ha0, Ha1, Ha2, Ha3, HF0, HF1, HF2, HF3, Hs3⟩
  iapply (wp_next m ρ K c 3 t.val (lt6 t) _ (dev14_eq c) (slot_of 3 _ (off18_eq t) _) (slot_of 3 _ (off22_eq t) _) (send_of 3 _ (off19_eq t) _) (recv_of 3 _ (off21_eq t) _) (Omm c t.val 0 (Os c (5 - t.val))) rfl) $$ [HF3 Hs3 HO]
  · isplitr; · iexact Hrec
    isplitl [HF3]; · iexact HF3
    isplitl [Hs3]; · iexact Hs3
    iexact HO
  iintro ⟨HO, HF3⟩
  rw [wp_ret]; imodintro
  isplitr; · iexact Hrec
  isplitr; · iexact Hlev
  isplitl [Hx]; · iexact Hx
  isplitl [Hb0]; · iexact Hb0
  isplitl [Hb1]; · iexact Hb1
  isplitl [Hz1]; · iexact Hz1
  isplitl [Hz2]; · iexact Hz2
  isplitl [HO]; · iapply (Entails.of_eq (congrArg (ow c) (Os_back c (lt6 t)))) $$ HO
  isplitl [Hw]; · iexact Hw
  isplitl [Ha0]; · iexact Ha0
  isplitl [Ha1]; · iexact Ha1
  isplitl [Ha2]; · iexact Ha2
  isplitl [Ha3]; · iexact Ha3
  isplitl [HF0]; · iexact HF0
  isplitl [HF1]; · iexact HF1
  isplitl [HF2]; · iexact HF2
  isplitl [HF3]; · iexact HF3
  iexact Hbag

end Cert.Ring

end
-- ==== Proof.RingEnds.lean ====
/-
# Before and after the loop

The barrier, the first hops, and the last ones' arrival.
-/
module

public import proofs.«01_k».proof.Proof.RingLoop

@[expose] public section

noncomputable section

namespace Cert.Ring

open Cert.RingIdeal Cert.RingIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × KI → ℕ) (c : Dev nD)

variable {α : Type} {Q : α → sProp (MT nD τ sig ℕ (Elt F) ℕ UU ℕ)}

theorem lit0 : (![0, 0, 0] : Fin 3 → Nat) = slOff 0 0 := by decide
theorem lit1 : (![0, 0, 1024] : Fin 3 → Nat) = slOff 1 0 := by decide
theorem lit2 : (![1, 0, 0] : Fin 3 → Nat) = slOff 0 1 := by decide
theorem lit3 : (![1, 0, 1024] : Fin 3 → Nat) = slOff 1 1 := by decide

theorem pay10_eq : k0_pay10 (F := F) = k0_pay8 := rfl
theorem pay12_eq : k0_pay12 (F := F) = k0_pay8 := rfl
theorem pay14_eq : k0_pay14 (F := F) = k0_pay8 := rfl
theorem pay11_eq : k0_pay11 (F := F) = k0_pay9 := rfl
theorem pay13_eq : k0_pay13 (F := F) = k0_pay9 := rfl
theorem pay15_eq : k0_pay15 (F := F) = k0_pay9 := rfl
theorem pay16_eq : k0_pay16 (F := F) = k0_pay1 := rfl
theorem pay18_eq : k0_pay18 (F := F) = k0_pay1 := rfl
theorem pay19_eq : k0_pay19 (F := F) = k0_pay17 := rfl
theorem pay23_eq : k0_pay23 (F := F) = k0_pay17 := rfl
theorem pay22_eq (a : Vec F S1x1024x1024 .bf16) (b : Vec F S1024x1024 .f32) :
    k0_pay22 (k0_pay20 a b) (k0_pay21 a b) (Scalar.ofBits .f32 0x3F4C422A#32) = k0_pay17 a b := rfl

/-- What a channel has before its first hop. -/
def start (j : Fin 4) : sProp 𝕄 :=
  iprop(pS c j 0 ∗ txTok c j 0 ∗ rCred c j 0 ∗ pS c j 1 ∗ pR c j 0 ∗ pR c j 1 ∗ pF c j 0)

/-- The first hop of channel `j`. -/
theorem wp_first (j : Fin 4) (d : Dev nD) (hd : d = tgt j c)
    {src dst : Memref sig .tc .vmem S1024x1024 .bf16} {s₁ s₂ : DmaSem sig} (h₁ : src = slotP j (par 0)) (h₂ : dst = slotP j (par 1))
    (h₃ : s₁ = sendS j (par 0)) (h₄ : s₂ = recvS j (par 1))
    {hsc : (dst : Memref sig (Dev.tc d : Thread nD τ).2.kind .vmem S1024x1024 .bf16).view.ref.isScScratch = false}
    {hsrc : src.view.WordExact} {hdst : dst.view.WordExact}
    {hsem : DmaTarget.Typed .vmem (.dma s₂) (.remote (Dev.tc d : Thread nD τ) dst (.dma s₁) hsc)}
    {k : PUnit → Prog (TpuEff nD τ sig (Elt F) Λ₀ .tc) α} {O₀ : CellTallies nD τ sig ℕ} (O : CellTallies nD τ sig ℕ) (hO : O₀ = O + dueR c j 0) :
    iprop(records m ρ K ∗ start c j ∗ landing c j 0 ∗ pc c (slotP j 0).view (sentAt m ρ j 0 c) ∗ ow c O₀)
      ⊢ iprop((iprop(Fly c j 0 ∗ ow c O) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc d : Thread nD τ) dst (.dma s₁) hsc) (.dma s₂) hsrc hdst hsem) k) Q) := by
  unfold start Fly
  iintro ⟨#Hrec, ⟨HpS, Htx, Hr, HpS1, HpR, HpR1, HpF⟩, HL, Hs, HO⟩ Hk
  iapply (wp_tx m ρ K c j 0 (by decide) d hd h₁ h₂ h₃ h₄ O hO) $$ [HpS Htx HL Hs HO]
  · isplitr; · iexact Hrec
    isplitl [HpS]; · iexact HpS
    isplitl [Htx]; · iexact Htx
    isplitl [HL]; · iexact HL
    isplitl [Hs]; · iexact Hs
    iexact HO
  iintro ⟨HpS, Hc, HO⟩
  iapply Hk
  isplitr [HO]
  · isplitl [Hc]; · iexact Hc
    isplitl [Hr]; · iexact Hr
    isplitl [HpS]; · iexact HpS
    isplitl [HpS1]; · iexact HpS1
    isplitl [HpR]; · iexact HpR
    isplitl [HpR1]; · iexact HpR1
    iexact HpF
  iexact HO

/-- The loop. -/
theorem wp_loop (w2 w5 w7 w w' : BitVec 32) {k : Unit → Prog (TpuEff nD τ sig (Elt F) Λ₀ .tc) α} :
    inv m ρ K c 0
      ⊢ iprop((inv m ρ K c 6 -∗ wp frame (wpE (defs₀ (F := F)) 𝒱₀ (c : Thread nD τ) none) Set.univ (k ⟨⟩) Q)
          -∗ wp frame (wpE (defs₀ (F := F)) 𝒱₀ (c : Thread nD τ) none) Set.univ ((Scf.Loop.for k0_t1_loop k0_t1_ok ⟨⟩ (k0_t1_body xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w2 w5 w7 w w')) >>= k) Q) := by
  have h := Scf.wp_for_bind frame (wpE (defs₀ (F := F)) 𝒱₀ (c : Thread nD τ) none) Set.univ _ _ _ k0_t1_ok ⟨⟩
    (k0_t1_body xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w2 w5 w7 w w') (fun s _ => inv m ρ K c s) (fun t u => wp_trip m ρ K c w2 w5 w7 w w' t u) (kk := k) (Q := Q)
  refine BIBase.Entails.trans h ?_
  iintro H Hk
  iapply H
  iintro %_ HI
  iapply Hk
  iapply (Entails.of_eq (congrArg (inv m ρ K c) trips_eq)) $$ HI

/-- The local cell of the copy of channel `j`'s quarter of the result, and the copy in flight. -/
abbrev oZ : Fin 4 → DmaSem sig | 0 => 3 | 1 => 5 | 2 => 4 | 3 => 6
def putting (j : Fin 4) : sProp 𝕄 :=
  Transfers.Flight EC (c : Thread nD τ) (.dma (oZ j)) 0 (outP j).view.dmaCredit iprop(pc c (outP j).view (outAt m ρ c j) ∗ pcAny c (accP j).view)
/-- The last row chunk of channels 0 and 1 on its way into slot 0 of the fetched rows. -/
def coming : sProp 𝕄 := fetching c EC 0 1 (xP (chk 0 c 7)) bP0 fullShare (m ((c : Thread nD τ).loc main_arg0))

theorem wp_part10 {k : (Σ' (d0 : Dev nD) (v2 : BitVec 32) (v5 : BitVec 32) (v7 : BitVec 32), Sems sig S_) → Prog (TpuEff nD τ sig (Elt F) Λ₀ .tc) α} :
    iprop(records m ρ K ∗ lvls ∗ sigTok c ∗ ow c (O₀ c) ∗ pcAny c (slotP 0 1).view ∗ pcAny c (slotP 1 1).view ∗ pcAny c (slotP 2 1).view
        ∗ pcAny c (slotP 3 1).view ∗ xArr m c ∗ pcAny c bP0.view ∗ zero c 1)
      ⊢ iprop((∀ (w2 w5 w7 : BitVec 32), iprop(ow c (Or c 4) ∗ xArr m c ∗ pc c bP0.view (xrd m c (chk 0 c 0)) ∗ zero c 1)
            -∗ wp frame (wpE (defs₀ (F := F)) 𝒱₀ (c : Thread nD τ) none) Set.univ (k ⟨c, w2, w5, w7, SemArray.scalar (sig.barrier 0 rfl)⟩) Q)
          -∗ wp frame (wpE (defs₀ (F := F)) 𝒱₀ (c : Thread nD τ) none) Set.univ
            ((k0_part10 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 ) >>= k) Q) := by
  rw [k0_part10_eq_skeleton]; unfold k0_part10_skel
  simp only [semSignalWord, semWaitWord, Prog.lift, Prog.bind_op, Prog.bind_ret, Prog.pure_eq_ret, wp_deviceId]
  iintro ⟨#Hrec, #Hlev, Hsig, HO, Hl0, Hl1, Hl2, Hl3, Hx, Hb0, Hz1⟩ Hk
  iapply (wp_signals m ρ K c _ _ (dev1_eq c) (dev2_eq c)) $$ [Hsig HO Hl0 Hl1 Hl2 Hl3]
  · isplitr; · iexact Hrec
    isplitl [Hsig]; · iexact Hsig
    isplitl [HO]; · iexact HO
    isplitl [Hl0]; · iexact Hl0
    isplitl [Hl1]; · iexact Hl1
    isplitl [Hl2]; · iexact Hl2
    iexact Hl3
  iintro HO
  iapply (wp_fetch 𝒱₀ c EC 0 (dst := bP0) (q := fullShare) (chunk_of _ (off1_eq c) _) sx0 numel_pos) $$ [Hx Hb0 Hz1]
  · isplitl [Hx]; · iexact Hx
    isplitl [Hb0]; · iexact Hb0
    iexact Hz1
  iintro Hf
  iapply (wp_fetched 𝒱₀ c EC 0 (dst := bP0) (O := Or c 4) (chunk_of _ (off1_eq c) _) sx0) $$ [Hf HO]
  · isplitl [Hf]; · iexact Hf
    isplitl [HO]; · iexact HO
    iapply (mayWait_local c 1 (by decide) (by decide) (pend_or c 4) (by decide)); iexact Hlev
  iintro ⟨Hb0, Hx, Hz1, HO⟩
  iapply Hk
  isplitl [HO]; · iexact HO
  isplitl [Hx]; · iexact Hx
  isplitl [Hb0]; · iexact Hb0
  iexact Hz1

theorem wp_part11 (w7 : BitVec 32) {k : PUnit → Prog (TpuEff nD τ sig (Elt F) Λ₀ .tc) α} :
    iprop(records m ρ K ∗ lvls ∗ atPos ER (barCell c) 0 ∅ 0 ∗ cred (tallyAt (barCell c) 0 2) ∗ ow c (Or c 4) ∗ pc c bP0.view (xrd m c (chk 0 c 0)) ∗ wArr m ρ c
        ∗ pcAny c (accP 0).view ∗ pcAny c (slotP 0 0).view)
      ⊢ iprop((iprop(ow c (Or c 4) ∗ atPos ER (barCell c) 1 ∅ 0 ∗ landing c 0 0 ∗ landing c 1 0 ∗ landing c 2 0 ∗ landing c 3 0 ∗ pc c bP0.view (xrd m c (chk 0 c 0))
            ∗ wArr m ρ c ∗ pcAny c (accP 0).view ∗ pc c (slotP 0 0).view (sentAt m ρ 0 0 c))
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part11 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 w7 (SemArray.scalar (sig.barrier 0 rfl))) >>= k) Q) := by
  rw [k0_part11_eq_skeleton]; unfold k0_part11_skel
  simp only [semSignalWord, semWaitWord, Prog.lift, Prog.bind_op, Prog.bind_ret, Prog.pure_eq_ret]
  iintro ⟨#Hrec, #Hlev, Hbar, Hbc, HO, Hb0, Hw, Ha0, Hs0⟩ Hk
  iapply (wp_load_sq 𝒱₀ c (m := bM) hq) $$ Hb0; iintro Hb0
  iapply (wp_load_at 𝒱₀ c (m := wM)) $$ Hw; iintro Hw
  iapply (wp_load_any 𝒱₀ c (m := alM)) $$ Ha0; iintro %_ Ha0
  iapply (wp_store_pc 𝒱₀ c (m := alM)) $$ Ha0; iintro Ha0
  iapply (wp_load_pc 𝒱₀ c (m := alM)) $$ Ha0; iintro Ha0
  iapply (wp_load_slot_any c 0 0 lit0) $$ Hs0; iintro %_ Hs0
  iapply (wp_store_slot c 0 0 lit0) $$ Hs0; iintro Hs0
  iapply (wp_barrier m ρ K c) $$ [Hbar Hbc HO]
  · isplitr; · iexact Hrec
    isplitl [Hbar]; · iexact Hbar
    isplitl [Hbc]; · iexact Hbc
    isplitl [HO]; · iexact HO
    iexact Hlev
  iintro ⟨HO, Hbar, HL0, HL1, HL2, HL3⟩
  iapply Hk
  isplitl [HO]; · iexact HO
  isplitl [Hbar]; · iexact Hbar
  isplitl [HL0]; · iexact HL0
  isplitl [HL1]; · iexact HL1
  isplitl [HL2]; · iexact HL2
  isplitl [HL3]; · iexact HL3
  isplitl [Hb0]; · iexact Hb0
  isplitl [Hw]; · iexact Hw
  isplitl [Ha0]; · iapply (pc_any _ _ _) $$ Ha0
  iexact Hs0

theorem wp_part12 (w7 : BitVec 32) {k : PUnit → Prog (TpuEff nD τ sig (Elt F) Λ₀ .tc) α} :
    iprop(records m ρ K ∗ start c 0 ∗ landing c 0 0 ∗ pc c (slotP 0 0).view (sentAt m ρ 0 0 c) ∗ start c 1 ∗ landing c 1 0 ∗ ow c (Or c 4)
        ∗ pc c bP0.view (xrd m c (chk 0 c 0)) ∗ wArr m ρ c ∗ pcAny c (accP 1).view ∗ pcAny c (slotP 1 0).view)
      ⊢ iprop((iprop(Fly c 0 0 ∗ Fly c 1 0 ∗ ow c (Or c 2) ∗ pcAny c bP0.view ∗ wArr m ρ c ∗ pcAny c (accP 1).view)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part12 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w7) >>= k) Q) := by
  rw [k0_part12_eq_skeleton]; unfold k0_part12_skel
  simp only [semSignalWord, semWaitWord, Prog.lift, Prog.bind_op, Prog.bind_ret, Prog.pure_eq_ret, pay10_eq, pay11_eq]
  iintro ⟨#Hrec, HF0, HL0, Hs0, HF1, HL1, HO, Hb0, Hw, Ha1, Hs1⟩ Hk
  iapply (wp_first m ρ K c 0 _ (dev3_eq c) (slot_of 0 _ off30 _) (slot_of 0 _ off31 _) (send_of 0 _ off20 _) (recv_of 0 _ off21 _) (Or c 3) rfl) $$ [HF0 HL0 Hs0 HO]
  · isplitr; · iexact Hrec
    isplitl [HF0]; · iexact HF0
    isplitl [HL0]; · iexact HL0
    isplitl [Hs0]; · iexact Hs0
    iexact HO
  iintro ⟨HF0, HO⟩
  iapply (wp_load_sq 𝒱₀ c (m := bM) hq) $$ Hb0; iintro Hb0
  iapply (wp_load_at 𝒱₀ c (m := wM)) $$ Hw; iintro Hw
  iapply (wp_load_any 𝒱₀ c (m := alM)) $$ Ha1; iintro %_ Ha1
  iapply (wp_store_pc 𝒱₀ c (m := alM)) $$ Ha1; iintro Ha1
  iapply (wp_load_pc 𝒱₀ c (m := alM)) $$ Ha1; iintro Ha1
  iapply (wp_load_slot_any c 1 0 lit1) $$ Hs1; iintro %_ Hs1
  iapply (wp_store_slot c 1 0 lit1) $$ Hs1; iintro Hs1
  iapply (wp_first m ρ K c 1 _ (dev4_eq c) (slot_of 1 _ off50 _) (slot_of 1 _ off51 _) (send_of 1 _ off40 _) (recv_of 1 _ off41 _) (Or c 2) rfl) $$ [HF1 HL1 Hs1 HO]
  · isplitr; · iexact Hrec
    isplitl [HF1]; · iexact HF1
    isplitl [HL1]; · iexact HL1
    isplitl [Hs1]; · iexact Hs1
    iexact HO
  iintro ⟨HF1, HO⟩
  iapply Hk
  isplitl [HF0]; · iexact HF0
  isplitl [HF1]; · iexact HF1
  isplitl [HO]; · iexact HO
  isplitl [Hb0]; · iapply (pc_any _ _ _) $$ Hb0
  isplitl [Hw]; · iexact Hw
  iapply (pc_any _ _ _) $$ Ha1

theorem wp_part13 (w2 : BitVec 32) {k : BitVec 32 → Prog (TpuEff nD τ sig (Elt F) Λ₀ .tc) α} :
    iprop(lvls ∗ xArr m c ∗ pcAny c bP1.view ∗ zero c 2 ∗ ow c (Or c 2) ∗ wArr m ρ c ∗ pcAny c (accP 2).view ∗ pcAny c (slotP 2 0).view)
      ⊢ iprop((iprop(xArr m c ∗ pc c bP1.view (xrd m c (chk 2 c 0)) ∗ zero c 2 ∗ ow c (Or c 2) ∗ wArr m ρ c ∗ pcAny c (accP 2).view
            ∗ pc c (slotP 2 0).view (sentAt m ρ 2 0 c))
            -∗ wp frame (wpE (defs₀ (F := F)) 𝒱₀ (c : Thread nD τ) none) Set.univ (k 1#32) Q)
          -∗ wp frame (wpE (defs₀ (F := F)) 𝒱₀ (c : Thread nD τ) none) Set.univ
            ((k0_part13 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w2) >>= k) Q) := by
  rw [k0_part13_eq_skeleton]; unfold k0_part13_skel
  simp only [semSignalWord, semWaitWord, Prog.lift, Prog.bind_op, Prog.bind_ret, Prog.pure_eq_ret, pay12_eq, pay13_eq]
  iintro ⟨#Hlev, Hx, Hb1, Hz2, HO, Hw, Ha2, Hs2⟩ Hk
  iapply (wp_fetch 𝒱₀ c EC 0 (dst := bP1) (q := fullShare) (chunk_of _ (off6_eq c) _) sx1 numel_pos) $$ [Hx Hb1 Hz2]
  · isplitl [Hx]; · iexact Hx
    isplitl [Hb1]; · iexact Hb1
    iexact Hz2
  iintro Hf
  iapply (wp_fetched 𝒱₀ c EC 0 (dst := bP1) (O := Or c 2) (chunk_of _ (off6_eq c) _) sx1) $$ [Hf HO]
  · isplitl [Hf]; · iexact Hf
    isplitl [HO]; · iexact HO
    iapply (mayWait_local c 2 (by decide) (by decide) (pend_or c 2) (by decide)); iexact Hlev
  iintro ⟨Hb1, Hx, Hz2, HO⟩
  iapply (wp_load_sq 𝒱₀ c (m := bM) hq) $$ Hb1; iintro Hb1
  iapply (wp_load_at 𝒱₀ c (m := wM)) $$ Hw; iintro Hw
  iapply (wp_load_any 𝒱₀ c (m := arM)) $$ Ha2; iintro %_ Ha2
  iapply (wp_store_pc 𝒱₀ c (m := arM)) $$ Ha2; iintro Ha2
  iapply (wp_load_pc 𝒱₀ c (m := arM)) $$ Ha2; iintro Ha2
  iapply (wp_load_slot_any c 2 0 lit0) $$ Hs2; iintro %_ Hs2
  iapply (wp_store_slot c 2 0 lit0) $$ Hs2; iintro Hs2
  iapply Hk
  isplitl [Hx]; · iexact Hx
  isplitl [Hb1]; · iexact Hb1
  isplitl [Hz2]; · iexact Hz2
  isplitl [HO]; · iexact HO
  isplitl [Hw]; · iexact Hw
  isplitl [Ha2]; · iapply (pc_any _ _ _) $$ Ha2
  iexact Hs2

theorem wp_part14 (w5 w : BitVec 32) {k : (Σ' (a : BitVec 32), BitVec 32) → Prog (TpuEff nD τ sig (Elt F) Λ₀ .tc) α} :
    iprop(records m ρ K ∗ start c 2 ∗ landing c 2 0 ∗ pc c (slotP 2 0).view (sentAt m ρ 2 0 c) ∗ ow c (Or c 2) ∗ pc c bP1.view (xrd m c (chk 2 c 0))
        ∗ wArr m ρ c ∗ pcAny c (accP 3).view ∗ pcAny c (slotP 3 0).view)
      ⊢ iprop((iprop(Fly c 2 0 ∗ ow c (Or c 1) ∗ pcAny c bP1.view ∗ wArr m ρ c ∗ pcAny c (accP 3).view ∗ pc c (slotP 3 0).view (sentAt m ρ 3 0 c))
            -∗ wp frame (wpE (defs₀ (F := F)) 𝒱₀ (c : Thread nD τ) none) Set.univ (k ⟨1#32, 2#32⟩) Q)
          -∗ wp frame (wpE (defs₀ (F := F)) 𝒱₀ (c : Thread nD τ) none) Set.univ
            ((k0_part14 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w5 w) >>= k) Q) := by
  rw [k0_part14_eq_skeleton]; unfold k0_part14_skel
  simp only [semSignalWord, semWaitWord, Prog.lift, Prog.bind_op, Prog.bind_ret, Prog.pure_eq_ret, pay14_eq, pay15_eq]
  iintro ⟨#Hrec, HF2, HL2, Hs2, HO, Hb1, Hw, Ha3, Hs3⟩ Hk
  iapply (wp_first m ρ K c 2 _ (dev5_eq c) (slot_of 2 _ off30 _) (slot_of 2 _ off31 _) (send_of 2 _ off20 _) (recv_of 2 _ off21 _) (Or c 1) rfl) $$ [HF2 HL2 Hs2 HO]
  · isplitr; · iexact Hrec
    isplitl [HF2]; · iexact HF2
    isplitl [HL2]; · iexact HL2
    isplitl [Hs2]; · iexact Hs2
    iexact HO
  iintro ⟨HF2, HO⟩
  iapply (wp_load_sq 𝒱₀ c (m := bM) hq) $$ Hb1; iintro Hb1
  iapply (wp_load_at 𝒱₀ c (m := wM)) $$ Hw; iintro Hw
  iapply (wp_load_any 𝒱₀ c (m := arM)) $$ Ha3; iintro %_ Ha3
  iapply (wp_store_pc 𝒱₀ c (m := arM)) $$ Ha3; iintro Ha3
  iapply (wp_load_pc 𝒱₀ c (m := arM)) $$ Ha3; iintro Ha3
  iapply (wp_load_slot_any c 3 0 lit1) $$ Hs3; iintro %_ Hs3
  iapply (wp_store_slot c 3 0 lit1) $$ Hs3; iintro Hs3
  iapply Hk
  isplitl [HF2]; · iexact HF2
  isplitl [HO]; · iexact HO
  isplitl [Hb1]; · iapply (pc_any _ _ _) $$ Hb1
  isplitl [Hw]; · iexact Hw
  isplitl [Ha3]; · iapply (pc_any _ _ _) $$ Ha3
  iexact Hs3

set_option maxHeartbeats 800000 in
theorem wp_part15 (w2 w5 w7 w w' : BitVec 32) {k : PUnit → Prog (TpuEff nD τ sig (Elt F) Λ₀ .tc) α} :
    iprop(records m ρ K ∗ lvls ∗ start c 3 ∗ landing c 3 0 ∗ pc c (slotP 3 0).view (sentAt m ρ 3 0 c) ∗ ow c (Or c 1) ∗ xArr m c ∗ pcAny c bP0.view
        ∗ pcAny c bP1.view ∗ zero c 1 ∗ zero c 2 ∗ wArr m ρ c ∗ pcAny c (accP 0).view ∗ pcAny c (accP 1).view ∗ pcAny c (accP 2).view ∗ pcAny c (accP 3).view
        ∗ Fly c 0 0 ∗ Fly c 1 0 ∗ Fly c 2 0 ∗ bag c 6)
      ⊢ iprop((iprop(pcAny c bP1.view ∗ zero c 2 ∗ ow c 0 ∗ wArr m ρ c ∗ pcAny c (accP 0).view ∗ pcAny c (accP 1).view ∗ pcAny c (accP 2).view ∗ pcAny c (accP 3).view
            ∗ Fly c 0 6 ∗ Fly c 1 6 ∗ Fly c 2 6 ∗ Fly c 3 6 ∗ coming m c)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part15 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w2 w5 w7 w w') >>= k) Q) := by
  rw [k0_part15_eq_skeleton]; unfold k0_part15_skel
  simp only [semSignalWord, semWaitWord, Prog.lift, Prog.bind_op, Prog.bind_ret, Prog.pure_eq_ret, Prog.bind_assoc]
  iintro ⟨#Hrec, #Hlev, HF3, HL3, Hs3, HO, Hx, Hb0, Hb1, Hz1, Hz2, Hw, Ha0, Ha1, Ha2, Ha3, HF0, HF1, HF2, Hbag⟩ Hk
  iapply (wp_first m ρ K c 3 _ (dev6_eq c) (slot_of 3 _ off50 _) (slot_of 3 _ off51 _) (send_of 3 _ off40 _) (recv_of 3 _ off41 _) (Or c 0) rfl) $$ [HF3 HL3 Hs3 HO]
  · isplitr; · iexact Hrec
    isplitl [HF3]; · iexact HF3
    isplitl [HL3]; · iexact HL3
    isplitl [Hs3]; · iexact Hs3
    iexact HO
  iintro ⟨HF3, HO⟩
  iapply (wp_loop m ρ K c w2 w5 w7 w w') $$ [Hx Hb0 Hb1 Hz1 Hz2 HO Hw Ha0 Ha1 Ha2 Ha3 HF0 HF1 HF2 HF3 Hbag]
  · unfold inv
    isplitr; · iexact Hrec
    isplitr; · iexact Hlev
    isplitl [Hx]; · iexact Hx
    isplitl [Hb0]; · iexact Hb0
    isplitl [Hb1]; · iexact Hb1
    isplitl [Hz1]; · iexact Hz1
    isplitl [Hz2]; · iexact Hz2
    isplitl [HO]; · iexact HO
    isplitl [Hw]; · iexact Hw
    isplitl [Ha0]; · iexact Ha0
    isplitl [Ha1]; · iexact Ha1
    isplitl [Ha2]; · iexact Ha2
    isplitl [Ha3]; · iexact Ha3
    isplitl [HF0]; · iexact HF0
    isplitl [HF1]; · iexact HF1
    isplitl [HF2]; · iexact HF2
    isplitl [HF3]; · iexact HF3
    iexact Hbag
  iintro HI
  unfold inv
  icases HI with ⟨-, -, Hx, Hb0, Hb1, Hz1, Hz2, HO, Hw, Ha0, Ha1, Ha2, Ha3, HF0, HF1, HF2, HF3, -⟩
  iapply (wp_fetch 𝒱₀ c EC 0 (dst := bP0) (q := fullShare) (chunk_of _ (off23_eq c) _) sx0 numel_pos) $$ [Hx Hb0 Hz1]
  · isplitl [Hx]; · iexact Hx
    isplitl [Hb0]; · iexact Hb0
    iexact Hz1
  iintro Hf
  unfold coming
  iapply Hk
  isplitl [Hb1]; · iexact Hb1
  isplitl [Hz2]; · iexact Hz2
  isplitl [HO]; · iexact HO
  isplitl [Hw]; · iexact Hw
  isplitl [Ha0]; · iexact Ha0
  isplitl [Ha1]; · iexact Ha1
  isplitl [Ha2]; · iexact Ha2
  isplitl [Ha3]; · iexact Ha3
  isplitl [HF0]; · iexact HF0
  isplitl [HF1]; · iexact HF1
  isplitl [HF2]; · iexact HF2
  isplitl [HF3]; · iexact HF3
  iexact Hf

theorem wp_part16 (w7 : BitVec 32) {k : PUnit → Prog (TpuEff nD τ sig (Elt F) Λ₀ .tc) α} :
    iprop(records m ρ K ∗ lvls ∗ coming m c ∗ ow c 0 ∗ wArr m ρ c ∗ pcAny c (accP 0).view ∗ pcAny c (accP 1).view ∗ Fly c 0 6)
      ⊢ iprop((iprop(xArr m c ∗ pcAny c bP0.view ∗ zero c 1 ∗ ow c 0 ∗ wArr m ρ c ∗ pc c (accP 0).view (partK m ρ c 0 7) ∗ pc c (accP 1).view (partK m ρ c 1 7)
            ∗ Fly1 c 0 6)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part16 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c w7) >>= k) Q) := by
  rw [k0_part16_eq_skeleton]; unfold k0_part16_skel
  simp only [semSignalWord, semWaitWord, Prog.lift, Prog.bind_op, Prog.bind_ret, Prog.pure_eq_ret, pay16_eq]
  iintro ⟨#Hrec, #Hlev, Hf, HO, Hw, Ha0, Ha1, HF0⟩ Hk
  unfold coming
  iapply (wp_fetched 𝒱₀ c EC 0 (dst := bP0) (O := 0) (chunk_of _ (off23_eq c) _) sx0) $$ [Hf HO]
  · isplitl [Hf]; · iexact Hf
    isplitl [HO]; · iexact HO
    iapply (mayWait_zero c _ _); iexact Hlev
  iintro ⟨Hb0, Hx, Hz1, HO⟩
  iapply (wp_load_sq 𝒱₀ c (m := bM) hq) $$ Hb0; iintro Hb0
  iapply (wp_load_at 𝒱₀ c (m := wM)) $$ Hw; iintro Hw
  iapply (wp_whole_al c (m ((c : Thread nD τ).loc cc0_scratch3))) $$ [Ha0 Ha1]
  · isplitl [Ha0]; · iexact Ha0
    iexact Ha1
  iintro ⟨Ha0, Ha1⟩
  iapply (wp_sent m ρ K c 0 6 (by decide) (slot_of 0 _ off36 _) (send_of 0 _ off26 _) (mayWait_zero c _ _)) $$ [HF0 HO]
  · isplitr; · iexact Hrec
    isplitr; · iexact Hlev
    isplitl [HF0]; · iexact HF0
    iexact HO
  iintro ⟨HO, HF0⟩
  iapply Hk
  isplitl [Hx]; · iexact Hx
  isplitl [Hb0]; · iapply (pc_any _ _ _) $$ Hb0
  isplitl [Hz1]; · iexact Hz1
  isplitl [HO]; · iexact HO
  isplitl [Hw]; · iexact Hw
  isplitl [Ha0]; · iexact Ha0
  isplitl [Ha1]; · iexact Ha1
  iexact HF0

theorem wp_part17 (w2 : BitVec 32) {k : PUnit → Prog (TpuEff nD τ sig (Elt F) Λ₀ .tc) α} :
    iprop(records m ρ K ∗ lvls ∗ Fly1 c 0 6 ∗ ow c 0 ∗ pc c (accP 0).view (partK m ρ c 0 7) ∗ pcAny c (outP 0).view ∗ zero c (oZ 0))
      ⊢ iprop((iprop(Fly2 c 0 6 ∗ ow c 0 ∗ pcAny c (slotP 0 1).view ∗ putting m ρ c 0)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part17 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 w2) >>= k) Q) := by
  rw [k0_part17_eq_skeleton]; unfold k0_part17_skel
  simp only [semSignalWord, semWaitWord, Prog.lift, Prog.bind_op, Prog.bind_ret, Prog.pure_eq_ret]
  iintro ⟨#Hrec, #Hlev, HF0, HO, Ha0, Ho0, Hz3⟩ Hk
  iapply (wp_received m ρ K c 0 6 (by decide) (slot_of 0 _ off37 _) (recv_of 0 _ off27 _) (mayWait_zero c _ _)) $$ [HF0 HO]
  · isplitr; · iexact Hrec
    isplitr; · iexact Hlev
    isplitl [HF0]; · iexact HF0
    iexact HO
  iintro ⟨HO, HF0, Hs0⟩
  iapply (wp_load_slot c 0 (par (6 + 1)) lit2) $$ Hs0; iintro Hs0
  iapply (wp_load_pc 𝒱₀ c (m := alM)) $$ Ha0; iintro Ha0
  iapply (wp_load_pc 𝒱₀ c (m := alM)) $$ Ha0; iintro Ha0
  iapply (wp_store_pc 𝒱₀ c (m := alM)) $$ Ha0; iintro Ha0
  iapply (wp_put 𝒱₀ c EC 0 (src := accP 0) (dst := outP 0) (sm₀ := oZ 0) so0 numel_pos) $$ [Ha0 Ho0 Hz3]
  · isplitl [Ha0]; · iexact Ha0
    isplitl [Ho0]; · iexact Ho0
    iexact Hz3
  iintro Hp0
  unfold putting
  iapply Hk
  isplitl [HF0]; · iexact HF0
  isplitl [HO]; · iexact HO
  isplitl [Hs0]; · iapply (pc_any _ _ _) $$ Hs0
  iexact Hp0

theorem wp_part18 {k : PUnit → Prog (TpuEff nD τ sig (Elt F) Λ₀ .tc) α} :
    iprop(records m ρ K ∗ lvls ∗ xArr m c ∗ pcAny c bP1.view ∗ zero c 2 ∗ ow c 0 ∗ wArr m ρ c ∗ pcAny c (accP 2).view ∗ pcAny c (accP 3).view ∗ Fly c 2 6)
      ⊢ iprop((iprop(xArr m c ∗ pcAny c bP1.view ∗ zero c 2 ∗ ow c 0 ∗ wArr m ρ c ∗ pc c (accP 2).view (partK m ρ c 2 7) ∗ pc c (accP 3).view (partK m ρ c 3 7)
            ∗ Fly1 c 2 6)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part18 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 c) >>= k) Q) := by
  rw [k0_part18_eq_skeleton]; unfold k0_part18_skel
  simp only [semSignalWord, semWaitWord, Prog.lift, Prog.bind_op, Prog.bind_ret, Prog.pure_eq_ret, pay18_eq]
  iintro ⟨#Hrec, #Hlev, Hx, Hb1, Hz2, HO, Hw, Ha2, Ha3, HF2⟩ Hk
  iapply (wp_fetch 𝒱₀ c EC 0 (dst := bP1) (q := fullShare) (chunk_of _ (off24_eq c) _) sx1 numel_pos) $$ [Hx Hb1 Hz2]
  · isplitl [Hx]; · iexact Hx
    isplitl [Hb1]; · iexact Hb1
    iexact Hz2
  iintro Hf
  iapply (wp_fetched 𝒱₀ c EC 0 (dst := bP1) (O := 0) (chunk_of _ (off24_eq c) _) sx1) $$ [Hf HO]
  · isplitl [Hf]; · iexact Hf
    isplitl [HO]; · iexact HO
    iapply (mayWait_zero c _ _); iexact Hlev
  iintro ⟨Hb1, Hx, Hz2, HO⟩
  iapply (wp_load_sq 𝒱₀ c (m := bM) hq) $$ Hb1; iintro Hb1
  iapply (wp_load_at 𝒱₀ c (m := wM)) $$ Hw; iintro Hw
  iapply (wp_whole_ar c (m ((c : Thread nD τ).loc cc0_scratch4))) $$ [Ha2 Ha3]
  · isplitl [Ha2]; · iexact Ha2
    iexact Ha3
  iintro ⟨Ha2, Ha3⟩
  iapply (wp_sent m ρ K c 2 6 (by decide) (slot_of 2 _ off36 _) (send_of 2 _ off26 _) (mayWait_zero c _ _)) $$ [HF2 HO]
  · isplitr; · iexact Hrec
    isplitr; · iexact Hlev
    isplitl [HF2]; · iexact HF2
    iexact HO
  iintro ⟨HO, HF2⟩
  iapply Hk
  isplitl [Hx]; · iexact Hx
  isplitl [Hb1]; · iapply (pc_any _ _ _) $$ Hb1
  isplitl [Hz2]; · iexact Hz2
  isplitl [HO]; · iexact HO
  isplitl [Hw]; · iexact Hw
  isplitl [Ha2]; · iexact Ha2
  isplitl [Ha3]; · iexact Ha3
  iexact HF2

theorem wp_part19 (w5 : BitVec 32) {k : PUnit → Prog (TpuEff nD τ sig (Elt F) Λ₀ .tc) α} :
    iprop(records m ρ K ∗ lvls ∗ Fly1 c 2 6 ∗ ow c 0 ∗ pc c (accP 2).view (partK m ρ c 2 7) ∗ pcAny c (outP 2).view ∗ zero c (oZ 2))
      ⊢ iprop((iprop(Fly2 c 2 6 ∗ ow c 0 ∗ pcAny c (slotP 2 1).view ∗ putting m ρ c 2)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part19 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 w5) >>= k) Q) := by
  rw [k0_part19_eq_skeleton]; unfold k0_part19_skel
  simp only [semSignalWord, semWaitWord, Prog.lift, Prog.bind_op, Prog.bind_ret, Prog.pure_eq_ret, pay19_eq]
  iintro ⟨#Hrec, #Hlev, HF2, HO, Ha2, Ho2, Hz4⟩ Hk
  iapply (wp_received m ρ K c 2 6 (by decide) (slot_of 2 _ off37 _) (recv_of 2 _ off27 _) (mayWait_zero c _ _)) $$ [HF2 HO]
  · isplitr; · iexact Hrec
    isplitr; · iexact Hlev
    isplitl [HF2]; · iexact HF2
    iexact HO
  iintro ⟨HO, HF2, Hs2⟩
  iapply (wp_load_slot c 2 (par (6 + 1)) lit2) $$ Hs2; iintro Hs2
  iapply (wp_load_pc 𝒱₀ c (m := arM)) $$ Ha2; iintro Ha2
  iapply (wp_load_pc 𝒱₀ c (m := arM)) $$ Ha2; iintro Ha2
  iapply (wp_store_pc 𝒱₀ c (m := arM)) $$ Ha2; iintro Ha2
  iapply (wp_put 𝒱₀ c EC 0 (src := accP 2) (dst := outP 2) (sm₀ := oZ 2) so1 numel_pos) $$ [Ha2 Ho2 Hz4]
  · isplitl [Ha2]; · iexact Ha2
    isplitl [Ho2]; · iexact Ho2
    iexact Hz4
  iintro Hp2
  unfold putting
  iapply Hk
  isplitl [HF2]; · iexact HF2
  isplitl [HO]; · iexact HO
  isplitl [Hs2]; · iapply (pc_any _ _ _) $$ Hs2
  iexact Hp2

theorem wp_part20 (w7 : BitVec 32) {k : (Σ' (v302 : FVec F S1024x1024 .f32) (v307 : FVec F S1024x1024 .f32), F .f32) → Prog (TpuEff nD τ sig (Elt F) Λ₀ .tc) α} :
    iprop(records m ρ K ∗ lvls ∗ Fly c 1 6 ∗ ow c 0 ∗ pc c (accP 1).view (partK m ρ c 1 7))
      ⊢ iprop((iprop(Fly2 c 1 6 ∗ ow c 0 ∗ pcAny c (slotP 1 1).view ∗ pc c (accP 1).view (partK m ρ c 1 7))
            -∗ wp frame (wpE (defs₀ (F := F)) 𝒱₀ (c : Thread nD τ) none) Set.univ (k ⟨(k0_pay20 (up (sentAt m ρ 1 6 (org 1 c))) (partK m ρ c 1 7)), (k0_pay21 (up (sentAt m ρ 1 6 (org 1 c))) (partK m ρ c 1 7)), (Scalar.ofBits .f32 0x3F4C422A#32)⟩) Q)
          -∗ wp frame (wpE (defs₀ (F := F)) 𝒱₀ (c : Thread nD τ) none) Set.univ
            ((k0_part20 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 w7) >>= k) Q) := by
  rw [k0_part20_eq_skeleton]; unfold k0_part20_skel
  simp only [semSignalWord, semWaitWord, Prog.lift, Prog.bind_op, Prog.bind_ret, Prog.pure_eq_ret]
  iintro ⟨#Hrec, #Hlev, HF1, HO, Ha1⟩ Hk
  iapply (wp_sent m ρ K c 1 6 (by decide) (slot_of 1 _ off56 _) (send_of 1 _ off46 _) (mayWait_zero c _ _)) $$ [HF1 HO]
  · isplitr; · iexact Hrec
    isplitr; · iexact Hlev
    isplitl [HF1]; · iexact HF1
    iexact HO
  iintro ⟨HO, HF1⟩
  iapply (wp_received m ρ K c 1 6 (by decide) (slot_of 1 _ off57 _) (recv_of 1 _ off47 _) (mayWait_zero c _ _)) $$ [HF1 HO]
  · isplitr; · iexact Hrec
    isplitr; · iexact Hlev
    isplitl [HF1]; · iexact HF1
    iexact HO
  iintro ⟨HO, HF1, Hs1⟩
  iapply (wp_load_slot c 1 (par (6 + 1)) lit3) $$ Hs1; iintro Hs1
  iapply (wp_load_pc 𝒱₀ c (m := alM)) $$ Ha1; iintro Ha1
  iapply Hk
  isplitl [HF1]; · iexact HF1
  isplitl [HO]; · iexact HO
  isplitl [Hs1]; · iapply (pc_any _ _ _) $$ Hs1
  iexact Ha1

theorem wp_part21 (w5 : BitVec 32) {k : PUnit → Prog (TpuEff nD τ sig (Elt F) Λ₀ .tc) α} :
    iprop(records m ρ K ∗ lvls ∗ pc c (accP 1).view (partK m ρ c 1 7) ∗ pcAny c (outP 1).view ∗ zero c (oZ 1) ∗ ow c 0 ∗ Fly c 3 6)
      ⊢ iprop((iprop(putting m ρ c 1 ∗ ow c 0 ∗ Fly1 c 3 6)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part21 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 w5 (k0_pay20 (up (sentAt m ρ 1 6 (org 1 c))) (partK m ρ c 1 7)) (k0_pay21 (up (sentAt m ρ 1 6 (org 1 c))) (partK m ρ c 1 7)) (Scalar.ofBits .f32 0x3F4C422A#32)) >>= k) Q) := by
  rw [k0_part21_eq_skeleton]; unfold k0_part21_skel
  simp only [semSignalWord, semWaitWord, Prog.lift, Prog.bind_op, Prog.bind_ret, Prog.pure_eq_ret, pay22_eq]
  iintro ⟨#Hrec, #Hlev, Ha1, Ho1, Hz5, HO, HF3⟩ Hk
  iapply (wp_load_pc 𝒱₀ c (m := alM)) $$ Ha1; iintro Ha1
  iapply (wp_store_pc 𝒱₀ c (m := alM)) $$ Ha1; iintro Ha1
  iapply (wp_put 𝒱₀ c EC 0 (src := accP 1) (dst := outP 1) (sm₀ := oZ 1) so2 numel_pos) $$ [Ha1 Ho1 Hz5]
  · isplitl [Ha1]; · iexact Ha1
    isplitl [Ho1]; · iexact Ho1
    iexact Hz5
  iintro Hp1
  iapply (wp_sent m ρ K c 3 6 (by decide) (slot_of 3 _ off56 _) (send_of 3 _ off46 _) (mayWait_zero c _ _)) $$ [HF3 HO]
  · isplitr; · iexact Hrec
    isplitr; · iexact Hlev
    isplitl [HF3]; · iexact HF3
    iexact HO
  iintro ⟨HO, HF3⟩
  unfold putting
  iapply Hk
  isplitl [Hp1]; · iexact Hp1
  isplitl [HO]; · iexact HO
  iexact HF3

theorem wp_part22 {k : PUnit → Prog (TpuEff nD τ sig (Elt F) Λ₀ .tc) α} :
    iprop(records m ρ K ∗ lvls ∗ Fly1 c 3 6 ∗ ow c 0 ∗ pc c (accP 3).view (partK m ρ c 3 7) ∗ pcAny c (outP 3).view ∗ zero c (oZ 3))
      ⊢ iprop((iprop(Fly2 c 3 6 ∗ ow c 0 ∗ pcAny c (slotP 3 1).view ∗ putting m ρ c 3)
            -∗ wp frame (wpE (defs₀ (F := F)) 𝒱₀ (c : Thread nD τ) none) Set.univ (k ⟨⟩) Q)
          -∗ wp frame (wpE (defs₀ (F := F)) 𝒱₀ (c : Thread nD τ) none) Set.univ
            ((k0_part22 xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12 ) >>= k) Q) := by
  rw [k0_part22_eq_skeleton]; unfold k0_part22_skel
  simp only [semSignalWord, semWaitWord, Prog.lift, Prog.bind_op, Prog.bind_ret, Prog.pure_eq_ret, pay23_eq]
  iintro ⟨#Hrec, #Hlev, HF3, HO, Ha3, Ho3, Hz6⟩ Hk
  iapply (wp_received m ρ K c 3 6 (by decide) (slot_of 3 _ off57 _) (recv_of 3 _ off47 _) (mayWait_zero c _ _)) $$ [HF3 HO]
  · isplitr; · iexact Hrec
    isplitr; · iexact Hlev
    isplitl [HF3]; · iexact HF3
    iexact HO
  iintro ⟨HO, HF3, Hs3⟩
  iapply (wp_load_slot c 3 (par (6 + 1)) lit3) $$ Hs3; iintro Hs3
  iapply (wp_load_pc 𝒱₀ c (m := arM)) $$ Ha3; iintro Ha3
  iapply (wp_load_pc 𝒱₀ c (m := arM)) $$ Ha3; iintro Ha3
  iapply (wp_store_pc 𝒱₀ c (m := arM)) $$ Ha3; iintro Ha3
  iapply (wp_put 𝒱₀ c EC 0 (src := accP 3) (dst := outP 3) (sm₀ := oZ 3) so3 numel_pos) $$ [Ha3 Ho3 Hz6]
  · isplitl [Ha3]; · iexact Ha3
    isplitl [Ho3]; · iexact Ho3
    iexact Hz6
  iintro Hp3
  unfold putting
  iapply Hk
  isplitl [HF3]; · iexact HF3
  isplitl [HO]; · iexact HO
  isplitl [Hs3]; · iapply (pc_any _ _ _) $$ Hs3
  iexact Hp3

end Cert.Ring

end
-- ==== Proof.RingRoot.lean ====
/-
# The body whole

Its parts and the last four waits.
-/
module

public import proofs.«01_k».proof.Proof.RingEnds

@[expose] public section

noncomputable section

namespace Cert.Ring

open Cert.RingIdeal Cert.RingIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × KI → ℕ) (c : Dev nD)

variable {Q : PUnit → sProp (MT nD τ sig ℕ (Elt F) ℕ UU ℕ)}

/-- What the body takes: its shared cells and their tokens, the units it owes, its pieces, its operands, its own semaphores at zero. -/
def bodyIn : sProp 𝕄 :=
  iprop(records m ρ K ∗ lvls ∗ sigTok c ∗ atPos ER (barCell c) 0 ∅ 0 ∗ cred (tallyAt (barCell c) 0 2) ∗ start c 0 ∗ start c 1 ∗ start c 2 ∗ start c 3
    ∗ bag c 6 ∗ ow c (O₀ c) ∗ pcAny c bP0.view ∗ pcAny c bP1.view ∗ pcAny c (slotP 0 0).view ∗ pcAny c (slotP 1 0).view ∗ pcAny c (slotP 2 0).view
    ∗ pcAny c (slotP 3 0).view ∗ pcAny c (slotP 0 1).view ∗ pcAny c (slotP 1 1).view ∗ pcAny c (slotP 2 1).view ∗ pcAny c (slotP 3 1).view
    ∗ pcAny c (accP 0).view ∗ pcAny c (accP 1).view ∗ pcAny c (accP 2).view ∗ pcAny c (accP 3).view ∗ pcAny c (outP 0).view ∗ pcAny c (outP 1).view
    ∗ pcAny c (outP 2).view ∗ pcAny c (outP 3).view ∗ xArr m c ∗ wArr m ρ c ∗ zero c 1 ∗ zero c 2 ∗ zero c (oZ 0) ∗ zero c (oZ 2) ∗ zero c (oZ 1)
    ∗ zero c (oZ 3))

/-- What it leaves: nothing owed, the shared cells after their rounds, the pieces, the result's four quarters. -/
def bodyOut : sProp 𝕄 :=
  iprop(ow c 0 ∗ atPos ER (barCell c) 1 ∅ 0 ∗ Fly2 c 0 6 ∗ Fly2 c 1 6 ∗ Fly2 c 2 6 ∗ Fly2 c 3 6 ∗ pcAny c bP0.view ∗ pcAny c bP1.view
    ∗ pcAny c (slotP 0 1).view ∗ pcAny c (slotP 1 1).view ∗ pcAny c (slotP 2 1).view ∗ pcAny c (slotP 3 1).view ∗ pcAny c (accP 0).view
    ∗ pcAny c (accP 1).view ∗ pcAny c (accP 2).view ∗ pcAny c (accP 3).view ∗ pc c (outP 0).view (outAt m ρ c 0) ∗ pc c (outP 1).view (outAt m ρ c 1)
    ∗ pc c (outP 2).view (outAt m ρ c 2) ∗ pc c (outP 3).view (outAt m ρ c 3) ∗ xArr m c ∗ wArr m ρ c ∗ zero c 1 ∗ zero c 2 ∗ zero c (oZ 0)
    ∗ zero c (oZ 2) ∗ zero c (oZ 1) ∗ zero c (oZ 3))

set_option maxHeartbeats 1600000 in
theorem wp_body :
    bodyIn m ρ K c ⊢ iprop((bodyOut m ρ c -∗ Q ⟨⟩)
      -∗ wp frame (wpE (defs₀ (F := F)) 𝒱₀ (c : Thread nD τ) none) Set.univ
            (cc0_body xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12) Q) := by
  rw [cc0_body_eq_skeleton]; unfold cc0_body_skel bodyIn bodyOut
  simp only [Prog.lift, Prog.bind_op, Prog.bind_ret, Prog.pure_eq_ret]
  iintro ⟨#Hrec, #Hlev, Hsig, Hbar, Hbc, HF0, HF1, HF2, HF3, Hbag, HO, Hb0, Hb1, Hs0, Hs1, Hs2, Hs3, Hl0, Hl1, Hl2, Hl3, Ha0, Ha1, Ha2, Ha3, Ho0, Ho1, Ho2, Ho3, Hx, Hw, Hz1, Hz2, Hz3, Hz4, Hz5, Hz6⟩ Hk
  iapply (wp_part10 m ρ K c) $$ [Hsig HO Hl0 Hl1 Hl2 Hl3 Hx Hb0 Hz1]
  · isplitr; · iexact Hrec
    isplitr; · iexact Hlev
    isplitl [Hsig]; · iexact Hsig
    isplitl [HO]; · iexact HO
    isplitl [Hl0]; · iexact Hl0
    isplitl [Hl1]; · iexact Hl1
    isplitl [Hl2]; · iexact Hl2
    isplitl [Hl3]; · iexact Hl3
    isplitl [Hx]; · iexact Hx
    isplitl [Hb0]; · iexact Hb0
    iexact Hz1
  iintro %w2 %w5 %w7 ⟨HO, Hx, Hb0, Hz1⟩
  iapply (wp_part11 m ρ K c w7) $$ [Hbar Hbc HO Hb0 Hw Ha0 Hs0]
  · isplitr; · iexact Hrec
    isplitr; · iexact Hlev
    isplitl [Hbar]; · iexact Hbar
    isplitl [Hbc]; · iexact Hbc
    isplitl [HO]; · iexact HO
    isplitl [Hb0]; · iexact Hb0
    isplitl [Hw]; · iexact Hw
    isplitl [Ha0]; · iexact Ha0
    iexact Hs0
  iintro ⟨HO, Hbar, HL0, HL1, HL2, HL3, Hb0, Hw, Ha0, Hs0⟩
  iapply (wp_part12 m ρ K c w7) $$ [HF0 HL0 Hs0 HF1 HL1 HO Hb0 Hw Ha1 Hs1]
  · isplitr; · iexact Hrec
    isplitl [HF0]; · iexact HF0
    isplitl [HL0]; · iexact HL0
    isplitl [Hs0]; · iexact Hs0
    isplitl [HF1]; · iexact HF1
    isplitl [HL1]; · iexact HL1
    isplitl [HO]; · iexact HO
    isplitl [Hb0]; · iexact Hb0
    isplitl [Hw]; · iexact Hw
    isplitl [Ha1]; · iexact Ha1
    iexact Hs1
  iintro ⟨HF0, HF1, HO, Hb0, Hw, Ha1⟩
  iapply (wp_part13 m ρ c w2) $$ [Hx Hb1 Hz2 HO Hw Ha2 Hs2]
  · isplitr; · iexact Hlev
    isplitl [Hx]; · iexact Hx
    isplitl [Hb1]; · iexact Hb1
    isplitl [Hz2]; · iexact Hz2
    isplitl [HO]; · iexact HO
    isplitl [Hw]; · iexact Hw
    isplitl [Ha2]; · iexact Ha2
    iexact Hs2
  iintro ⟨Hx, Hb1, Hz2, HO, Hw, Ha2, Hs2⟩
  iapply (wp_part14 m ρ K c w5 1#32) $$ [HF2 HL2 Hs2 HO Hb1 Hw Ha3 Hs3]
  · isplitr; · iexact Hrec
    isplitl [HF2]; · iexact HF2
    isplitl [HL2]; · iexact HL2
    isplitl [Hs2]; · iexact Hs2
    isplitl [HO]; · iexact HO
    isplitl [Hb1]; · iexact Hb1
    isplitl [Hw]; · iexact Hw
    isplitl [Ha3]; · iexact Ha3
    iexact Hs3
  iintro ⟨HF2, HO, Hb1, Hw, Ha3, Hs3⟩
  iapply (wp_part15 m ρ K c w2 w5 w7 1#32 2#32) $$ [HF3 HL3 Hs3 HO Hx Hb0 Hb1 Hz1 Hz2 Hw Ha0 Ha1 Ha2 Ha3 HF0 HF1 HF2 Hbag]
  · isplitr; · iexact Hrec
    isplitr; · iexact Hlev
    isplitl [HF3]; · iexact HF3
    isplitl [HL3]; · iexact HL3
    isplitl [Hs3]; · iexact Hs3
    isplitl [HO]; · iexact HO
    isplitl [Hx]; · iexact Hx
    isplitl [Hb0]; · iexact Hb0
    isplitl [Hb1]; · iexact Hb1
    isplitl [Hz1]; · iexact Hz1
    isplitl [Hz2]; · iexact Hz2
    isplitl [Hw]; · iexact Hw
    isplitl [Ha0]; · iexact Ha0
    isplitl [Ha1]; · iexact Ha1
    isplitl [Ha2]; · iexact Ha2
    isplitl [Ha3]; · iexact Ha3
    isplitl [HF0]; · iexact HF0
    isplitl [HF1]; · iexact HF1
    isplitl [HF2]; · iexact HF2
    iexact Hbag
  iintro ⟨Hb1, Hz2, HO, Hw, Ha0, Ha1, Ha2, Ha3, HF0, HF1, HF2, HF3, Hf⟩
  iapply (wp_part16 m ρ K c w7) $$ [Hf HO Hw Ha0 Ha1 HF0]
  · isplitr; · iexact Hrec
    isplitr; · iexact Hlev
    isplitl [Hf]; · iexact Hf
    isplitl [HO]; · iexact HO
    isplitl [Hw]; · iexact Hw
    isplitl [Ha0]; · iexact Ha0
    isplitl [Ha1]; · iexact Ha1
    iexact HF0
  iintro ⟨Hx, Hb0, Hz1, HO, Hw, Ha0, Ha1, HF0⟩
  iapply (wp_part17 m ρ K c w2) $$ [HF0 HO Ha0 Ho0 Hz3]
  · isplitr; · iexact Hrec
    isplitr; · iexact Hlev
    isplitl [HF0]; · iexact HF0
    isplitl [HO]; · iexact HO
    isplitl [Ha0]; · iexact Ha0
    isplitl [Ho0]; · iexact Ho0
    iexact Hz3
  iintro ⟨HF0, HO, Hs0, Hp0⟩
  iapply (wp_part18 m ρ K c) $$ [Hx Hb1 Hz2 HO Hw Ha2 Ha3 HF2]
  · isplitr; · iexact Hrec
    isplitr; · iexact Hlev
    isplitl [Hx]; · iexact Hx
    isplitl [Hb1]; · iexact Hb1
    isplitl [Hz2]; · iexact Hz2
    isplitl [HO]; · iexact HO
    isplitl [Hw]; · iexact Hw
    isplitl [Ha2]; · iexact Ha2
    isplitl [Ha3]; · iexact Ha3
    iexact HF2
  iintro ⟨Hx, Hb1, Hz2, HO, Hw, Ha2, Ha3, HF2⟩
  iapply (wp_part19 m ρ K c w5) $$ [HF2 HO Ha2 Ho2 Hz4]
  · isplitr; · iexact Hrec
    isplitr; · iexact Hlev
    isplitl [HF2]; · iexact HF2
    isplitl [HO]; · iexact HO
    isplitl [Ha2]; · iexact Ha2
    isplitl [Ho2]; · iexact Ho2
    iexact Hz4
  iintro ⟨HF2, HO, Hs2, Hp2⟩
  iapply (wp_part20 m ρ K c w7) $$ [HF1 HO Ha1]
  · isplitr; · iexact Hrec
    isplitr; · iexact Hlev
    isplitl [HF1]; · iexact HF1
    isplitl [HO]; · iexact HO
    iexact Ha1
  iintro ⟨HF1, HO, Hs1, Ha1⟩
  iapply (wp_part21 m ρ K c w5) $$ [Ha1 Ho1 Hz5 HO HF3]
  · isplitr; · iexact Hrec
    isplitr; · iexact Hlev
    isplitl [Ha1]; · iexact Ha1
    isplitl [Ho1]; · iexact Ho1
    isplitl [Hz5]; · iexact Hz5
    isplitl [HO]; · iexact HO
    iexact HF3
  iintro ⟨Hp1, HO, HF3⟩
  iapply (wp_part22 m ρ K c) $$ [HF3 HO Ha3 Ho3 Hz6]
  · isplitr; · iexact Hrec
    isplitr; · iexact Hlev
    isplitl [HF3]; · iexact HF3
    isplitl [HO]; · iexact HO
    isplitl [Ha3]; · iexact Ha3
    isplitl [Ho3]; · iexact Ho3
    iexact Hz6
  iintro ⟨HF3, HO, Hs3, Hp3⟩
  unfold putting
  iapply (wp_landed 𝒱₀ c EC 0 (sm₀ := oZ 0) so0) $$ [Hp0 HO]
  · isplitl [Hp0]; · iexact Hp0
    isplitl [HO]; · iexact HO
    iapply (mayWait_zero c _ _); iexact Hlev
  iintro ⟨⟨Ho0, Ha0⟩, Hz3, HO⟩
  iapply (wp_landed 𝒱₀ c EC 0 (sm₀ := oZ 2) so1) $$ [Hp2 HO]
  · isplitl [Hp2]; · iexact Hp2
    isplitl [HO]; · iexact HO
    iapply (mayWait_zero c _ _); iexact Hlev
  iintro ⟨⟨Ho2, Ha2⟩, Hz4, HO⟩
  iapply (wp_landed 𝒱₀ c EC 0 (sm₀ := oZ 1) so2) $$ [Hp1 HO]
  · isplitl [Hp1]; · iexact Hp1
    isplitl [HO]; · iexact HO
    iapply (mayWait_zero c _ _); iexact Hlev
  iintro ⟨⟨Ho1, Ha1⟩, Hz5, HO⟩
  iapply (wp_landed 𝒱₀ c EC 0 (sm₀ := oZ 3) so3) $$ [Hp3 HO]
  · isplitl [Hp3]; · iexact Hp3
    isplitl [HO]; · iexact HO
    iapply (mayWait_zero c _ _); iexact Hlev
  iintro ⟨⟨Ho3, Ha3⟩, Hz6, HO⟩
  rw [wp_ret]; imodintro
  iapply Hk
  isplitl [HO]; · iexact HO
  isplitl [Hbar]; · iexact Hbar
  isplitl [HF0]; · iexact HF0
  isplitl [HF1]; · iexact HF1
  isplitl [HF2]; · iexact HF2
  isplitl [HF3]; · iexact HF3
  isplitl [Hb0]; · iexact Hb0
  isplitl [Hb1]; · iexact Hb1
  isplitl [Hs0]; · iexact Hs0
  isplitl [Hs1]; · iexact Hs1
  isplitl [Hs2]; · iexact Hs2
  isplitl [Hs3]; · iexact Hs3
  isplitl [Ha0]; · iexact Ha0
  isplitl [Ha1]; · iexact Ha1
  isplitl [Ha2]; · iexact Ha2
  isplitl [Ha3]; · iexact Ha3
  isplitl [Ho0]; · iexact Ho0
  isplitl [Ho1]; · iexact Ho1
  isplitl [Ho2]; · iexact Ho2
  isplitl [Ho3]; · iexact Ho3
  isplitl [Hx]; · iexact Hx
  isplitl [Hw]; · iexact Hw
  isplitl [Hz1]; · iexact Hz1
  isplitl [Hz2]; · iexact Hz2
  isplitl [Hz3]; · iexact Hz3
  isplitl [Hz4]; · iexact Hz4
  isplitl [Hz5]; · iexact Hz5
  iexact Hz6

end Cert.Ring

end
-- ==== Proof.RingLaunch.lean ====
/-
# The launch of the whole exchange

The eight bodies from one memory: each device's shared cells allocated, the duties' tokens dealt around the ring, the credit
for what the neighbours owe, the body's obligation, and the run.
-/
module

public import proofs.«01_k».proof.Proof.RingRoot
public import Idealize.ShloMosaic.Lib.Quiescent
public import Idealize.ShloMosaic.Lib.Pipeline.CollectiveSegs
public import Idealize.SL.BI.BigOpNat

@[expose] public section

noncomputable section

namespace Cert.Ring

open Cert.RingIdeal Cert.RingIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The cells and the tokens at launch -/

def ringCells : Finset (GSem nD τ sig) := Finset.univ.map ⟨kcell, kcell_injective⟩

/-- The duty tokens of a device's own cells as minted: its barrier's two; per channel the seven hops' at its send and its receive
    cells, the six credits' at its credit cell. -/
abbrev TokIx : Type := Bool ⊕ (Fin 4 × (Fin 7 × Bool ⊕ Fin 6))
def tk : TokIx → KI × ℕ × Bool
  | .inl b => (kB, 0, b)
  | .inr (j, .inl (h, true)) => (kS j (par h.val), h.val / 2, false)
  | .inr (j, .inl (h, false)) => (kR j (par (h.val + 1)), h.val / 2, false)
  | .inr (j, .inr s) => (kF j, s.val, false)
theorem hops_send : ∀ h h' : Fin 7, par h.val = par h'.val → h.val / 2 = h'.val / 2 → h = h' := by decide
theorem hops_recv : ∀ h h' : Fin 7, par (h.val + 1) = par (h'.val + 1) → h.val / 2 = h'.val / 2 → h = h' := by decide
theorem tk_inj : ∀ a b : TokIx, tk a = tk b → a = b
  | .inl b, .inl b', h => by rw [show b = b' from congrArg (fun x : KI × ℕ × Bool => x.2.2) h]
  | .inl _, .inr (_, .inl (_, true)), h => by cases congrArg (fun x : KI × ℕ × Bool => x.1) h
  | .inl _, .inr (_, .inl (_, false)), h => by cases congrArg (fun x : KI × ℕ × Bool => x.1) h
  | .inl _, .inr (_, .inr _), h => by cases congrArg (fun x : KI × ℕ × Bool => x.1) h
  | .inr (_, .inl (_, true)), .inl _, h => by cases congrArg (fun x : KI × ℕ × Bool => x.1) h
  | .inr (_, .inl (_, false)), .inl _, h => by cases congrArg (fun x : KI × ℕ × Bool => x.1) h
  | .inr (_, .inr _), .inl _, h => by cases congrArg (fun x : KI × ℕ × Bool => x.1) h
  | .inr (_, .inl (_, true)), .inr (_, .inl (_, false)), h => by cases congrArg (fun x : KI × ℕ × Bool => x.1) h
  | .inr (_, .inl (_, false)), .inr (_, .inl (_, true)), h => by cases congrArg (fun x : KI × ℕ × Bool => x.1) h
  | .inr (_, .inl (_, true)), .inr (_, .inr _), h => by cases congrArg (fun x : KI × ℕ × Bool => x.1) h
  | .inr (_, .inl (_, false)), .inr (_, .inr _), h => by cases congrArg (fun x : KI × ℕ × Bool => x.1) h
  | .inr (_, .inr _), .inr (_, .inl (_, true)), h => by cases congrArg (fun x : KI × ℕ × Bool => x.1) h
  | .inr (_, .inr _), .inr (_, .inl (_, false)), h => by cases congrArg (fun x : KI × ℕ × Bool => x.1) h
  | .inr (j, .inl (h, true)), .inr (j', .inl (h', true)), e => by
    have e1 := Sum.inl.inj (Sum.inr.inj (Sum.inr.inj (congrArg (fun x : KI × ℕ × Bool => x.1) e)))
    have e2 : h.val / 2 = h'.val / 2 := congrArg (fun x : KI × ℕ × Bool => x.2.1) e
    rw [show j = j' from congrArg Prod.fst e1, hops_send h h' (congrArg Prod.snd e1) e2]
  | .inr (j, .inl (h, false)), .inr (j', .inl (h', false)), e => by
    have e1 := Sum.inr.inj (Sum.inr.inj (Sum.inr.inj (congrArg (fun x : KI × ℕ × Bool => x.1) e)))
    have e2 : h.val / 2 = h'.val / 2 := congrArg (fun x : KI × ℕ × Bool => x.2.1) e
    rw [show j = j' from congrArg Prod.fst e1, hops_recv h h' (congrArg Prod.snd e1) e2]
  | .inr (j, .inr s), .inr (j', .inr s'), e => by
    have e1 := Sum.inl.inj (Sum.inr.inj (congrArg (fun x : KI × ℕ × Bool => x.1) e))
    have e2 : s.val = s'.val := congrArg (fun x : KI × ℕ × Bool => x.2.1) e
    rw [show j = j' from e1, Fin.ext e2]
abbrev tokOf (cj : Dev nD × TokIx) : GSem nD τ sig × ℕ × Bool := (kcell (cj.1, (tk cj.2).1), (tk cj.2).2)
theorem tokOf_injective : Function.Injective (tokOf : Dev nD × TokIx → GSem nD τ sig × ℕ × Bool) := by
  rintro ⟨c, j⟩ ⟨c', j'⟩ h
  have h1 := kcell_injective (congrArg (fun x : GSem nD τ sig × ℕ × Bool => x.1) h)
  have h2 : (tk j).2 = (tk j').2 := congrArg (fun x : GSem nD τ sig × ℕ × Bool => x.2) h
  have h3 : c = c' := congrArg Prod.fst h1
  have h4 : (tk j).1 = (tk j').1 := congrArg Prod.snd h1
  rw [h3, tk_inj j j' (Prod.ext h4 h2)]
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

/-- The duty tokens of device `c`'s own cells, channel `j`'s; -/
def ownTok (c : Dev nD) (j : Fin 4) : sProp 𝕄 :=
  iprop((bigSep Finset.univ fun h : Fin 7 => iprop(dutyTok ER (sendCell c j (par h.val)) (h.val / 2) false ∗ dutyTok ER (recvCell c j (par (h.val + 1))) (h.val / 2) false))
    ∗ bigSep Finset.univ fun s : Fin 6 => dutyTok ER (freeCell c j) s.val false)
def toks (c : Dev nD) : sProp 𝕄 :=
  iprop((dutyTok ER (barCell c) 0 true ∗ dutyTok ER (barCell c) 0 false) ∗ ownTok c 0 ∗ ownTok c 1 ∗ ownTok c 2 ∗ ownTok c 3)
/-- those of the duties it pays. -/
def paysTok (c : Dev nD) (j : Fin 4) : sProp 𝕄 :=
  iprop((bigSep Finset.univ fun h : Fin 7 => txTok c j h.val) ∗ bigSep Finset.univ fun s : Fin 6 => fTok c j s.val)
def payToks (c : Dev nD) : sProp 𝕄 := iprop(sigTok c ∗ paysTok c 0 ∗ paysTok c 1 ∗ paysTok c 2 ∗ paysTok c 3)

/-- The local cells the body uses. -/
def six (c : Dev nD) : sProp 𝕄 := iprop(zero c 1 ∗ zero c 2 ∗ zero c 3 ∗ zero c 4 ∗ zero c 5 ∗ zero c 6)

/-- What the launch element deals device `c`. -/
def G (c : Dev nD) : sProp 𝕄 :=
  iprop((bigSep Finset.univ fun k : KI => roundState ER (sched m ρ) (kcell (c, k)) 0)
    ∗ (bigSep Finset.univ fun k : KI => iprop(atPos ER (kcell (c, k)) 0 ∅ 0 ∗ reached ER (kcell (c, k)) 0)) ∗ toks c)

/-- What stays with device `c`. -/
def linear (c : Dev nD) : sProp 𝕄 :=
  iprop((bigSep Finset.univ fun k : KI => atPos ER (kcell (c, k)) 0 ∅ 0) ∗ payToks c ∗ six c)

def G' (c : Dev nD) : sProp 𝕄 := iprop(∃ K, records m ρ K ∗ linear c)

/-- A family over the shared cells, channel by channel. -/
abbrev chanK (Φ : KI → sProp 𝕄) (j : Fin 4) : sProp 𝕄 := iprop(Φ (kF j) ∗ Φ (kS j 0) ∗ Φ (kS j 1) ∗ Φ (kR j 0) ∗ Φ (kR j 1))
theorem famKI (Φ : KI → sProp 𝕄) : bigSep Finset.univ Φ = iprop(Φ kB ∗ chanK Φ 0 ∗ chanK Φ 1 ∗ chanK Φ 2 ∗ chanK Φ 3) := by
  refine (bigSep_univ_eq_bigSepL [kB, kF 0, kS 0 0, kS 0 1, kR 0 0, kR 0 1, kF 1, kS 1 0, kS 1 1, kR 1 0, kR 1 1,
    kF 2, kS 2 0, kS 2 1, kR 2 0, kR 2 1, kF 3, kS 3 0, kS 3 1, kR 3 0, kR 3 1] (by decide) (by decide) Φ).trans ?_
  have hA (P Q R : sProp 𝕄) : iprop((P ∗ Q) ∗ R) = iprop(P ∗ Q ∗ R) := BI.equiv_iff.mp ⟨BI.sep_assoc, BI.sep_assoc'⟩
  simp only [chanK, hA]
  rfl
theorem fam6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem fam7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem famB (Φ : Bool → sProp 𝕄) : bigSep Finset.univ Φ = iprop(Φ true ∗ Φ false) :=
  bigSep_univ_eq_bigSepL [true, false] (by decide) (by decide) Φ

theorem toks_eq (c : Dev nD) : (bigSep Finset.univ fun x : TokIx => (dutyTok ER (kcell (c, (tk x).1)) (tk x).2.1 (tk x).2.2 : sProp 𝕄)) = toks c := by
  rw [bigSep_univ_sum, famB, bigSep_univ_prod, fam4]
  simp only [bigSep_univ_sum]
  simp only [bigSep_univ_prod]
  simp only [famB]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

def osem (i : Fin 26) : SemLoc sig := if h : i.val < 22 then .dma ⟨i.val + 1, by show i.val + 1 < 23; omega⟩ else .reg ⟨i.val - 22, by show i.val - 22 < 5; omega⟩

theorem ownSemFacts : Pipeline.OwnSemFacts cfg0.spec osem := by decide

theorem ownSems0_eq (c : Dev nD) : (Pipeline.ownSems0 (Ix := ℕ) (Name := ℕ) (U := UU) (Lvl := ℕ) (Val := Elt F) (τ := τ) osem c : sProp 𝕄)
    = iprop(semVal (freeCell c 0) 0 ∗ zero c 7 ∗ zero c 9 ∗ zero c 11 ∗ zero c 13 ∗ semVal (freeCell c 1) 0 ∗ zero c 8 ∗ zero c 10 ∗ zero c 12 ∗ zero c 14 ∗ semVal (freeCell c 2) 0 ∗ zero c 15 ∗ zero c 17 ∗ zero c 19 ∗ zero c 21 ∗ semVal (freeCell c 3) 0 ∗ zero c 16 ∗ zero c 18 ∗ zero c 20 ∗ zero c 22 ∗ zero c 1 ∗ zero c 2 ∗ zero c 3 ∗ zero c 4 ∗ zero c 5 ∗ zero c 6) := by
  rw [Pipeline.ownSems0_eq_of_list c osem [22, 6, 8, 10, 12, 23, 7, 9, 11, 13, 24, 14, 16, 18, 20, 25, 15, 17, 19, 21, 0, 1, 2, 3, 4, 5] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_split (c : Dev nD) :
    iprop(Pipeline.ownSems0 (Ix := ℕ) (Name := ℕ) (U := UU) (Lvl := ℕ) (Val := Elt F) (τ := τ) osem c ∗ unscopedSems0 c)
      ⊢ (iprop((bigSep Finset.univ fun k : KI => semVal (kcell (c, k)) 0) ∗ six c) : sProp 𝕄) := by
  rw [ownSems0_eq, unscopedSems0_eq, famKI]; unfold six
  iintro ⟨⟨F0, S0, T0, R0, U0, F1, S1, T1, R1, U1, F2, S2, T2, R2, U2, F3, S3, T3, R3, U3, H1, H2, H3, H4, H5, H6⟩, HB⟩
  isplitr [H1 H2 H3 H4 H5 H6]
  · isplitl [HB]; · iexact HB
    isplitl [F0 S0 T0 R0 U0]
    · isplitl [F0]; · iexact F0
      isplitl [S0]; · iexact S0
      isplitl [T0]; · iexact T0
      isplitl [R0]; · iexact R0
      iexact U0
    isplitl [F1 S1 T1 R1 U1]
    · isplitl [F1]; · iexact F1
      isplitl [S1]; · iexact S1
      isplitl [T1]; · iexact T1
      isplitl [R1]; · iexact R1
      iexact U1
    isplitl [F2 S2 T2 R2 U2]
    · isplitl [F2]; · iexact F2
      isplitl [S2]; · iexact S2
      isplitl [T2]; · iexact T2
      isplitl [R2]; · iexact R2
      iexact U2
    isplitl [F3]; · iexact F3
    isplitl [S3]; · iexact S3
    isplitl [T3]; · iexact T3
    isplitl [R3]; · iexact R3
    iexact U3
  isplitl [H1]; · iexact H1
  isplitl [H2]; · iexact H2
  isplitl [H3]; · iexact H3
  isplitl [H4]; · iexact H4
  isplitl [H5]; · iexact H5
  iexact H6

theorem sems0_join (c : Dev nD) :
    (iprop((bigSep Finset.univ fun k : KI => semVal (kcell (c, k)) 0) ∗ six c) : sProp 𝕄)
      ⊢ iprop(Pipeline.ownSems0 (Ix := ℕ) (Name := ℕ) (U := UU) (Lvl := ℕ) (Val := Elt F) (τ := τ) osem c ∗ unscopedSems0 c) := by
  rw [ownSems0_eq, unscopedSems0_eq, famKI]; unfold six
  iintro ⟨⟨HB, ⟨F0, S0, T0, R0, U0⟩, ⟨F1, S1, T1, R1, U1⟩, ⟨F2, S2, T2, R2, U2⟩, ⟨F3, S3, T3, R3, U3⟩⟩, H1, H2, H3, H4, H5, H6⟩
  isplitr [HB]
  · isplitl [F0]; · iexact F0
    isplitl [S0]; · iexact S0
    isplitl [T0]; · iexact T0
    isplitl [R0]; · iexact R0
    isplitl [U0]; · iexact U0
    isplitl [F1]; · iexact F1
    isplitl [S1]; · iexact S1
    isplitl [T1]; · iexact T1
    isplitl [R1]; · iexact R1
    isplitl [U1]; · iexact U1
    isplitl [F2]; · iexact F2
    isplitl [S2]; · iexact S2
    isplitl [T2]; · iexact T2
    isplitl [R2]; · iexact R2
    isplitl [U2]; · iexact U2
    isplitl [F3]; · iexact F3
    isplitl [S3]; · iexact S3
    isplitl [T3]; · iexact T3
    isplitl [R3]; · iexact R3
    isplitl [U3]; · iexact U3
    isplitl [H1]; · iexact H1
    isplitl [H2]; · iexact H2
    isplitl [H3]; · iexact H3
    isplitl [H4]; · iexact H4
    isplitl [H5]; · iexact H5
    iexact H6
  iexact HB

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c ∗ six c) := by
  unfold G
  iintro ⟨Hos, Hus, Hst, Hat, Htok⟩
  ihave Hv := (sems0_split (F := F) c) $$ [Hos Hus]
  · isplitl [Hos] <;> iassumption
  icases Hv with ⟨Hv, H6⟩
  imod (show iprop((bigSep Finset.univ fun k : KI => semVal (kcell (c, k)) 0) ∗ bigSep Finset.univ fun k : KI => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact H6

/-- The tokens dealt around the ring: each duty's token to the device that pays it. -/
theorem chan_around (j : Fin 4) : (bigSep Finset.univ fun c : Dev nD => (ownTok c j : sProp 𝕄)) = bigSep Finset.univ fun c : Dev nD => paysTok c j := by
  unfold ownTok paysTok txTok fTok
  simp only [bigSep_sep']
  rw [bigSep_univ_equiv (ringOf j) (fun c : Dev nD => bigSep Finset.univ fun h : Fin 7 => (dutyTok ER (recvCell c j (par (h.val + 1))) (h.val / 2) false : sProp 𝕄)),
    bigSep_univ_equiv (ringOf j).symm (fun c : Dev nD => bigSep Finset.univ fun s : Fin 6 => (dutyTok ER (freeCell c j) s.val false : sProp 𝕄))]
  rfl
theorem toks_around : (bigSep Finset.univ fun c : Dev nD => (toks c : sProp 𝕄)) ⊢ bigSep Finset.univ fun c : Dev nD => payToks c := by
  unfold toks payToks sigTok
  simp only [bigSep_sep', chan_around]
  rw [bigSep_univ_equiv ring.symm (fun c : Dev nD => (dutyTok ER (barCell c) 0 true : sProp 𝕄)),
    bigSep_univ_equiv ring (fun c : Dev nD => (dutyTok ER (barCell c) 0 false : sProp 𝕄))]
  exact .refl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c ∗ six c) : sProp 𝕄)
      ⊢ bigSep Finset.univ (G' m ρ) := by
  rw [bigSep_sep', bigSep_sep', bigSep_sep', ← bigSep_univ_prod (fun ck : Dev nD × KI => iprop(∃ κ : ℕ, cellInv ER (sched m ρ) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok, Hz⟩
  ihave HK := (BI.bigSep_exists_pi Finset.univ (fun (ck : Dev nD × KI) (κ : ℕ) => (cellInv ER (sched m ρ) κ (kcell ck) : sProp 𝕄))) $$ HI
  icases HK with ⟨%K, #HI⟩
  ihave Htk := (toks_around (F := F)) $$ Htok
  have hG (c : Dev nD) : iprop(records m ρ K ∗ linear c) ⊢ G' m ρ c := by
    unfold G'; iintro H; iexists K; iexact H
  iapply (bigSep_with_persistent (R := records m ρ K) fun c _ => hG c)
  isplitr
  · unfold records; isplitl; · iexact HI
    iexact HR
  · have hL : (bigSep Finset.univ fun c : Dev nD => linear c : sProp 𝕄) = iprop((bigSep Finset.univ fun c : Dev nD => bigSep Finset.univ fun k : KI => atPos ER (kcell (c, k)) 0 ∅ 0)
        ∗ (bigSep Finset.univ fun c : Dev nD => payToks c) ∗ bigSep Finset.univ fun c : Dev nD => six c) := by
      unfold linear; simp only [bigSep_sep']
    iapply (Entails.of_eq hL.symm)
    isplitl [Hat]; · iexact Hat
    isplitl [Htk]; · iexact Htk
    iexact Hz

/-- The global step: every device's own and unscoped semaphores at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What a step's waits take, every channel's: the next hop's units and the credit before it. -/
def stepCred (c : Dev nD) (s : ℕ) : sProp 𝕄 :=
  iprop((rCred c 0 (s + 1) ∗ fCred c 0 s) ∗ (rCred c 1 (s + 1) ∗ fCred c 1 s) ∗ (rCred c 2 (s + 1) ∗ fCred c 2 s) ∗ (rCred c 3 (s + 1) ∗ fCred c 3 s))

theorem cred_recv (O : Dev nD → CellTallies nD τ sig ℕ) (c : Dev nD) (j : Fin 4) (h : ℕ) :
    (Pipeline.launchCred (fun d => O d + dueR d j h) c : sProp 𝕄) ⊢ iprop(Pipeline.launchCred O c ∗ rCred c j h) :=
  (Entails.of_eq (Pipeline.launchCred_add O (fun d => dueR d j h) c)).trans
    (sep_mono_right (Pipeline.launchCred_tallyAt (csem (kR j (par (h + 1)))) (tgt j) (org j) (fun c => tgt_org j c) (fun d => org_tgt j d) h N c))
theorem cred_free (O : Dev nD → CellTallies nD τ sig ℕ) (c : Dev nD) (j : Fin 4) (s : ℕ) :
    (Pipeline.launchCred (fun d => O d + dueC d j s) c : sProp 𝕄) ⊢ iprop(Pipeline.launchCred O c ∗ fCred c j s) :=
  (Entails.of_eq (Pipeline.launchCred_add O (fun d => dueC d j s) c)).trans
    (sep_mono_right (Pipeline.launchCred_tallyAt (csem (kF j)) (org j) (tgt j) (fun c => org_tgt j c) (fun d => tgt_org j d) s 1 c))

theorem cred_step (O : Dev nD → CellTallies nD τ sig ℕ) (c : Dev nD) (s : ℕ) :
    (Pipeline.launchCred (fun d => Omm d s 8 (O d)) c : sProp 𝕄) ⊢ iprop(stepCred c s ∗ Pipeline.launchCred O c) := by
  unfold stepCred
  iintro H
  ihave H := (show (Pipeline.launchCred (fun d => Omm d s 8 (O d)) c : sProp 𝕄) ⊢ iprop(Pipeline.launchCred (fun d => Omm d s 7 (O d)) c ∗ fCred c 0 s) from
    cred_free (fun d => Omm d s 7 (O d)) c 0 s) $$ H
  icases H with ⟨H, F0⟩
  ihave H := (show (Pipeline.launchCred (fun d => Omm d s 7 (O d)) c : sProp 𝕄) ⊢ iprop(Pipeline.launchCred (fun d => Omm d s 6 (O d)) c ∗ rCred c 0 (s + 1)) from
    cred_recv (fun d => Omm d s 6 (O d)) c 0 (s + 1)) $$ H
  icases H with ⟨H, R0⟩
  ihave H := (show (Pipeline.launchCred (fun d => Omm d s 6 (O d)) c : sProp 𝕄) ⊢ iprop(Pipeline.launchCred (fun d => Omm d s 5 (O d)) c ∗ fCred c 2 s) from
    cred_free (fun d => Omm d s 5 (O d)) c 2 s) $$ H
  icases H with ⟨H, F2⟩
  ihave H := (show (Pipeline.launchCred (fun d => Omm d s 5 (O d)) c : sProp 𝕄) ⊢ iprop(Pipeline.launchCred (fun d => Omm d s 4 (O d)) c ∗ rCred c 2 (s + 1)) from
    cred_recv (fun d => Omm d s 4 (O d)) c 2 (s + 1)) $$ H
  icases H with ⟨H, R2⟩
  ihave H := (show (Pipeline.launchCred (fun d => Omm d s 4 (O d)) c : sProp 𝕄) ⊢ iprop(Pipeline.launchCred (fun d => Omm d s 3 (O d)) c ∗ fCred c 1 s) from
    cred_free (fun d => Omm d s 3 (O d)) c 1 s) $$ H
  icases H with ⟨H, F1⟩
  ihave H := (show (Pipeline.launchCred (fun d => Omm d s 3 (O d)) c : sProp 𝕄) ⊢ iprop(Pipeline.launchCred (fun d => Omm d s 2 (O d)) c ∗ rCred c 1 (s + 1)) from
    cred_recv (fun d => Omm d s 2 (O d)) c 1 (s + 1)) $$ H
  icases H with ⟨H, R1⟩
  ihave H := (show (Pipeline.launchCred (fun d => Omm d s 2 (O d)) c : sProp 𝕄) ⊢ iprop(Pipeline.launchCred (fun d => Omm d s 1 (O d)) c ∗ fCred c 3 s) from
    cred_free (fun d => Omm d s 1 (O d)) c 3 s) $$ H
  icases H with ⟨H, F3⟩
  ihave H := (show (Pipeline.launchCred (fun d => Omm d s 1 (O d)) c : sProp 𝕄) ⊢ iprop(Pipeline.launchCred (fun d => Omm d s 0 (O d)) c ∗ rCred c 3 (s + 1)) from
    cred_recv (fun d => Omm d s 0 (O d)) c 3 (s + 1)) $$ H
  icases H with ⟨H, R3⟩
  isplitr [H]
  · isplitl [R0 F0]
    · isplitl [R0]; · iexact R0
      iexact F0
    isplitl [R1 F1]
    · isplitl [R1]; · iexact R1
      iexact F1
    isplitl [R2 F2]
    · isplitl [R2]; · iexact R2
      iexact F2
    isplitl [R3]; · iexact R3
    iexact F3
  iexact H
theorem cred_steps (c : Dev nD) : ∀ n, (Pipeline.launchCred (fun d => Os d n) c : sProp 𝕄) ⊢ bigSep (Finset.range n) fun i => stepCred c (5 - i)
  | 0 => by rw [Finset.range_zero, bigSep_empty]; exact (Entails.of_eq (Pipeline.launchCred_zero c))
  | n + 1 => by
    rw [bigSep_range_succ]
    exact (cred_step (fun d => Os d n) c (5 - n)).trans (sep_mono_right (cred_steps c n))

/-- The credit a device starts with: two units of its barrier, the pieces its neighbours send it, the credits they give it. -/
def credit (c : Dev nD) : sProp 𝕄 :=
  iprop(cred (tallyAt (barCell c) 0 2) ∗ (rCred c 0 0 ∗ rCred c 1 0 ∗ rCred c 2 0 ∗ rCred c 3 0)
    ∗ bigSep (Finset.range 6) fun i => stepCred c (5 - i))

theorem cred_signal (O : Dev nD → CellTallies nD τ sig ℕ) (c : Dev nD) (f g : Dev nD → Dev nD) (h₁ : ∀ c, f (g c) = c) (h₂ : ∀ c, g (f c) = c) :
    (Pipeline.launchCred (fun d => O d + tallyAt (barCell (f d)) 0 1) c : sProp 𝕄) ⊢ iprop(Pipeline.launchCred O c ∗ cred (tallyAt (barCell c) 0 1)) :=
  (Entails.of_eq (Pipeline.launchCred_add O (fun d => tallyAt (barCell (f d)) 0 1) c)).trans
    (sep_mono_right (Pipeline.launchCred_tallyAt (csem kB) f g h₁ h₂ 0 1 c))

theorem creds (c : Dev nD) : (Pipeline.launchCred O₀ c : sProp 𝕄) ⊢ credit c := by
  have h2 : iprop(cred (tallyAt (barCell c) 0 1) ∗ cred (tallyAt (barCell c) 0 1)) ⊢ (cred (tallyAt (barCell c) 0 2) : sProp 𝕄) := by
    rw [show (tallyAt (barCell c) 0 2 : CellTallies nD τ sig ℕ) = tallyAt (barCell c) 0 1 + tallyAt (barCell c) 0 1 from (tallyAt_add _ _ 1 1).symm]
    exact (cred_add _ _).2
  unfold credit
  iintro H
  ihave H := (show (Pipeline.launchCred O₀ c : sProp 𝕄) ⊢ iprop(Pipeline.launchCred O₁ c ∗ cred (tallyAt (barCell c) 0 1)) from
    cred_signal O₁ c prv nxt prv_nxt nxt_prv) $$ H
  icases H with ⟨H, B1⟩
  ihave H := (show (Pipeline.launchCred O₁ c : sProp 𝕄) ⊢ iprop(Pipeline.launchCred (fun d => Or d 4) c ∗ cred (tallyAt (barCell c) 0 1)) from
    cred_signal (fun d => Or d 4) c nxt prv nxt_prv prv_nxt) $$ H
  icases H with ⟨H, B2⟩
  ihave H := (show (Pipeline.launchCred (fun d => Or d 4) c : sProp 𝕄) ⊢ iprop(Pipeline.launchCred (fun d => Or d 3) c ∗ rCred c 0 0) from
    cred_recv (fun d => Or d 3) c 0 0) $$ H
  icases H with ⟨H, R0⟩
  ihave H := (show (Pipeline.launchCred (fun d => Or d 3) c : sProp 𝕄) ⊢ iprop(Pipeline.launchCred (fun d => Or d 2) c ∗ rCred c 1 0) from
    cred_recv (fun d => Or d 2) c 1 0) $$ H
  icases H with ⟨H, R1⟩
  ihave H := (show (Pipeline.launchCred (fun d => Or d 2) c : sProp 𝕄) ⊢ iprop(Pipeline.launchCred (fun d => Or d 1) c ∗ rCred c 2 0) from
    cred_recv (fun d => Or d 1) c 2 0) $$ H
  icases H with ⟨H, R2⟩
  ihave H := (show (Pipeline.launchCred (fun d => Or d 1) c : sProp 𝕄) ⊢ iprop(Pipeline.launchCred (fun d => Or d 0) c ∗ rCred c 3 0) from
    cred_recv (fun d => Or d 0) c 3 0) $$ H
  icases H with ⟨H, R3⟩
  ihave H := (show (Pipeline.launchCred (fun d => Or d 0) c : sProp 𝕄) ⊢ bigSep (Finset.range 6) fun i => stepCred c (5 - i) from cred_steps c 6) $$ H
  isplitl [B1 B2]
  · iapply h2; isplitl [B1]; · iexact B1
    iexact B2
  isplitl [R0 R1 R2 R3]
  · isplitl [R0]; · iexact R0
    isplitl [R1]; · iexact R1
    isplitl [R2]; · iexact R2
    iexact R3
  iexact H

/-! ## The body's obligation -/

/-- A step's tokens, every channel's. -/
def stepTok (c : Dev nD) (s : ℕ) : sProp 𝕄 :=
  iprop((txTok c 0 (s + 1) ∗ fTok c 0 s) ∗ (txTok c 1 (s + 1) ∗ fTok c 1 s) ∗ (txTok c 2 (s + 1) ∗ fTok c 2 s) ∗ (txTok c 3 (s + 1) ∗ fTok c 3 s))

theorem range6 (Φ : ℕ → sProp 𝕄) : bigSep (Finset.range 6) Φ = iprop(Φ 0 ∗ Φ 1 ∗ Φ 2 ∗ Φ 3 ∗ Φ 4 ∗ Φ 5) :=
  bigSep_eq_bigSepL_of_eq [0, 1, 2, 3, 4, 5] (by decide) (by decide) Φ

theorem pays_steps (c : Dev nD) : iprop(paysTok c 0 ∗ paysTok c 1 ∗ paysTok c 2 ∗ paysTok c 3)
    ⊢ (iprop((txTok c 0 0 ∗ txTok c 1 0 ∗ txTok c 2 0 ∗ txTok c 3 0) ∗ bigSep (Finset.range 6) fun i => stepTok c (5 - i)) : sProp 𝕄) := by
  unfold paysTok stepTok
  rw [range6, fam7, fam7, fam7, fam7, fam6, fam6, fam6, fam6]
  iintro ⟨⟨⟨T00, T01, T02, T03, T04, T05, T06⟩, Q00, Q01, Q02, Q03, Q04, Q05⟩, ⟨⟨T10, T11, T12, T13, T14, T15, T16⟩, Q10, Q11, Q12, Q13, Q14, Q15⟩, ⟨⟨T20, T21, T22, T23, T24, T25, T26⟩, Q20, Q21, Q22, Q23, Q24, Q25⟩, ⟨⟨T30, T31, T32, T33, T34, T35, T36⟩, Q30, Q31, Q32, Q33, Q34, Q35⟩⟩
  isplitl [T00 T10 T20 T30]
  · isplitl [T00]; · iexact T00
    isplitl [T10]; · iexact T10
    isplitl [T20]; · iexact T20
    iexact T30
  isplitl [T06 Q05 T16 Q15 T26 Q25 T36 Q35]
  · isplitl [T06 Q05]
    · isplitl [T06]; · iexact T06
      iexact Q05
    isplitl [T16 Q15]
    · isplitl [T16]; · iexact T16
      iexact Q15
    isplitl [T26 Q25]
    · isplitl [T26]; · iexact T26
      iexact Q25
    isplitl [T36]; · iexact T36
    iexact Q35
  isplitl [T05 Q04 T15 Q14 T25 Q24 T35 Q34]
  · isplitl [T05 Q04]
    · isplitl [T05]; · iexact T05
      iexact Q04
    isplitl [T15 Q14]
    · isplitl [T15]; · iexact T15
      iexact Q14
    isplitl [T25 Q24]
    · isplitl [T25]; · iexact T25
      iexact Q24
    isplitl [T35]; · iexact T35
    iexact Q34
  isplitl [T04 Q03 T14 Q13 T24 Q23 T34 Q33]
  · isplitl [T04 Q03]
    · isplitl [T04]; · iexact T04
      iexact Q03
    isplitl [T14 Q13]
    · isplitl [T14]; · iexact T14
      iexact Q13
    isplitl [T24 Q23]
    · isplitl [T24]; · iexact T24
      iexact Q23
    isplitl [T34]; · iexact T34
    iexact Q33
  isplitl [T03 Q02 T13 Q12 T23 Q22 T33 Q32]
  · isplitl [T03 Q02]
    · isplitl [T03]; · iexact T03
      iexact Q02
    isplitl [T13 Q12]
    · isplitl [T13]; · iexact T13
      iexact Q12
    isplitl [T23 Q22]
    · isplitl [T23]; · iexact T23
      iexact Q22
    isplitl [T33]; · iexact T33
    iexact Q32
  isplitl [T02 Q01 T12 Q11 T22 Q21 T32 Q31]
  · isplitl [T02 Q01]
    · isplitl [T02]; · iexact T02
      iexact Q01
    isplitl [T12 Q11]
    · isplitl [T12]; · iexact T12
      iexact Q11
    isplitl [T22 Q21]
    · isplitl [T22]; · iexact T22
      iexact Q21
    isplitl [T32]; · iexact T32
    iexact Q31
  isplitl [T01 Q00]
  · isplitl [T01]; · iexact T01
    iexact Q00
  isplitl [T11 Q10]
  · isplitl [T11]; · iexact T11
    iexact Q10
  isplitl [T21 Q20]
  · isplitl [T21]; · iexact T21
    iexact Q20
  isplitl [T31]; · iexact T31
  iexact Q30

theorem bag_intro (c : Dev nD) : iprop((bigSep (Finset.range 6) fun i => stepTok c (5 - i)) ∗ bigSep (Finset.range 6) fun i => stepCred c (5 - i)) ⊢ (bag c 6 : sProp 𝕄) := by
  unfold bag
  rw [← bigSep_sep']
  refine bigSep_mono fun i _ => (show _ ⊢ (_ : sProp 𝕄) from ?_)
  unfold stepTok stepCred item
  iintro ⟨⟨⟨T0, Q0⟩, ⟨T1, Q1⟩, ⟨T2, Q2⟩, T3, Q3⟩, ⟨R0, F0⟩, ⟨R1, F1⟩, ⟨R2, F2⟩, R3, F3⟩
  isplitl [T0 Q0 R0 F0]
  · isplitl [T0]; · iexact T0
    isplitl [Q0]; · iexact Q0
    isplitl [R0]; · iexact R0
    iexact F0
  isplitl [T1 Q1 R1 F1]
  · isplitl [T1]; · iexact T1
    isplitl [Q1]; · iexact Q1
    isplitl [R1]; · iexact R1
    iexact F1
  isplitl [T2 Q2 R2 F2]
  · isplitl [T2]; · iexact T2
    isplitl [Q2]; · iexact Q2
    isplitl [R2]; · iexact R2
    iexact F2
  isplitl [T3]; · iexact T3
  isplitl [Q3]; · iexact Q3
  isplitl [R3]; · iexact R3
  iexact F3

/-- A channel before its first hop. -/
theorem deal_start (K : Dev nD × KI → ℕ) (c : Dev nD) (j : Fin 4) :
    iprop(records m ρ K ∗ chanK (fun k => atPos ER (kcell (c, k)) 0 ∅ 0) j ∗ txTok c j 0 ∗ rCred c j 0) ⊢ start c j := by
  unfold start pS pR pF
  iintro ⟨#HK, ⟨AF, AS0, AS1, AR0, AR1⟩, T, R⟩
  isplitl [AS0]
  · isplitl [AS0]; · iexact AS0
    iapply (reached_at m ρ K (c, kS j 0)); iexact HK
  isplitl [T]; · iexact T
  isplitl [R]; · iexact R
  isplitl [AS1]
  · isplitl [AS1]; · iexact AS1
    iapply (reached_at m ρ K (c, kS j 1)); iexact HK
  isplitl [AR1]
  · isplitl [AR1]; · iexact AR1
    iapply (reached_at m ρ K (c, kR j 1)); iexact HK
  isplitl [AR0]
  · isplitl [AR0]; · iexact AR0
    iapply (reached_at m ρ K (c, kR j 0)); iexact HK
  iexact AF

/-- A device's records, positions, tokens and credit, dealt to the body's steps. -/
theorem deal (K : Dev nD × KI → ℕ) (c : Dev nD) :
    iprop(records m ρ K ∗ (bigSep Finset.univ fun k : KI => atPos ER (kcell (c, k)) 0 ∅ 0) ∗ payToks c ∗ credit c)
      ⊢ iprop(records m ρ K ∗ sigTok c ∗ atPos ER (barCell c) 0 ∅ 0 ∗ cred (tallyAt (barCell c) 0 2) ∗ start c 0 ∗ start c 1 ∗ start c 2 ∗ start c 3 ∗ bag c 6) := by
  rw [famKI]; unfold payToks credit
  iintro ⟨#HK, ⟨AB, A0, A1, A2, A3⟩, ⟨Hsig, HT⟩, CB, ⟨R0, R1, R2, R3⟩, HC⟩
  ihave HT := (pays_steps (F := F) c) $$ HT
  icases HT with ⟨⟨T0, T1, T2, T3⟩, HT⟩
  isplitr; · iexact HK
  isplitl [Hsig]; · iexact Hsig
  isplitl [AB]; · iexact AB
  isplitl [CB]; · iexact CB
  isplitl [A0 T0 R0]
  · iapply (deal_start m ρ K c 0); isplitr; · iexact HK
    isplitl [A0]; · iexact A0
    isplitl [T0]; · iexact T0
    iexact R0
  isplitl [A1 T1 R1]
  · iapply (deal_start m ρ K c 1); isplitr; · iexact HK
    isplitl [A1]; · iexact A1
    isplitl [T1]; · iexact T1
    iexact R1
  isplitl [A2 T2 R2]
  · iapply (deal_start m ρ K c 2); isplitr; · iexact HK
    isplitl [A2]; · iexact A2
    isplitl [T2]; · iexact T2
    iexact R2
  isplitl [A3 T3 R3]
  · iapply (deal_start m ρ K c 3); isplitr; · iexact HK
    isplitl [A3]; · iexact A3
    isplitl [T3]; · iexact T3
    iexact R3
  iapply (bag_intro (F := F) c)
  isplitl [HT]; · iexact HT
  iexact HC

/-- A shared cell after its rounds is closed: its counter is zero. -/
theorem close_one (K : Dev nD × KI → ℕ) (c : Dev nD) (k : KI) :
    iprop(records m ρ K ∗ atPos ER (kcell (c, k)) (krounds k) ∅ 0) ⊢ (|={Set.univ}=> semVal (kcell (c, k)) 0 : sProp 𝕄) := by
  iintro ⟨#HK, Hat⟩
  imod (Rounds.cell_close ER (sched m ρ) (Set.mem_univ (K (c, k))) (fun h => h) (R := krounds k) (fun r h => duties_later m ρ c k h)) $$ [Hat] with Hz
  · isplitr; · iapply (inv_at m ρ K (c, k)); iexact HK
    iexact Hat
  imodintro; iexact Hz

/-- A channel's cells after the last hop. -/
theorem close_chan (K : Dev nD × KI → ℕ) (c : Dev nD) (j : Fin 4) :
    iprop(records m ρ K ∗ Fly2 c j 6) ⊢ (|={Set.univ}=> iprop(chanK (fun k => semVal (kcell (c, k)) 0) j ∗ pcAny c (slotP j 0).view) : sProp 𝕄) := by
  unfold Fly2 pS pR pF
  iintro ⟨#HK, ⟨AS1, -⟩, ⟨AS0, -⟩, ⟨AR0, -⟩, ⟨AR1, -⟩, AF, P, -⟩
  imod (close_one m ρ K c (kF j)) $$ [AF] with ZF
  · isplitr; · iexact HK
    iexact AF
  imod (close_one m ρ K c (kS j 0)) $$ [AS0] with ZS0
  · isplitr; · iexact HK
    iexact AS0
  imod (close_one m ρ K c (kS j 1)) $$ [AS1] with ZS1
  · isplitr; · iexact HK
    iexact AS1
  imod (close_one m ρ K c (kR j 0)) $$ [AR0] with ZR0
  · isplitr; · iexact HK
    iexact AR0
  imod (close_one m ρ K c (kR j 1)) $$ [AR1] with ZR1
  · isplitr; · iexact HK
    iexact AR1
  imodintro
  isplitr [P]
  · isplitl [ZF]; · iexact ZF
    isplitl [ZS0]; · iexact ZS0
    isplitl [ZS1]; · iexact ZS1
    isplitl [ZR0]; · iexact ZR0
    iexact ZR1
  iexact P

theorem close_all (K : Dev nD × KI → ℕ) (c : Dev nD) :
    iprop(records m ρ K ∗ atPos ER (barCell c) 1 ∅ 0 ∗ Fly2 c 0 6 ∗ Fly2 c 1 6 ∗ Fly2 c 2 6 ∗ Fly2 c 3 6)
      ⊢ (|={Set.univ}=> iprop((bigSep Finset.univ fun k : KI => semVal (kcell (c, k)) 0)
          ∗ pcAny c (slotP 0 0).view ∗ pcAny c (slotP 1 0).view ∗ pcAny c (slotP 2 0).view ∗ pcAny c (slotP 3 0).view) : sProp 𝕄) := by
  rw [famKI]
  iintro ⟨#HK, AB, E0, E1, E2, E3⟩
  imod (close_one m ρ K c kB) $$ [AB] with ZB
  · isplitr; · iexact HK
    iexact AB
  imod (close_chan m ρ K c 0) $$ [E0] with ⟨Z0, P0⟩
  · isplitr; · iexact HK
    iexact E0
  imod (close_chan m ρ K c 1) $$ [E1] with ⟨Z1, P1⟩
  · isplitr; · iexact HK
    iexact E1
  imod (close_chan m ρ K c 2) $$ [E2] with ⟨Z2, P2⟩
  · isplitr; · iexact HK
    iexact E2
  imod (close_chan m ρ K c 3) $$ [E3] with ⟨Z3, P3⟩
  · isplitr; · iexact HK
    iexact E3
  imodintro
  isplitr [P0 P1 P2 P3]
  · isplitl [ZB]; · iexact ZB
    isplitl [Z0]; · iexact Z0
    isplitl [Z1]; · iexact Z1
    isplitl [Z2]; · iexact Z2
    iexact Z3
  isplitl [P0]; · iexact P0
  isplitl [P1]; · iexact P1
  isplitl [P2]; · iexact P2
  iexact P3

/-- What device `c`'s body starts from, its scratch apart. -/
def begun (c : Dev nD) : sProp 𝕄 :=
  iprop(G' m ρ c ∗ credit c ∗ lvls ∗ xArr m c ∗ (((c : Thread nD τ).loc main_v1) ↦{fullShare} m ((c : Thread nD τ).loc main_v1)))

/-- The kernel's scratch buffers, at some contents. -/
def scratch (c : Dev nD) : sProp 𝕄 :=
  iprop(someBuf c cc0_scratch0 ∗ someBuf c cc0_scratch1 ∗ someBuf c cc0_scratch2 ∗ someBuf c cc0_scratch3 ∗ someBuf c cc0_scratch4)

/-- The operand as it was and the result with its four quarters. -/
def kept (c : Dev nD) : sProp 𝕄 :=
  iprop(xArr m c ∗ (∃ g : Buf (Elt F) ((c : Thread nD τ).loc main_v1), ⌜IsOut (outAt m ρ c) g⌝ ∗ (((c : Thread nD τ).loc main_v1) ↦{fullShare} g)))

def Φ₀ (c : Dev nD) : sProp 𝕄 := iprop(begun m ρ c ∗ scratch c)
def Φ₁ (c : Dev nD) : sProp 𝕄 :=
  iprop(((bigSep Finset.univ fun k : KI => semVal (kcell (c, k)) 0) ∗ six c) ∗ scratch c ∗ kept m ρ c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => wstg m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem bigSep_W (Φ : Fin cfg0.W → sProp 𝕄) : bigSep Finset.univ Φ = Φ (0 : Fin 1) := bigSep_W0 Φ

theorem fetch_0 (t : Fin cfg0.N) : (cfg0.win (0 : Fin 1)).fetch t = true := by rw [fin_N0 t]; rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t0_0.castSucc ∗ (∃ d, stg c cc0_stg0_0 ((dats m ρ 0 c).before (0 : Fin 1) t0_0 d)))
def bodyPost (c : Dev nD) : sProp 𝕄 :=
  iprop(Φ₁ m ρ c ∗ (dats m ρ 0 c).owesAt 0 t0_0.succ ∗ stg c cc0_stg0_0 (wstg m ρ c))

set_option maxHeartbeats 1600000 in
theorem sound_body (c : Dev nD) :
    bodyPre m ρ c ⊢ wp frame (wpE (defs₀ (F := F)) 𝒱₀ (c : Thread nD τ) none) Set.univ
      (cc0_body xM (wbM main_arg0) wM (wbM cc0_stg0_0) oM (wbM main_v1) bM (wbM cc0_scratch0) cwM (wbM cc0_scratch1) ccM (wbM cc0_scratch2)
              alM (wbM cc0_scratch3) arM (wbM cc0_scratch4) cc0_scratch5 cc0_scratch6 cc0_scratch7 cc0_scratch8 cc0_scratch9 cc0_scratch10 cc0_scratch11 cc0_scratch12)
      (fun _ => bodyPost m ρ c) := by
  unfold bodyPre Φ₀ begun G' scratch linear six
  iintro ⟨⟨⟨⟨%K, #HK, Hat, Htok, Z1, Z2, Z3, Z4, Z5, Z6⟩, Hcr, Hlev, Hx, Hv⟩, HB, HCW, HCC, HAL, HAR⟩, Ho, %d, %g, %hg, Hw⟩
  have hw : g = wstg m ρ c := by rw [hg]; unfold Dat.before; rw [if_pos (fetch_0 t0_0)]; rfl
  subst hw
  unfold Dat.owesAt Pipeline.owesWithin
  icases Ho with ⟨%W, %hW, HO⟩
  rw [show (dats m ρ 0 c).owed t0_0.castSucc = O₀ c from rfl]
  ihave Hd := (deal m ρ K c) $$ [Hat Htok Hcr]
  · isplitr; · iexact HK
    isplitl [Hat]; · iexact Hat
    isplitl [Htok]; · iexact Htok
    iexact Hcr
  icases Hd with ⟨D1, D2, D3, D4, E0, E1, E2, E3, D5⟩
  ihave HB := (cut_b c) $$ HB
  icases HB with ⟨B0, B1⟩
  ihave HCW := (cut_cw c) $$ HCW
  icases HCW with ⟨P0, P1, L0, L1⟩
  ihave HCC := (cut_cc c) $$ HCC
  icases HCC with ⟨P2, P3, L2, L3⟩
  ihave HAL := (cut_al c) $$ HAL
  icases HAL with ⟨A0, A1⟩
  ihave HAR := (cut_ar c) $$ HAR
  icases HAR with ⟨A2, A3⟩
  ihave HV := (cut_o c) $$ [Hv]
  · iexists _; iexact Hv
  icases HV with ⟨V0, V1, V2, V3⟩
  iapply (wp_fupd frame (wpE (defs₀ (F := F)) 𝒱₀ (c : Thread nD τ) none) (E := Set.univ) _ (fun _ => bodyPost m ρ c))
  iapply (wp_body m ρ K c) $$ [D1 Hlev D2 D3 D4 E0 E1 E2 E3 D5 HO B0 B1 P0 P1 P2 P3 L0 L1 L2 L3 A0 A1 A2 A3 V0 V1 V2 V3 Hx Hw Z1 Z2 Z3 Z4 Z5 Z6]
  · unfold bodyIn ow
    isplitl [D1]; · iexact D1
    isplitl [Hlev]; · iexact Hlev
    isplitl [D2]; · iexact D2
    isplitl [D3]; · iexact D3
    isplitl [D4]; · iexact D4
    isplitl [E0]; · iexact E0
    isplitl [E1]; · iexact E1
    isplitl [E2]; · iexact E2
    isplitl [E3]; · iexact E3
    isplitl [D5]; · iexact D5
    isplitl [HO]; · iexists W; iexact HO
    isplitl [B0]; · iexact B0
    isplitl [B1]; · iexact B1
    isplitl [P0]; · iexact P0
    isplitl [P1]; · iexact P1
    isplitl [P2]; · iexact P2
    isplitl [P3]; · iexact P3
    isplitl [L0]; · iexact L0
    isplitl [L1]; · iexact L1
    isplitl [L2]; · iexact L2
    isplitl [L3]; · iexact L3
    isplitl [A0]; · iexact A0
    isplitl [A1]; · iexact A1
    isplitl [A2]; · iexact A2
    isplitl [A3]; · iexact A3
    isplitl [V0]; · iexact V0
    isplitl [V1]; · iexact V1
    isplitl [V2]; · iexact V2
    isplitl [V3]; · iexact V3
    isplitl [Hx]; · iexact Hx
    isplitl [Hw]; · iexact Hw
    isplitl [Z1]; · iexact Z1
    isplitl [Z2]; · iexact Z2
    isplitl [Z3]; · iexact Z3
    isplitl [Z4]; · iexact Z4
    isplitl [Z5]; · iexact Z5
    iexact Z6
  unfold bodyOut ow
  iintro ⟨⟨%W', HO⟩, AB, E0, E1, E2, E3, B0, B1, L0, L1, L2, L3, A0, A1, A2, A3, V0, V1, V2, V3, Hx, Hw, Z1, Z2, Z3, Z4, Z5, Z6⟩
  imod (close_all m ρ K c) $$ [AB E0 E1 E2 E3] with ⟨Hz, P0, P1, P2, P3⟩
  · isplitr; · iexact HK
    isplitl [AB]; · iexact AB
    isplitl [E0]; · iexact E0
    isplitl [E1]; · iexact E1
    isplitl [E2]; · iexact E2
    iexact E3
  imodintro
  unfold bodyPost Φ₁ scratch kept six
  isplitl [Hz Z1 Z2 Z3 Z4 Z5 Z6 B0 B1 P0 P1 P2 P3 L0 L1 L2 L3 A0 A1 A2 A3 V0 V1 V2 V3 Hx]
  · isplitl [Hz Z1 Z2 Z3 Z4 Z5 Z6]
    · isplitl [Hz]; · iexact Hz
      isplitl [Z1]; · iexact Z1
      isplitl [Z2]; · iexact Z2
      isplitl [Z3]; · iexact Z3
      isplitl [Z4]; · iexact Z4
      isplitl [Z5]; · iexact Z5
      iexact Z6
    isplitl [B0 B1 P0 P1 P2 P3 L0 L1 L2 L3 A0 A1 A2 A3]
    · isplitl [B0 B1]
      · iapply (paste_b c (m ((c : Thread nD τ).loc cc0_scratch0))); isplitl [B0]; · iexact B0
        iexact B1
      isplitl [P0 P1 L0 L1]
      · iapply (paste_cw c (m ((c : Thread nD τ).loc cc0_scratch1))); isplitl [P0]; · iexact P0
        isplitl [P1]; · iexact P1
        isplitl [L0]; · iexact L0
        iexact L1
      isplitl [P2 P3 L2 L3]
      · iapply (paste_cc c (m ((c : Thread nD τ).loc cc0_scratch2))); isplitl [P2]; · iexact P2
        isplitl [P3]; · iexact P3
        isplitl [L2]; · iexact L2
        iexact L3
      isplitl [A0 A1]
      · iapply (paste_al c (m ((c : Thread nD τ).loc cc0_scratch3))); isplitl [A0]; · iexact A0
        iexact A1
      iapply (paste_ar c (m ((c : Thread nD τ).loc cc0_scratch4))); isplitl [A2]; · iexact A2
      iexact A3
    isplitl [Hx]; · iexact Hx
    iapply (paste_o c (m ((c : Thread nD τ).loc main_v1)) (outAt m ρ c))
    isplitl [V0]; · iexact V0
    isplitl [V1]; · iexact V1
    isplitl [V2]; · iexact V2
    iexact V3
  isplitl [HO]
  · unfold Dat.owesAt Pipeline.owesWithin
    iexists W'; isplitr; · ipureintro; exact fun _ _ => Or.inl trivial
    iexact HO
  iexists _; isplitr; · ipureintro; rfl
  iexact Hw

set_option maxRecDepth 4000 in
/-- The body's obligation on device `c`. -/
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  exact sound_body m ρ c

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(begun m ρ c ∗ emp) := by
  rw [Pipeline.unscopedRestP_none, unscopedRest0_eq]
  iintro ⟨⟨Hx, Hv⟩, Hlev, Hcr, -, HG⟩
  ihave Hc := (creds (F := F) c) $$ Hcr
  imodintro
  unfold begun
  isplitl
  · isplitl [HG]; · iexact HG
    isplitl [Hc]; · iexact Hc
    isplitl [Hlev]; · iexact Hlev
    isplitl [Hx]; · iexact Hx
    iexact Hv
  · iempintro

theorem phi0_intro (c : Dev nD) :
    iprop(begun m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : sProp 𝕄) = scratch c from scopedRest0_eq c]
  unfold Φ₀
  iintro ⟨Hs, -, Hr⟩
  isplitl [Hs]; · iexact Hs
  iexact Hr

theorem phi1_exit (c : Dev nD) :
    (dats m ρ 0 c).Φ (Fin.last cfg0.N)
      ⊢ iprop((unscopedSems0 c ∗ kept m ρ c) ∗ Pipeline.ownSems0 osem c ∗ Pipeline.scopedRest cfg0.spec c) := by
  rw [show (dats m ρ 0 c).Φ (Fin.last cfg0.N) = Φ₁ m ρ c from rfl, show (Pipeline.scopedRest cfg0.spec c : sProp 𝕄) = scratch c from scopedRest0_eq c]
  unfold Φ₁
  iintro ⟨Hz, Hs, Hk⟩
  ihave Hz := (sems0_join (F := F) c) $$ Hz
  icases Hz with ⟨Ho, Hu⟩
  isplitl [Hu Hk]
  · isplitl [Hu]; · iexact Hu
    iexact Hk
  isplitl [Ho]; · iexact Ho
  iexact Hs

theorem mayWait_stage (c : Dev nD) (q : DmaSem sig) (h₁ : ∀ j b, csem (kS j b) ≠ .dma q) (h₂ : ∀ j b, csem (kR j b) ≠ .dma q)
    (O : CellTallies nD τ sig ℕ) (hO : O = O₀ c ∨ O = 0) : (levAts L lv : sProp 𝕄) ⊢ MayWait (c : Thread nD τ) (.dma q) 0 O := by
  rcases hO with hO | hO <;> subst hO
  · exact mayWait_local c q h₁ h₂ (pend_start c) (le_refl 50)
  · exact mayWait_zero c (.dma q) 0

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) (by fin_cases w <;> fin_cases s <;> decide) _ (by
      rcases t with ⟨_ | _, ht⟩
      · exact Or.inl rfl
      · exact Or.inr rfl)

/-- What the run leaves on device `c`: the operands as they were, the result with its four quarters. -/
def Left (c : Dev nD) (s : MemSt nD τ sig (Elt F)) : Prop :=
  s.mem ((c : Thread nD τ).loc main_arg0) = m ((c : Thread nD τ).loc main_arg0)
    ∧ ∃ g : Buf (Elt F) ((c : Thread nD τ).loc main_v1), IsOut (outAt m ρ c) g ∧ s.mem ((c : Thread nD τ).loc main_v1) = g

theorem kept_read (c : Dev nD) (s' : Phys nD τ sig (Elt F)) :
    iprop(kept m ρ c ∗ SI s') ⊢ (iprop(⌜Left m ρ c s'.mem⌝ ∗ SI s') : sProp 𝕄) := by
  unfold kept Left
  iintro ⟨⟨Hx, %g, %hg, Hv⟩, HSI⟩
  icombine HSI Hx gives %hx
  icombine HSI Hv gives %hv
  isplitr
  · ipureintro
    exact ⟨funext fun i => hx i (Finset.mem_univ i), g, hg, funext fun i => hv i (Finset.mem_univ i)⟩
  iexact HSI

set_option maxRecDepth 8000 in
/-- From any memory with zero counters every weakly fair execution of the eight devices terminates, with every semaphore at
    zero, the operands unchanged, and each device's result in four quarters at the contents named. -/
theorem run_main : θ_run defs (onTc (τ := τ) (main (F := F))) (s₀ m ρ) (fun r =>
    (∀ c : Dev nD, r.2.mem ((c : Thread nD τ).loc main_arg1) = m ((c : Thread nD τ).loc main_arg1) ∧ Left m ρ c r.2) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => body_obligation m ρ c) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb embR (initOf ringCells ringToks) (1 : Counters)) $$ HX
      icases HX with ⟨HX, -⟩
      imod (fund_ring m ρ) $$ HX with HG
      imodintro
      isplitl [HP] <;> iassumption)
    (hglob := glob m ρ)
    (hA := fun _ _ => rfl) (hpf := fun _ k => k.elim0)
    (X := begun m ρ) (Y := fun c => iprop(unscopedSems0 c ∗ kept m ρ c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ Left m ρ c s)
    (hY := fun c s' => by
      iintro ⟨⟨Hu, Hk⟩, -, HSI⟩
      ihave Hr := (kept_read m ρ c s') $$ [Hk HSI]
      · isplitl [Hk] <;> iassumption
      icases Hr with ⟨%hl, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hl⟩
      iexact HSI)
    (hQ := fun _ h hs => ⟨fun c => ⟨((h c).1 0).trans ((dats (F := F) m ρ 0 c).arrAt_in (0 : Fin 1) rfl _), (h c).2.2.2⟩, sem_eq_zero hs fun c => (h c).2.2.1⟩)

end Cert.Ring

end
-- ==== Proof.RingKernelValue.lean ====
/-
# What the whole exchange writes, over the extended reals

What a hop carries is the sum of the products of blocks over the devices it has passed; a device's quarter of the result,
read at an index, is the activation of the sum over all eight.
-/
module

public import proofs.«01_k».proof.Proof.Algebra
public import proofs.«01_k».proof.Proof.RingProto
public import Idealize.ShloMosaic.Lib.Layout
public import Idealize.ShloMosaic.Lib.Pipeline.Value

@[expose] public section

noncomputable section

namespace Cert.Ring

open Cert.RingIdeal Cert.RingIdeal.Gen Cert.Pieces Cert.Algebra

open Idealize.ShloMosaic Idealize.ShloMosaic.ValueIdx
open Idealize.ShloMosaic.TcCoe
open scoped BigOperators

/-- A rectangle of unit strides moves a pair of coordinates by its offsets. -/
theorem unit_emb2 {a b p q : ℕ} (off : Fin 2 → ℕ) (inb : ∀ x, off x + (![p, q] : Fin 2 → ℕ) x ≤ (⟨2, ![a, b]⟩ : Shape).size x)
    (i : Fin p) (k : Fin q) (i' : Fin a) (k' : Fin b) (h0 : i'.val = off 0 + i.val) (h1 : k'.val = off 1 + k.val) :
    (Rect.unit (s := ⟨2, ![a, b]⟩) off ![p, q] inb).emb (ix2 i k) = ix2 i' k' := by
  funext x; apply Fin.ext
  match x with
  | ⟨0, _⟩ => show off 0 + 1 * i.val = i'.val; omega
  | ⟨1, _⟩ => show off 1 + 1 * k.val = k'.val; omega

variable (m : (ℓ : Loc nD τ sig) → Buf (Elt Ideal) ℓ) (ρ : Dev nD → PrngReg)
variable (X : (⟨2, ![8192, 8192]⟩ : Shape).Idx → EReal) (W : (⟨2, ![8192, 4096]⟩ : Shape).Idx → EReal)

/-- The devices hold the operands' blocks: columns of the left one, rows of the right one. -/
def Holds : Prop := ∀ c : Dev nD,
  (m ((c : Thread nD τ).loc main_arg0) : S8192x1024.Idx → EReal) = Layout.block ⟨2, ![8192, 1024]⟩ ⟨2, ![8192, 8192]⟩ 1 8 c X
  ∧ (m ((c : Thread nD τ).loc main_arg1) : S1024x4096.Idx → EReal) = Layout.block ⟨2, ![1024, 4096]⟩ ⟨2, ![8192, 4096]⟩ 0 8 c W

/-- Channel `j`'s columns among all. -/
def colOf (j : Fin 4) (q : Fin 1024) : Fin 4096 := ⟨1024 * j.val + q.val, by omega⟩

variable {m X W}

theorem xrd_apply (h : Holds m X W) (c k : Dev nD) (r s : Fin 1024) : (xrd m c k (ix2 r s) : EReal) = X (ix2 (at8 k r) (at8 c s)) := by
  show (m ((c : Thread nD τ).loc main_arg0) : S8192x1024.Idx → EReal) ((Rect.unit (s := S8192x1024) ![1024 * k.val, 0] S1024x1024.size (xinb k)).emb (ix2 r s)) = _
  rw [(h c).1]
  refine congrArg X ?_
  funext x; apply Fin.ext
  match x with
  | ⟨0, _⟩ => show 1024 * k.val + 1 * r.val = 1024 * k.val + r.val; omega
  | ⟨1, _⟩ => show c.val * 1024 + (0 + 1 * s.val) = 1024 * c.val + s.val; omega

theorem wstg_apply (h : Holds m X W) (c : Dev nD) (s : Fin 1024) (q : Fin 4096) : (wstg m ρ c (ix2 s q) : EReal) = W (ix2 (at8 c s) q) := by
  show (m ((c : Thread nD τ).loc main_arg1) : S1024x4096.Idx → EReal) ((win0_0.blk (0 : Fin 1)).view.emb (ix2 s q)) = _
  rw [(h c).2]
  refine congrArg W ?_
  funext x; apply Fin.ext
  match x with
  | ⟨0, _⟩ => show c.val * 1024 + (0 * 1024 + 1 * s.val) = 1024 * c.val + s.val; omega
  | ⟨1, _⟩ => show 0 * 4096 + 1 * q.val = q.val; omega

theorem wrd_apply (h : Holds m X W) (c : Dev nD) (j : Fin 4) (s q : Fin 1024) : (wrd m ρ c j (ix2 s q) : EReal) = W (ix2 (at8 c s) (colOf j q)) := by
  have e : ∀ off inb, off 0 = 0 → off 1 = 1024 * j.val →
      (wstg m ρ c ((Rect.unit (s := S1024x4096) off S1024x1024.size inb).emb (ix2 s q)) : EReal) = W (ix2 (at8 c s) (colOf j q)) := fun off inb h0 h1 =>
    (congrArg (wstg m ρ c) (unit_emb2 off inb s q s (colOf j q) (by omega) (by rw [h1]; rfl))).trans (wstg_apply ρ h c s (colOf j q))
  match j with
  | 0 => exact e _ _ rfl rfl
  | 1 => exact e _ _ rfl rfl
  | 2 => exact e _ _ rfl rfl
  | 3 => exact e _ _ rfl rfl

/-- A direction's columns. -/
theorem wside_apply (h : Holds m X W) (c : Dev nD) (o : ℕ) (inb) (s : Fin 1024) (q : Fin 2048) (k : Fin 4096) (hk : k.val = o + q.val) :
    ((wM.access (Rect.unit (s := S1024x4096) ![0, o] S1024x2048.size inb)).read (Elt Ideal) (wstg m ρ c) (ix2 s q) : EReal) = W (ix2 (at8 c s) k) :=
  (congrArg (wstg m ρ c) (unit_emb2 ![0, o] inb s q s k (by show s.val = 0 + s.val; omega) hk)).trans (wstg_apply ρ h c s k)

/-- A loaded slot, cast to the piece's shape, is the piece. -/
theorem cast_up (Y : S1024x1024.Idx → Elt Ideal .bf16) : (shapeCast S1024x1024 (up Y) shapeCasts_S1x1024x1024_S1024x1024 : S1024x1024.Idx → Elt Ideal .bf16) = Y := sq_unsq hq Y

theorem part0_apply (h : Holds m X W) (c : Dev nD) (j : Fin 4) (r q : Fin 1024) :
    (part0 m ρ c j (ix2 r q) : EReal) = blockDot X W (chk j c 0) c r (colOf j q) := by
  unfold part0 k0_pay8
  refine (congrFun (shapeCast_self _ _) _).trans ?_
  refine (Ideal.matmul_plain_apply (M := 1024) (K := 1024) (N := 1024) none _ _ _ r q).trans ?_
  rw [constant_apply, Ideal.ofBits_zero_f32, zero_add]
  unfold blockDot
  exact Finset.sum_congr rfl fun k _ => congrArg₂ (· * ·) ((congrFun (cast_up _) _).trans (xrd_apply h c _ r k)) ((congrFun (shapeCast_self _ _) _).trans (wrd_apply ρ h c j k q))

/-- A stored slot, cast back to the piece's shape, is what was stored. -/
theorem dn_cast (Y : FVec Ideal S1024x1024 .bf16) (i : S1024x1024.Idx) :
    dn (F := Ideal) (shapeCast S1x1024x1024 Y shapeCasts_S1024x1024_S1x1024x1024) i = Y i := by
  show Y (Shape.reshapeEquiv _ (Shape.reshapeEquiv _ i)) = _
  exact congrArg Y (Equiv.symm_apply_apply (Shape.reshapeEquiv hq) i)

theorem side_apply (h : Holds m X W) (c k : Dev nD) (o : ℕ) (inb) (r : Fin 1024) (q : Fin 2048) (q' : Fin 4096) (hq : q'.val = o + q.val) :
    (k0_pay1 (F := Ideal) (up (xrd m c k)) ((wM.access (Rect.unit (s := S1024x4096) ![0, o] S1024x2048.size inb)).read (Elt Ideal) (wstg m ρ c)) (ix2 r q) : EReal)
      = blockDot X W k c r q' := by
  unfold k0_pay1
  refine (congrFun (shapeCast_self _ _) _).trans ?_
  refine (Ideal.matmul_plain_apply (M := 1024) (K := 1024) (N := 2048) none _ _ _ r q).trans ?_
  rw [constant_apply, Ideal.ofBits_zero_f32, zero_add]
  unfold blockDot
  exact Finset.sum_congr rfl fun s _ => congrArg₂ (· * ·) ((congrFun (cast_up _) _).trans (xrd_apply h c _ r s)) ((congrFun (shapeCast_self _ _) _).trans (wside_apply ρ h c o inb s q q' hq))

theorem partK_apply (h : Holds m X W) (c : Dev nD) (j : Fin 4) (n : ℕ) (r q : Fin 1024) :
    (partK m ρ c j n (ix2 r q) : EReal) = blockDot X W (chk j c n) c r (colOf j q) := by
  have e : ∀ (k : Dev nD) (o p : ℕ) (inb) (ib : ∀ x, (![0, p] : Fin 2 → ℕ) x + S1024x1024.size x ≤ S1024x2048.size x), p + 1024 ≤ 2048 → 1024 * j.val = o + p →
      (k0_pay1 (F := Ideal) (up (xrd m c k)) ((wM.access (Rect.unit (s := S1024x4096) ![0, o] S1024x2048.size inb)).read (Elt Ideal) (wstg m ρ c))
        ((Rect.unit (s := S1024x2048) ![0, p] S1024x1024.size ib).emb (ix2 r q)) : EReal) = blockDot X W k c r (colOf j q) := fun k o p inb ib hp ho => by
    rw [unit_emb2 ![0, p] ib r q r (⟨p + q.val, by omega⟩ : Fin 2048) (by show r.val = 0 + r.val; omega) rfl]
    exact side_apply ρ h c k o inb r _ _ (by show 1024 * j.val + q.val = o + (p + q.val); omega)
  match j with
  | 0 => exact e _ 0 0 _ _ (by decide) rfl
  | 1 => exact e _ 0 1024 _ _ (by decide) rfl
  | 2 => exact e _ 2048 0 _ _ (by decide) rfl
  | 3 => exact e _ 2048 1024 _ _ (by decide) rfl

/-- Hop `s` carries the sum over the device itself and the `s` before it. -/
theorem sent_apply (h : Holds m X W) (j : Fin 4) (r q : Fin 1024) : ∀ (s : ℕ) (c : Dev nD),
    (sentAt m ρ j s c (ix2 r q) : EReal) = ∑ i ∈ Finset.range (s + 1), blockDot X W (chk j c s) ((org j)^[i] c) r (colOf j q)
  | 0, c => by
    rw [Finset.sum_range_one]
    unfold sentAt k0_pay9
    exact (dn_cast (truncf .bf16 (part0 m ρ c j) bitsLt_bf16_f32) (ix2 r q)).trans (part0_apply ρ h c j r q)
  | s + 1, c => by
    rw [Finset.sum_range_succ']
    unfold sentAt k0_pay3
    refine (dn_cast _ (ix2 r q)).trans ?_
    unfold k0_pay2
    exact congrArg₂ (fun a b : EReal => a + b) ((congrFun (cast_up _) _).trans (sent_apply h j r q s (org j c))) (partK_apply ρ h c j (s + 1) r q)

/-- The activation as the kernel computes it. -/
theorem pay17_apply (V : Vec Ideal S1x1024x1024 .bf16) (P : Vec Ideal S1024x1024 .f32) (i : S1024x1024.Idx) :
    (k0_pay17 V P i : EReal) = gelu ((shapeCast S1024x1024 V shapeCasts_S1x1024x1024_S1024x1024 i : EReal) + (P i : EReal)) := by
  rw [← gelu_eq]
  unfold k0_pay17
  exact congrFun (shapeCast_self _ _) i

/-- Eight steps back around the ring pass every device once. -/
theorem around_bij (j : Fin 4) (c : Dev nD) : Function.Bijective (fun i : Fin 8 => ((org j)^[i.val] c : Fin 8)) :=
  Finite.injective_iff_bijective.mp (by revert j c; unfold Function.Injective; decide)

theorem outAt_apply (h : Holds m X W) (c : Dev nD) (j : Fin 4) (r q : Fin 1024) :
    (outAt m ρ c j (ix2 r q) : EReal) = gelu (∑ e : Fin 8, blockDot X W c e r (colOf j q)) := by
  have hs : (sentAt m ρ j 6 (org j c) (ix2 r q) : EReal) + partK m ρ c j 7 (ix2 r q) = ∑ e : Fin 8, blockDot X W c e r (colOf j q) := by
    rw [sent_apply ρ h j r q 6 (org j c), partK_apply ρ h c j 7 r q, ← Function.Bijective.sum_comp (around_bij j c) (fun e : Fin 8 => blockDot X W c e r (colOf j q)),
      ← Finset.sum_range (fun i : ℕ => blockDot X W c ((org j)^[i] c) r (colOf j q)), Finset.sum_range_succ' (fun i : ℕ => blockDot X W c ((org j)^[i] c) r (colOf j q)) 7, chk_last j c,
      show chk j (org j c) 6 = c from chk_last j c]
    rfl
  unfold outAt
  rw [pay17_apply, ← hs]
  exact congrArg (fun z : EReal => gelu (z + _)) (congrFun (cast_up _) _)

end Cert.Ring

end
-- ==== Proof.RingRefValue.lean ====
/-
# The plain reference, read at an index

At the ideal values the reference of the whole exchange is the activation of the plain product of the two operands.
-/
module

public import proofs.«01_k».proof.Proof.Algebra
public import proofs.«01_k».proof.Proof.Gen.RingReferenceIdeal.Run

@[expose] public section

noncomputable section

namespace Cert.RingRef

open Cert.RingReferenceIdeal Cert.RingReferenceIdeal.Gen Cert.RingReferenceIdeal.Value Cert.Algebra
open Idealize.ShloMosaic Idealize.ShloMosaic.TcCoe Idealize.ShloMosaic.ValueIdx
open scoped BigOperators

variable (m : (ℓ : Loc nD τ sig) → Buf (Elt Ideal) ℓ) (c : Dev nD)

/-- The two operands. -/
def xs : S8192x8192.Idx → EReal := m ((c.tc : Thread nD τ).loc main_arg0)
def ws : S8192x4096.Idx → EReal := m ((c.tc : Thread nD τ).loc main_arg1)

/-- The product, the activation as the reference writes it, and the result. -/
def prod : FVec Ideal S8192x4096 .f32 :=
  Host.dotGeneral dot_S8192x8192_S8192x4096_S8192x4096_1_0_0_1_n_n none (extf (F := Ideal) .f32 (m ((c.tc : Thread nD τ).loc main_arg0)) bitsLt_bf16_f32)
    (extf (F := Ideal) .f32 (m ((c.tc : Thread nD τ).loc main_arg1)) bitsLt_bf16_f32)
def act (Y : FVec Ideal S8192x4096 .f32) : FVec Ideal S8192x4096 .f32 :=
  mulf (mulf (broadcastInDim S8192x4096 ![] bcast_S_S8192x4096 (constant S_ .f32 0x3F000000#32)) Y)
    (addf (broadcastInDim S8192x4096 ![] bcast_S_S8192x4096 (constant S_ .f32 0x3F800000#32))
      (Host.tanh (mulf (broadcastInDim S8192x4096 ![] bcast_S_S8192x4096 (constant S_ .f32 0x3F4C422A#32))
        (addf Y (mulf (broadcastInDim S8192x4096 ![] bcast_S_S8192x4096 (constant S_ .f32 0x3D372713#32)) (mulf (mulf Y Y) Y))))))
def res : FVec Ideal S8192x4096 .f32 := act (prod m c)

theorem act_apply (Y : FVec Ideal S8192x4096 .f32) (i : S8192x4096.Idx) : (act Y i : EReal) = gelu (Y i) := by
  unfold act gelu; rfl
theorem prod_apply (a : Fin 8) (r : Fin 1024) (q : Fin 4096) : (prod m c (ix2 (at8 a r) q) : EReal) = ∑ e : Fin 8, blockDot (xs m c) (ws m c) a e r q := by
  refine (StackMember.dotGeneral_plain_apply (m := 8192) (n := 4096) (k := 8192) none _ _ (at8 a r) q).trans ?_
  rw [sum_at8]
  rfl

theorem res_apply (i : S8192x4096.Idx) : (res m c i : EReal) = gelu (prod m c i) := by
  unfold res; exact act_apply _ i

end Cert.RingRef

end
-- ==== Proof.RingValue.lean ====
/-
# The whole exchange's result is the plain reference's

Quarter by quarter, what a device writes is its block of rows of the reference's result.
-/
module

public import proofs.«01_k».proof.Proof.RingKernelValue
public import proofs.«01_k».proof.Proof.RingRefValue
public import proofs.«01_k».proof.Proof.RingCuts

@[expose] public section

noncomputable section

namespace Cert.Ring

open Cert.RingIdeal Cert.RingIdeal.Gen Cert.Pieces Cert.Algebra

open Idealize.ShloMosaic Idealize.ShloMosaic.ValueIdx
open Idealize.ShloMosaic.TcCoe

variable {m : (ℓ : Loc nD τ sig) → Buf (Elt Ideal) ℓ} (ρ : Dev nD → PrngReg)
variable (m' : (ℓ : Loc Cert.RingReferenceIdeal.nD Cert.RingReferenceIdeal.τ Cert.RingReferenceIdeal.sig) → Buf (Elt Ideal) ℓ)

/-- One entry of one quarter. -/
theorem quarter_eq (h : Holds m (RingRef.xs m' 0) (RingRef.ws m' 0)) (c : Dev nD) (j : Fin 4) (r q : Fin 1024) :
    (outAt m ρ c j (ix2 r q) : EReal) = RingRef.res m' 0 (ix2 (at8 c r) (colOf j q)) := by
  rw [outAt_apply ρ h, RingRef.res_apply, RingRef.prod_apply]

/-- The whole of a device's result. -/
theorem out_eq (h : Holds m (RingRef.xs m' 0) (RingRef.ws m' 0)) (c : Dev nD) (g : S1024x4096.Idx → Elt Ideal .f32) (hg : IsOut (outAt m ρ c) g) :
    g = Layout.block ⟨2, ![1024, 4096]⟩ ⟨2, ![8192, 4096]⟩ 0 8 c (RingRef.res m' 0 : (⟨2, ![8192, 4096]⟩ : Shape).Idx → Elt Ideal .f32) := by
  funext i
  obtain ⟨r, Q, rfl⟩ : ∃ (r : Fin 1024) (Q : Fin 4096), i = ix2 r Q := ⟨_, _, eq_ix2 i⟩
  obtain ⟨j, q, rfl⟩ : ∃ (j : Fin 4) (q : Fin 1024), Q = colOf j q :=
    ⟨⟨Q.val / 1024, by omega⟩, ⟨Q.val % 1024, by omega⟩, Fin.ext (show Q.val = 1024 * (Q.val / 1024) + Q.val % 1024 by omega)⟩
  have e : g (ix2 r (colOf j q)) = outAt m ρ c j (ix2 r q) := by
    have k : ∀ off inb, off 0 = 0 → off 1 = 1024 * j.val →
        (Rect.unit (s := S1024x4096) off S1024x1024.size inb).emb (ix2 r q) = ix2 r (colOf j q) := fun off inb h0 h1 =>
      unit_emb2 off inb r q r (colOf j q) (by omega) (by rw [h1]; rfl)
    obtain ⟨g0, g1, g2, g3⟩ := hg (ix2 r q)
    match j, k with
    | 0, k => rw [← g0]; exact congrArg g (k _ _ rfl rfl).symm
    | 1, k => rw [← g1]; exact congrArg g (k _ _ rfl rfl).symm
    | 2, k => rw [← g2]; exact congrArg g (k _ _ rfl rfl).symm
    | 3, k => rw [← g3]; exact congrArg g (k _ _ rfl rfl).symm
  rw [e]
  refine (quarter_eq ρ m' h c j r q).trans ?_
  rw [Layout.block_apply]
  refine congrArg (RingRef.res m' 0) ?_
  funext x; apply Fin.ext
  match x with
  | ⟨0, _⟩ => exact congrArg (· + r.val) (Nat.mul_comm 1024 c.val)
  | ⟨1, _⟩ => rfl

end Cert.Ring

end
-- ==== Proof.lean ====
/-
# The certificate

The claims of `Cert.Claim`, each from its module.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Ring
public import proofs.«01_k».proof.Proof.Gen.RingIdeal
public import proofs.«01_k».proof.Proof.Gen.RingIdeal.Launch
public import proofs.«01_k».proof.Proof.Gen.RingIdeal.Skeleton
public import proofs.«01_k».proof.Proof.Gen.RingIdeal.Points
public import proofs.«01_k».proof.Proof.Gen.RingReferenceIdeal
public import proofs.«01_k».proof.Proof.Gen.RingReferenceIdeal.Run
public import proofs.«01_k».proof.Proof.Launch
public import proofs.«01_k».proof.Proof.Value
public import proofs.«01_k».proof.Proof.RingLaunch
public import proofs.«01_k».proof.Proof.RingValue

@[expose] public section

noncomputable section

namespace Cert.Proof

open Idealize.ShloMosaic Idealize.ShloMosaic.TcCoe
open Idealize.SL Idealize.SL.Sem

/-- The kernel's run at any float values: its arguments end unchanged and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).2.1, (h.1 c).1⟩, h.2⟩) (Cert.Hop.run_main (F := F) m ρ)

section
variable {F : FTy → Type} [FloatOps F]

/-- The kernel as printed and the kernel read over the reals have one text, so one body table. -/
theorem body_table : (Cert.Kernel.defs₀ (F := F))
    = (show Defs Cert.Kernel.nD Cert.Kernel.τ Cert.Kernel.sig (Elt F) Cert.Kernel.Λ₀ from Cert.KernelIdeal.defs₀ (F := F)) := by
  unfold Cert.Kernel.defs₀ Cert.KernelIdeal.defs₀
  refine congrArg Defs.onTc ?_
  funext l a
  match l, a with
  | 0, (t, s) => rfl
theorem table : (Cert.Kernel.defs (F := F)) = Cert.KernelIdeal.defs (F := F) := congrArg (Pipeline.defs Cert.Kernel.pcfgs) body_table

end

theorem frame_kernel : Cert.quiescent_Kernel := fun m ρ _ => by
  rw [table]; exact frame_any (F := Bits) m ρ

theorem frame_kernel_ideal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => ⟨(h c).2.1, (h c).2.2⟩, Idealize.ShloMosaic.sem_eq_zero_of_no_sems (by decide) r.2⟩)
    (Cert.ReferenceIdeal.Value.run (F := Ideal) m ρ)

/-- Every device's result is its block of the reference's. -/
theorem algebraic : Cert.algebraic_KernelIdeal_ReferenceIdeal := fun m g m' g' _ hargs =>
  ⟨Cert.ReferenceIdeal.Value.res_out0 m' 0,
    (θ_run Cert.KernelIdeal.defs _ _).mono (fun r h c => by
      obtain ⟨h1, h0, b, hb, hv⟩ := h.1 c
      exact ⟨hv.trans (Cert.Hop.out_eq g m' hargs c b hb), h0, h1⟩) (Cert.Hop.run_main (F := Ideal) m g),
    (θ_run Cert.ReferenceIdeal.defs _ _).mono (fun r h => h 0) (Cert.ReferenceIdeal.Value.run (F := Ideal) m' g')⟩

/-- The run of the whole exchange at any float values: its arguments end unchanged and every semaphore at zero. -/
theorem ring_any {F : FTy → Type} [FloatOps F] (m : (ℓ : Loc Cert.RingIdeal.nD Cert.RingIdeal.τ Cert.RingIdeal.sig) → Buf (Elt F) ℓ)
    (ρ : Dev Cert.RingIdeal.nD → PrngReg) :
    θ_run (Cert.RingIdeal.defs (F := F)) (onTc (τ := Cert.RingIdeal.τ) (Cert.RingIdeal.main (F := F))) ⟨m, fun _ => 0, ρ⟩ (fun r => (∀ c : Dev Cert.RingIdeal.nD,
      r.2.mem ((c.tc : Thread Cert.RingIdeal.nD Cert.RingIdeal.τ).loc Cert.RingIdeal.main_arg0) = m ((c.tc : Thread Cert.RingIdeal.nD Cert.RingIdeal.τ).loc Cert.RingIdeal.main_arg0)
      ∧ r.2.mem ((c.tc : Thread Cert.RingIdeal.nD Cert.RingIdeal.τ).loc Cert.RingIdeal.main_arg1) = m ((c.tc : Thread Cert.RingIdeal.nD Cert.RingIdeal.τ).loc Cert.RingIdeal.main_arg1))
      ∧ r.2.sem = fun _ => 0) :=
  (θ_run Cert.RingIdeal.defs _ _).mono (fun _ h => ⟨fun c => ⟨(h.1 c).2.1, (h.1 c).1⟩, h.2⟩) (Cert.Ring.run_main (F := F) m ρ)

section
variable {F : FTy → Type} [FloatOps F]

/-- The whole exchange as printed and as read over the reals have one text, so one body table. -/
theorem ring_body_table : (Cert.Ring.defs₀ (F := F))
    = (show Defs Cert.Ring.nD Cert.Ring.τ Cert.Ring.sig (Elt F) Cert.Ring.Λ₀ from Cert.RingIdeal.defs₀ (F := F)) := by
  unfold Cert.Ring.defs₀ Cert.RingIdeal.defs₀
  refine congrArg Defs.onTc ?_
  funext l a
  match l, a with
  | 0, (t, s) => rfl
theorem ring_table : (Cert.Ring.defs (F := F)) = Cert.RingIdeal.defs (F := F) := congrArg (Pipeline.defs Cert.Ring.pcfgs) ring_body_table

end

theorem frame_ring : Cert.quiescent_Ring := fun m ρ _ => by
  rw [ring_table]; exact ring_any (F := Bits) m ρ

theorem frame_ring_ideal : Cert.quiescent_RingIdeal := fun m ρ _ => ring_any (F := Ideal) m ρ

theorem frame_ring_reference : Cert.quiescent_RingReferenceIdeal := fun m ρ _ =>
  (θ_run Cert.RingReferenceIdeal.defs _ _).mono (fun r h => ⟨fun c => ⟨(h c).2.1, (h c).2.2⟩, Idealize.ShloMosaic.sem_eq_zero_of_no_sems (by decide) r.2⟩)
    (Cert.RingReferenceIdeal.Value.run (F := Ideal) m ρ)

/-- Every device's result of the whole exchange is its block of the plain reference's. -/
theorem algebraic_ring : Cert.algebraic_RingIdeal_RingReferenceIdeal := fun m g m' g' _ hargs =>
  ⟨Cert.RingRef.res m' 0,
    (θ_run Cert.RingIdeal.defs _ _).mono (fun r h c => by
      obtain ⟨h1, h0, b, hb, hv⟩ := h.1 c
      exact ⟨hv.trans (Cert.Ring.out_eq g m' hargs c b hb), h0, h1⟩) (Cert.Ring.run_main (F := Ideal) m g),
    (θ_run Cert.RingReferenceIdeal.defs _ _).mono (fun r h => h 0) (Cert.RingReferenceIdeal.Value.run (F := Ideal) m' g')⟩

theorem claim : Cert.Claim :=
  ⟨Cert.Kernel.Gen.facts, Cert.KernelIdeal.Gen.facts, Cert.ReferenceIdeal.Gen.facts, Cert.Ring.Gen.facts, Cert.RingIdeal.Gen.facts, Cert.RingReferenceIdeal.Gen.facts,
    frame_kernel, frame_kernel_ideal, frame_reference, frame_ring, frame_ring_ideal, frame_ring_reference, trivial, algebraic, trivial, algebraic_ring⟩

end Cert.Proof

end
